-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_x [hPre_finite_x : Cert.Pre_finite_x.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_x.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_x [hPre_finite_x : Cert.Pre_finite_x.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_x.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_o [hPre_finite_o : Cert.Pre_finite_o.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_o.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_o [hPre_finite_o : Cert.Pre_finite_o.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_o.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 [hPre_one_half : Cert.Pre_one_half.Facts] (m : (ℓ : Loc Cert.Kernel4.nD Cert.Kernel4.τ Cert.Kernel4.sig) → Buf (Elt Bits) ℓ) : Prop :=
  ∀ c : Dev Cert.Kernel4.nD,
    (Cert.Pre_one_half.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_one_half : Cert.Pre_one_half.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_one_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_one_half [hPre_one_half : Cert.Pre_one_half.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_one_half.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 [hPre_one_block : Cert.Pre_one_block.Facts] (m : (ℓ : Loc Cert.Kernel5.nD Cert.Kernel5.τ Cert.Kernel5.sig) → Buf (Elt Bits) ℓ) : Prop :=
  ∀ c : Dev Cert.Kernel5.nD,
    (Cert.Pre_one_block.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_one_block : Cert.Pre_one_block.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_one_block.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_one_block [hPre_one_block : Cert.Pre_one_block.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_one_block.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 [hPre_one_place : Cert.Pre_one_place.Facts] (m : (ℓ : Loc Cert.Kernel6.nD Cert.Kernel6.τ Cert.Kernel6.sig) → Buf (Elt Bits) ℓ) : Prop :=
  ∀ c : Dev Cert.Kernel6.nD,
    (Cert.Pre_one_place.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2))) = (fun _ => 1#1)

def Pre_Kernel6Ideal [hPre_one_place : Cert.Pre_one_place.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_one_place.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_one_place [hPre_one_place : Cert.Pre_one_place.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_one_place.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_f [hPre_finite_f : Cert.Pre_finite_f.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_f.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_f [hPre_finite_f : Cert.Pre_finite_f.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_f.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_c [hPre_finite_c : Cert.Pre_finite_c.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_c.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_c [hPre_finite_c : Cert.Pre_finite_c.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_c.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_x [hKernel2Ideal : Cert.Kernel2Ideal.Facts] [hPre_finite_x : Cert.Pre_finite_x.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_x m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_x [hReference2Ideal : Cert.Reference2Ideal.Facts] [hPre_finite_x : Cert.Pre_finite_x.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_x m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_o [hKernel3Ideal : Cert.Kernel3Ideal.Facts] [hPre_finite_o : Cert.Pre_finite_o.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_o m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_o [hReference3Ideal : Cert.Reference3Ideal.Facts] [hPre_finite_o : Cert.Pre_finite_o.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_o m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] [hPre_one_half : Cert.Pre_one_half.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_one_half : Cert.Pre_one_half.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_one_half [hReference4Ideal : Cert.Reference4Ideal.Facts] [hPre_one_half : Cert.Pre_one_half.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_one_half m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_one_block : Cert.Pre_one_block.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_one_block : Cert.Pre_one_block.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_one_block [hReference5Ideal : Cert.Reference5Ideal.Facts] [hPre_one_block : Cert.Pre_one_block.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_one_block m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_one_place : Cert.Pre_one_place.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] [hPre_one_place : Cert.Pre_one_place.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_one_place [hReference6Ideal : Cert.Reference6Ideal.Facts] [hPre_one_place : Cert.Pre_one_place.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_one_place m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_f [hKernel7Ideal : Cert.Kernel7Ideal.Facts] [hPre_finite_f : Cert.Pre_finite_f.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_f m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_f [hReference7Ideal : Cert.Reference7Ideal.Facts] [hPre_finite_f : Cert.Pre_finite_f.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_f m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite_c [hKernel8Ideal : Cert.Kernel8Ideal.Facts] [hPre_finite_c : Cert.Pre_finite_c.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_c m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite_c [hReference8Ideal : Cert.Reference8Ideal.Facts] [hPre_finite_c : Cert.Pre_finite_c.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_c m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)) (v4 : (c : Dev Cert.KernelIdeal.nD) → Buf (Elt Ideal) ((c.tc : Thread Cert.KernelIdeal.nD Cert.KernelIdeal.τ).loc Cert.KernelIdeal.main_v30_4)) (v5 : (c : Dev Cert.KernelIdeal.nD) → Buf (Elt Ideal) ((c.tc : Thread Cert.KernelIdeal.nD Cert.KernelIdeal.τ).loc Cert.KernelIdeal.main_v30_5)) (v6 : (c : Dev Cert.KernelIdeal.nD) → Buf (Elt Ideal) ((c.tc : Thread Cert.KernelIdeal.nD Cert.KernelIdeal.τ).loc Cert.KernelIdeal.main_v30_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_v30_4) = v4 c
          ∧ r.2.mem ((c.tc : Thread Cert.KernelIdeal.nD Cert.KernelIdeal.τ).loc Cert.KernelIdeal.main_v30_5) = v5 c
          ∧ r.2.mem ((c.tc : Thread Cert.KernelIdeal.nD Cert.KernelIdeal.τ).loc Cert.KernelIdeal.main_v30_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_v129) = v5 c
          ∧ r.2.mem ((c.tc : Thread Cert.ReferenceIdeal.nD Cert.ReferenceIdeal.τ).loc Cert.ReferenceIdeal.main_v157) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_x [hKernel2Ideal : Cert.Kernel2Ideal.Facts] [hReference2Ideal : Cert.Reference2Ideal.Facts] [hPre_finite_x : Cert.Pre_finite_x.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_x m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_on_written_pre_finite_o [hKernel3Ideal : Cert.Kernel3Ideal.Facts] [hReference3Ideal : Cert.Reference3Ideal.Facts] [hPre_finite_o : Cert.Pre_finite_o.Facts] [hOn_written : Cert.On_written.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_o m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![2048, 1024]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Kernel3Ideal.nD Cert.Kernel3Ideal.τ).loc Cert.Kernel3Ideal.main_v1_0) i = v0 c i)
          ∧ (∀ i : (⟨2, ![2048, 512]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Kernel3Ideal.nD Cert.Kernel3Ideal.τ).loc Cert.Kernel3Ideal.main_v1_1) i = v1 c i)
          ∧ (∀ i : (⟨3, ![8, 2048, 512]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 i = 1#1 → r.2.mem ((c.tc : Thread Cert.Kernel3Ideal.nD Cert.Kernel3Ideal.τ).loc Cert.Kernel3Ideal.main_v1_2) i = v2 c i)
          ∧ (∀ i : (⟨3, ![8, 2048, 64]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 i = 1#1 → r.2.mem ((c.tc : Thread Cert.Kernel3Ideal.nD Cert.Kernel3Ideal.τ).loc Cert.Kernel3Ideal.main_v1_3) i = v3 c i)
          ∧ (∀ i : (⟨2, ![1024, 1024]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 i = 1#1 → r.2.mem ((c.tc : Thread Cert.Kernel3Ideal.nD Cert.Kernel3Ideal.τ).loc Cert.Kernel3Ideal.main_v1_4) i = v4 c i)
          ∧ (∀ i : (⟨2, ![1, 1024]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 i = 1#1 → r.2.mem ((c.tc : Thread Cert.Kernel3Ideal.nD Cert.Kernel3Ideal.τ).loc Cert.Kernel3Ideal.main_v1_5) i = v5 c i)
          ∧ (∀ i : (⟨2, ![1, 1]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2 i = 1#1 → r.2.mem ((c.tc : Thread Cert.Kernel3Ideal.nD Cert.Kernel3Ideal.τ).loc Cert.Kernel3Ideal.main_v1_6) i = v6 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![2048, 1024]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Reference3Ideal.nD Cert.Reference3Ideal.τ).loc Cert.Reference3Ideal.main_v31) i = v0 c i)
          ∧ (∀ i : (⟨2, ![2048, 512]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Reference3Ideal.nD Cert.Reference3Ideal.τ).loc Cert.Reference3Ideal.main_v41) i = v1 c i)
          ∧ (∀ i : (⟨3, ![8, 2048, 512]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 i = 1#1 → r.2.mem ((c.tc : Thread Cert.Reference3Ideal.nD Cert.Reference3Ideal.τ).loc Cert.Reference3Ideal.main_v48) i = v2 c i)
          ∧ (∀ i : (⟨3, ![8, 2048, 64]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 i = 1#1 → r.2.mem ((c.tc : Thread Cert.Reference3Ideal.nD Cert.Reference3Ideal.τ).loc Cert.Reference3Ideal.main_v49) i = v3 c i)
          ∧ (∀ i : (⟨2, ![1024, 1024]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 i = 1#1 → r.2.mem ((c.tc : Thread Cert.Reference3Ideal.nD Cert.Reference3Ideal.τ).loc Cert.Reference3Ideal.main_v38) i = v4 c i)
          ∧ (∀ i : (⟨2, ![1, 1024]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 i = 1#1 → r.2.mem ((c.tc : Thread Cert.Reference3Ideal.nD Cert.Reference3Ideal.τ).loc Cert.Reference3Ideal.main_v36) i = v5 c i)
          ∧ (∀ i : (⟨2, ![1, 1]⟩ : Shape).Idx, (Cert.On_written.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2 i = 1#1 → r.2.mem ((c.tc : Thread Cert.Reference3Ideal.nD Cert.Reference3Ideal.τ).loc Cert.Reference3Ideal.main_v50) i = v6 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] [hPre_one_half : Cert.Pre_one_half.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_one_block : Cert.Pre_one_block.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_on_own_block [hKernel6Ideal : Cert.Kernel6Ideal.Facts] [hReference6Ideal : Cert.Reference6Ideal.Facts] [hPre_one_place : Cert.Pre_one_place.Facts] [hOn_own_block : Cert.On_own_block.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![2048, 4096]⟩ : Shape).Idx, (Cert.On_own_block.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) i = 1#1 → r.2.mem ((c.tc : Thread Cert.Kernel6Ideal.nD Cert.Kernel6Ideal.τ).loc Cert.Kernel6Ideal.main_v0) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![2048, 4096]⟩ : Shape).Idx, (Cert.On_own_block.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) i = 1#1 → r.2.mem ((c.tc : Thread Cert.Reference6Ideal.nD Cert.Reference6Ideal.τ).loc Cert.Reference6Ideal.main_v4) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_f [hKernel7Ideal : Cert.Kernel7Ideal.Facts] [hReference7Ideal : Cert.Reference7Ideal.Facts] [hPre_finite_f : Cert.Pre_finite_f.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_f m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v30)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v109) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite_c [hKernel8Ideal : Cert.Kernel8Ideal.Facts] [hReference8Ideal : Cert.Reference8Ideal.Facts] [hPre_finite_c : Cert.Pre_finite_c.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_c m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v85) = v0 c
          ∧ r.2.mem ((c.tc : Thread Cert.Reference8Ideal.nD Cert.Reference8Ideal.τ).loc Cert.Reference8Ideal.main_v86) = v1 c
          ∧ r.2.mem ((c.tc : Thread Cert.Reference8Ideal.nD Cert.Reference8Ideal.τ).loc Cert.Reference8Ideal.main_v61) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_x : Cert.Pre_finite_x.Facts) (hPre_finite_o : Cert.Pre_finite_o.Facts) (hPre_one_half : Cert.Pre_one_half.Facts) (hPre_one_block : Cert.Pre_one_block.Facts) (hPre_one_place : Cert.Pre_one_place.Facts) (hPre_finite_f : Cert.Pre_finite_f.Facts) (hPre_finite_c : Cert.Pre_finite_c.Facts) (hOn_written : Cert.On_written.Facts) (hOn_own_block : Cert.On_own_block.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_x (hKernel2Ideal := hKernel2Ideal) (hPre_finite_x := hPre_finite_x)
    ∧ quiescent_Reference2Ideal (hReference2Ideal := hReference2Ideal)
    ∧ quiescent_Reference2Ideal_pre_finite_x (hReference2Ideal := hReference2Ideal) (hPre_finite_x := hPre_finite_x)
    ∧ quiescent_Kernel3 (hKernel3 := hKernel3)
    ∧ quiescent_Kernel3Ideal (hKernel3Ideal := hKernel3Ideal)
    ∧ quiescent_Kernel3Ideal_pre_finite_o (hKernel3Ideal := hKernel3Ideal) (hPre_finite_o := hPre_finite_o)
    ∧ quiescent_Reference3Ideal (hReference3Ideal := hReference3Ideal)
    ∧ quiescent_Reference3Ideal_pre_finite_o (hReference3Ideal := hReference3Ideal) (hPre_finite_o := hPre_finite_o)
    ∧ quiescent_Kernel4 (hKernel4 := hKernel4) (hPre_one_half := hPre_one_half)
    ∧ quiescent_Kernel4Ideal (hKernel4Ideal := hKernel4Ideal) (hPre_one_half := hPre_one_half)
    ∧ quiescent_Reference4Ideal (hReference4Ideal := hReference4Ideal)
    ∧ quiescent_Reference4Ideal_pre_one_half (hReference4Ideal := hReference4Ideal) (hPre_one_half := hPre_one_half)
    ∧ quiescent_Kernel5 (hKernel5 := hKernel5) (hPre_one_block := hPre_one_block)
    ∧ quiescent_Kernel5Ideal (hKernel5Ideal := hKernel5Ideal) (hPre_one_block := hPre_one_block)
    ∧ quiescent_Reference5Ideal (hReference5Ideal := hReference5Ideal)
    ∧ quiescent_Reference5Ideal_pre_one_block (hReference5Ideal := hReference5Ideal) (hPre_one_block := hPre_one_block)
    ∧ quiescent_Kernel6 (hKernel6 := hKernel6) (hPre_one_place := hPre_one_place)
    ∧ quiescent_Kernel6Ideal (hKernel6Ideal := hKernel6Ideal) (hPre_one_place := hPre_one_place)
    ∧ quiescent_Reference6Ideal (hReference6Ideal := hReference6Ideal)
    ∧ quiescent_Reference6Ideal_pre_one_place (hReference6Ideal := hReference6Ideal) (hPre_one_place := hPre_one_place)
    ∧ quiescent_Kernel7 (hKernel7 := hKernel7)
    ∧ quiescent_Kernel7Ideal (hKernel7Ideal := hKernel7Ideal)
    ∧ quiescent_Kernel7Ideal_pre_finite_f (hKernel7Ideal := hKernel7Ideal) (hPre_finite_f := hPre_finite_f)
    ∧ quiescent_Reference7Ideal (hReference7Ideal := hReference7Ideal)
    ∧ quiescent_Reference7Ideal_pre_finite_f (hReference7Ideal := hReference7Ideal) (hPre_finite_f := hPre_finite_f)
    ∧ quiescent_Kernel8 (hKernel8 := hKernel8)
    ∧ quiescent_Kernel8Ideal (hKernel8Ideal := hKernel8Ideal)
    ∧ quiescent_Kernel8Ideal_pre_finite_c (hKernel8Ideal := hKernel8Ideal) (hPre_finite_c := hPre_finite_c)
    ∧ quiescent_Reference8Ideal (hReference8Ideal := hReference8Ideal)
    ∧ quiescent_Reference8Ideal_pre_finite_c (hReference8Ideal := hReference8Ideal) (hPre_finite_c := hPre_finite_c)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_x (hKernel2Ideal := hKernel2Ideal) (hReference2Ideal := hReference2Ideal) (hPre_finite_x := hPre_finite_x)
    ∧ preserves_Kernel3_Kernel3Ideal
    ∧ algebraic_Kernel3Ideal_Reference3Ideal_on_written_pre_finite_o (hKernel3Ideal := hKernel3Ideal) (hReference3Ideal := hReference3Ideal) (hPre_finite_o := hPre_finite_o) (hOn_written := hOn_written)
    ∧ preserves_Kernel4_Kernel4Ideal
    ∧ algebraic_Kernel4Ideal_Reference4Ideal (hKernel4Ideal := hKernel4Ideal) (hReference4Ideal := hReference4Ideal) (hPre_one_half := hPre_one_half)
    ∧ preserves_Kernel5_Kernel5Ideal
    ∧ algebraic_Kernel5Ideal_Reference5Ideal (hKernel5Ideal := hKernel5Ideal) (hReference5Ideal := hReference5Ideal) (hPre_one_block := hPre_one_block)
    ∧ preserves_Kernel6_Kernel6Ideal
    ∧ algebraic_Kernel6Ideal_Reference6Ideal_on_own_block (hKernel6Ideal := hKernel6Ideal) (hReference6Ideal := hReference6Ideal) (hPre_one_place := hPre_one_place) (hOn_own_block := hOn_own_block)
    ∧ preserves_Kernel7_Kernel7Ideal
    ∧ algebraic_Kernel7Ideal_Reference7Ideal_pre_finite_f (hKernel7Ideal := hKernel7Ideal) (hReference7Ideal := hReference7Ideal) (hPre_finite_f := hPre_finite_f)
    ∧ preserves_Kernel8_Kernel8Ideal
    ∧ algebraic_Kernel8Ideal_Reference8Ideal_pre_finite_c (hKernel8Ideal := hKernel8Ideal) (hReference8Ideal := hReference8Ideal) (hPre_finite_c := hPre_finite_c)
-- ==== On_own_block.lean ====
abbrev S1 : Shape := ⟨1, ![1]⟩
abbrev S2048x1024 : Shape := ⟨2, ![2048, 1024]⟩
abbrev S1024x1024 : Shape := ⟨2, ![1024, 1024]⟩
abbrev S4 : Shape := ⟨1, ![4]⟩
abbrev S4x1024 : Shape := ⟨2, ![4, 1024]⟩
abbrev S4096 : Shape := ⟨1, ![4096]⟩
abbrev S1x4096 : Shape := ⟨2, ![1, 4096]⟩
abbrev S_ : Shape := ⟨0, ![]⟩
abbrev S2048x4096 : Shape := ⟨2, ![2048, 4096]⟩

class Facts : Prop where
  bcast_S4_S4x1024_0 : S4.BroadcastsInDim S4x1024 (![0] : Fin 1 → Fin S4x1024.rank)
  shapeCasts_S4x1024_S4096 : S4x1024.ShapeCasts S4096
  bcast_S4096_S1x4096_1 : S4096.BroadcastsInDim S1x4096 (![1] : Fin 1 → Fin S1x4096.rank)
  shapeCasts_S1_S_ : S1.ShapeCasts S_
  bcast_S_S1x4096 : S_.BroadcastsInDim S1x4096 (![] : Fin 0 → Fin S1x4096.rank)
  bcast_S1x4096_S2048x4096_0_1 : S1x4096.BroadcastsInDim S2048x4096 (![0, 1] : Fin 2 → Fin S2048x4096.rank)

variable [Facts]

def fn {F : FTy → Type} [FloatOps F] (main_arg0 : IVec S1 32) (main_arg1 : FVec F S2048x1024 .bf16) (main_arg2 : FVec F S1024x1024 .f32) : IVec S2048x4096 1 :=
  let main_v0 : IVec S4 32 := iotaInDim S4 32 0
  let main_v1 : IVec S4x1024 32 := broadcastInDim S4x1024 ![0] bcast_S4_S4x1024_0 main_v0
  let main_v2 : IVec S4096 32 := shapeCast S4096 main_v1 shapeCasts_S4x1024_S4096
  let main_v3 : IVec S1x4096 32 := broadcastInDim S1x4096 ![1] bcast_S4096_S1x4096_1 main_v2
  let main_v4 : IVec S_ 32 := shapeCast S_ main_arg0 shapeCasts_S1_S_
  let main_v5 : IVec S1x4096 32 := broadcastInDim S1x4096 ![] bcast_S_S1x4096 main_v4
  let main_v6 : IVec S1x4096 1 := cmpi .eq main_v3 main_v5
  let main_v7 : IVec S2048x4096 1 := broadcastInDim S2048x4096 ![0, 1] bcast_S1x4096_S2048x4096_0_1 main_v6
  main_v7
-- ==== On_written.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S8x2048x512 : Shape := ⟨3, ![8, 2048, 512]⟩
abbrev S_ : Shape := ⟨0, ![]⟩
abbrev S1x1024 : Shape := ⟨2, ![1, 1024]⟩
abbrev S1x1 : Shape := ⟨2, ![1, 1]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  bcast_S_S8x2048x512 : S_.BroadcastsInDim S8x2048x512 (![] : Fin 0 → Fin S8x2048x512.rank)
  bcast_S_S8x2048x64 : S_.BroadcastsInDim S8x2048x64 (![] : Fin 0 → Fin S8x2048x64.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1x1 : S_.BroadcastsInDim S1x1 (![] : Fin 0 → Fin S1x1.rank)

variable [Facts]

def fn {F : FTy → Type} [FloatOps F] (main_arg0 : FVec F S8x2048x64 .bf16) (main_arg1 : FVec F S2048x4096 .f32) (main_arg2 : FVec F S2048x512 .bf16) (main_arg3 : FVec F S1024x1024 .f32) (main_arg4 : FVec F S2048x1024 .f32) (main_arg5 : FVec F S2048x1024 .f32) (main_arg6 : FVec F S1x3072 .f32) (main_arg7 : FVec F S1x3072 .f32) : IVec S2048x1024 1 × IVec S2048x512 1 × IVec S8x2048x512 1 × IVec S8x2048x64 1 × IVec S1024x1024 1 × IVec S1x1024 1 × IVec S1x1 1 :=
  let main_v0 : IVec S8x2048x512 32 := iotaInDim S8x2048x512 32 0
  let main_c : IVec S_ 1 := constantI S_ 1 1#1
  let main_v1 : IVec S2048x1024 1 := broadcastInDim S2048x1024 ![] bcast_S_S2048x1024 main_c
  let main_c_0 : IVec S_ 1 := constantI S_ 1 1#1
  let main_v2 : IVec S2048x512 1 := broadcastInDim S2048x512 ![] bcast_S_S2048x512 main_c_0
  let main_c_1 : IVec S_ 32 := constantI S_ 32 3#32
  let main_v3 : IVec S8x2048x512 32 := broadcastInDim S8x2048x512 ![] bcast_S_S8x2048x512 main_c_1
  let main_v4 : IVec S8x2048x512 1 := cmpi .eq main_v0 main_v3
  let main_c_2 : IVec S_ 1 := constantI S_ 1 1#1
  let main_v5 : IVec S8x2048x64 1 := broadcastInDim S8x2048x64 ![] bcast_S_S8x2048x64 main_c_2
  let main_c_3 : IVec S_ 1 := constantI S_ 1 1#1
  let main_v6 : IVec S1024x1024 1 := broadcastInDim S1024x1024 ![] bcast_S_S1024x1024 main_c_3
  let main_c_4 : IVec S_ 1 := constantI S_ 1 1#1
  let main_v7 : IVec S1x1024 1 := broadcastInDim S1x1024 ![] bcast_S_S1x1024 main_c_4
  let main_c_5 : IVec S_ 1 := constantI S_ 1 1#1
  let main_v8 : IVec S1x1 1 := broadcastInDim S1x1 ![] bcast_S_S1x1 main_c_5
  (main_v1, main_v2, main_v4, main_v5, main_v6, main_v7, main_v8)
-- ==== Pre_finite.lean ====
abbrev S8x2048x64 : Shape := ⟨3, ![8, 2048, 64]⟩
abbrev S8x256x64 : Shape := ⟨3, ![8, 256, 64]⟩
abbrev S8x5x576x128 : Shape := ⟨4, ![8, 5, 576, 128]⟩
abbrev S8x128 : Shape := ⟨2, ![8, 128]⟩
abbrev S_ : Shape := ⟨0, ![]⟩

class Facts : Prop where
  bcast_S_S8x5x576x128 : S_.BroadcastsInDim S8x5x576x128 (![] : Fin 0 → Fin S8x5x576x128.rank)
  reducesTo_S8x5x576x128_S_d0_1_2_3 : S8x5x576x128.ReducesTo [0, 1, 2, 3] S_
  h_S_ : 0 < S_.numel
  bitsLt_bf16_f32 : FTy.bits .bf16 < FTy.bits .f32
  bcast_S_S8x2048x64 : S_.BroadcastsInDim S8x2048x64 (![] : Fin 0 → Fin S8x2048x64.rank)
  reducesTo_S8x2048x64_S_d0_1_2 : S8x2048x64.ReducesTo [0, 1, 2] S_
  bcast_S_S8x256x64 : S_.BroadcastsInDim S8x256x64 (![] : Fin 0 → Fin S8x256x64.rank)
  reducesTo_S8x256x64_S_d0_1_2 : S8x256x64.ReducesTo [0, 1, 2] S_

variable [Facts]

def fn_part1 {F : FTy → Type} [FloatOps F] (main_arg4 : FVec F S8x256x64 .bf16) (main_v15 : IVec S_ 1) (main_v17 : FVec F S8x2048x64 .f32) : IVec S_ 1 :=
  let main_cst_4 : FVec F S_ .f32 := constant S_ .f32 0x7F800000#32
  let main_v18 : FVec F S8x2048x64 .f32 := broadcastInDim S8x2048x64 ![] bcast_S_S8x2048x64 main_cst_4
  let main_v19 : IVec S8x2048x64 1 := cmpf .olt main_v17 main_v18
  let main_c_5 : IVec S_ 1 := constantI S_ 1 1#1
  let main_v20 : IVec S_ 1 := (fun x v => Host.reduce IntOp.andi x v reducesTo_S8x2048x64_S_d0_1_2 h_S_) main_v19 main_c_5
  let main_v21 : IVec S_ 1 := andi main_v15 main_v20
  let main_v22 : FVec F S8x256x64 .f32 := (extf .f32 · bitsLt_bf16_f32) main_arg4
  let main_v23 : FVec F S8x256x64 .f32 := Host.absf main_v22
  let main_cst_6 : FVec F S_ .f32 := constant S_ .f32 0x7F800000#32
  let main_v24 : FVec F S8x256x64 .f32 := broadcastInDim S8x256x64 ![] bcast_S_S8x256x64 main_cst_6
  let main_v25 : IVec S8x256x64 1 := cmpf .olt main_v23 main_v24
  let main_c_7 : IVec S_ 1 := constantI S_ 1 1#1
  let main_v26 : IVec S_ 1 := (fun x v => Host.reduce IntOp.andi x v reducesTo_S8x256x64_S_d0_1_2 h_S_) main_v25 main_c_7
  let main_v27 : IVec S_ 1 := andi main_v21 main_v26
  main_v27

def fn {F : FTy → Type} [FloatOps F] (main_arg0 : FVec F S8x2048x64 .bf16) (main_arg1 : FVec F S8x2048x64 .bf16) (main_arg2 : FVec F S8x2048x64 .bf16) (main_arg3 : FVec F S8x2048x64 .bf16) (main_arg4 : FVec F S8x256x64 .bf16) (main_arg5 : FVec F S8x256x64 .bf16) (main_arg6 : FVec F S8x5x576x128 .f32) (main_arg7 : FVec F S8x2048x64 .bf16) (main_arg8 : FVec F S8x128 .f32) : IVec S_ 1 :=
  let main_v0 : FVec F S8x5x576x128 .f32 := Host.absf main_arg6
  let main_cst : FVec F S_ .f32 := constant S_ .f32 0x7F800000#32
  let main_v1 : FVec F S8x5x576x128 .f32 := broadcastInDim S8x5x576x128 ![] bcast_S_S8x5x576x128 main_cst
  let main_v2 : IVec S8x5x576x128 1 := cmpf .olt main_v0 main_v1
  let main_c : IVec S_ 1 := constantI S_ 1 1#1
  let main_v3 : IVec S_ 1 := (fun x v => Host.reduce IntOp.andi x v reducesTo_S8x5x576x128_S_d0_1_2_3 h_S_) main_v2 main_c
  let main_v4 : FVec F S8x2048x64 .f32 := (extf .f32 · bitsLt_bf16_f32) main_arg0
  let main_v5 : FVec F S8x2048x64 .f32 := Host.absf main_v4
  let main_cst_0 : FVec F S_ .f32 := constant S_ .f32 0x7F800000#32
  let main_v6 : FVec F S8x2048x64 .f32 := broadcastInDim S8x2048x64 ![] bcast_S_S8x2048x64 main_cst_0
  let main_v7 : IVec S8x2048x64 1 := cmpf .olt main_v5 main_v6
  let main_c_1 : IVec S_ 1 := constantI S_ 1 1#1
  let main_v8 : IVec S_ 1 := (fun x v => Host.reduce IntOp.andi x v reducesTo_S8x2048x64_S_d0_1_2 h_S_) main_v7 main_c_1
  let main_v9 : IVec S_ 1 := andi main_v3 main_v8
  let main_v10 : FVec F S8x2048x64 .f32 := (extf .f32 · bitsLt_bf16_f32) main_arg1
  let main_v11 : FVec F S8x2048x64 .f32 := Host.absf main_v10
  let main_cst_2 : FVec F S_ .f32 := constant S_ .f32 0x7F800000#32
  let main_v12 : FVec F S8x2048x64 .f32 := broadcastInDim S8x2048x64 ![] bcast_S_S8x2048x64 main_cst_2
  let main_v13 : IVec S8x2048x64 1 := cmpf .olt main_v11 main_v12
  let main_c_3 : IVec S_ 1 := constantI S_ 1 1#1
  let main_v14 : IVec S_ 1 := (fun x v => Host.reduce IntOp.andi x v reducesTo_S8x2048x64_S_d0_1_2 h_S_) main_v13 main_c_3
  let main_v15 : IVec S_ 1 := andi main_v9 main_v14
  let main_v16 : FVec F S8x2048x64 .f32 := (extf .f32 · bitsLt_bf16_f32) main_arg2
  let main_v17 : FVec F S8x2048x64 .f32 := Host.absf main_v16
  fn_part1 (F := F) main_arg4 main_v15 main_v17
-- ==== Pre_finite_c.lean ====
abbrev S2048x512 : Shape := ⟨2, ![2048, 512]⟩
abbrev S2048x4096 : Shape := ⟨2, ![2048, 4096]⟩
abbrev S3x512 : Shape := ⟨2, ![3, 512]⟩
abbrev S1x512 : Shape := ⟨2, ![1, 512]⟩
abbrev S8x2048x512 : Shape := ⟨3, ![8, 2048, 512]⟩
abbrev S8x128 : Shape := ⟨2, ![8, 128]⟩
abbrev S2048x1536 : Shape := ⟨2, ![2048, 1536]⟩
abbrev S_ : Shape := ⟨0, ![]⟩

class Facts : Prop where
  slices_S2048x4096_S2048x1536_0_2048 : S2048x4096.Slices ![0, 2048] S2048x1536
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S3x512 : S_.BroadcastsInDim S3x512 (![] : Fin 0 → Fin S3x512.rank)
  reducesTo_S3x512_S_d0_1 : S3x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v14 : IVec S_ 1) (main_v15 : FVec F S1x512 .f32) (main_v16 : FVec F S1x512 .f32) : IVec S_ 1 :=
  let main_v17 : IVec S1x512 1 := cmpf .olt main_v15 main_v16
  let main_c_5 : IVec S_ 1 := constantI S_ 1 1#1
  let main_v18 : IVec S_ 1 := (fun x v => Host.reduce IntOp.andi x v reducesTo_S1x512_S_d0_1 h_S_) main_v17 main_c_5
  let main_v19 : IVec S_ 1 := andi main_v14 main_v18
  main_v19

def fn {F : FTy → Type} [FloatOps F] (main_arg0 : FVec F S2048x512 .f32) (main_arg1 : FVec F S2048x4096 .f32) (main_arg2 : FVec F S3x512 .f32) (main_arg3 : FVec F S1x512 .f32) (main_arg4 : FVec F S8x2048x512 .bf16) (main_arg5 : FVec F S8x128 .f32) : IVec S_ 1 :=
  let main_v0 : FVec F S2048x1536 .f32 := (extractStridedSlice S2048x1536 ![0, 2048] · slices_S2048x4096_S2048x1536_0_2048) main_arg1
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x512 .f32 := Host.absf main_arg0
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v4 main_v8
  let main_v10 : FVec F S3x512 .f32 := Host.absf main_arg2
  let main_cst_2 : FVec F S_ .f32 := constant S_ .f32 0x7F800000#32
  let main_v11 : FVec F S3x512 .f32 := broadcastInDim S3x512 ![] bcast_S_S3x512 main_cst_2
  let main_v12 : IVec S3x512 1 := cmpf .olt main_v10 main_v11
  let main_c_3 : IVec S_ 1 := constantI S_ 1 1#1
  let main_v13 : IVec S_ 1 := (fun x v => Host.reduce IntOp.andi x v reducesTo_S3x512_S_d0_1 h_S_) main_v12 main_c_3
  let main_v14 : IVec S_ 1 := andi main_v9 main_v13
  let main_v15 : FVec F S1x512 .f32 := Host.absf main_arg3
  let main_cst_4 : FVec F S_ .f32 := constant S_ .f32 0x7F800000#32
  let main_v16 : FVec F S1x512 .f32 := broadcastInDim S1x512 ![] bcast_S_S1x512 main_cst_4
  fn_part1 (F := F) main_v14 main_v15 main_v16
-- ==== Pre_finite_f.lean ====
abbrev S8x2048x64 : Shape := ⟨3, ![8, 2048, 64]⟩
abbrev S8x256x64 : Shape := ⟨3, ![8, 256, 64]⟩
abbrev S8x5x576x128 : Shape := ⟨4, ![8, 5, 576, 128]⟩
abbrev S_ : Shape := ⟨0, ![]⟩

class Facts : Prop where
  bcast_S_S8x5x576x128 : S_.BroadcastsInDim S8x5x576x128 (![] : Fin 0 → Fin S8x5x576x128.rank)
  reducesTo_S8x5x576x128_S_d0_1_2_3 : S8x5x576x128.ReducesTo [0, 1, 2, 3] S_
  h_S_ : 0 < S_.numel
  bitsLt_bf16_f32 : FTy.bits .bf16 < FTy.bits .f32
  bcast_S_S8x2048x64 : S_.BroadcastsInDim S8x2048x64 (![] : Fin 0 → Fin S8x2048x64.rank)
  reducesTo_S8x2048x64_S_d0_1_2 : S8x2048x64.ReducesTo [0, 1, 2] S_
  bcast_S_S8x256x64 : S_.BroadcastsInDim S8x256x64 (![] : Fin 0 → Fin S8x256x64.rank)
  reducesTo_S8x256x64_S_d0_1_2 : S8x256x64.ReducesTo [0, 1, 2] S_

variable [Facts]

def fn_part1 {F : FTy → Type} [FloatOps F] (main_arg4 : FVec F S8x256x64 .bf16) (main_v15 : IVec S_ 1) (main_v17 : FVec F S8x2048x64 .f32) : IVec S_ 1 :=
  let main_cst_4 : FVec F S_ .f32 := constant S_ .f32 0x7F800000#32
  let main_v18 : FVec F S8x2048x64 .f32 := broadcastInDim S8x2048x64 ![] bcast_S_S8x2048x64 main_cst_4
  let main_v19 : IVec S8x2048x64 1 := cmpf .olt main_v17 main_v18
  let main_c_5 : IVec S_ 1 := constantI S_ 1 1#1
  let main_v20 : IVec S_ 1 := (fun x v => Host.reduce IntOp.andi x v reducesTo_S8x2048x64_S_d0_1_2 h_S_) main_v19 main_c_5
  let main_v21 : IVec S_ 1 := andi main_v15 main_v20
  let main_v22 : FVec F S8x256x64 .f32 := (extf .f32 · bitsLt_bf16_f32) main_arg4
  let main_v23 : FVec F S8x256x64 .f32 := Host.absf main_v22
  let main_cst_6 : FVec F S_ .f32 := constant S_ .f32 0x7F800000#32
  let main_v24 : FVec F S8x256x64 .f32 := broadcastInDim S8x256x64 ![] bcast_S_S8x256x64 main_cst_6
  let main_v25 : IVec S8x256x64 1 := cmpf .olt main_v23 main_v24
  let main_c_7 : IVec S_ 1 := constantI S_ 1 1#1
  let main_v26 : IVec S_ 1 := (fun x v => Host.reduce IntOp.andi x v reducesTo_S8x256x64_S_d0_1_2 h_S_) main_v25 main_c_7
  let main_v27 : IVec S_ 1 := andi main_v21 main_v26
  main_v27

def fn {F : FTy → Type} [FloatOps F] (main_arg0 : FVec F S8x2048x64 .bf16) (main_arg1 : FVec F S8x2048x64 .bf16) (main_arg2 : FVec F S8x2048x64 .bf16) (main_arg3 : FVec F S8x2048x64 .bf16) (main_arg4 : FVec F S8x256x64 .bf16) (main_arg5 : FVec F S8x256x64 .bf16) (main_arg6 : FVec F S8x5x576x128 .f32) : IVec S_ 1 :=
  let main_v0 : FVec F S8x5x576x128 .f32 := Host.absf main_arg6
  let main_cst : FVec F S_ .f32 := constant S_ .f32 0x7F800000#32
  let main_v1 : FVec F S8x5x576x128 .f32 := broadcastInDim S8x5x576x128 ![] bcast_S_S8x5x576x128 main_cst
  let main_v2 : IVec S8x5x576x128 1 := cmpf .olt main_v0 main_v1
  let main_c : IVec S_ 1 := constantI S_ 1 1#1
  let main_v3 : IVec S_ 1 := (fun x v => Host.reduce IntOp.andi x v reducesTo_S8x5x576x128_S_d0_1_2_3 h_S_) main_v2 main_c
  let main_v4 : FVec F S8x2048x64 .f32 := (extf .f32 · bitsLt_bf16_f32) main_arg0
  let main_v5 : FVec F S8x2048x64 .f32 := Host.absf main_v4
  let main_cst_0 : FVec F S_ .f32 := constant S_ .f32 0x7F800000#32
  let main_v6 : FVec F S8x2048x64 .f32 := broadcastInDim S8x2048x64 ![] bcast_S_S8x2048x64 main_cst_0
  let main_v7 : IVec S8x2048x64 1 := cmpf .olt main_v5 main_v6
  let main_c_1 : IVec S_ 1 := constantI S_ 1 1#1
  let main_v8 : IVec S_ 1 := (fun x v => Host.reduce IntOp.andi x v reducesTo_S8x2048x64_S_d0_1_2 h_S_) main_v7 main_c_1
  let main_v9 : IVec S_ 1 := andi main_v3 main_v8
  let main_v10 : FVec F S8x2048x64 .f32 := (extf .f32 · bitsLt_bf16_f32) main_arg1
  let main_v11 : FVec F S8x2048x64 .f32 := Host.absf main_v10
  let main_cst_2 : FVec F S_ .f32 := constant S_ .f32 0x7F800000#32
  let main_v12 : FVec F S8x2048x64 .f32 := broadcastInDim S8x2048x64 ![] bcast_S_S8x2048x64 main_cst_2
  let main_v13 : IVec S8x2048x64 1 := cmpf .olt main_v11 main_v12
  let main_c_3 : IVec S_ 1 := constantI S_ 1 1#1
  let main_v14 : IVec S_ 1 := (fun x v => Host.reduce IntOp.andi x v reducesTo_S8x2048x64_S_d0_1_2 h_S_) main_v13 main_c_3
  let main_v15 : IVec S_ 1 := andi main_v9 main_v14
  let main_v16 : FVec F S8x2048x64 .f32 := (extf .f32 · bitsLt_bf16_f32) main_arg2
  let main_v17 : FVec F S8x2048x64 .f32 := Host.absf main_v16
  fn_part1 (F := F) main_arg4 main_v15 main_v17
-- ==== Pre_finite_o.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S_ : Shape := ⟨0, ![]⟩
abbrev S1x1024 : Shape := ⟨2, ![1, 1024]⟩

class Facts : Prop where
  bitsLt_bf16_f32 : FTy.bits .bf16 < FTy.bits .f32
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  slices_S2048x4096_S2048x512_0_1536 : S2048x4096.Slices ![0, 1536] S2048x512
  slices_S1x3072_S1x1024_0_2048 : S1x3072.Slices ![0, 2048] S1x1024
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v33 : IVec S_ 1) (main_v34 : FVec F S1x1024 .f32) (main_cst_10 : FVec F S_ .f32) : IVec S_ 1 :=
  let main_v35 : FVec F S1x1024 .f32 := broadcastInDim S1x1024 ![] bcast_S_S1x1024 main_cst_10
  let main_v36 : IVec S1x1024 1 := cmpf .olt main_v34 main_v35
  let main_c_11 : IVec S_ 1 := constantI S_ 1 1#1
  let main_v37 : IVec S_ 1 := (fun x v => Host.reduce IntOp.andi x v reducesTo_S1x1024_S_d0_1 h_S_) main_v36 main_c_11
  let main_v38 : IVec S_ 1 := andi main_v33 main_v37
  main_v38

def fn_part1 {F : FTy → Type} [FloatOps F] (main_arg3 : FVec F S1024x1024 .f32) (main_arg4 : FVec F S2048x1024 .f32) (main_arg5 : FVec F S2048x1024 .f32) (main_v10 : IVec S_ 1) (main_v13 : FVec F S1x1024 .f32) (main_v17 : IVec S_ 1) : IVec S_ 1 :=
  let main_v18 : IVec S_ 1 := andi main_v10 main_v17
  let main_v19 : FVec F S1024x1024 .f32 := Host.absf main_arg3
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_c_5 : IVec S_ 1 := constantI S_ 1 1#1
  let main_v22 : IVec S_ 1 := (fun x v => Host.reduce IntOp.andi x v reducesTo_S1024x1024_S_d0_1 h_S_) main_v21 main_c_5
  let main_v23 : IVec S_ 1 := andi main_v18 main_v22
  let main_v24 : FVec F S2048x1024 .f32 := Host.absf main_arg4
  let main_cst_6 : FVec F S_ .f32 := constant S_ .f32 0x7F800000#32
  let main_v25 : FVec F S2048x1024 .f32 := broadcastInDim S2048x1024 ![] bcast_S_S2048x1024 main_cst_6
  let main_v26 : IVec S2048x1024 1 := cmpf .olt main_v24 main_v25
  let main_c_7 : IVec S_ 1 := constantI S_ 1 1#1
  let main_v27 : IVec S_ 1 := (fun x v => Host.reduce IntOp.andi x v reducesTo_S2048x1024_S_d0_1 h_S_) main_v26 main_c_7
  let main_v28 : IVec S_ 1 := andi main_v23 main_v27
  let main_v29 : FVec F S2048x1024 .f32 := Host.absf main_arg5
  let main_cst_8 : FVec F S_ .f32 := constant S_ .f32 0x7F800000#32
  let main_v30 : FVec F S2048x1024 .f32 := broadcastInDim S2048x1024 ![] bcast_S_S2048x1024 main_cst_8
  let main_v31 : IVec S2048x1024 1 := cmpf .olt main_v29 main_v30
  let main_c_9 : IVec S_ 1 := constantI S_ 1 1#1
  let main_v32 : IVec S_ 1 := (fun x v => Host.reduce IntOp.andi x v reducesTo_S2048x1024_S_d0_1 h_S_) main_v31 main_c_9
  let main_v33 : IVec S_ 1 := andi main_v28 main_v32
  let main_v34 : FVec F S1x1024 .f32 := Host.absf main_v13
  let main_cst_10 : FVec F S_ .f32 := constant S_ .f32 0x7F800000#32
  fn_part2 (F := F) main_v33 main_v34 main_cst_10

def fn {F : FTy → Type} [FloatOps F] (main_arg0 : FVec F S8x2048x64 .bf16) (main_arg1 : FVec F S2048x4096 .f32) (main_arg2 : FVec F S2048x512 .bf16) (main_arg3 : FVec F S1024x1024 .f32) (main_arg4 : FVec F S2048x1024 .f32) (main_arg5 : FVec F S2048x1024 .f32) (main_arg6 : FVec F S1x3072 .f32) (main_arg7 : FVec F S1x3072 .f32) : IVec S_ 1 :=
  let main_v0 : FVec F S8x2048x64 .f32 := (extf .f32 · bitsLt_bf16_f32) main_arg0
  let main_v1 : FVec F S8x2048x64 .f32 := Host.absf main_v0
  let main_cst : FVec F S_ .f32 := constant S_ .f32 0x7F800000#32
  let main_v2 : FVec F S8x2048x64 .f32 := broadcastInDim S8x2048x64 ![] bcast_S_S8x2048x64 main_cst
  let main_v3 : IVec S8x2048x64 1 := cmpf .olt main_v1 main_v2
  let main_c : IVec S_ 1 := constantI S_ 1 1#1
  let main_v4 : IVec S_ 1 := (fun x v => Host.reduce IntOp.andi x v reducesTo_S8x2048x64_S_d0_1_2 h_S_) main_v3 main_c
  let main_v5 : FVec F S2048x512 .f32 := (extf .f32 · bitsLt_bf16_f32) main_arg2
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x512 .f32 := (extractStridedSlice S2048x512 ![0, 1536] · slices_S2048x4096_S2048x512_0_1536) main_arg1
  let main_v12 : FVec F S1x3072 .f32 := addf main_arg6 main_arg7
  let main_v13 : FVec F S1x1024 .f32 := (extractStridedSlice S1x1024 ![0, 2048] · slices_S1x3072_S1x1024_0_2048) main_v12
  let main_v14 : FVec F S2048x512 .f32 := Host.absf main_v11
  let main_cst_2 : FVec F S_ .f32 := constant S_ .f32 0x7F800000#32
  let main_v15 : FVec F S2048x512 .f32 := broadcastInDim S2048x512 ![] bcast_S_S2048x512 main_cst_2
  let main_v16 : IVec S2048x512 1 := cmpf .olt main_v14 main_v15
  let main_c_3 : IVec S_ 1 := constantI S_ 1 1#1
  let main_v17 : IVec S_ 1 := (fun x v => Host.reduce IntOp.andi x v reducesTo_S2048x512_S_d0_1 h_S_) main_v16 main_c_3
  fn_part1 (F := F) main_arg3 main_arg4 main_arg5 main_v10 main_v13 main_v17
-- ==== Pre_finite_x.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S1x3072 : Shape := ⟨2, ![1, 3072]⟩
abbrev S8x128 : Shape := ⟨2, ![8, 128]⟩
abbrev S_ : Shape := ⟨0, ![]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel
  slices_S1x3072_S1x1024_0_1024 : S1x3072.Slices ![0, 1024] S1x1024
  bcast_S_S1024x4096 : S_.BroadcastsInDim S1024x4096 (![] : Fin 0 → Fin S1024x4096.rank)
  reducesTo_S1024x4096_S_d0_1 : S1024x4096.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v6 : FVec F S1x1024 .f32) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S1x1024 .f32 := Host.absf main_v6
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S2048x4096 .bf16) (main_arg1 : FVec F S1024x4096 .f32) (main_arg2 : FVec F S2048x1024 .f32) (main_arg3 : FVec F S2048x1024 .f32) (main_arg4 : FVec F S1x1024 .f32) (main_arg5 : FVec F S1x3072 .f32) (main_arg6 : FVec F S1x3072 .f32) (main_arg7 : FVec F S8x128 .f32) : IVec S_ 1 :=
  let main_v0 : FVec F S2048x4096 .f32 := (extf .f32 · bitsLt_bf16_f32) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  let main_v5 : FVec F S1x3072 .f32 := addf main_arg5 main_arg6
  let main_v6 : FVec F S1x1024 .f32 := (extractStridedSlice S1x1024 ![0, 1024] · slices_S1x3072_S1x1024_0_1024) main_v5
  let main_v7 : FVec F S1024x4096 .f32 := Host.absf main_arg1
  let main_cst_0 : FVec F S_ .f32 := constant S_ .f32 0x7F800000#32
  let main_v8 : FVec F S1024x4096 .f32 := broadcastInDim S1024x4096 ![] bcast_S_S1024x4096 main_cst_0
  let main_v9 : IVec S1024x4096 1 := cmpf .olt main_v7 main_v8
  let main_c_1 : IVec S_ 1 := constantI S_ 1 1#1
  let main_v10 : IVec S_ 1 := (fun x v => Host.reduce IntOp.andi x v reducesTo_S1024x4096_S_d0_1 h_S_) main_v9 main_c_1
  let main_v11 : IVec S_ 1 := andi main_v4 main_v10
  let main_v12 : FVec F S2048x1024 .f32 := Host.absf main_arg2
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v11 main_v15
  let main_v17 : FVec F S1x1024 .f32 := Host.absf main_arg4
  fn_part1 (F := F) main_v6 main_v16 main_v17
-- ==== Pre_one_block.lean ====
abbrev S1 : Shape := ⟨1, ![1]⟩
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x1024 .bf16) (main_arg2 : FVec F S1024x4096 .f32) (main_arg3 : FVec F S2048x4096 .f32) (main_arg4 : IVec S1 32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_one_half.lean ====
abbrev S1 : Shape := ⟨1, ![1]⟩
abbrev S2048x1024 : Shape := ⟨2, ![2048, 1024]⟩
abbrev S8x2048x512 : Shape := ⟨3, ![8, 2048, 512]⟩
abbrev S256x1024 : Shape := ⟨2, ![256, 1024]⟩
abbrev S256x512 : Shape := ⟨2, ![256, 512]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x1024 .bf16) (main_arg2 : FVec F S8x2048x512 .bf16) (main_arg3 : FVec F S256x1024 .bf16) (main_arg4 : FVec F S256x512 .bf16) (main_arg5 : FVec F S256x512 .bf16) (main_arg6 : IVec S1 32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_one_place.lean ====
abbrev S1 : Shape := ⟨1, ![1]⟩
abbrev S2048x1024 : Shape := ⟨2, ![2048, 1024]⟩
abbrev S1024x1024 : Shape := ⟨2, ![1024, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x1024 .bf16) (main_arg2 : FVec F S1024x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Kernel.lean ====
abbrev S8x2048x64 : Shape := ⟨3, ![8, 2048, 64]⟩
abbrev S8x256x64 : Shape := ⟨3, ![8, 256, 64]⟩
abbrev S8x5x576x128 : Shape := ⟨4, ![8, 5, 576, 128]⟩
abbrev S8x128 : Shape := ⟨2, ![8, 128]⟩
abbrev S5 : Shape := ⟨1, ![5]⟩
abbrev S5x1x1 : Shape := ⟨3, ![5, 1, 1]⟩
abbrev S5x576x128 : Shape := ⟨3, ![5, 576, 128]⟩
abbrev S_ : Shape := ⟨0, ![]⟩
abbrev S1x2048x64 : Shape := ⟨3, ![1, 2048, 64]⟩
abbrev S1x256x64 : Shape := ⟨3, ![1, 256, 64]⟩
abbrev S1x5x576x128 : Shape := ⟨4, ![1, 5, 576, 128]⟩
abbrev S256x64 : Shape := ⟨2, ![256, 64]⟩
abbrev S2048x64 : Shape := ⟨2, ![2048, 64]⟩
abbrev S1x128x64 : Shape := ⟨3, ![1, 128, 64]⟩
abbrev S128x64 : Shape := ⟨2, ![128, 64]⟩
abbrev S1x576x64 : Shape := ⟨3, ![1, 576, 64]⟩
abbrev S576x64 : Shape := ⟨2, ![576, 64]⟩
abbrev S576x128 : Shape := ⟨2, ![576, 128]⟩
abbrev S1x1x576x128 : Shape := ⟨4, ![1, 1, 576, 128]⟩
abbrev S256x128 : Shape := ⟨2, ![256, 128]⟩
abbrev S128 : Shape := ⟨1, ![128]⟩
abbrev S1x128 : Shape := ⟨2, ![1, 128]⟩

abbrev nBuf : Space → Nat
  | .hbm => 146
  | .vmem => 30
  | .smem => 0
  | _ => 0

abbrev hbmTy0_0 (i : Nat) : BufTy := match i % 128 with
  | 0 => ⟨S8x2048x64, .bf16⟩
  | 1 => ⟨S8x2048x64, .bf16⟩
  | 2 => ⟨S8x2048x64, .bf16⟩
  | 3 => ⟨S8x2048x64, .bf16⟩
  | 4 => ⟨S8x256x64, .bf16⟩
  | 5 => ⟨S8x256x64, .bf16⟩
  | 6 => ⟨S8x5x576x128, .f32⟩
  | 7 => ⟨S8x2048x64, .bf16⟩
  | 8 => ⟨S8x128, .f32⟩
  | 9 => ⟨S5, .i32⟩
  | 10 => ⟨S5, .i32⟩
  | 11 => ⟨S5x1x1, .i32⟩
  | 12 => ⟨S5x1x1, .i32⟩
  | 13 => ⟨S5x576x128, .i32⟩
  | 14 => ⟨S5x576x128, .i32⟩
  | 15 => ⟨S_, .i32⟩
  | 16 => ⟨S_, .i32⟩
  | 17 => ⟨S5x576x128, .i32⟩
  | 18 => ⟨S5x576x128, .i32⟩
  | 19 => ⟨S5x576x128, .i32⟩
  | 20 => ⟨S_, .i32⟩
  | 21 => ⟨S5x576x128, .i32⟩
  | 22 => ⟨S5x576x128, .i1⟩
  | 23 => ⟨S5x576x128, .i32⟩
  | 24 => ⟨S5x576x128, .i32⟩
  | 25 => ⟨S_, .i32⟩
  | 26 => ⟨S5x576x128, .i32⟩
  | 27 => ⟨S5x576x128, .i1⟩
  | 28 => ⟨S5x576x128, .i1⟩
  | 29 => ⟨S_, .i32⟩
  | 30 => ⟨S5x576x128, .i32⟩
  | 31 => ⟨S5x576x128, .i32⟩
  | 32 => ⟨S5x576x128, .i32⟩
  | 33 => ⟨S5x576x128, .i32⟩
  | 34 => ⟨S5x576x128, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S5x576x128, .i32⟩
  | 42 => ⟨S5x576x128, .i32⟩
  | 43 => ⟨S_, .i32⟩
  | 44 => ⟨S5x576x128, .i32⟩
  | 45 => ⟨S5x576x128, .i1⟩
  | 46 => ⟨S_, .i32⟩
  | 47 => ⟨S5x576x128, .i32⟩
  | 48 => ⟨S5x576x128, .i1⟩
  | 49 => ⟨S_, .i32⟩
  | 50 => ⟨S_, .i1⟩
  | 51 => ⟨S5x576x128, .i1⟩
  | 52 => ⟨S5x576x128, .i1⟩
  | 53 => ⟨S5x576x128, .i1⟩
  | 54 => ⟨S5x576x128, .i32⟩
  | 55 => ⟨S5x576x128, .i32⟩
  | 56 => ⟨S5x576x128, .i32⟩
  | 57 => ⟨S_, .i32⟩
  | 58 => ⟨S_, .i32⟩
  | 59 => ⟨S5x576x128, .i32⟩
  | 60 => ⟨S5x576x128, .i32⟩
  | 61 => ⟨S5x576x128, .i32⟩
  | 62 => ⟨S_, .i32⟩
  | 63 => ⟨S5x576x128, .i32⟩
  | 64 => ⟨S5x576x128, .i1⟩
  | 65 => ⟨S5x576x128, .i32⟩
  | 66 => ⟨S5x576x128, .i32⟩
  | 67 => ⟨S_, .i32⟩
  | 68 => ⟨S5x576x128, .i32⟩
  | 69 => ⟨S5x576x128, .i1⟩
  | 70 => ⟨S5x576x128, .i1⟩
  | 71 => ⟨S_, .i32⟩
  | 72 => ⟨S5x576x128, .i32⟩
  | 73 => ⟨S5x576x128, .i32⟩
  | 74 => ⟨S5x576x128, .i32⟩
  | 75 => ⟨S5x576x128, .i32⟩
  | 76 => ⟨S5x576x128, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S5x576x128, .i32⟩
  | 84 => ⟨S5x576x128, .i32⟩
  | 85 => ⟨S_, .i32⟩
  | 86 => ⟨S5x576x128, .i32⟩
  | 87 => ⟨S5x576x128, .i1⟩
  | 88 => ⟨S_, .i32⟩
  | 89 => ⟨S5x576x128, .i32⟩
  | 90 => ⟨S5x576x128, .i1⟩
  | 91 => ⟨S_, .i32⟩
  | 92 => ⟨S_, .i1⟩
  | 93 => ⟨S5x576x128, .i1⟩
  | 94 => ⟨S5x576x128, .i1⟩
  | 95 => ⟨S5x576x128, .i1⟩
  | 96 => ⟨S5x576x128, .i32⟩
  | 97 => ⟨S5x576x128, .i32⟩
  | 98 => ⟨S5x576x128, .i32⟩
  | 99 => ⟨S_, .i32⟩
  | 100 => ⟨S5x576x128, .i32⟩
  | 101 => ⟨S5x576x128, .i32⟩
  | 102 => ⟨S_, .i32⟩
  | 103 => ⟨S_, .i32⟩
  | 104 => ⟨S_, .i32⟩
  | 105 => ⟨S5x576x128, .i32⟩
  | 106 => ⟨S5x576x128, .i32⟩
  | 107 => ⟨S_, .i32⟩
  | 108 => ⟨S5x576x128, .i32⟩
  | 109 => ⟨S5x576x128, .i32⟩
  | 110 => ⟨S_, .i32⟩
  | 111 => ⟨S5x576x128, .i32⟩
  | 112 => ⟨S5x576x128, .i32⟩
  | 113 => ⟨S_, .i32⟩
  | 114 => ⟨S_, .i32⟩
  | 115 => ⟨S_, .i32⟩
  | 116 => ⟨S5x576x128, .i32⟩
  | 117 => ⟨S5x576x128, .i32⟩
  | 118 => ⟨S_, .i32⟩
  | 119 => ⟨S5x576x128, .i32⟩
  | 120 => ⟨S5x576x128, .i32⟩
  | 121 => ⟨S5x576x128, .i1⟩
  | 122 => ⟨S_, .i32⟩
  | 123 => ⟨S5x576x128, .i32⟩
  | 124 => ⟨S5x576x128, .i32⟩
  | 125 => ⟨S5x576x128, .i1⟩
  | 126 => ⟨S5x576x128, .i1⟩
  | 127 => ⟨S5x576x128, .i1⟩
  | _ => ⟨S8x2048x64, .bf16⟩

abbrev hbmTy0_1 (i : Nat) : BufTy := match i % 128 with
  | 0 => ⟨S5x576x128, .i1⟩
  | 1 => ⟨S_, .i32⟩
  | 2 => ⟨S5x576x128, .i32⟩
  | 3 => ⟨S5x576x128, .i32⟩
  | 4 => ⟨S5x576x128, .i1⟩
  | 5 => ⟨S5x576x128, .i1⟩
  | 6 => ⟨S_, .f32⟩
  | 7 => ⟨S_, .f32⟩
  | 8 => ⟨S8x5x576x128, .i1⟩
  | 9 => ⟨S8x5x576x128, .f32⟩
  | 10 => ⟨S8x5x576x128, .f32⟩
  | 11 => ⟨S8x2048x64, .f32⟩
  | 12 => ⟨S8x2048x64, .f32⟩
  | 13 => ⟨S8x2048x64, .f32⟩
  | 14 => ⟨S8x2048x64, .f32⟩
  | 15 => ⟨S8x256x64, .f32⟩
  | 16 => ⟨S8x256x64, .f32⟩
  | 17 => ⟨S8x5x576x128, .f32⟩
  | _ => ⟨S8x2048x64, .bf16⟩

abbrev hbmTy (i : Nat) : BufTy := match i / 128 with
  | 0 => hbmTy0_0 i
  | 1 => hbmTy0_1 i
  | _ => ⟨S8x2048x64, .bf16⟩

abbrev bufTy : (tb : Table) → Fin (tcTables nBuf tb) → BufTy
  | .hbm, ⟨i, _⟩ => hbmTy i
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x256x64, .bf16⟩
  | .local _ .vmem, ⟨9, _⟩ => ⟨S1x256x64, .bf16⟩
  | .local _ .vmem, ⟨10, _⟩ => ⟨S1x256x64, .bf16⟩
  | .local _ .vmem, ⟨11, _⟩ => ⟨S1x256x64, .bf16⟩
  | .local _ .vmem, ⟨12, _⟩ => ⟨S1x5x576x128, .f32⟩
  | .local _ .vmem, ⟨13, _⟩ => ⟨S1x5x576x128, .f32⟩
  | .local _ .vmem, ⟨14, _⟩ => ⟨S1x2048x64, .bf16⟩
  | .local _ .vmem, ⟨15, _⟩ => ⟨S1x2048x64, .bf16⟩
  | .local _ .vmem, ⟨16, _⟩ => ⟨S1x2048x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x2048x64, .f32⟩
  | .local _ .vmem, ⟨22, _⟩ => ⟨S1x2048x64, .f32⟩
  | .local _ .vmem, ⟨23, _⟩ => ⟨S1x2048x64, .f32⟩
  | .local _ .vmem, ⟨24, _⟩ => ⟨S1x256x64, .f32⟩
  | .local _ .vmem, ⟨25, _⟩ => ⟨S1x256x64, .f32⟩
  | .local _ .vmem, ⟨26, _⟩ => ⟨S1x256x64, .f32⟩
  | .local _ .vmem, ⟨27, _⟩ => ⟨S1x256x64, .f32⟩
  | .local _ .vmem, ⟨28, _⟩ => ⟨S1x5x576x128, .f32⟩
  | .local _ .vmem, ⟨29, _⟩ => ⟨S1x5x576x128, .f32⟩
  | _, _ => ⟨S8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_2 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v7 : Ref sig .tc := ⟨.hbm, 56, rfl⟩
abbrev main_c_3 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_c_4 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v11 : Ref sig .tc := ⟨.hbm, 98, rfl⟩
abbrev main_c_5 : Ref sig .tc := ⟨.hbm, 99, rfl⟩
abbrev main_v12 : Ref sig .tc := ⟨.hbm, 100, rfl⟩
abbrev main_v13 : Ref sig .tc := ⟨.hbm, 101, rfl⟩
abbrev main_c_6 : Ref sig .tc := ⟨.hbm, 102, rfl⟩
abbrev main_c_7 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v14 : Ref sig .tc := ⟨.hbm, 109, rfl⟩
abbrev main_c_8 : Ref sig .tc := ⟨.hbm, 110, rfl⟩
abbrev main_v15 : Ref sig .tc := ⟨.hbm, 111, rfl⟩
abbrev main_v16 : Ref sig .tc := ⟨.hbm, 112, rfl⟩
abbrev main_c_9 : Ref sig .tc := ⟨.hbm, 113, rfl⟩
abbrev main_c_10 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v17 : Ref sig .tc := ⟨.hbm, 120, rfl⟩
abbrev main_v18 : Ref sig .tc := ⟨.hbm, 121, rfl⟩
abbrev main_c_11 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_c_12 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v29 : Ref sig .tc := ⟨.hbm, 138, rfl⟩
abbrev main_v30_0 : Ref sig .tc := ⟨.hbm, 139, rfl⟩
abbrev main_v30_1 : Ref sig .tc := ⟨.hbm, 140, rfl⟩
abbrev main_v30_2 : Ref sig .tc := ⟨.hbm, 141, rfl⟩
abbrev main_v30_3 : Ref sig .tc := ⟨.hbm, 142, rfl⟩
abbrev main_v30_4 : Ref sig .tc := ⟨.hbm, 143, rfl⟩
abbrev main_v30_5 : Ref sig .tc := ⟨.hbm, 144, rfl⟩
abbrev main_v30_6 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x576x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x5x576x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x2048x64 : Shape := ⟨3, ![8, 2048, 64]⟩
abbrev S8x256x64 : Shape := ⟨3, ![8, 256, 64]⟩
abbrev S8x5x576x128 : Shape := ⟨4, ![8, 5, 576, 128]⟩
abbrev S8x128 : Shape := ⟨2, ![8, 128]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x3 : Shape := ⟨3, ![2048, 2048, 3]⟩
abbrev S8x2048x2048 : Shape := ⟨3, ![8, 2048, 2048]⟩
abbrev S8x2048x256 : Shape := ⟨3, ![8, 2048, 256]⟩
abbrev S8x2048x2304 : Shape := ⟨3, ![8, 2048, 2304]⟩
abbrev S8x2048 : Shape := ⟨2, ![8, 2048]⟩
abbrev S8x2048x1 : Shape := ⟨3, ![8, 2048, 1]⟩
abbrev S8x64x256 : Shape := ⟨3, ![8, 64, 256]⟩
abbrev S8x64x2048 : Shape := ⟨3, ![8, 64, 2048]⟩

abbrev nBuf : Space → Nat
  | .hbm => 313
  | .vmem => 0
  | .smem => 0
  | _ => 0

abbrev hbmTy0_0 (i : Nat) : BufTy := match i % 128 with
  | 0 => ⟨S8x2048x64, .bf16⟩
  | 1 => ⟨S8x2048x64, .bf16⟩
  | 2 => ⟨S8x2048x64, .bf16⟩
  | 3 => ⟨S8x2048x64, .bf16⟩
  | 4 => ⟨S8x256x64, .bf16⟩
  | 5 => ⟨S8x256x64, .bf16⟩
  | 6 => ⟨S8x5x576x128, .f32⟩
  | 7 => ⟨S8x2048x64, .bf16⟩
  | 8 => ⟨S8x128, .f32⟩
  | 9 => ⟨S8x2048x64, .f32⟩
  | 10 => ⟨S8x2048x64, .f32⟩
  | 11 => ⟨S8x2048x64, .f32⟩
  | 12 => ⟨S8x2048x64, .f32⟩
  | 13 => ⟨S8x256x64, .f32⟩
  | 14 => ⟨S8x256x64, .f32⟩
  | 15 => ⟨S2048, .i32⟩
  | 16 => ⟨S_, .i32⟩
  | 17 => ⟨S_, .i32⟩
  | 18 => ⟨S2048, .i32⟩
  | 19 => ⟨S2048, .i32⟩
  | 20 => ⟨S2048, .i32⟩
  | 21 => ⟨S_, .i32⟩
  | 22 => ⟨S2048, .i32⟩
  | 23 => ⟨S2048, .i1⟩
  | 24 => ⟨S2048, .i32⟩
  | 25 => ⟨S2048, .i32⟩
  | 26 => ⟨S_, .i32⟩
  | 27 => ⟨S2048, .i32⟩
  | 28 => ⟨S2048, .i1⟩
  | 29 => ⟨S2048, .i1⟩
  | 30 => ⟨S_, .i32⟩
  | 31 => ⟨S2048, .i32⟩
  | 32 => ⟨S2048, .i32⟩
  | 33 => ⟨S2048, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i1⟩
  | 45 => ⟨S_, .i32⟩
  | 46 => ⟨S2048, .i32⟩
  | 47 => ⟨S2048, .i1⟩
  | 48 => ⟨S_, .i32⟩
  | 49 => ⟨S_, .i1⟩
  | 50 => ⟨S2048, .i1⟩
  | 51 => ⟨S2048, .i1⟩
  | 52 => ⟨S2048, .i1⟩
  | 53 => ⟨S2048, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S_, .i32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S_, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S1x2048, .i32⟩
  | 79 => ⟨S2048x1, .i32⟩
  | 80 => ⟨S2048x2048, .i32⟩
  | 81 => ⟨S2048x2048, .i32⟩
  | 82 => ⟨S2048x2048, .i1⟩
  | 83 => ⟨S1x2048, .i32⟩
  | 84 => ⟨S2048x1, .i32⟩
  | 85 => ⟨S_, .i32⟩
  | 86 => ⟨S2048x1, .i32⟩
  | 87 => ⟨S2048x1, .i32⟩
  | 88 => ⟨S2048x2048, .i32⟩
  | 89 => ⟨S2048x2048, .i32⟩
  | 90 => ⟨S2048x2048, .i1⟩
  | 91 => ⟨S2048x2048, .i1⟩
  | 92 => ⟨S1x2048, .i32⟩
  | 93 => ⟨S2048x1, .i32⟩
  | 94 => ⟨S2048x2048, .i32⟩
  | 95 => ⟨S2048x2048, .i32⟩
  | 96 => ⟨S2048x2048, .i1⟩
  | 97 => ⟨S1x2048, .i32⟩
  | 98 => ⟨S2048x1, .i32⟩
  | 99 => ⟨S_, .i32⟩
  | 100 => ⟨S2048x1, .i32⟩
  | 101 => ⟨S2048x1, .i32⟩
  | 102 => ⟨S2048x2048, .i32⟩
  | 103 => ⟨S2048x2048, .i32⟩
  | 104 => ⟨S2048x2048, .i1⟩
  | 105 => ⟨S2048x2048, .i1⟩
  | 106 => ⟨S_, .i32⟩
  | 107 => ⟨S_, .i32⟩
  | 108 => ⟨S2048, .i32⟩
  | 109 => ⟨S2048, .i32⟩
  | 110 => ⟨S2048, .i32⟩
  | 111 => ⟨S_, .i32⟩
  | 112 => ⟨S2048, .i32⟩
  | 113 => ⟨S2048, .i1⟩
  | 114 => ⟨S2048, .i32⟩
  | 115 => ⟨S2048, .i32⟩
  | 116 => ⟨S_, .i32⟩
  | 117 => ⟨S2048, .i32⟩
  | 118 => ⟨S2048, .i1⟩
  | 119 => ⟨S2048, .i1⟩
  | 120 => ⟨S_, .i32⟩
  | 121 => ⟨S2048, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S8x2048x64, .bf16⟩

abbrev hbmTy0_1 (i : Nat) : BufTy := match i % 128 with
  | 0 => ⟨S2048, .i32⟩
  | 1 => ⟨S2048, .i32⟩
  | 2 => ⟨S_, .i32⟩
  | 3 => ⟨S_, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i1⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S_, .i32⟩
  | 23 => ⟨S_, .i32⟩
  | 24 => ⟨S2048, .i32⟩
  | 25 => ⟨S2048, .i32⟩
  | 26 => ⟨S2048, .i32⟩
  | 27 => ⟨S1x2048, .i32⟩
  | 28 => ⟨S2048x1, .i32⟩
  | 29 => ⟨S2048x2048, .i32⟩
  | 30 => ⟨S2048x2048, .i32⟩
  | 31 => ⟨S2048x2048, .i32⟩
  | 32 => ⟨S_, .i32⟩
  | 33 => ⟨S_, .i32⟩
  | 34 => ⟨S_, .i32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S2048x1, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i1⟩
  | 52 => ⟨S_, .i32⟩
  | 53 => ⟨S2048, .i32⟩
  | 54 => ⟨S2048, .i1⟩
  | 55 => ⟨S_, .i32⟩
  | 56 => ⟨S_, .i1⟩
  | 57 => ⟨S2048, .i1⟩
  | 58 => ⟨S2048, .i1⟩
  | 59 => ⟨S2048, .i1⟩
  | 60 => ⟨S2048, .i32⟩
  | 61 => ⟨S2048, .i32⟩
  | 62 => ⟨S2048, .i32⟩
  | 63 => ⟨S2048x1, .i32⟩
  | 64 => ⟨S_, .i32⟩
  | 65 => ⟨S2048x1, .i32⟩
  | 66 => ⟨S2048x1, .i1⟩
  | 67 => ⟨S_, .i32⟩
  | 68 => ⟨S2048x1, .i32⟩
  | 69 => ⟨S2048x1, .i32⟩
  | 70 => ⟨S2048x1, .i32⟩
  | 71 => ⟨S_, .i32⟩
  | 72 => ⟨S2048x2048, .i32⟩
  | 73 => ⟨S2048x2048, .i1⟩
  | 74 => ⟨S_, .i32⟩
  | 75 => ⟨S2048x2048, .i32⟩
  | 76 => ⟨S2048x2048, .i32⟩
  | 77 => ⟨S2048x2048, .i32⟩
  | 78 => ⟨S_, .i32⟩
  | 79 => ⟨S2048x1, .i32⟩
  | 80 => ⟨S2048x1, .i1⟩
  | 81 => ⟨S_, .i32⟩
  | 82 => ⟨S2048x1, .i32⟩
  | 83 => ⟨S2048x1, .i32⟩
  | 84 => ⟨S2048x1, .i32⟩
  | 85 => ⟨S2048x2048, .i32⟩
  | 86 => ⟨S2048x2048, .i32⟩
  | 87 => ⟨S2048x2048x1, .i32⟩
  | 88 => ⟨S2048x2048x1, .i32⟩
  | 89 => ⟨S2048x2048x1, .i32⟩
  | 90 => ⟨S2048x2048x3, .i32⟩
  | 91 => ⟨S8x2048x2048, .f32⟩
  | 92 => ⟨S8x2048x2048, .f32⟩
  | 93 => ⟨S8x2048x2048, .f32⟩
  | 94 => ⟨S2048x2048, .i1⟩
  | 95 => ⟨S_, .f32⟩
  | 96 => ⟨S_, .f32⟩
  | 97 => ⟨S8x2048x2048, .i1⟩
  | 98 => ⟨S8x2048x2048, .f32⟩
  | 99 => ⟨S8x2048x2048, .f32⟩
  | 100 => ⟨S_, .f32⟩
  | 101 => ⟨S8x2048x2048, .f32⟩
  | 102 => ⟨S8x2048x256, .f32⟩
  | 103 => ⟨S8x2048x2304, .f32⟩
  | 104 => ⟨S_, .f32⟩
  | 105 => ⟨S8x2048, .f32⟩
  | 106 => ⟨S8x2048x1, .f32⟩
  | 107 => ⟨S8x2048x2304, .f32⟩
  | 108 => ⟨S8x2048x2304, .i1⟩
  | 109 => ⟨S8x2048x2304, .f32⟩
  | 110 => ⟨S_, .f32⟩
  | 111 => ⟨S8x2048, .f32⟩
  | 112 => ⟨S_, .f32⟩
  | 113 => ⟨S8x2048, .f32⟩
  | 114 => ⟨S8x2048, .f32⟩
  | 115 => ⟨S_, .f32⟩
  | 116 => ⟨S8x2048, .f32⟩
  | 117 => ⟨S8x2048, .i1⟩
  | 118 => ⟨S_, .f32⟩
  | 119 => ⟨S8x2048, .f32⟩
  | 120 => ⟨S8x2048, .i1⟩
  | 121 => ⟨S_, .f32⟩
  | 122 => ⟨S8x2048, .f32⟩
  | 123 => ⟨S_, .f32⟩
  | 124 => ⟨S8x2048, .f32⟩
  | 125 => ⟨S_, .f32⟩
  | 126 => ⟨S8x2048, .f32⟩
  | 127 => ⟨S8x2048, .f32⟩
  | _ => ⟨S8x2048x64, .bf16⟩

abbrev hbmTy0_2 (i : Nat) : BufTy := match i % 128 with
  | 0 => ⟨S8x2048, .f32⟩
  | 1 => ⟨S8x2048x1, .f32⟩
  | 2 => ⟨S8x2048x2304, .f32⟩
  | 3 => ⟨S8x2048x2304, .f32⟩
  | 4 => ⟨S8x2048x2304, .f32⟩
  | 5 => ⟨S_, .f32⟩
  | 6 => ⟨S8x2048, .f32⟩
  | 7 => ⟨S8x2048x1, .f32⟩
  | 8 => ⟨S8x2048x2304, .f32⟩
  | 9 => ⟨S8x2048x2304, .f32⟩
  | 10 => ⟨S8x2048x1, .f32⟩
  | 11 => ⟨S_, .f32⟩
  | 12 => ⟨S8x2048x1, .f32⟩
  | 13 => ⟨S8x2048x1, .f32⟩
  | 14 => ⟨S8x2048x2048, .f32⟩
  | 15 => ⟨S8x2048x64, .f32⟩
  | 16 => ⟨S8x2048x256, .f32⟩
  | 17 => ⟨S8x2048x64, .f32⟩
  | 18 => ⟨S8x2048x64, .f32⟩
  | 19 => ⟨S8x2048x64, .f32⟩
  | 20 => ⟨S8x64x256, .f32⟩
  | 21 => ⟨S8x256x64, .f32⟩
  | 22 => ⟨S8x2048x256, .f32⟩
  | 23 => ⟨S_, .f32⟩
  | 24 => ⟨S8x2048x2304, .f32⟩
  | 25 => ⟨S8x64x2048, .f32⟩
  | 26 => ⟨S8x2048x64, .f32⟩
  | 27 => ⟨S8x2048x2048, .f32⟩
  | 28 => ⟨S_, .f32⟩
  | 29 => ⟨S8x2048x2304, .f32⟩
  | 30 => ⟨S8x2048x2304, .f32⟩
  | 31 => ⟨S8x2048x2304, .f32⟩
  | 32 => ⟨S8x2048x2304, .f32⟩
  | 33 => ⟨S8x2048x2304, .f32⟩
  | 34 => ⟨S_, .f32⟩
  | 35 => ⟨S8x2048, .f32⟩
  | 36 => ⟨S8x2048x1, .f32⟩
  | 37 => ⟨S8x2048x1, .f32⟩
  | 38 => ⟨S8x2048x2304, .f32⟩
  | 39 => ⟨S8x2048x2304, .f32⟩
  | 40 => ⟨S_, .f32⟩
  | 41 => ⟨S8x2048, .f32⟩
  | 42 => ⟨S8x2048x2304, .f32⟩
  | 43 => ⟨S8x2048x2304, .f32⟩
  | 44 => ⟨S8x2048x2304, .f32⟩
  | 45 => ⟨S8x2048x2048, .f32⟩
  | 46 => ⟨S8x2048x256, .f32⟩
  | 47 => ⟨S8x256x64, .f32⟩
  | 48 => ⟨S8x2048x64, .f32⟩
  | 49 => ⟨S_, .f32⟩
  | 50 => ⟨S8x2048x2048, .f32⟩
  | 51 => ⟨S8x2048x2048, .f32⟩
  | 52 => ⟨S8x2048x64, .f32⟩
  | 53 => ⟨S8x2048x64, .f32⟩
  | 54 => ⟨S_, .f32⟩
  | 55 => ⟨S8x5x576x128, .f32⟩
  | 56 => ⟨S8x5x576x128, .f32⟩
  | _ => ⟨S8x2048x64, .bf16⟩

abbrev hbmTy (i : Nat) : BufTy := match i / 128 with
  | 0 => hbmTy0_0 i
  | 1 => hbmTy0_1 i
  | 2 => hbmTy0_2 i
  | _ => ⟨S8x2048x64, .bf16⟩

abbrev bufTy : (tb : Table) → Fin (tcTables nBuf tb) → BufTy
  | .hbm, ⟨i, _⟩ => hbmTy i
  | _, _ => ⟨S8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v8 : Ref sig .tc := ⟨.hbm, 55, rfl⟩
abbrev main_c_1 : Ref sig .tc := ⟨.hbm, 56, rfl⟩
abbrev main_v9 : Ref sig .tc := ⟨.hbm, 57, rfl⟩
abbrev main_v10 : Ref sig .tc := ⟨.hbm, 58, rfl⟩
abbrev main_c_2 : Ref sig .tc := ⟨.hbm, 59, rfl⟩
abbrev main_c_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v11 : Ref sig .tc := ⟨.hbm, 66, rfl⟩
abbrev main_c_4 : Ref sig .tc := ⟨.hbm, 67, rfl⟩
abbrev main_v12 : Ref sig .tc := ⟨.hbm, 68, rfl⟩
abbrev main_v13 : Ref sig .tc := ⟨.hbm, 69, rfl⟩
abbrev main_c_5 : Ref sig .tc := ⟨.hbm, 70, rfl⟩
abbrev main_c_6 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_c_7 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_c_8 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_c_9 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_c : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_0 : Ref sig .tc := ⟨.hbm, 120, rfl⟩
abbrev main_call4_v12 : Ref sig .tc := ⟨.hbm, 121, rfl⟩
abbrev main_call4_v13 : Ref sig .tc := ⟨.hbm, 122, rfl⟩
abbrev main_v41 : Ref sig .tc := ⟨.hbm, 123, rfl⟩
abbrev main_c_10 : Ref sig .tc := ⟨.hbm, 124, rfl⟩
abbrev main_v42 : Ref sig .tc := ⟨.hbm, 125, rfl⟩
abbrev main_v43 : Ref sig .tc := ⟨.hbm, 126, rfl⟩
abbrev main_c_11 : Ref sig .tc := ⟨.hbm, 127, rfl⟩
abbrev main_v44 : Ref sig .tc := ⟨.hbm, 128, rfl⟩
abbrev main_v45 : Ref sig .tc := ⟨.hbm, 129, rfl⟩
abbrev main_c_12 : Ref sig .tc := ⟨.hbm, 130, rfl⟩
abbrev main_c_13 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v46 : Ref sig .tc := ⟨.hbm, 137, rfl⟩
abbrev main_c_14 : Ref sig .tc := ⟨.hbm, 138, rfl⟩
abbrev main_v47 : Ref sig .tc := ⟨.hbm, 139, rfl⟩
abbrev main_v48 : Ref sig .tc := ⟨.hbm, 140, rfl⟩
abbrev main_c_15 : Ref sig .tc := ⟨.hbm, 141, rfl⟩
abbrev main_v49 : Ref sig .tc := ⟨.hbm, 142, rfl⟩
abbrev main_v50 : Ref sig .tc := ⟨.hbm, 143, rfl⟩
abbrev main_c_16 : Ref sig .tc := ⟨.hbm, 144, rfl⟩
abbrev main_v51 : Ref sig .tc := ⟨.hbm, 145, rfl⟩
abbrev main_v52 : Ref sig .tc := ⟨.hbm, 146, rfl⟩
abbrev main_c_17 : Ref sig .tc := ⟨.hbm, 147, rfl⟩
abbrev main_v53 : Ref sig .tc := ⟨.hbm, 148, rfl⟩
abbrev main_v54 : Ref sig .tc := ⟨.hbm, 149, rfl⟩
abbrev main_c_18 : Ref sig .tc := ⟨.hbm, 150, rfl⟩
abbrev main_call6_v0 : Ref sig .tc := ⟨.hbm, 151, rfl⟩
abbrev main_call6_v1 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_c_19 : Ref sig .tc := ⟨.hbm, 160, rfl⟩
abbrev main_c_20 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_call8_v3 : Ref sig .tc := ⟨.hbm, 165, rfl⟩
abbrev main_call8_v4 : Ref sig .tc := ⟨.hbm, 166, rfl⟩
abbrev main_v62 : Ref sig .tc := ⟨.hbm, 167, rfl⟩
abbrev main_v63 : Ref sig .tc := ⟨.hbm, 168, rfl⟩
abbrev main_c_21 : Ref sig .tc := ⟨.hbm, 169, rfl⟩
abbrev main_call9_v0 : Ref sig .tc := ⟨.hbm, 170, rfl⟩
abbrev main_call9_c : Ref sig .tc := ⟨.hbm, 171, rfl⟩
abbrev main_call9_v1 : Ref sig .tc := ⟨.hbm, 172, rfl⟩
abbrev main_call9_c_0 : Ref sig .tc := ⟨.hbm, 173, rfl⟩
abbrev main_call9_v2 : Ref sig .tc := ⟨.hbm, 174, rfl⟩
abbrev main_call9_v3 : Ref sig .tc := ⟨.hbm, 175, rfl⟩
abbrev main_call9_v4 : Ref sig .tc := ⟨.hbm, 176, rfl⟩
abbrev main_call9_c_1 : Ref sig .tc := ⟨.hbm, 177, rfl⟩
abbrev main_call9_v5 : Ref sig .tc := ⟨.hbm, 178, rfl⟩
abbrev main_call9_v6 : Ref sig .tc := ⟨.hbm, 179, rfl⟩
abbrev main_call9_c_2 : Ref sig .tc := ⟨.hbm, 180, rfl⟩
abbrev main_call9_v7 : Ref sig .tc := ⟨.hbm, 181, rfl⟩
abbrev main_call9_v8 : Ref sig .tc := ⟨.hbm, 182, rfl⟩
abbrev main_call9_c_3 : Ref sig .tc := ⟨.hbm, 183, rfl⟩
abbrev main_call9_v9 : Ref sig .tc := ⟨.hbm, 184, rfl⟩
abbrev main_call9_v10 : Ref sig .tc := ⟨.hbm, 185, rfl⟩
abbrev main_call9_v11 : Ref sig .tc := ⟨.hbm, 186, rfl⟩
abbrev main_call9_v12 : Ref sig .tc := ⟨.hbm, 187, rfl⟩
abbrev main_call9_v13 : Ref sig .tc := ⟨.hbm, 188, rfl⟩
abbrev main_call9_v14 : Ref sig .tc := ⟨.hbm, 189, rfl⟩
abbrev main_v64 : Ref sig .tc := ⟨.hbm, 190, rfl⟩
abbrev main_v65 : Ref sig .tc := ⟨.hbm, 191, rfl⟩
abbrev main_c_22 : Ref sig .tc := ⟨.hbm, 192, rfl⟩
abbrev main_v66 : Ref sig .tc := ⟨.hbm, 193, rfl⟩
abbrev main_v67 : Ref sig .tc := ⟨.hbm, 194, rfl⟩
abbrev main_c_23 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_c_24 : Ref sig .tc := ⟨.hbm, 199, rfl⟩
abbrev main_v71 : Ref sig .tc := ⟨.hbm, 200, rfl⟩
abbrev main_v72 : Ref sig .tc := ⟨.hbm, 201, rfl⟩
abbrev main_c_25 : Ref sig .tc := ⟨.hbm, 202, rfl⟩
abbrev main_v73 : Ref sig .tc := ⟨.hbm, 203, rfl⟩
abbrev main_v74 : Ref sig .tc := ⟨.hbm, 204, rfl⟩
abbrev main_v75 : Ref sig .tc := ⟨.hbm, 205, rfl⟩
abbrev main_c_26 : Ref sig .tc := ⟨.hbm, 206, rfl⟩
abbrev main_v76 : Ref sig .tc := ⟨.hbm, 207, rfl⟩
abbrev main_v77 : Ref sig .tc := ⟨.hbm, 208, rfl⟩
abbrev main_c_27 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_cst : Ref sig .tc := ⟨.hbm, 223, rfl⟩
abbrev main_call10_v0 : Ref sig .tc := ⟨.hbm, 224, rfl⟩
abbrev main_v91_1 : Ref sig .tc := ⟨.hbm, 225, rfl⟩
abbrev main_call10_v2 : Ref sig .tc := ⟨.hbm, 226, rfl⟩
abbrev main_v91_0 : Ref sig .tc := ⟨.hbm, 227, rfl⟩
abbrev main_call10_cst : Ref sig .tc := ⟨.hbm, 228, rfl⟩
abbrev main_v91_2 : Ref sig .tc := ⟨.hbm, 229, rfl⟩
abbrev main_v92 : Ref sig .tc := ⟨.hbm, 230, rfl⟩
abbrev main_v93 : Ref sig .tc := ⟨.hbm, 231, rfl⟩
abbrev main_cst_28 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩
abbrev main_cst_29 : Ref sig .tc := ⟨.hbm, 238, rfl⟩
abbrev main_v99 : Ref sig .tc := ⟨.hbm, 239, rfl⟩
abbrev main_cst_30 : Ref sig .tc := ⟨.hbm, 240, rfl⟩
abbrev main_v100 : Ref sig .tc := ⟨.hbm, 241, rfl⟩
abbrev main_v101 : Ref sig .tc := ⟨.hbm, 242, rfl⟩
abbrev main_cst_31 : Ref sig .tc := ⟨.hbm, 243, rfl⟩
abbrev main_v102 : Ref sig .tc := ⟨.hbm, 244, rfl⟩
abbrev main_v103 : Ref sig .tc := ⟨.hbm, 245, rfl⟩
abbrev main_cst_32 : Ref sig .tc := ⟨.hbm, 246, rfl⟩
abbrev main_v104 : Ref sig .tc := ⟨.hbm, 247, rfl⟩
abbrev main_v105 : Ref sig .tc := ⟨.hbm, 248, rfl⟩
abbrev main_cst_33 : Ref sig .tc := ⟨.hbm, 249, rfl⟩
abbrev main_v106 : Ref sig .tc := ⟨.hbm, 250, rfl⟩
abbrev main_cst_34 : Ref sig .tc := ⟨.hbm, 251, rfl⟩
abbrev main_v107 : Ref sig .tc := ⟨.hbm, 252, rfl⟩
abbrev main_cst_35 : Ref sig .tc := ⟨.hbm, 253, rfl⟩
abbrev main_v108 : Ref sig .tc := ⟨.hbm, 254, rfl⟩
abbrev main_v109 : Ref sig .tc := ⟨.hbm, 255, rfl⟩
abbrev main_v110 : Ref sig .tc := ⟨.hbm, 256, rfl⟩
abbrev main_v111 : Ref sig .tc := ⟨.hbm, 257, rfl⟩
abbrev main_v112 : Ref sig .tc := ⟨.hbm, 258, rfl⟩
abbrev main_v113 : Ref sig .tc := ⟨.hbm, 259, rfl⟩
abbrev main_v114 : Ref sig .tc := ⟨.hbm, 260, rfl⟩
abbrev main_cst_36 : Ref sig .tc := ⟨.hbm, 261, rfl⟩
abbrev main_v115 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_cst_37 : Ref sig .tc := ⟨.hbm, 267, rfl⟩
abbrev main_v120 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_v128 : Ref sig .tc := ⟨.hbm, 276, rfl⟩
abbrev main_v129 : Ref sig .tc := ⟨.hbm, 277, rfl⟩
abbrev main_v130 : Ref sig .tc := ⟨.hbm, 278, rfl⟩
abbrev main_cst_38 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_cst_39 : Ref sig .tc := ⟨.hbm, 284, rfl⟩
abbrev main_v135 : Ref sig .tc := ⟨.hbm, 285, rfl⟩
abbrev main_v136 : Ref sig .tc := ⟨.hbm, 286, rfl⟩
abbrev main_v137 : Ref sig .tc := ⟨.hbm, 287, rfl⟩
abbrev main_v138 : Ref sig .tc := ⟨.hbm, 288, rfl⟩
abbrev main_v139 : Ref sig .tc := ⟨.hbm, 289, rfl⟩
abbrev main_cst_40 : Ref sig .tc := ⟨.hbm, 290, rfl⟩
abbrev main_v140 : Ref sig .tc := ⟨.hbm, 291, rfl⟩
abbrev main_v141 : Ref sig .tc := ⟨.hbm, 292, rfl⟩
abbrev main_v142 : Ref sig .tc := ⟨.hbm, 293, rfl⟩
abbrev main_v143 : Ref sig .tc := ⟨.hbm, 294, rfl⟩
abbrev main_v144 : Ref sig .tc := ⟨.hbm, 295, rfl⟩
abbrev main_cst_41 : Ref sig .tc := ⟨.hbm, 296, rfl⟩
abbrev main_v145 : Ref sig .tc := ⟨.hbm, 297, rfl⟩
abbrev main_v146 : Ref sig .tc := ⟨.hbm, 298, rfl⟩
abbrev main_v147 : Ref sig .tc := ⟨.hbm, 299, rfl⟩
abbrev main_v148 : Ref sig .tc := ⟨.hbm, 300, rfl⟩
abbrev main_v149 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_call11_cst : Ref sig .tc := ⟨.hbm, 305, rfl⟩
abbrev main_call11_v0 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_cst_42 : Ref sig .tc := ⟨.hbm, 310, rfl⟩
abbrev main_v156 : Ref sig .tc := ⟨.hbm, 311, rfl⟩
abbrev main_v157 : Ref sig .tc := ⟨.hbm, 312, rfl⟩

abbrev nD : Nat := 1
abbrev τ : Topo := Topo.v7x

variable {F : FTy → Type} [FloatOps F]
-- ==== Kernel2.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S1x3072 : Shape := ⟨2, ![1, 3072]⟩
abbrev S8x128 : Shape := ⟨2, ![8, 128]⟩
abbrev S2048x8x512 : Shape := ⟨3, ![2048, 8, 512]⟩
abbrev S8x2048x512 : Shape := ⟨3, ![8, 2048, 512]⟩
abbrev S1024x4x1024 : Shape := ⟨3, ![1024, 4, 1024]⟩
abbrev S4x1024x1024 : Shape := ⟨3, ![4, 1024, 1024]⟩
abbrev S8x512x512 : Shape := ⟨3, ![8, 512, 512]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x3072, .f32⟩
  | .hbm, ⟨6, _⟩ => ⟨S1x3072, .f32⟩
  | .hbm, ⟨7, _⟩ => ⟨S8x128, .f32⟩
  | .hbm, ⟨8, _⟩ => ⟨S2048x8x512, .bf16⟩
  | .hbm, ⟨9, _⟩ => ⟨S8x2048x512, .bf16⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S2048x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S8x512x512, .bf16⟩
  | .local _ .vmem, ⟨1, _⟩ => ⟨S8x512x512, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x3072, .f32⟩
  | .local _ .vmem, ⟨9, _⟩ => ⟨S1x3072, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S1x3072 : Shape := ⟨2, ![1, 3072]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x3072, .f32⟩
  | .hbm, ⟨6, _⟩ => ⟨S1x3072, .f32⟩
  | .hbm, ⟨7, _⟩ => ⟨S8x128, .f32⟩
  | .hbm, ⟨8, _⟩ => ⟨S1x3072, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x4096, .f32⟩
  | .hbm, ⟨39, _⟩ => ⟨S2048x4096, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel3.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S8x2048x512 : Shape := ⟨3, ![8, 2048, 512]⟩
abbrev S1x1024 : Shape := ⟨2, ![1, 1024]⟩
abbrev S1x1 : Shape := ⟨2, ![1, 1]⟩
abbrev S8x512x64 : Shape := ⟨3, ![8, 512, 64]⟩
abbrev S512x512 : Shape := ⟨2, ![512, 512]⟩
abbrev S512x1024 : Shape := ⟨2, ![512, 1024]⟩
abbrev S1x512x512 : Shape := ⟨3, ![1, 512, 512]⟩
abbrev S1x512x64 : Shape := ⟨3, ![1, 512, 64]⟩
abbrev S512x64 : Shape := ⟨2, ![512, 64]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 16
  | .vmem => 23
  | .smem => 1
  | _ => 0

abbrev bufTy : (tb : Table) → Fin (tcTables nBuf tb) → BufTy
  | .hbm, ⟨0, _⟩ => ⟨S8x2048x64, .bf16⟩
  | .hbm, ⟨1, _⟩ => ⟨S2048x4096, .f32⟩
  | .hbm, ⟨2, _⟩ => ⟨S2048x512, .bf16⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1x3072, .f32⟩
  | .hbm, ⟨7, _⟩ => ⟨S1x3072, .f32⟩
  | .hbm, ⟨8, _⟩ => ⟨S1024x1024, .bf16⟩
  | .hbm, ⟨9, _⟩ => ⟨S2048x1024, .f32⟩
  | .hbm, ⟨10, _⟩ => ⟨S2048x512, .f32⟩
  | .hbm, ⟨11, _⟩ => ⟨S8x2048x512, .bf16⟩
  | .hbm, ⟨12, _⟩ => ⟨S8x2048x64, .bf16⟩
  | .hbm, ⟨13, _⟩ => ⟨S1024x1024, .f32⟩
  | .hbm, ⟨14, _⟩ => ⟨S1x1024, .f32⟩
  | .hbm, ⟨15, _⟩ => ⟨S1x1, .f32⟩
  | .local _ .vmem, ⟨0, _⟩ => ⟨S8x512x64, .bf16⟩
  | .local _ .vmem, ⟨1, _⟩ => ⟨S8x512x64, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x3072, .f32⟩
  | .local _ .vmem, ⟨12, _⟩ => ⟨S1x3072, .f32⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | .local _ .vmem, ⟨17, _⟩ => ⟨S1x512x512, .bf16⟩
  | .local _ .vmem, ⟨18, _⟩ => ⟨S1x512x512, .bf16⟩
  | .local _ .vmem, ⟨19, _⟩ => ⟨S8x512x64, .bf16⟩
  | .local _ .vmem, ⟨20, _⟩ => ⟨S8x512x64, .bf16⟩
  | .local _ .vmem, ⟨21, _⟩ => ⟨S1024x1024, .f32⟩
  | .local _ .vmem, ⟨22, _⟩ => ⟨S1x1024, .f32⟩
  | .local _ .smem, ⟨0, _⟩ => ⟨S1x1, .f32⟩
  | _, _ => ⟨S8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S1x1024 : Shape := ⟨2, ![1, 1024]⟩
abbrev S2048x8x64 : Shape := ⟨3, ![2048, 8, 64]⟩
abbrev S_ : Shape := ⟨0, ![]⟩
abbrev S2048 : Shape := ⟨1, ![2048]⟩
abbrev S1024 : Shape := ⟨1, ![1024]⟩
abbrev S8x2048x512 : Shape := ⟨3, ![8, 2048, 512]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x64, .bf16⟩
  | .hbm, ⟨1, _⟩ => ⟨S2048x4096, .f32⟩
  | .hbm, ⟨2, _⟩ => ⟨S2048x512, .bf16⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x512, .f32⟩
  | .hbm, ⟨13, _⟩ => ⟨S2048x512, .f32⟩
  | .hbm, ⟨14, _⟩ => ⟨S8x2048x64, .f32⟩
  | .hbm, ⟨15, _⟩ => ⟨S2048x8x64, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1024x1024, .f32⟩
  | .hbm, ⟨68, _⟩ => ⟨S1024x1024, .f32⟩
  | .hbm, ⟨69, _⟩ => ⟨S2048x1024, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x8x64, .f32⟩
  | .hbm, ⟨79, _⟩ => ⟨S8x2048x64, .f32⟩
  | .hbm, ⟨80, _⟩ => ⟨S2048x512, .bf16⟩
  | .hbm, ⟨81, _⟩ => ⟨S8x2048x512, .bf16⟩
  | .hbm, ⟨82, _⟩ => ⟨S8x2048x64, .bf16⟩
  | .hbm, ⟨83, _⟩ => ⟨S1x1, .f32⟩
  | _, _ => ⟨S8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v9_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v9_1 : Ref sig .tc := ⟨.hbm, 28, rfl⟩
abbrev main_v9_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_cst_5 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_cst_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]
-- ==== Kernel4.lean ====
abbrev S1 : Shape := ⟨1, ![1]⟩
abbrev S2048x1024 : Shape := ⟨2, ![2048, 1024]⟩
abbrev S8x2048x512 : Shape := ⟨3, ![8, 2048, 512]⟩
abbrev S256x1024 : Shape := ⟨2, ![256, 1024]⟩
abbrev S256x512 : Shape := ⟨2, ![256, 512]⟩
abbrev S4x512x1024 : Shape := ⟨3, ![4, 512, 1024]⟩
abbrev S2048x512 : Shape := ⟨2, ![2048, 512]⟩
abbrev S2x2048x512 : Shape := ⟨3, ![2, 2048, 512]⟩
abbrev S1x512x1024 : Shape := ⟨3, ![1, 512, 1024]⟩
abbrev S1x2048x512 : Shape := ⟨3, ![1, 2048, 512]⟩
abbrev S512x512 : Shape := ⟨2, ![512, 512]⟩
abbrev S1x512x512 : Shape := ⟨3, ![1, 512, 512]⟩

abbrev nBuf : Space → Nat
  | .hbm => 7
  | .vmem => 8
  | .smem => 1
  | _ => 0

abbrev bufTy : (tb : Table) → Fin (tcTables nBuf tb) → BufTy
  | .hbm, ⟨0, _⟩ => ⟨S2048x1024, .bf16⟩
  | .hbm, ⟨1, _⟩ => ⟨S8x2048x512, .bf16⟩
  | .hbm, ⟨2, _⟩ => ⟨S256x1024, .bf16⟩
  | .hbm, ⟨3, _⟩ => ⟨S256x512, .bf16⟩
  | .hbm, ⟨4, _⟩ => ⟨S256x512, .bf16⟩
  | .hbm, ⟨5, _⟩ => ⟨S1, .i32⟩
  | .hbm, ⟨6, _⟩ => ⟨S4x512x1024, .f32⟩
  | .local _ .vmem, ⟨0, _⟩ => ⟨S2048x512, .bf16⟩
  | .local _ .vmem, ⟨1, _⟩ => ⟨S2x2048x512, .bf16⟩
  | .local _ .vmem, ⟨2, _⟩ => ⟨S2x2048x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x512x1024, .f32⟩
  | .local _ .vmem, ⟨7, _⟩ => ⟨S1x512x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1 : Shape := ⟨1, ![1]⟩
abbrev S2048x1024 : Shape := ⟨2, ![2048, 1024]⟩
abbrev S8x2048x512 : Shape := ⟨3, ![8, 2048, 512]⟩
abbrev S256x1024 : Shape := ⟨2, ![256, 1024]⟩
abbrev S256x512 : Shape := ⟨2, ![256, 512]⟩
abbrev S2048x8x512 : Shape := ⟨3, ![2048, 8, 512]⟩
abbrev S2048x4096 : Shape := ⟨2, ![2048, 4096]⟩
abbrev S4096x1024 : Shape := ⟨2, ![4096, 1024]⟩
abbrev S1024x4096 : Shape := ⟨2, ![1024, 4096]⟩
abbrev S1024x1024 : Shape := ⟨2, ![1024, 1024]⟩
abbrev S_ : Shape := ⟨0, ![]⟩
abbrev S512x4096 : Shape := ⟨2, ![512, 4096]⟩
abbrev S512x4x1024 : Shape := ⟨3, ![512, 4, 1024]⟩
abbrev S4x512x1024 : Shape := ⟨3, ![4, 512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1024, .bf16⟩
  | .hbm, ⟨2, _⟩ => ⟨S8x2048x512, .bf16⟩
  | .hbm, ⟨3, _⟩ => ⟨S256x1024, .bf16⟩
  | .hbm, ⟨4, _⟩ => ⟨S256x512, .bf16⟩
  | .hbm, ⟨5, _⟩ => ⟨S256x512, .bf16⟩
  | .hbm, ⟨6, _⟩ => ⟨S1, .i32⟩
  | .hbm, ⟨7, _⟩ => ⟨S8x2048x512, .f32⟩
  | .hbm, ⟨8, _⟩ => ⟨S2048x8x512, .f32⟩
  | .hbm, ⟨9, _⟩ => ⟨S2048x4096, .f32⟩
  | .hbm, ⟨10, _⟩ => ⟨S256x1024, .f32⟩
  | .hbm, ⟨11, _⟩ => ⟨S2048x1024, .f32⟩
  | .hbm, ⟨12, _⟩ => ⟨S256x512, .f32⟩
  | .hbm, ⟨13, _⟩ => ⟨S256x512, .f32⟩
  | .hbm, ⟨14, _⟩ => ⟨S4096x1024, .f32⟩
  | .hbm, ⟨15, _⟩ => ⟨S1024x4096, .f32⟩
  | .hbm, ⟨16, _⟩ => ⟨S256x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S512x4x1024, .f32⟩
  | .hbm, ⟨29, _⟩ => ⟨S4x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S1 : Shape := ⟨1, ![1]⟩
abbrev S2048x1024 : Shape := ⟨2, ![2048, 1024]⟩
abbrev S1024x4096 : Shape := ⟨2, ![1024, 4096]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 5
  | .smem => 1
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x4096, .f32⟩
  | .hbm, ⟨3, _⟩ => ⟨S1, .i32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S1 : Shape := ⟨1, ![1]⟩
abbrev S2048x1024 : Shape := ⟨2, ![2048, 1024]⟩
abbrev S1024x4096 : Shape := ⟨2, ![1024, 4096]⟩
abbrev S2048x4096 : Shape := ⟨2, ![2048, 4096]⟩
abbrev S4 : Shape := ⟨1, ![4]⟩
abbrev S4x1024 : Shape := ⟨2, ![4, 1024]⟩
abbrev S4096 : Shape := ⟨1, ![4096]⟩
abbrev S1x4096 : Shape := ⟨2, ![1, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1024, .bf16⟩
  | .hbm, ⟨2, _⟩ => ⟨S1024x4096, .f32⟩
  | .hbm, ⟨3, _⟩ => ⟨S2048x4096, .f32⟩
  | .hbm, ⟨4, _⟩ => ⟨S1, .i32⟩
  | .hbm, ⟨5, _⟩ => ⟨S4, .i32⟩
  | .hbm, ⟨6, _⟩ => ⟨S4x1024, .i32⟩
  | .hbm, ⟨7, _⟩ => ⟨S4096, .i32⟩
  | .hbm, ⟨8, _⟩ => ⟨S1x4096, .i32⟩
  | .hbm, ⟨9, _⟩ => ⟨S_, .i32⟩
  | .hbm, ⟨10, _⟩ => ⟨S1x4096, .i32⟩
  | .hbm, ⟨11, _⟩ => ⟨S1x4096, .i1⟩
  | .hbm, ⟨12, _⟩ => ⟨S2048x1024, .f32⟩
  | .hbm, ⟨13, _⟩ => ⟨S2048x4096, .f32⟩
  | .hbm, ⟨14, _⟩ => ⟨S2048x4096, .i1⟩
  | .hbm, ⟨15, _⟩ => ⟨S2048x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S1 : Shape := ⟨1, ![1]⟩
abbrev S2048x1024 : Shape := ⟨2, ![2048, 1024]⟩
abbrev S1024x1024 : Shape := ⟨2, ![1024, 1024]⟩
abbrev S2048x4096 : Shape := ⟨2, ![2048, 4096]⟩
abbrev S512x1024 : Shape := ⟨2, ![512, 1024]⟩

abbrev nBuf : Space → Nat
  | .hbm => 3
  | .vmem => 5
  | .smem => 1
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S1 : Shape := ⟨1, ![1]⟩
abbrev S2048x1024 : Shape := ⟨2, ![2048, 1024]⟩
abbrev S1024x1024 : Shape := ⟨2, ![1024, 1024]⟩
abbrev S1x2048x1x1024 : Shape := ⟨4, ![1, 2048, 1, 1024]⟩
abbrev S1x2048x4x1024 : Shape := ⟨4, ![1, 2048, 4, 1024]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1024, .bf16⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S1x2048x1x1024, .f32⟩
  | .hbm, ⟨6, _⟩ => ⟨S1x2048x4x1024, .f32⟩
  | .hbm, ⟨7, _⟩ => ⟨S2048x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8x2048x64 : Shape := ⟨3, ![8, 2048, 64]⟩
abbrev S8x256x64 : Shape := ⟨3, ![8, 256, 64]⟩
abbrev S8x5x576x128 : Shape := ⟨4, ![8, 5, 576, 128]⟩
abbrev S5 : Shape := ⟨1, ![5]⟩
abbrev S5x1x1 : Shape := ⟨3, ![5, 1, 1]⟩
abbrev S5x576x128 : Shape := ⟨3, ![5, 576, 128]⟩
abbrev S_ : Shape := ⟨0, ![]⟩
abbrev S1x2048x64 : Shape := ⟨3, ![1, 2048, 64]⟩
abbrev S1x256x64 : Shape := ⟨3, ![1, 256, 64]⟩
abbrev S1x5x576x128 : Shape := ⟨4, ![1, 5, 576, 128]⟩
abbrev S256x64 : Shape := ⟨2, ![256, 64]⟩
abbrev S1x576x64 : Shape := ⟨3, ![1, 576, 64]⟩
abbrev S576x64 : Shape := ⟨2, ![576, 64]⟩
abbrev S1x128x64 : Shape := ⟨3, ![1, 128, 64]⟩
abbrev S128x64 : Shape := ⟨2, ![128, 64]⟩
abbrev S576x128 : Shape := ⟨2, ![576, 128]⟩
abbrev S1x1x576x128 : Shape := ⟨4, ![1, 1, 576, 128]⟩
abbrev S256x128 : Shape := ⟨2, ![256, 128]⟩
abbrev S128 : Shape := ⟨1, ![128]⟩
abbrev S1x128 : Shape := ⟨2, ![1, 128]⟩

abbrev nBuf : Space → Nat
  | .hbm => 138
  | .vmem => 16
  | .smem => 0
  | _ => 0

abbrev hbmTy0_0 (i : Nat) : BufTy := match i % 128 with
  | 0 => ⟨S8x2048x64, .bf16⟩
  | 1 => ⟨S8x2048x64, .bf16⟩
  | 2 => ⟨S8x2048x64, .bf16⟩
  | 3 => ⟨S8x2048x64, .bf16⟩
  | 4 => ⟨S8x256x64, .bf16⟩
  | 5 => ⟨S8x256x64, .bf16⟩
  | 6 => ⟨S8x5x576x128, .f32⟩
  | 7 => ⟨S5, .i32⟩
  | 8 => ⟨S5, .i32⟩
  | 9 => ⟨S5x1x1, .i32⟩
  | 10 => ⟨S5x1x1, .i32⟩
  | 11 => ⟨S5x576x128, .i32⟩
  | 12 => ⟨S5x576x128, .i32⟩
  | 13 => ⟨S_, .i32⟩
  | 14 => ⟨S_, .i32⟩
  | 15 => ⟨S5x576x128, .i32⟩
  | 16 => ⟨S5x576x128, .i32⟩
  | 17 => ⟨S5x576x128, .i32⟩
  | 18 => ⟨S_, .i32⟩
  | 19 => ⟨S5x576x128, .i32⟩
  | 20 => ⟨S5x576x128, .i1⟩
  | 21 => ⟨S5x576x128, .i32⟩
  | 22 => ⟨S5x576x128, .i32⟩
  | 23 => ⟨S_, .i32⟩
  | 24 => ⟨S5x576x128, .i32⟩
  | 25 => ⟨S5x576x128, .i1⟩
  | 26 => ⟨S5x576x128, .i1⟩
  | 27 => ⟨S_, .i32⟩
  | 28 => ⟨S5x576x128, .i32⟩
  | 29 => ⟨S5x576x128, .i32⟩
  | 30 => ⟨S5x576x128, .i32⟩
  | 31 => ⟨S5x576x128, .i32⟩
  | 32 => ⟨S5x576x128, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S5x576x128, .i32⟩
  | 40 => ⟨S5x576x128, .i32⟩
  | 41 => ⟨S_, .i32⟩
  | 42 => ⟨S5x576x128, .i32⟩
  | 43 => ⟨S5x576x128, .i1⟩
  | 44 => ⟨S_, .i32⟩
  | 45 => ⟨S5x576x128, .i32⟩
  | 46 => ⟨S5x576x128, .i1⟩
  | 47 => ⟨S_, .i32⟩
  | 48 => ⟨S_, .i1⟩
  | 49 => ⟨S5x576x128, .i1⟩
  | 50 => ⟨S5x576x128, .i1⟩
  | 51 => ⟨S5x576x128, .i1⟩
  | 52 => ⟨S5x576x128, .i32⟩
  | 53 => ⟨S5x576x128, .i32⟩
  | 54 => ⟨S5x576x128, .i32⟩
  | 55 => ⟨S_, .i32⟩
  | 56 => ⟨S_, .i32⟩
  | 57 => ⟨S5x576x128, .i32⟩
  | 58 => ⟨S5x576x128, .i32⟩
  | 59 => ⟨S5x576x128, .i32⟩
  | 60 => ⟨S_, .i32⟩
  | 61 => ⟨S5x576x128, .i32⟩
  | 62 => ⟨S5x576x128, .i1⟩
  | 63 => ⟨S5x576x128, .i32⟩
  | 64 => ⟨S5x576x128, .i32⟩
  | 65 => ⟨S_, .i32⟩
  | 66 => ⟨S5x576x128, .i32⟩
  | 67 => ⟨S5x576x128, .i1⟩
  | 68 => ⟨S5x576x128, .i1⟩
  | 69 => ⟨S_, .i32⟩
  | 70 => ⟨S5x576x128, .i32⟩
  | 71 => ⟨S5x576x128, .i32⟩
  | 72 => ⟨S5x576x128, .i32⟩
  | 73 => ⟨S5x576x128, .i32⟩
  | 74 => ⟨S5x576x128, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S5x576x128, .i32⟩
  | 82 => ⟨S5x576x128, .i32⟩
  | 83 => ⟨S_, .i32⟩
  | 84 => ⟨S5x576x128, .i32⟩
  | 85 => ⟨S5x576x128, .i1⟩
  | 86 => ⟨S_, .i32⟩
  | 87 => ⟨S5x576x128, .i32⟩
  | 88 => ⟨S5x576x128, .i1⟩
  | 89 => ⟨S_, .i32⟩
  | 90 => ⟨S_, .i1⟩
  | 91 => ⟨S5x576x128, .i1⟩
  | 92 => ⟨S5x576x128, .i1⟩
  | 93 => ⟨S5x576x128, .i1⟩
  | 94 => ⟨S5x576x128, .i32⟩
  | 95 => ⟨S5x576x128, .i32⟩
  | 96 => ⟨S5x576x128, .i32⟩
  | 97 => ⟨S_, .i32⟩
  | 98 => ⟨S5x576x128, .i32⟩
  | 99 => ⟨S5x576x128, .i32⟩
  | 100 => ⟨S_, .i32⟩
  | 101 => ⟨S_, .i32⟩
  | 102 => ⟨S_, .i32⟩
  | 103 => ⟨S5x576x128, .i32⟩
  | 104 => ⟨S5x576x128, .i32⟩
  | 105 => ⟨S_, .i32⟩
  | 106 => ⟨S5x576x128, .i32⟩
  | 107 => ⟨S5x576x128, .i32⟩
  | 108 => ⟨S_, .i32⟩
  | 109 => ⟨S5x576x128, .i32⟩
  | 110 => ⟨S5x576x128, .i32⟩
  | 111 => ⟨S_, .i32⟩
  | 112 => ⟨S_, .i32⟩
  | 113 => ⟨S_, .i32⟩
  | 114 => ⟨S5x576x128, .i32⟩
  | 115 => ⟨S5x576x128, .i32⟩
  | 116 => ⟨S_, .i32⟩
  | 117 => ⟨S5x576x128, .i32⟩
  | 118 => ⟨S5x576x128, .i32⟩
  | 119 => ⟨S5x576x128, .i1⟩
  | 120 => ⟨S_, .i32⟩
  | 121 => ⟨S5x576x128, .i32⟩
  | 122 => ⟨S5x576x128, .i32⟩
  | 123 => ⟨S5x576x128, .i1⟩
  | 124 => ⟨S5x576x128, .i1⟩
  | 125 => ⟨S5x576x128, .i1⟩
  | 126 => ⟨S5x576x128, .i1⟩
  | 127 => ⟨S_, .i32⟩
  | _ => ⟨S8x2048x64, .bf16⟩

abbrev hbmTy0_1 (i : Nat) : BufTy := match i % 128 with
  | 0 => ⟨S5x576x128, .i32⟩
  | 1 => ⟨S5x576x128, .i32⟩
  | 2 => ⟨S5x576x128, .i1⟩
  | 3 => ⟨S5x576x128, .i1⟩
  | 4 => ⟨S_, .f32⟩
  | 5 => ⟨S_, .f32⟩
  | 6 => ⟨S8x5x576x128, .i1⟩
  | 7 => ⟨S8x5x576x128, .f32⟩
  | 8 => ⟨S8x5x576x128, .f32⟩
  | 9 => ⟨S8x2048x64, .f32⟩
  | _ => ⟨S8x2048x64, .bf16⟩

abbrev hbmTy (i : Nat) : BufTy := match i / 128 with
  | 0 => hbmTy0_0 i
  | 1 => hbmTy0_1 i
  | _ => ⟨S8x2048x64, .bf16⟩

abbrev bufTy : (tb : Table) → Fin (tcTables nBuf tb) → BufTy
  | .hbm, ⟨i, _⟩ => hbmTy i
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x256x64, .bf16⟩
  | .local _ .vmem, ⟨9, _⟩ => ⟨S1x256x64, .bf16⟩
  | .local _ .vmem, ⟨10, _⟩ => ⟨S1x256x64, .bf16⟩
  | .local _ .vmem, ⟨11, _⟩ => ⟨S1x256x64, .bf16⟩
  | .local _ .vmem, ⟨12, _⟩ => ⟨S1x5x576x128, .f32⟩
  | .local _ .vmem, ⟨13, _⟩ => ⟨S1x5x576x128, .f32⟩
  | .local _ .vmem, ⟨14, _⟩ => ⟨S1x2048x64, .f32⟩
  | .local _ .vmem, ⟨15, _⟩ => ⟨S1x2048x64, .f32⟩
  | _, _ => ⟨S8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v7 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_c_4 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v11 : Ref sig .tc := ⟨.hbm, 96, rfl⟩
abbrev main_c_5 : Ref sig .tc := ⟨.hbm, 97, rfl⟩
abbrev main_v12 : Ref sig .tc := ⟨.hbm, 98, rfl⟩
abbrev main_v13 : Ref sig .tc := ⟨.hbm, 99, rfl⟩
abbrev main_c_6 : Ref sig .tc := ⟨.hbm, 100, rfl⟩
abbrev main_c_7 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v14 : Ref sig .tc := ⟨.hbm, 107, rfl⟩
abbrev main_c_8 : Ref sig .tc := ⟨.hbm, 108, rfl⟩
abbrev main_v15 : Ref sig .tc := ⟨.hbm, 109, rfl⟩
abbrev main_v16 : Ref sig .tc := ⟨.hbm, 110, rfl⟩
abbrev main_c_9 : Ref sig .tc := ⟨.hbm, 111, rfl⟩
abbrev main_c_10 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v17 : Ref sig .tc := ⟨.hbm, 118, rfl⟩
abbrev main_v18 : Ref sig .tc := ⟨.hbm, 119, rfl⟩
abbrev main_c_11 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_c_12 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_cst : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_v29 : Ref sig .tc := ⟨.hbm, 136, rfl⟩
abbrev main_v30 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x576x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8x2048x64 : Shape := ⟨3, ![8, 2048, 64]⟩
abbrev S8x256x64 : Shape := ⟨3, ![8, 256, 64]⟩
abbrev S8x5x576x128 : Shape := ⟨4, ![8, 5, 576, 128]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x3 : Shape := ⟨3, ![2048, 2048, 3]⟩
abbrev S8x2048x2048 : Shape := ⟨3, ![8, 2048, 2048]⟩
abbrev S8x2048x256 : Shape := ⟨3, ![8, 2048, 256]⟩
abbrev S8x2048x2304 : Shape := ⟨3, ![8, 2048, 2304]⟩
abbrev S8x2048 : Shape := ⟨2, ![8, 2048]⟩
abbrev S8x2048x1 : Shape := ⟨3, ![8, 2048, 1]⟩

abbrev nBuf : Space → Nat
  | .hbm => 247
  | .vmem => 0
  | .smem => 0
  | _ => 0

abbrev hbmTy0_0 (i : Nat) : BufTy := match i % 128 with
  | 0 => ⟨S8x2048x64, .bf16⟩
  | 1 => ⟨S8x2048x64, .bf16⟩
  | 2 => ⟨S8x2048x64, .bf16⟩
  | 3 => ⟨S8x2048x64, .bf16⟩
  | 4 => ⟨S8x256x64, .bf16⟩
  | 5 => ⟨S8x256x64, .bf16⟩
  | 6 => ⟨S8x5x576x128, .f32⟩
  | 7 => ⟨S8x2048x64, .f32⟩
  | 8 => ⟨S8x2048x64, .f32⟩
  | 9 => ⟨S8x2048x64, .f32⟩
  | 10 => ⟨S8x2048x64, .f32⟩
  | 11 => ⟨S8x256x64, .f32⟩
  | 12 => ⟨S8x256x64, .f32⟩
  | 13 => ⟨S2048, .i32⟩
  | 14 => ⟨S_, .i32⟩
  | 15 => ⟨S_, .i32⟩
  | 16 => ⟨S2048, .i32⟩
  | 17 => ⟨S2048, .i32⟩
  | 18 => ⟨S2048, .i32⟩
  | 19 => ⟨S_, .i32⟩
  | 20 => ⟨S2048, .i32⟩
  | 21 => ⟨S2048, .i1⟩
  | 22 => ⟨S2048, .i32⟩
  | 23 => ⟨S2048, .i32⟩
  | 24 => ⟨S_, .i32⟩
  | 25 => ⟨S2048, .i32⟩
  | 26 => ⟨S2048, .i1⟩
  | 27 => ⟨S2048, .i1⟩
  | 28 => ⟨S_, .i32⟩
  | 29 => ⟨S2048, .i32⟩
  | 30 => ⟨S2048, .i32⟩
  | 31 => ⟨S2048, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i1⟩
  | 46 => ⟨S_, .i32⟩
  | 47 => ⟨S_, .i1⟩
  | 48 => ⟨S2048, .i1⟩
  | 49 => ⟨S2048, .i1⟩
  | 50 => ⟨S2048, .i1⟩
  | 51 => ⟨S2048, .i32⟩
  | 52 => ⟨S2048, .i32⟩
  | 53 => ⟨S2048, .i32⟩
  | 54 => ⟨S_, .i32⟩
  | 55 => ⟨S2048, .i32⟩
  | 56 => ⟨S2048, .i32⟩
  | 57 => ⟨S_, .i32⟩
  | 58 => ⟨S_, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S_, .i32⟩
  | 69 => ⟨S_, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S1x2048, .i32⟩
  | 77 => ⟨S2048x1, .i32⟩
  | 78 => ⟨S2048x2048, .i32⟩
  | 79 => ⟨S2048x2048, .i32⟩
  | 80 => ⟨S2048x2048, .i1⟩
  | 81 => ⟨S1x2048, .i32⟩
  | 82 => ⟨S2048x1, .i32⟩
  | 83 => ⟨S_, .i32⟩
  | 84 => ⟨S2048x1, .i32⟩
  | 85 => ⟨S2048x1, .i32⟩
  | 86 => ⟨S2048x2048, .i32⟩
  | 87 => ⟨S2048x2048, .i32⟩
  | 88 => ⟨S2048x2048, .i1⟩
  | 89 => ⟨S2048x2048, .i1⟩
  | 90 => ⟨S1x2048, .i32⟩
  | 91 => ⟨S2048x1, .i32⟩
  | 92 => ⟨S2048x2048, .i32⟩
  | 93 => ⟨S2048x2048, .i32⟩
  | 94 => ⟨S2048x2048, .i1⟩
  | 95 => ⟨S1x2048, .i32⟩
  | 96 => ⟨S2048x1, .i32⟩
  | 97 => ⟨S_, .i32⟩
  | 98 => ⟨S2048x1, .i32⟩
  | 99 => ⟨S2048x1, .i32⟩
  | 100 => ⟨S2048x2048, .i32⟩
  | 101 => ⟨S2048x2048, .i32⟩
  | 102 => ⟨S2048x2048, .i1⟩
  | 103 => ⟨S2048x2048, .i1⟩
  | 104 => ⟨S_, .i32⟩
  | 105 => ⟨S_, .i32⟩
  | 106 => ⟨S2048, .i32⟩
  | 107 => ⟨S2048, .i32⟩
  | 108 => ⟨S2048, .i32⟩
  | 109 => ⟨S_, .i32⟩
  | 110 => ⟨S2048, .i32⟩
  | 111 => ⟨S2048, .i1⟩
  | 112 => ⟨S2048, .i32⟩
  | 113 => ⟨S2048, .i32⟩
  | 114 => ⟨S_, .i32⟩
  | 115 => ⟨S2048, .i32⟩
  | 116 => ⟨S2048, .i1⟩
  | 117 => ⟨S2048, .i1⟩
  | 118 => ⟨S_, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S8x2048x64, .bf16⟩

abbrev hbmTy0_1 (i : Nat) : BufTy := match i % 128 with
  | 0 => ⟨S_, .i32⟩
  | 1 => ⟨S_, .i32⟩
  | 2 => ⟨S_, .i32⟩
  | 3 => ⟨S2048, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S_, .i32⟩
  | 12 => ⟨S2048, .i32⟩
  | 13 => ⟨S2048, .i1⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S_, .i32⟩
  | 21 => ⟨S_, .i32⟩
  | 22 => ⟨S2048, .i32⟩
  | 23 => ⟨S2048, .i32⟩
  | 24 => ⟨S2048, .i32⟩
  | 25 => ⟨S1x2048, .i32⟩
  | 26 => ⟨S2048x1, .i32⟩
  | 27 => ⟨S2048x2048, .i32⟩
  | 28 => ⟨S2048x2048, .i32⟩
  | 29 => ⟨S2048x2048, .i32⟩
  | 30 => ⟨S_, .i32⟩
  | 31 => ⟨S_, .i32⟩
  | 32 => ⟨S_, .i32⟩
  | 33 => ⟨S2048x2048, .i32⟩
  | 34 => ⟨S2048x2048, .i32⟩
  | 35 => ⟨S_, .i32⟩
  | 36 => ⟨S2048x2048, .i32⟩
  | 37 => ⟨S2048x2048, .i32⟩
  | 38 => ⟨S2048x1, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i1⟩
  | 50 => ⟨S_, .i32⟩
  | 51 => ⟨S2048, .i32⟩
  | 52 => ⟨S2048, .i1⟩
  | 53 => ⟨S_, .i32⟩
  | 54 => ⟨S_, .i1⟩
  | 55 => ⟨S2048, .i1⟩
  | 56 => ⟨S2048, .i1⟩
  | 57 => ⟨S2048, .i1⟩
  | 58 => ⟨S2048, .i32⟩
  | 59 => ⟨S2048, .i32⟩
  | 60 => ⟨S2048, .i32⟩
  | 61 => ⟨S2048x1, .i32⟩
  | 62 => ⟨S_, .i32⟩
  | 63 => ⟨S2048x1, .i32⟩
  | 64 => ⟨S2048x1, .i1⟩
  | 65 => ⟨S_, .i32⟩
  | 66 => ⟨S2048x1, .i32⟩
  | 67 => ⟨S2048x1, .i32⟩
  | 68 => ⟨S2048x1, .i32⟩
  | 69 => ⟨S_, .i32⟩
  | 70 => ⟨S2048x2048, .i32⟩
  | 71 => ⟨S2048x2048, .i1⟩
  | 72 => ⟨S_, .i32⟩
  | 73 => ⟨S2048x2048, .i32⟩
  | 74 => ⟨S2048x2048, .i32⟩
  | 75 => ⟨S2048x2048, .i32⟩
  | 76 => ⟨S_, .i32⟩
  | 77 => ⟨S2048x1, .i32⟩
  | 78 => ⟨S2048x1, .i1⟩
  | 79 => ⟨S_, .i32⟩
  | 80 => ⟨S2048x1, .i32⟩
  | 81 => ⟨S2048x1, .i32⟩
  | 82 => ⟨S2048x1, .i32⟩
  | 83 => ⟨S2048x2048, .i32⟩
  | 84 => ⟨S2048x2048, .i32⟩
  | 85 => ⟨S2048x2048x1, .i32⟩
  | 86 => ⟨S2048x2048x1, .i32⟩
  | 87 => ⟨S2048x2048x1, .i32⟩
  | 88 => ⟨S2048x2048x3, .i32⟩
  | 89 => ⟨S8x2048x2048, .f32⟩
  | 90 => ⟨S8x2048x2048, .f32⟩
  | 91 => ⟨S8x2048x2048, .f32⟩
  | 92 => ⟨S2048x2048, .i1⟩
  | 93 => ⟨S_, .f32⟩
  | 94 => ⟨S_, .f32⟩
  | 95 => ⟨S8x2048x2048, .i1⟩
  | 96 => ⟨S8x2048x2048, .f32⟩
  | 97 => ⟨S8x2048x2048, .f32⟩
  | 98 => ⟨S8x2048x256, .f32⟩
  | 99 => ⟨S8x2048x2304, .f32⟩
  | 100 => ⟨S_, .f32⟩
  | 101 => ⟨S8x2048, .f32⟩
  | 102 => ⟨S_, .f32⟩
  | 103 => ⟨S8x2048, .f32⟩
  | 104 => ⟨S8x2048, .f32⟩
  | 105 => ⟨S8x2048x1, .f32⟩
  | 106 => ⟨S8x2048x2304, .f32⟩
  | 107 => ⟨S8x2048x2304, .f32⟩
  | 108 => ⟨S8x2048x2304, .f32⟩
  | 109 => ⟨S_, .f32⟩
  | 110 => ⟨S8x2048, .f32⟩
  | 111 => ⟨S8x2048x1, .f32⟩
  | 112 => ⟨S8x2048x2304, .f32⟩
  | 113 => ⟨S8x2048x2304, .f32⟩
  | 114 => ⟨S8x2048x2048, .f32⟩
  | 115 => ⟨S8x2048x64, .f32⟩
  | 116 => ⟨S8x2048x256, .f32⟩
  | 117 => ⟨S8x2048x64, .f32⟩
  | 118 => ⟨S8x2048x64, .f32⟩
  | _ => ⟨S8x2048x64, .bf16⟩

abbrev hbmTy (i : Nat) : BufTy := match i / 128 with
  | 0 => hbmTy0_0 i
  | 1 => hbmTy0_1 i
  | _ => ⟨S8x2048x64, .bf16⟩

abbrev bufTy : (tb : Table) → Fin (tcTables nBuf tb) → BufTy
  | .hbm, ⟨i, _⟩ => hbmTy i
  | _, _ => ⟨S8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v8 : Ref sig .tc := ⟨.hbm, 53, rfl⟩
abbrev main_c_1 : Ref sig .tc := ⟨.hbm, 54, rfl⟩
abbrev main_v9 : Ref sig .tc := ⟨.hbm, 55, rfl⟩
abbrev main_v10 : Ref sig .tc := ⟨.hbm, 56, rfl⟩
abbrev main_c_2 : Ref sig .tc := ⟨.hbm, 57, rfl⟩
abbrev main_c_3 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v11 : Ref sig .tc := ⟨.hbm, 64, rfl⟩
abbrev main_c_4 : Ref sig .tc := ⟨.hbm, 65, rfl⟩
abbrev main_v12 : Ref sig .tc := ⟨.hbm, 66, rfl⟩
abbrev main_v13 : Ref sig .tc := ⟨.hbm, 67, rfl⟩
abbrev main_c_5 : Ref sig .tc := ⟨.hbm, 68, rfl⟩
abbrev main_c_6 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_c_7 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_c_8 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_c_9 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v41 : Ref sig .tc := ⟨.hbm, 121, rfl⟩
abbrev main_c_10 : Ref sig .tc := ⟨.hbm, 122, rfl⟩
abbrev main_v42 : Ref sig .tc := ⟨.hbm, 123, rfl⟩
abbrev main_v43 : Ref sig .tc := ⟨.hbm, 124, rfl⟩
abbrev main_c_11 : Ref sig .tc := ⟨.hbm, 125, rfl⟩
abbrev main_v44 : Ref sig .tc := ⟨.hbm, 126, rfl⟩
abbrev main_v45 : Ref sig .tc := ⟨.hbm, 127, rfl⟩
abbrev main_c_12 : Ref sig .tc := ⟨.hbm, 128, rfl⟩
abbrev main_c_13 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v46 : Ref sig .tc := ⟨.hbm, 135, rfl⟩
abbrev main_c_14 : Ref sig .tc := ⟨.hbm, 136, rfl⟩
abbrev main_v47 : Ref sig .tc := ⟨.hbm, 137, rfl⟩
abbrev main_v48 : Ref sig .tc := ⟨.hbm, 138, rfl⟩
abbrev main_c_15 : Ref sig .tc := ⟨.hbm, 139, rfl⟩
abbrev main_v49 : Ref sig .tc := ⟨.hbm, 140, rfl⟩
abbrev main_v50 : Ref sig .tc := ⟨.hbm, 141, rfl⟩
abbrev main_c_16 : Ref sig .tc := ⟨.hbm, 142, rfl⟩
abbrev main_v51 : Ref sig .tc := ⟨.hbm, 143, rfl⟩
abbrev main_v52 : Ref sig .tc := ⟨.hbm, 144, rfl⟩
abbrev main_c_17 : Ref sig .tc := ⟨.hbm, 145, rfl⟩
abbrev main_v53 : Ref sig .tc := ⟨.hbm, 146, rfl⟩
abbrev main_v54 : Ref sig .tc := ⟨.hbm, 147, rfl⟩
abbrev main_c_18 : Ref sig .tc := ⟨.hbm, 148, rfl⟩
abbrev main_call6_v0 : Ref sig .tc := ⟨.hbm, 149, rfl⟩
abbrev main_call6_v1 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_c_19 : Ref sig .tc := ⟨.hbm, 158, rfl⟩
abbrev main_c_20 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_v62 : Ref sig .tc := ⟨.hbm, 165, rfl⟩
abbrev main_v63 : Ref sig .tc := ⟨.hbm, 166, rfl⟩
abbrev main_c_21 : Ref sig .tc := ⟨.hbm, 167, rfl⟩
abbrev main_call9_v0 : Ref sig .tc := ⟨.hbm, 168, rfl⟩
abbrev main_call9_c : Ref sig .tc := ⟨.hbm, 169, rfl⟩
abbrev main_call9_v1 : Ref sig .tc := ⟨.hbm, 170, rfl⟩
abbrev main_call9_c_0 : Ref sig .tc := ⟨.hbm, 171, rfl⟩
abbrev main_call9_v2 : Ref sig .tc := ⟨.hbm, 172, rfl⟩
abbrev main_call9_v3 : Ref sig .tc := ⟨.hbm, 173, rfl⟩
abbrev main_call9_v4 : Ref sig .tc := ⟨.hbm, 174, rfl⟩
abbrev main_call9_c_1 : Ref sig .tc := ⟨.hbm, 175, rfl⟩
abbrev main_call9_v5 : Ref sig .tc := ⟨.hbm, 176, rfl⟩
abbrev main_call9_v6 : Ref sig .tc := ⟨.hbm, 177, rfl⟩
abbrev main_call9_c_2 : Ref sig .tc := ⟨.hbm, 178, rfl⟩
abbrev main_call9_v7 : Ref sig .tc := ⟨.hbm, 179, rfl⟩
abbrev main_call9_v8 : Ref sig .tc := ⟨.hbm, 180, rfl⟩
abbrev main_call9_c_3 : Ref sig .tc := ⟨.hbm, 181, rfl⟩
abbrev main_call9_v9 : Ref sig .tc := ⟨.hbm, 182, rfl⟩
abbrev main_call9_v10 : Ref sig .tc := ⟨.hbm, 183, rfl⟩
abbrev main_call9_v11 : Ref sig .tc := ⟨.hbm, 184, rfl⟩
abbrev main_call9_v12 : Ref sig .tc := ⟨.hbm, 185, rfl⟩
abbrev main_call9_v13 : Ref sig .tc := ⟨.hbm, 186, rfl⟩
abbrev main_call9_v14 : Ref sig .tc := ⟨.hbm, 187, rfl⟩
abbrev main_v64 : Ref sig .tc := ⟨.hbm, 188, rfl⟩
abbrev main_v65 : Ref sig .tc := ⟨.hbm, 189, rfl⟩
abbrev main_c_22 : Ref sig .tc := ⟨.hbm, 190, rfl⟩
abbrev main_v66 : Ref sig .tc := ⟨.hbm, 191, rfl⟩
abbrev main_v67 : Ref sig .tc := ⟨.hbm, 192, rfl⟩
abbrev main_c_23 : Ref sig .tc := ⟨.hbm, 193, rfl⟩
abbrev main_v68 : Ref sig .tc := ⟨.hbm, 194, rfl⟩
abbrev main_v69 : Ref sig .tc := ⟨.hbm, 195, rfl⟩
abbrev main_v70 : Ref sig .tc := ⟨.hbm, 196, rfl⟩
abbrev main_c_24 : Ref sig .tc := ⟨.hbm, 197, rfl⟩
abbrev main_v71 : Ref sig .tc := ⟨.hbm, 198, rfl⟩
abbrev main_v72 : Ref sig .tc := ⟨.hbm, 199, rfl⟩
abbrev main_c_25 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_c_26 : Ref sig .tc := ⟨.hbm, 204, rfl⟩
abbrev main_v76 : Ref sig .tc := ⟨.hbm, 205, rfl⟩
abbrev main_v77 : Ref sig .tc := ⟨.hbm, 206, rfl⟩
abbrev main_c_27 : Ref sig .tc := ⟨.hbm, 207, rfl⟩
abbrev main_v78 : Ref sig .tc := ⟨.hbm, 208, rfl⟩
abbrev main_v79 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_cst : Ref sig .tc := ⟨.hbm, 221, rfl⟩
abbrev main_call10_v0 : Ref sig .tc := ⟨.hbm, 222, rfl⟩
abbrev main_call10_v1 : Ref sig .tc := ⟨.hbm, 223, rfl⟩
abbrev main_call10_v2 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_cst_28 : Ref sig .tc := ⟨.hbm, 228, rfl⟩
abbrev main_v94 : Ref sig .tc := ⟨.hbm, 229, rfl⟩
abbrev main_cst_29 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_cst_30 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_v108 : Ref sig .tc := ⟨.hbm, 245, rfl⟩
abbrev main_v109 : Ref sig .tc := ⟨.hbm, 246, rfl⟩

abbrev nD : Nat := 1
abbrev τ : Topo := Topo.v7x

variable {F : FTy → Type} [FloatOps F]
-- ==== Kernel8.lean ====
abbrev S2048x512 : Shape := ⟨2, ![2048, 512]⟩
abbrev S2048x4096 : Shape := ⟨2, ![2048, 4096]⟩
abbrev S3x512 : Shape := ⟨2, ![3, 512]⟩
abbrev S1x512 : Shape := ⟨2, ![1, 512]⟩
abbrev S8x2048x512 : Shape := ⟨3, ![8, 2048, 512]⟩
abbrev S8x128 : Shape := ⟨2, ![8, 128]⟩
abbrev S8x512 : Shape := ⟨2, ![8, 512]⟩
abbrev S2048x128 : Shape := ⟨2, ![2048, 128]⟩
abbrev S3x128 : Shape := ⟨2, ![3, 128]⟩
abbrev S1x128 : Shape := ⟨2, ![1, 128]⟩
abbrev S4x2048x128 : Shape := ⟨3, ![4, 2048, 128]⟩
abbrev S1x2048x128 : Shape := ⟨3, ![1, 2048, 128]⟩
abbrev S128 : Shape := ⟨1, ![128]⟩
abbrev S5x128 : Shape := ⟨2, ![5, 128]⟩

abbrev nBuf : Space → Nat
  | .hbm => 9
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x4096, .f32⟩
  | .hbm, ⟨2, _⟩ => ⟨S3x512, .f32⟩
  | .hbm, ⟨3, _⟩ => ⟨S1x512, .f32⟩
  | .hbm, ⟨4, _⟩ => ⟨S8x2048x512, .bf16⟩
  | .hbm, ⟨5, _⟩ => ⟨S8x128, .f32⟩
  | .hbm, ⟨6, _⟩ => ⟨S8x2048x512, .bf16⟩
  | .hbm, ⟨7, _⟩ => ⟨S8x512, .f32⟩
  | .hbm, ⟨8, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S4x2048x128, .bf16⟩
  | .local _ .vmem, ⟨15, _⟩ => ⟨S4x2048x128, .bf16⟩
  | .local _ .vmem, ⟨16, _⟩ => ⟨S8x128, .f32⟩
  | .local _ .vmem, ⟨17, _⟩ => ⟨S8x128, .f32⟩
  | .local _ .vmem, ⟨18, _⟩ => ⟨S1x128, .f32⟩
  | .local _ .vmem, ⟨19, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S2048x512 : Shape := ⟨2, ![2048, 512]⟩
abbrev S2048x4096 : Shape := ⟨2, ![2048, 4096]⟩
abbrev S3x512 : Shape := ⟨2, ![3, 512]⟩
abbrev S1x512 : Shape := ⟨2, ![1, 512]⟩
abbrev S8x2048x512 : Shape := ⟨3, ![8, 2048, 512]⟩
abbrev S8x128 : Shape := ⟨2, ![8, 128]⟩
abbrev S2048x2048 : Shape := ⟨2, ![2048, 2048]⟩
abbrev S_ : Shape := ⟨0, ![]⟩
abbrev S2050x512 : Shape := ⟨2, ![2050, 512]⟩
abbrev S512 : Shape := ⟨1, ![512]⟩
abbrev S4x2048x512 : Shape := ⟨3, ![4, 2048, 512]⟩
abbrev S1x2048x512 : Shape := ⟨3, ![1, 2048, 512]⟩
abbrev S8x512 : Shape := ⟨2, ![8, 512]⟩

abbrev nBuf : Space → Nat
  | .hbm => 126
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4096, .f32⟩
  | .hbm, ⟨2, _⟩ => ⟨S3x512, .f32⟩
  | .hbm, ⟨3, _⟩ => ⟨S1x512, .f32⟩
  | .hbm, ⟨4, _⟩ => ⟨S8x2048x512, .bf16⟩
  | .hbm, ⟨5, _⟩ => ⟨S8x128, .f32⟩
  | .hbm, ⟨6, _⟩ => ⟨S2048x2048, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S1x512, .f32⟩
  | .hbm, ⟨14, _⟩ => ⟨S2050x512, .f32⟩
  | .hbm, ⟨15, _⟩ => ⟨S_, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S2048x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S512, .f32⟩
  | .hbm, ⟨37, _⟩ => ⟨S1x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S2048x512, .f32⟩
  | .hbm, ⟨69, _⟩ => ⟨S2048x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S_, .f32⟩
  | .hbm, ⟨76, _⟩ => ⟨S2050x512, .f32⟩
  | .hbm, ⟨77, _⟩ => ⟨S2048x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S2048x512, .f32⟩
  | .hbm, ⟨82, _⟩ => ⟨S2048x512, .f32⟩
  | .hbm, ⟨83, _⟩ => ⟨S_, .f32⟩
  | .hbm, ⟨84, _⟩ => ⟨S512, .f32⟩
  | .hbm, ⟨85, _⟩ => ⟨S1x512, .f32⟩
  | .hbm, ⟨86, _⟩ => ⟨S_, .f32⟩
  | .hbm, ⟨87, _⟩ => ⟨S3x512, .f32⟩
  | .hbm, ⟨88, _⟩ => ⟨S3x512, .f32⟩
  | .hbm, ⟨89, _⟩ => ⟨S_, .f32⟩
  | .hbm, ⟨90, _⟩ => ⟨S2050x512, .f32⟩
  | .hbm, ⟨91, _⟩ => ⟨S2050x512, .f32⟩
  | .hbm, ⟨92, _⟩ => ⟨S_, .f32⟩
  | .hbm, ⟨93, _⟩ => ⟨S512, .f32⟩
  | .hbm, ⟨94, _⟩ => ⟨S1x512, .f32⟩
  | .hbm, ⟨95, _⟩ => ⟨S2048x512, .f32⟩
  | .hbm, ⟨96, _⟩ => ⟨S_, .f32⟩
  | .hbm, ⟨97, _⟩ => ⟨S512, .f32⟩
  | .hbm, ⟨98, _⟩ => ⟨S1x512, .f32⟩
  | .hbm, ⟨99, _⟩ => ⟨S2048x512, .f32⟩
  | .hbm, ⟨100, _⟩ => ⟨S2048x512, .f32⟩
  | .hbm, ⟨101, _⟩ => ⟨S_, .f32⟩
  | .hbm, ⟨102, _⟩ => ⟨S512, .f32⟩
  | .hbm, ⟨103, _⟩ => ⟨S1x512, .f32⟩
  | .hbm, ⟨104, _⟩ => ⟨S_, .f32⟩
  | .hbm, ⟨105, _⟩ => ⟨S3x512, .f32⟩
  | .hbm, ⟨106, _⟩ => ⟨S3x512, .f32⟩
  | .hbm, ⟨107, _⟩ => ⟨S_, .f32⟩
  | .hbm, ⟨108, _⟩ => ⟨S2050x512, .f32⟩
  | .hbm, ⟨109, _⟩ => ⟨S2050x512, .f32⟩
  | .hbm, ⟨110, _⟩ => ⟨S1x512, .f32⟩
  | .hbm, ⟨111, _⟩ => ⟨S2048x512, .f32⟩
  | .hbm, ⟨112, _⟩ => ⟨S1x512, .f32⟩
  | .hbm, ⟨113, _⟩ => ⟨S2048x512, .f32⟩
  | .hbm, ⟨114, _⟩ => ⟨S2048x512, .f32⟩
  | .hbm, ⟨115, _⟩ => ⟨S4x2048x512, .bf16⟩
  | .hbm, ⟨116, _⟩ => ⟨S1x2048x512, .f32⟩
  | .hbm, ⟨117, _⟩ => ⟨S1x2048x512, .f32⟩
  | .hbm, ⟨118, _⟩ => ⟨S1x2048x512, .f32⟩
  | .hbm, ⟨119, _⟩ => ⟨S1x2048x512, .f32⟩
  | .hbm, ⟨120, _⟩ => ⟨S4x2048x512, .f32⟩
  | .hbm, ⟨121, _⟩ => ⟨S4x2048x512, .bf16⟩
  | .hbm, ⟨122, _⟩ => ⟨S8x2048x512, .bf16⟩
  | .hbm, ⟨123, _⟩ => ⟨S_, .i32⟩
  | .hbm, ⟨124, _⟩ => ⟨S_, .f32⟩
  | .hbm, ⟨125, _⟩ => ⟨S8x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c : Ref sig .tc := ⟨.hbm, 123, rfl⟩
abbrev main_call2_v0 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== Proof.Core.lean ====
/- The algebra of a softmax and of its gradient over the extended reals: what the two sides of the certificate have in
   common once every array is read at its coordinates. -/
module

public import Idealize.ShloMosaic.PureOps.Ideal
public import Idealize.ShloMosaic.Lib.IdealHost
public import Mathlib.Data.EReal.Operations
public import Mathlib.Data.EReal.Inv
public import Mathlib.Algebra.BigOperators.Fin

@[expose] public section

noncomputable section

namespace Cert.Attn

open Idealize.ShloMosaic

/-! ## The blocks of queries and their bands of keys -/

/-- The first key of the band of block `b`. -/
def first (b : ℕ) : ℕ := min (2 * b - 4) 23 * 64

/-- The bias tile of block `b`. -/
def tile (b : ℕ) : ℕ := if b < 2 then b else if 13 < b then b - 11 else 2

theorem first_le (b : ℕ) : first b ≤ 1472 := by unfold first; omega

theorem tile_lt {b : ℕ} (h : b < 16) : tile b < 5 := by unfold tile; split_ifs <;> omega

/-! ## A real factor through a sum -/

theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.2 ha) (EReal.coe_ne_top a), ih]

theorem coe_mul_sub (a : ℝ) (ha : 0 ≤ a) (x y : EReal) : (a : EReal) * (x - y) = a * x - a * y := by
  rw [sub_eq_add_neg, EReal.left_distrib_of_nonneg_of_ne_top (EReal.coe_nonneg.2 ha) (EReal.coe_ne_top a), mul_neg, ← sub_eq_add_neg]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The softmax of a row of scores -/

/-- A row of scores none of which is `+∞` and some of which is a real number. -/
structure Row {ι : Type} (s : ι → EReal) : Prop where
  lt_top : ∀ k, s k ≠ ⊤
  some_real : ∃ k, s k ≠ ⊥

/-- The greatest score of a row. -/
def top {ι : Type} [Fintype ι] (s : ι → EReal) : EReal := Finset.univ.fold max ⊥ s

theorem top_eq_sup {ι : Type} [Fintype ι] (s : ι → EReal) : top s = Finset.univ.sup s := rfl

theorem Row.top_real {ι : Type} [Fintype ι] {s : ι → EReal} (h : Row s) : ∃ m : ℝ, top s = m := by
  have h1 : top s ≠ ⊤ := by
    rw [top_eq_sup]
    exact ne_of_lt ((Finset.sup_lt_iff (by simp)).2 fun k _ => lt_top_iff_ne_top.2 (h.lt_top k))
  have h2 : top s ≠ ⊥ := by
    obtain ⟨k, hk⟩ := h.some_real
    rw [top_eq_sup]
    exact fun e => hk (le_bot_iff.1 (e ▸ Finset.le_sup (f := s) (Finset.mem_univ k)))
  exact ⟨(top s).toReal, (EReal.coe_toReal h1 h2).symm⟩

/-- The exponential of a score less the greatest one. -/
def ex {ι : Type} [Fintype ι] (s : ι → EReal) (k : ι) : EReal := Ideal.exp (s k - top s)

/-- The sum of the exponentials of a row. -/
def den {ι : Type} [Fintype ι] (s : ι → EReal) : EReal := ∑ k, ex s k

/-- A row's exponentials are nonnegative real numbers, zero at the score `−∞`, and their sum is positive. -/
theorem Row.reals {ι : Type} [Fintype ι] {s : ι → EReal} (h : Row s) :
    ∃ (r : ι → ℝ) (z : ℝ), (∀ k, ex s k = r k) ∧ (∀ k, 0 ≤ r k) ∧ den s = z ∧ 0 < z := by
  obtain ⟨m, hm⟩ := h.top_real
  have hr : ∀ k, ∃ r : ℝ, ex s k = r ∧ 0 ≤ r ∧ (s k ≠ ⊥ → 0 < r) := by
    intro k
    rw [ex, hm]
    rcases eq_or_ne (s k) ⊥ with e | e
    · exact ⟨0, by rw [e, sub_eq_add_neg, EReal.bot_add, Ideal.exp_bot]; rfl, le_rfl, fun hn => absurd e hn⟩
    · lift s k to ℝ using ⟨h.lt_top k, e⟩ with x
      exact ⟨Real.exp (x - m), by rw [← EReal.coe_sub, Ideal.exp_coe], (Real.exp_pos _).le, fun _ => Real.exp_pos _⟩
  choose r h1 h2 h3 using hr
  refine ⟨r, ∑ k, r k, h1, h2, ?_, ?_⟩
  · rw [den, coe_sum]
    exact Finset.sum_congr rfl fun k _ => h1 k
  · obtain ⟨k, hk⟩ := h.some_real
    exact lt_of_lt_of_le (h3 k hk) (Finset.single_le_sum (fun i _ => h2 i) (Finset.mem_univ k))

theorem ex_bot {ι : Type} [Fintype ι] {s : ι → EReal} {k : ι} (e : s k = ⊥) : ex s k = 0 := by
  rw [ex, e, sub_eq_add_neg, EReal.bot_add, Ideal.exp_bot]

/-- The weight of a key. -/
def prob {ι : Type} [Fintype ι] (s : ι → EReal) (k : ι) : EReal := Ideal.div (ex s k) (den s)

/-- The gradient of a score, from the gradient `ct` of the weights. -/
def dscore {ι : Type} [Fintype ι] (s ct : ι → EReal) (k : ι) : EReal :=
  prob s k * (ct k - ∑ j, prob s j * ct j)

theorem Row.div_den {ι : Type} [Fintype ι] {s : ι → EReal} (h : Row s) (x : EReal) :
    Ideal.div x (den s) = x * Ideal.div 1 (den s) := by
  obtain ⟨r, z, -, -, hz, hp⟩ := h.reals
  rw [hz, Ideal.div_coe hp.ne', Ideal.div_coe hp.ne', one_mul]

theorem Row.prob_eq {ι : Type} [Fintype ι] {s : ι → EReal} (h : Row s) (k : ι) :
    prob s k = ex s k * Ideal.div 1 (den s) := h.div_den _

theorem Row.prob_bot {ι : Type} [Fintype ι] {s : ι → EReal} (h : Row s) {k : ι} (e : s k = ⊥) : prob s k = 0 := by
  rw [h.prob_eq, ex_bot e, zero_mul]

theorem Row.dscore_bot {ι : Type} [Fintype ι] {s : ι → EReal} (h : Row s) (ct : ι → EReal) {k : ι} (e : s k = ⊥) :
    dscore s ct k = 0 := by
  rw [dscore, h.prob_bot e, zero_mul]

/-- The gradient that differentiating the quotient gives: the numerator's part and the denominator's part apart. -/
theorem Row.quotient_grad {ι : Type} [Fintype ι] {s : ι → EReal} (h : Row s) (ct : ι → EReal) (k : ι) :
    (Ideal.div (ct k) (den s) + -(∑ j, ct j * Ideal.div 1 (den s * den s) * ex s j)) * ex s k = dscore s ct k := by
  obtain ⟨r, z, hr, hn, hz, hp⟩ := h.reals
  simp only [dscore, h.prob_eq, hr, hz]
  rw [← EReal.coe_mul, Ideal.div_coe hp.ne', Ideal.div_coe hp.ne', Ideal.div_coe (mul_pos hp hp).ne']
  simp only [one_mul]
  have hi : 0 ≤ 1 / z := (one_div_pos.2 hp).le
  have hs : ∑ j, ct j * ((1 / (z * z) : ℝ) : EReal) * (r j : EReal)
      = ((1 / z : ℝ) : EReal) * ∑ j, (r j : EReal) * ((1 / z : ℝ) : EReal) * ct j := by
    rw [coe_mul_sum _ _ hi]
    refine Finset.sum_congr rfl fun j _ => ?_
    rw [mul_comm (ct j), mul_assoc, mul_comm (ct j), ← mul_assoc, ← mul_assoc, ← EReal.coe_mul, ← EReal.coe_mul,
      ← EReal.coe_mul]
    congr 2
    field_simp
  rw [hs, ← sub_eq_add_neg, mul_comm (ct k), ← coe_mul_sub _ hi, mul_comm _ (r k : EReal), mul_assoc]

/-! ## A row that is `−∞` off a band of keys -/

/-- Key `j` of the band that starts at key `a`. -/
def lat (a : ℕ) (ha : a ≤ 1472) (j : Fin 576) : Fin 2304 := ⟨a + j, by omega⟩

/-- Context key `l`. -/
def ctx (l : Fin 256) : Fin 2304 := ⟨2048 + l, by omega⟩

theorem lat_injective (a : ℕ) (ha : a ≤ 1472) : Function.Injective (lat a ha) := fun i j h => by
  have := congrArg Fin.val h
  exact Fin.ext (by simp only [lat] at this; omega)

theorem sum_band (a : ℕ) (ha : a ≤ 1472) (f : Fin 2304 → EReal)
    (hf : ∀ k : Fin 2304, k.val < 2048 → (k.val < a ∨ a + 576 ≤ k.val) → f k = 0) :
    ∑ k, f k = ∑ j, f (lat a ha j) + ∑ l, f (ctx l) := by
  refine (Fin.sum_univ_add (a := 2048) (b := 256) f).trans ?_
  refine congrArg₂ (· + ·) ?_ rfl
  refine (Fintype.sum_of_injective (fun j : Fin 576 => (⟨a + j, by omega⟩ : Fin 2048)) (fun i j h => ?_) _ _ (fun k hk => ?_)
    fun j => rfl).symm
  · have := congrArg Fin.val h
    exact Fin.ext (by simp only at this; omega)
  · refine hf _ k.isLt ?_
    by_contra hc
    have h1 : ¬ (k.val < a ∨ a + 576 ≤ k.val) := hc
    exact hk ⟨⟨k - a, by omega⟩, Fin.ext (by simp only; omega)⟩

theorem top_band (a : ℕ) (ha : a ≤ 1472) (s : Fin 2304 → EReal)
    (hs : ∀ k : Fin 2304, k.val < 2048 → (k.val < a ∨ a + 576 ≤ k.val) → s k = ⊥) :
    top s = max (top fun j => s (lat a ha j)) (top fun l => s (ctx l)) := by
  simp only [top_eq_sup]
  refine le_antisymm (Finset.sup_le fun k _ => ?_)
    (max_le (Finset.sup_le fun j _ => Finset.le_sup (f := s) (Finset.mem_univ _))
      (Finset.sup_le fun l _ => Finset.le_sup (f := s) (Finset.mem_univ _)))
  by_cases h1 : k.val < 2048
  · by_cases h2 : k.val < a ∨ a + 576 ≤ k.val
    · rw [hs k h1 h2]; exact bot_le
    · have e : k = lat a ha ⟨k - a, by omega⟩ := Fin.ext (by simp only [lat]; omega)
      rw [e]
      exact le_max_of_le_left (Finset.le_sup (f := fun j => s (lat a ha j)) (Finset.mem_univ _))
  · have e : k = ctx ⟨k - 2048, by omega⟩ := Fin.ext (by simp only [ctx]; omega)
    rw [e]
    exact le_max_of_le_right (Finset.le_sup (f := fun l => s (ctx l)) (Finset.mem_univ _))

end Cert.Attn

end
-- ==== Proof.Pieces.lean ====
/- What the body of the backward kernel stores, block of queries by block of queries: the lists of stores its run found are
   the same sixteen times over, at the block's rows, at the rows of its band of keys and at its bias tile. -/
module

public import proofs.«01_k».proof.Proof.Core
public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe
open Cert.Attn (first tile first_le tile_lt)

variable {F : FTy → Type} [FloatOps F]

theorem inb_q {b : ℕ} (h : b < 16) : ∀ a, (![0, 128 * b, 0] : Fin 3 → ℕ) a + S1x128x64.size a ≤ S1x2048x64.size a :=
  Fin.forall_fin_succ.2 ⟨show 0 + 1 ≤ 1 by omega, Fin.forall_fin_succ.2 ⟨show 128 * b + 128 ≤ 2048 by omega,
    Fin.forall_fin_succ.2 ⟨show 0 + 64 ≤ 64 by omega, fun a => a.elim0⟩⟩⟩

theorem inb_k (b : ℕ) : ∀ a, (![0, first b, 0] : Fin 3 → ℕ) a + S1x576x64.size a ≤ S1x2048x64.size a :=
  Fin.forall_fin_succ.2 ⟨show 0 + 1 ≤ 1 by omega,
    Fin.forall_fin_succ.2 ⟨show first b + 576 ≤ 2048 by have := first_le b; omega,
      Fin.forall_fin_succ.2 ⟨show 0 + 64 ≤ 64 by omega, fun a => a.elim0⟩⟩⟩

theorem inb_t {b : ℕ} (h : b < 16) :
    ∀ a, (![0, tile b, 0, 0] : Fin 4 → ℕ) a + S1x1x576x128.size a ≤ S1x5x576x128.size a :=
  Fin.forall_fin_succ.2 ⟨show 0 + 1 ≤ 1 by omega,
    Fin.forall_fin_succ.2 ⟨show tile b + 1 ≤ 5 by have := tile_lt h; omega,
      Fin.forall_fin_succ.2 ⟨show 0 + 576 ≤ 576 by omega,
        Fin.forall_fin_succ.2 ⟨show 0 + 128 ≤ 128 by omega, fun a => a.elim0⟩⟩⟩⟩

/-- The rows of the queries of block `b`. -/
abbrev qrect {b : ℕ} (h : b < 16) : Rect S1x2048x64 := Rect.unit (s := S1x2048x64) ![0, 128 * b, 0] S1x128x64.size (inb_q h)
/-- The rows of the band of keys of block `b`. -/
abbrev krect (b : ℕ) : Rect S1x2048x64 := Rect.unit (s := S1x2048x64) ![0, first b, 0] S1x576x64.size (inb_k b)
/-- The bias tile of block `b`. -/
abbrev trect {b : ℕ} (h : b < 16) : Rect S1x5x576x128 :=
  Rect.unit (s := S1x5x576x128) ![0, tile b, 0, 0] S1x1x576x128.size (inb_t h)

/-- The body's eight input windows and what they hold: the rotated and the plain queries, the keys, the values, the
    context's keys and values, the masked bias tiles and the incoming gradient. -/
structure In (F : FTy → Type) where
  m1 : Memref sig .tc .vmem S1x2048x64 .bf16
  h1 : m1.IsWhole
  m2 : Memref sig .tc .vmem S1x2048x64 .bf16
  h2 : m2.IsWhole
  m3 : Memref sig .tc .vmem S1x2048x64 .bf16
  h3 : m3.IsWhole
  m4 : Memref sig .tc .vmem S1x2048x64 .bf16
  h4 : m4.IsWhole
  m5 : Memref sig .tc .vmem S1x256x64 .bf16
  h5 : m5.IsWhole
  m6 : Memref sig .tc .vmem S1x256x64 .bf16
  h6 : m6.IsWhole
  m7 : Memref sig .tc .vmem S1x5x576x128 .f32
  h7 : m7.IsWhole
  m8 : Memref sig .tc .vmem S1x2048x64 .bf16
  h8 : m8.IsWhole
  x0 : Vec F S1x2048x64 .bf16
  x1 : Vec F S1x2048x64 .bf16
  x2 : Vec F S1x2048x64 .bf16
  x3 : Vec F S1x2048x64 .bf16
  x4 : Vec F S1x256x64 .bf16
  x5 : Vec F S1x256x64 .bf16
  x6 : Vec F S1x5x576x128 .f32
  x7 : Vec F S1x2048x64 .bf16

/-- The query rows of block `b` of a window. -/
def qrows (M : Memref sig .tc .vmem S1x2048x64 .bf16) (hM : M.IsWhole) (x : Vec F S1x2048x64 .bf16) {b : ℕ} (h : b < 16) :
    Vec F S1x128x64 .bf16 := View.readAt (Elt F) M.view (qrect h).toLoadRect (hM.unread x)

/-- The band's rows of block `b` of a window. -/
def krows (M : Memref sig .tc .vmem S1x2048x64 .bf16) (hM : M.IsWhole) (x : Vec F S1x2048x64 .bf16) (b : ℕ) :
    Vec F S1x576x64 .bf16 := View.readAt (Elt F) M.view (krect b).toLoadRect (hM.unread x)

/-- A context window. -/
def crows (M : Memref sig .tc .vmem S1x256x64 .bf16) (hM : M.IsWhole) (x : Vec F S1x256x64 .bf16) :
    Vec F S1x256x64 .bf16 :=
  View.readAt (Elt F) M.view (Rect.unit (s := S1x256x64) ![0, 0, 0] S1x256x64.size inb_S1x256x64_S1x256x64_0_0_0).toLoadRect
    (hM.unread x)

/-- The bias tile of block `b`. -/
def trows (M : Memref sig .tc .vmem S1x5x576x128 .f32) (hM : M.IsWhole) (x : Vec F S1x5x576x128 .f32) {b : ℕ} (h : b < 16) :
    Vec F S1x1x576x128 .f32 := View.readAt (Elt F) M.view (trect h).toLoadRect (hM.unread x)

namespace In

variable (A : In F)

/-- The scores of block `b` against its band of keys, and against the context's keys; -/
def sLat {b : ℕ} (h : b < 16) : FVec F S576x128 .f32 :=
  k0_pay10 (k0_pay9 (krows A.m3 A.h3 A.x2 b) (qrows A.m1 A.h1 A.x0 h)) (trows A.m7 A.h7 A.x6 h)
def sCtx {b : ℕ} (h : b < 16) : FVec F S256x128 .f32 :=
  k0_pay11 (k0_pay3 (crows A.m5 A.h5 A.x4)) (qrows A.m2 A.h2 A.x1 h)

/-- the gradients of their weights; -/
def gLat {b : ℕ} (h : b < 16) : FVec F S576x128 .f32 :=
  k0_pay12 (k0_pay8 (qrows A.m8 A.h8 A.x7 h)) (krows A.m4 A.h4 A.x3 b)
def gCtx {b : ℕ} (h : b < 16) : FVec F S256x128 .f32 :=
  k0_pay13 (k0_pay4 (crows A.m6 A.h6 A.x5)) (k0_pay8 (qrows A.m8 A.h8 A.x7 h))

/-- the gradients of the scores, unrounded and rounded, and the weights. -/
def dLat {b : ℕ} (h : b < 16) : FVec F S576x128 .f32 := k0_pay26 (A.sLat h) (A.sCtx h) (A.gLat h) (A.gCtx h)
def dLatB {b : ℕ} (h : b < 16) : FVec F S576x128 .bf16 := k0_pay27 (A.sLat h) (A.sCtx h) (A.gLat h) (A.gCtx h)
def dCtxB {b : ℕ} (h : b < 16) : FVec F S256x128 .bf16 := k0_pay28 (A.sLat h) (A.sCtx h) (A.gLat h) (A.gCtx h)
def pLatB {b : ℕ} (h : b < 16) : FVec F S576x128 .bf16 := k0_pay29 (A.sLat h) (A.sCtx h)
def pCtxB {b : ℕ} (h : b < 16) : FVec F S256x128 .bf16 := k0_pay30 (A.sLat h) (A.sCtx h)

/-- The stores of the gradient of the rotated queries, up to block `n`. -/
def list8 : (n : ℕ) → n ≤ 16 → List (View.Piece (Elt F) S1x2048x64 .f32)
  | 0, _ => []
  | n + 1, h => ⟨qrect h, k0_pay56 (A.dLatB h) (krows A.m3 A.h3 A.x2 n)⟩ :: list8 n (Nat.le_of_lt h)

/-- The stores of the gradient of the plain queries. -/
def list9 : (n : ℕ) → n ≤ 16 → List (View.Piece (Elt F) S1x2048x64 .f32)
  | 0, _ => []
  | n + 1, h => ⟨qrect h, k0_pay58 (k0_pay57 (k0_pay3 (crows A.m5 A.h5 A.x4)) (A.dCtxB h))⟩ :: list9 n (Nat.le_of_lt h)

/-- The stores of the gradient of the keys: zeros first, then what the window holds and the block's part on top. -/
def list10 (M : Memref sig .tc .vmem S1x2048x64 .f32) : (n : ℕ) → n ≤ 16 → List (View.Piece (Elt F) S1x2048x64 .f32)
  | 0, _ => [⟨Rect.unit (s := S1x2048x64) ![0, 0, 0] S1x2048x64.size inb_S1x2048x64_S1x2048x64_0_0_0, k0_pay5⟩]
  | n + 1, h => ⟨krect n, k0_pay59 (A.dLatB h) (k0_pay8 (qrows A.m1 A.h1 A.x0 h))
      (M.view.readCov (list10 M n (Nat.le_of_lt h)) (krect n).toLoadRect)⟩ :: list10 M n (Nat.le_of_lt h)

/-- The stores of the gradient of the values. -/
def list11 (M : Memref sig .tc .vmem S1x2048x64 .f32) : (n : ℕ) → n ≤ 16 → List (View.Piece (Elt F) S1x2048x64 .f32)
  | 0, _ => [⟨Rect.unit (s := S1x2048x64) ![0, 0, 0] S1x2048x64.size inb_S1x2048x64_S1x2048x64_0_0_0, k0_pay6⟩]
  | n + 1, h => ⟨krect n, k0_pay60 (A.pLatB h) (k0_pay8 (qrows A.m8 A.h8 A.x7 h))
      (M.view.readCov (list11 M n (Nat.le_of_lt h)) (krect n).toLoadRect)⟩ :: list11 M n (Nat.le_of_lt h)

/-- The gradients of the context's keys and values summed over the blocks up to `n`. -/
def acc12 : (n : ℕ) → n < 16 → FVec F S256x64 .f32
  | 0, h => k0_pay61 (A.dCtxB h) (k0_pay8 (qrows A.m2 A.h2 A.x1 h))
  | n + 1, h => addf (acc12 n (Nat.lt_of_succ_lt h)) (k0_pay61 (A.dCtxB h) (k0_pay8 (qrows A.m2 A.h2 A.x1 h)))
def acc13 : (n : ℕ) → n < 16 → FVec F S256x64 .f32
  | 0, h => k0_pay62 (A.pCtxB h) (k0_pay8 (qrows A.m8 A.h8 A.x7 h))
  | n + 1, h => addf (acc13 n (Nat.lt_of_succ_lt h)) (k0_pay62 (A.pCtxB h) (k0_pay8 (qrows A.m8 A.h8 A.x7 h)))

/-- The stores of the gradient of the bias tiles. -/
def list14 (M : Memref sig .tc .vmem S1x5x576x128 .f32) : (n : ℕ) → n ≤ 16 → List (View.Piece (Elt F) S1x5x576x128 .f32)
  | 0, _ => [⟨Rect.unit (s := S1x5x576x128) ![0, 0, 0, 0] S1x5x576x128.size inb_S1x5x576x128_S1x5x576x128_0_0_0_0, k0_pay7⟩]
  | n + 1, h => ⟨trect h, k0_pay55 (A.dLat h) (M.view.readCov (list14 M n (Nat.le_of_lt h)) (trect h).toLoadRect)⟩
      :: list14 M n (Nat.le_of_lt h)

end In

variable (c : Dev nD) (i : grid0.Coords) (A : In F)
  (arg10 : Memref sig .tc .vmem S1x2048x64 .f32) (harg10 : arg10.IsWhole) (arg11 : Memref sig .tc .vmem S1x2048x64 .f32) (harg11 : arg11.IsWhole)
  (arg12 : Memref sig .tc .vmem S1x2048x64 .f32) (harg12 : arg12.IsWhole) (arg13 : Memref sig .tc .vmem S1x2048x64 .f32) (harg13 : arg13.IsWhole)
  (arg14 : Memref sig .tc .vmem S1x256x64 .f32) (harg14 : arg14.IsWhole) (arg15 : Memref sig .tc .vmem S1x256x64 .f32) (harg15 : arg15.IsWhole)
  (arg16 : Memref sig .tc .vmem S1x5x576x128 .f32) (harg16 : arg16.IsWhole)

/-- The run's lists of stores. -/
abbrev found := kernelRun0_A c i A.m1 A.h1 A.m2 A.h2 A.m3 A.h3 A.m4 A.h4 A.m5 A.h5 A.m6 A.h6 A.m7 A.h7 A.m8 A.h8
  arg10 harg10 arg11 harg11 arg12 harg12 arg13 harg13 arg14 harg14 arg15 harg15 arg16 harg16 A.x0 A.x1 A.x2 A.x3 A.x4 A.x5 A.x6 A.x7

theorem found8 : (found c i A arg10 harg10 arg11 harg11 arg12 harg12 arg13 harg13 arg14 harg14 arg15 harg15 arg16 harg16).1
    = A.list8 16 (le_refl _) := rfl

theorem found9 : (found c i A arg10 harg10 arg11 harg11 arg12 harg12 arg13 harg13 arg14 harg14 arg15 harg15 arg16 harg16).2.1
    = A.list9 16 (le_refl _) := rfl

theorem found10 : (found c i A arg10 harg10 arg11 harg11 arg12 harg12 arg13 harg13 arg14 harg14 arg15 harg15 arg16 harg16).2.2.1
    = A.list10 arg12 16 (le_refl _) := rfl

theorem found11 : (found c i A arg10 harg10 arg11 harg11 arg12 harg12 arg13 harg13 arg14 harg14 arg15 harg15 arg16 harg16).2.2.2.1
    = A.list11 arg13 16 (le_refl _) := rfl

theorem found12 : (found c i A arg10 harg10 arg11 harg11 arg12 harg12 arg13 harg13 arg14 harg14 arg15 harg15 arg16 harg16).2.2.2.2.1
    = [⟨Rect.unit (s := S1x256x64) ![0, 0, 0] S1x256x64.size inb_S1x256x64_S1x256x64_0_0_0,
        shapeCast S1x256x64 (A.acc12 15 (by decide)) shapeCasts_S256x64_S1x256x64⟩] := rfl

theorem found13 : (found c i A arg10 harg10 arg11 harg11 arg12 harg12 arg13 harg13 arg14 harg14 arg15 harg15 arg16 harg16).2.2.2.2.2.1
    = [⟨Rect.unit (s := S1x256x64) ![0, 0, 0] S1x256x64.size inb_S1x256x64_S1x256x64_0_0_0,
        shapeCast S1x256x64 (A.acc13 15 (by decide)) shapeCasts_S256x64_S1x256x64⟩] := rfl

theorem found14 : (found c i A arg10 harg10 arg11 harg11 arg12 harg12 arg13 harg13 arg14 harg14 arg15 harg15 arg16 harg16).2.2.2.2.2.2.1
    = A.list14 arg16 16 (le_refl _) := rfl

end Cert.KernelIdeal.Attn

end
-- ==== Proof.Payloads.lean ====
/- The backward kernel's arithmetic read at its coordinates, over the extended reals. -/
module

public import proofs.«01_k».proof.Proof.Core
public import proofs.«01_k».proof.Proof.Pieces
public import Idealize.ShloMosaic.Lib.Pointwise

@[expose] public section

set_option maxRecDepth 16384

noncomputable section

namespace Cert.Attn

open Idealize.ShloMosaic

/-! ## A softmax whose row is in two parts -/

variable {ι κ : Type} [Fintype ι] [Fintype κ]

def top2 (a : ι → EReal) (c : κ → EReal) : EReal := max (top a) (top c)

def inv2 (a : ι → EReal) (c : κ → EReal) : EReal :=
  Ideal.div 1 (∑ j, Ideal.exp (a j - top2 a c) + ∑ l, Ideal.exp (c l - top2 a c))

/-- The weights of the two parts, -/
def wLat (a : ι → EReal) (c : κ → EReal) (j : ι) : EReal := Ideal.exp (a j - top2 a c) * inv2 a c
def wCtx (a : ι → EReal) (c : κ → EReal) (l : κ) : EReal := Ideal.exp (c l - top2 a c) * inv2 a c

/-- the mean of the incoming gradients under them, -/
def mean2 (a : ι → EReal) (c : κ → EReal) (g : ι → EReal) (e : κ → EReal) : EReal :=
  ∑ j, wLat a c j * g j + ∑ l, wCtx a c l * e l

/-- and the gradients of the scores. -/
def gLat (a : ι → EReal) (c : κ → EReal) (g : ι → EReal) (e : κ → EReal) (j : ι) : EReal := wLat a c j * (g j - mean2 a c g e)
def gCtx (a : ι → EReal) (c : κ → EReal) (g : ι → EReal) (e : κ → EReal) (l : κ) : EReal := wCtx a c l * (e l - mean2 a c g e)

end Cert.Attn

namespace Cert.KernelIdeal.Attn

open Cert.KernelIdeal Cert.KernelIdeal.Gen Idealize.ShloMosaic

theorem pay10_at (K : Vec Ideal S1x576x64 .bf16) (Q : Vec Ideal S1x128x64 .bf16) (T : Vec Ideal S1x1x576x128 .f32) (j : Fin 576) (u : Fin 128) :
    k0_pay10 (k0_pay9 K Q) T (ix2 j u) = ∑ d : Fin 64, K (ix3 0 j d) * Q (ix3 0 u d) + T (ix4 0 0 j u) := by
  pointwise [k0_pay10, k0_pay9]

theorem pay11_at (C : Vec Ideal S1x256x64 .bf16) (Q : Vec Ideal S1x128x64 .bf16) (l : Fin 256) (u : Fin 128) :
    k0_pay11 (k0_pay3 C) Q (ix2 l u) = ∑ d : Fin 64, C (ix3 0 l d) * Q (ix3 0 u d) := by
  pointwise [k0_pay11, k0_pay3]

theorem pay12_at (K : Vec Ideal S1x576x64 .bf16) (Q : Vec Ideal S1x128x64 .bf16) (j : Fin 576) (u : Fin 128) :
    k0_pay12 (k0_pay8 Q) K (ix2 j u) = ∑ d : Fin 64, K (ix3 0 j d) * Q (ix3 0 u d) := by
  pointwise [k0_pay12, k0_pay8]

theorem pay13_at (C : Vec Ideal S1x256x64 .bf16) (Q : Vec Ideal S1x128x64 .bf16) (l : Fin 256) (u : Fin 128) :
    k0_pay13 (k0_pay4 C) (k0_pay8 Q) (ix2 l u) = ∑ d : Fin 64, C (ix3 0 l d) * Q (ix3 0 u d) := by
  pointwise [k0_pay13, k0_pay4, k0_pay8]

variable (s : FVec Ideal S576x128 .f32) (c : FVec Ideal S256x128 .f32) (g : FVec Ideal S576x128 .f32) (e : FVec Ideal S256x128 .f32)

theorem negInf : Ideal.ofBits .f32 0xFF800000#32 = ⊥ := by
  simp [Ideal.ofBits, Ideal.ieee]

theorem pay19_at (u : Fin 128) :
    k0_pay19 s c (ix2 0 u) = Cert.Attn.top2 (fun j => s (ix2 j u)) (fun l => c (ix2 l u)) := by
  pointwise [k0_pay19]
  simp only [negInf]
  rfl

theorem pay20_at (j : Fin 576) (u : Fin 128) :
    k0_pay20 s c (ix2 j u) = Ideal.exp (s (ix2 j u) - Cert.Attn.top2 (fun j => s (ix2 j u)) (fun l => c (ix2 l u))) := by
  rw [← pay19_at]
  pointwise [k0_pay20]

theorem pay21_at (l : Fin 256) (u : Fin 128) :
    k0_pay21 s c (ix2 l u) = Ideal.exp (c (ix2 l u) - Cert.Attn.top2 (fun j => s (ix2 j u)) (fun l => c (ix2 l u))) := by
  rw [← pay19_at]
  pointwise [k0_pay21]

theorem pay22_at (u : Fin 128) :
    k0_pay22 s c (ix2 0 u) = Cert.Attn.inv2 (fun j => s (ix2 j u)) (fun l => c (ix2 l u)) := by
  simp only [Cert.Attn.inv2, ← pay20_at, ← pay21_at]
  pointwise [k0_pay22]

theorem pay23_at (j : Fin 576) (u : Fin 128) :
    k0_pay23 s c (ix2 j u) = Cert.Attn.wLat (fun j => s (ix2 j u)) (fun l => c (ix2 l u)) j := by
  simp only [Cert.Attn.wLat, ← pay20_at, ← pay22_at]
  pointwise [k0_pay23]

theorem pay24_at (l : Fin 256) (u : Fin 128) :
    k0_pay24 s c (ix2 l u) = Cert.Attn.wCtx (fun j => s (ix2 j u)) (fun l => c (ix2 l u)) l := by
  simp only [Cert.Attn.wCtx, ← pay21_at, ← pay22_at]
  pointwise [k0_pay24]

theorem pay25_at (u : Fin 128) :
    k0_pay25 s c g e (ix2 0 u) = Cert.Attn.mean2 (fun j => s (ix2 j u)) (fun l => c (ix2 l u)) (fun j => g (ix2 j u)) (fun l => e (ix2 l u)) := by
  simp only [Cert.Attn.mean2, ← pay23_at, ← pay24_at]
  pointwise [k0_pay25]

theorem pay26_at (j : Fin 576) (u : Fin 128) :
    k0_pay26 s c g e (ix2 j u)
      = Cert.Attn.gLat (fun j => s (ix2 j u)) (fun l => c (ix2 l u)) (fun j => g (ix2 j u)) (fun l => e (ix2 l u)) j := by
  simp only [Cert.Attn.gLat, ← pay23_at, ← pay25_at]
  pointwise [k0_pay26]

theorem pay27_at (j : Fin 576) (u : Fin 128) :
    k0_pay27 s c g e (ix2 j u)
      = Cert.Attn.gLat (fun j => s (ix2 j u)) (fun l => c (ix2 l u)) (fun j => g (ix2 j u)) (fun l => e (ix2 l u)) j := by
  rw [← pay26_at]
  pointwise [k0_pay27]

theorem pay28_at (l : Fin 256) (u : Fin 128) :
    k0_pay28 s c g e (ix2 l u)
      = Cert.Attn.gCtx (fun j => s (ix2 j u)) (fun l => c (ix2 l u)) (fun j => g (ix2 j u)) (fun l => e (ix2 l u)) l := by
  simp only [Cert.Attn.gCtx, ← pay24_at, ← pay25_at]
  pointwise [k0_pay28]

theorem pay29_at (j : Fin 576) (u : Fin 128) :
    k0_pay29 s c (ix2 j u) = Cert.Attn.wLat (fun j => s (ix2 j u)) (fun l => c (ix2 l u)) j := by
  rw [← pay23_at]
  pointwise [k0_pay29]

theorem pay30_at (l : Fin 256) (u : Fin 128) :
    k0_pay30 s c (ix2 l u) = Cert.Attn.wCtx (fun j => s (ix2 j u)) (fun l => c (ix2 l u)) l := by
  rw [← pay24_at]
  pointwise [k0_pay30]

theorem pay56_at (D : FVec Ideal S576x128 .bf16) (K : Vec Ideal S1x576x64 .bf16) (z : Fin 1) (u : Fin 128) (d : Fin 64) :
    k0_pay56 D K (ix3 z u d) = ∑ j : Fin 576, D (ix2 j u) * K (ix3 0 j d) := by
  pointwise [k0_pay56]

theorem pay58_at (C : Vec Ideal S1x256x64 .bf16) (D : FVec Ideal S256x128 .bf16) (z : Fin 1) (u : Fin 128) (d : Fin 64) :
    k0_pay58 (k0_pay57 (k0_pay3 C) D) (ix3 z u d) = ∑ l : Fin 256, D (ix2 l u) * C (ix3 0 l d) := by
  pointwise [k0_pay58, k0_pay57, k0_pay3]

theorem pay59_at (D : FVec Ideal S576x128 .bf16) (Q : Vec Ideal S1x128x64 .bf16) (W : Vec Ideal S1x576x64 .f32) (z : Fin 1) (j : Fin 576) (d : Fin 64) :
    k0_pay59 D (k0_pay8 Q) W (ix3 z j d) = W (ix3 0 j d) + ∑ u : Fin 128, D (ix2 j u) * Q (ix3 0 u d) := by
  pointwise [k0_pay59, k0_pay8]

theorem pay60_at (D : FVec Ideal S576x128 .bf16) (Q : Vec Ideal S1x128x64 .bf16) (W : Vec Ideal S1x576x64 .f32) (z : Fin 1) (j : Fin 576) (d : Fin 64) :
    k0_pay60 D (k0_pay8 Q) W (ix3 z j d) = W (ix3 0 j d) + ∑ u : Fin 128, D (ix2 j u) * Q (ix3 0 u d) := by
  pointwise [k0_pay60, k0_pay8]

theorem pay61_at (D : FVec Ideal S256x128 .bf16) (Q : Vec Ideal S1x128x64 .bf16) (l : Fin 256) (d : Fin 64) :
    k0_pay61 D (k0_pay8 Q) (ix2 l d) = ∑ u : Fin 128, D (ix2 l u) * Q (ix3 0 u d) := by
  pointwise [k0_pay61, k0_pay8]

theorem pay62_at (D : FVec Ideal S256x128 .bf16) (Q : Vec Ideal S1x128x64 .bf16) (l : Fin 256) (d : Fin 64) :
    k0_pay62 D (k0_pay8 Q) (ix2 l d) = ∑ u : Fin 128, D (ix2 l u) * Q (ix3 0 u d) := by
  pointwise [k0_pay62, k0_pay8]

theorem pay55_at (D : FVec Ideal S576x128 .f32) (W : Vec Ideal S1x1x576x128 .f32) (y z : Fin 1) (j : Fin 576) (u : Fin 128) :
    k0_pay55 D W (ix4 y z j u) = W (ix4 0 0 j u) + D (ix2 j u) := by
  pointwise [k0_pay55]

theorem pay5_at (y : S1x2048x64.Idx) : k0_pay5 (F := Ideal) y = 0 := by pointwise [k0_pay5]
theorem pay6_at (y : S1x2048x64.Idx) : k0_pay6 (F := Ideal) y = 0 := by pointwise [k0_pay6]
theorem pay7_at (y : S1x5x576x128.Idx) : k0_pay7 (F := Ideal) y = 0 := by pointwise [k0_pay7]

end Cert.KernelIdeal.Attn

end
-- ==== Proof.Body.lean ====
/- What the body of the backward kernel leaves in its output windows, at their coordinates. -/
module

public import proofs.«01_k».proof.Proof.Payloads
public import Idealize.ShloMosaic.Lib.Pipeline.ValueKit.Basic
public import Idealize.ShloMosaic.Lib.WholeRead

@[expose] public section

set_option maxRecDepth 16384

noncomputable section

namespace Cert.KernelIdeal.Attn

open Cert.KernelIdeal Cert.KernelIdeal.Gen Idealize.ShloMosaic
open Cert.Attn (first tile first_le tile_lt)

/-! ## Loads -/

section Loads
variable {F : FTy → Type} [FloatOps F]

theorem qrows_at (M : Memref sig .tc .vmem S1x2048x64 .bf16) (hM : M.IsWhole) (x : Vec F S1x2048x64 .bf16) {b : ℕ} (h : b < 16)
    (z : Fin 1) (u : Fin 128) (d : Fin 64) : qrows M hM x h (ix3 z u d) = x (ix3 0 ⟨128 * b + u, by omega⟩ d) := by
  refine (hM.readAt_unread x _ _).trans (congrArg x (funext fun a => Fin.ext ?_))
  match a with
  | ⟨0, _⟩ => show 0 + 1 * z.val = 0; omega
  | ⟨1, _⟩ => show 128 * b + 1 * u.val = 128 * b + u.val; omega
  | ⟨2, _⟩ => show 0 + 1 * d.val = d.val; omega

theorem krows_at (M : Memref sig .tc .vmem S1x2048x64 .bf16) (hM : M.IsWhole) (x : Vec F S1x2048x64 .bf16) (b : ℕ)
    (z : Fin 1) (j : Fin 576) (d : Fin 64) :
    krows M hM x b (ix3 z j d) = x (ix3 0 ⟨first b + j, by have := first_le b; omega⟩ d) := by
  refine (hM.readAt_unread x _ _).trans (congrArg x (funext fun a => Fin.ext ?_))
  match a with
  | ⟨0, _⟩ => show 0 + 1 * z.val = 0; omega
  | ⟨1, _⟩ => show first b + 1 * j.val = first b + j.val; omega
  | ⟨2, _⟩ => show 0 + 1 * d.val = d.val; omega

theorem crows_at (M : Memref sig .tc .vmem S1x256x64 .bf16) (hM : M.IsWhole) (x : Vec F S1x256x64 .bf16)
    (z : Fin 1) (l : Fin 256) (d : Fin 64) : crows M hM x (ix3 z l d) = x (ix3 0 l d) := by
  refine (hM.readAt_unread x _ _).trans (congrArg x (funext fun a => Fin.ext ?_))
  match a with
  | ⟨0, _⟩ => show 0 + 1 * z.val = 0; omega
  | ⟨1, _⟩ => show 0 + 1 * l.val = l.val; omega
  | ⟨2, _⟩ => show 0 + 1 * d.val = d.val; omega

theorem trows_at (M : Memref sig .tc .vmem S1x5x576x128 .f32) (hM : M.IsWhole) (x : Vec F S1x5x576x128 .f32) {b : ℕ} (h : b < 16)
    (y z : Fin 1) (j : Fin 576) (u : Fin 128) :
    trows M hM x h (ix4 y z j u) = x (ix4 0 ⟨tile b, tile_lt h⟩ j u) := by
  refine (hM.readAt_unread x _ _).trans (congrArg x (funext fun a => Fin.ext ?_))
  match a with
  | ⟨0, _⟩ => show 0 + 1 * y.val = 0; omega
  | ⟨1, _⟩ => show tile b + 1 * z.val = tile b; omega
  | ⟨2, _⟩ => show 0 + 1 * j.val = j.val; omega
  | ⟨3, _⟩ => show 0 + 1 * u.val = u.val; omega

end Loads

/-! ## Stores -/

section Stores
variable {Val : EltTy → Type} [∀ e, Nonempty (Val e)] {e : EltTy}

/-- A store of `n` rows from row `o` on, read at row `r`. -/
theorem canon_rows {o n : ℕ} (inb : ∀ a, (![0, o, 0] : Fin 3 → ℕ) a + (![1, n, 64] : Fin 3 → ℕ) a ≤ S1x2048x64.size a)
    (w : (⟨3, ![1, n, 64]⟩ : Shape).Idx → Val e) (L : List (View.Piece Val S1x2048x64 e)) (z : Fin 1) (r : Fin 2048) (d : Fin 64) :
    View.canon ((⟨Rect.unit (s := S1x2048x64) ![0, o, 0] ![1, n, 64] inb, w⟩ : View.Piece Val S1x2048x64 e) :: L) (ix3 z r d)
      = if h : o ≤ r.val ∧ r.val < o + n then w (ix3 0 ⟨r - o, by omega⟩ d) else View.canon L (ix3 z r d) := by
  split
  · rename_i h
    have e1 : (ix3 z r d : S1x2048x64.Idx) = (Rect.unit (s := S1x2048x64) ![0, o, 0] ![1, n, 64] inb).emb
        (ix3 0 ⟨r - o, by omega⟩ d : (⟨3, ![1, n, 64]⟩ : Shape).Idx) := funext fun a => Fin.ext (by
      match a with
      | ⟨0, _⟩ => show z.val = 0 + 1 * 0; omega
      | ⟨1, _⟩ => show r.val = o + 1 * (r.val - o); omega
      | ⟨2, _⟩ => show d.val = 0 + 1 * d.val; omega)
    rw [e1]
    exact View.canon_cons_emb _ _ _ _
  · rename_i h
    refine View.canon_cons_of_not_mem _ _ fun hm => h ?_
    exact (Rect.mem_set_unit (inb := inb).1 hm) 1

/-- A store of one tile, read at tile `t`. -/
theorem canon_tile {o : ℕ} (inb : ∀ a, (![0, o, 0, 0] : Fin 4 → ℕ) a + (![1, 1, 576, 128] : Fin 4 → ℕ) a ≤ S1x5x576x128.size a)
    (w : (⟨4, ![1, 1, 576, 128]⟩ : Shape).Idx → Val e) (L : List (View.Piece Val S1x5x576x128 e)) (z : Fin 1) (t : Fin 5)
    (j : Fin 576) (u : Fin 128) :
    View.canon ((⟨Rect.unit (s := S1x5x576x128) ![0, o, 0, 0] ![1, 1, 576, 128] inb, w⟩ : View.Piece Val S1x5x576x128 e) :: L) (ix4 z t j u)
      = if o = t.val then w (ix4 0 0 j u) else View.canon L (ix4 z t j u) := by
  split
  · rename_i h
    have e1 : (ix4 z t j u : S1x5x576x128.Idx) = (Rect.unit (s := S1x5x576x128) ![0, o, 0, 0] ![1, 1, 576, 128] inb).emb
        (ix4 0 0 j u : (⟨4, ![1, 1, 576, 128]⟩ : Shape).Idx) := funext fun a => Fin.ext (by
      match a with
      | ⟨0, _⟩ => show z.val = 0 + 1 * 0; omega
      | ⟨1, _⟩ => show t.val = o + 1 * 0; omega
      | ⟨2, _⟩ => show j.val = 0 + 1 * j.val; omega
      | ⟨3, _⟩ => show u.val = 0 + 1 * u.val; omega)
    rw [e1]
    exact View.canon_cons_emb _ _ _ _
  · rename_i h
    refine View.canon_cons_of_not_mem _ _ fun hm => h ?_
    have : o ≤ t.val ∧ t.val < o + 1 := (Rect.mem_set_unit (inb := inb).1 hm) 1
    omega

end Stores

namespace In

variable (A : In Ideal)

/-! ## The blocks at their coordinates -/

/-- The scores of query `u` of block `b` and the gradients of its weights. -/
def a (b : ℕ) (h : b < 16) (u : Fin 128) (j : Fin 576) : EReal :=
  ∑ d : Fin 64, A.x2 (ix3 0 ⟨first b + j, by have := first_le b; omega⟩ d) * A.x0 (ix3 0 ⟨128 * b + u, by omega⟩ d)
    + A.x6 (ix4 0 ⟨tile b, tile_lt h⟩ j u)
def c (b : ℕ) (h : b < 16) (u : Fin 128) (l : Fin 256) : EReal :=
  ∑ d : Fin 64, A.x4 (ix3 0 l d) * A.x1 (ix3 0 ⟨128 * b + u, by omega⟩ d)
def g (b : ℕ) (h : b < 16) (u : Fin 128) (j : Fin 576) : EReal :=
  ∑ d : Fin 64, A.x3 (ix3 0 ⟨first b + j, by have := first_le b; omega⟩ d) * A.x7 (ix3 0 ⟨128 * b + u, by omega⟩ d)
def e (b : ℕ) (h : b < 16) (u : Fin 128) (l : Fin 256) : EReal :=
  ∑ d : Fin 64, A.x5 (ix3 0 l d) * A.x7 (ix3 0 ⟨128 * b + u, by omega⟩ d)

section Blocks
variable {b : ℕ} (h : b < 16) (u : Fin 128)

theorem sLat_at (j : Fin 576) : A.sLat h (ix2 j u) = A.a b h u j := by
  rw [sLat, pay10_at]; simp only [krows_at, qrows_at, trows_at]; rfl
theorem sCtx_at (l : Fin 256) : A.sCtx h (ix2 l u) = A.c b h u l := by
  rw [sCtx, pay11_at]; simp only [crows_at, qrows_at]; rfl
theorem gLat_at (j : Fin 576) : A.gLat h (ix2 j u) = A.g b h u j := by
  rw [gLat, pay12_at]; simp only [krows_at, qrows_at]; rfl
theorem gCtx_at (l : Fin 256) : A.gCtx h (ix2 l u) = A.e b h u l := by
  rw [gCtx, pay13_at]; simp only [crows_at, qrows_at]; rfl

/-- The gradients of the scores and the weights of query `u` of block `b`. -/
def dl (b : ℕ) (h : b < 16) (u : Fin 128) (j : Fin 576) : EReal := Cert.Attn.gLat (A.a b h u) (A.c b h u) (A.g b h u) (A.e b h u) j
def dc (b : ℕ) (h : b < 16) (u : Fin 128) (l : Fin 256) : EReal := Cert.Attn.gCtx (A.a b h u) (A.c b h u) (A.g b h u) (A.e b h u) l
def pl (b : ℕ) (h : b < 16) (u : Fin 128) (j : Fin 576) : EReal := Cert.Attn.wLat (A.a b h u) (A.c b h u) j
def pc (b : ℕ) (h : b < 16) (u : Fin 128) (l : Fin 256) : EReal := Cert.Attn.wCtx (A.a b h u) (A.c b h u) l

theorem dLat_at (j : Fin 576) : A.dLat h (ix2 j u) = A.dl b h u j := by
  rw [dLat, pay26_at]; simp only [sLat_at, sCtx_at, gLat_at, gCtx_at]; rfl
theorem dLatB_at (j : Fin 576) : A.dLatB h (ix2 j u) = A.dl b h u j := by
  rw [dLatB, pay27_at]; simp only [sLat_at, sCtx_at, gLat_at, gCtx_at]; rfl
theorem dCtxB_at (l : Fin 256) : A.dCtxB h (ix2 l u) = A.dc b h u l := by
  rw [dCtxB, pay28_at]; simp only [sLat_at, sCtx_at, gLat_at, gCtx_at]; rfl
theorem pLatB_at (j : Fin 576) : A.pLatB h (ix2 j u) = A.pl b h u j := by
  rw [pLatB, pay29_at]; simp only [sLat_at, sCtx_at]; rfl
theorem pCtxB_at (l : Fin 256) : A.pCtxB h (ix2 l u) = A.pc b h u l := by
  rw [pCtxB, pay30_at]; simp only [sLat_at, sCtx_at]; rfl

end Blocks

/-! ## The outputs -/

theorem list8_at : ∀ (n : ℕ) (hn : n ≤ 16) (b : ℕ) (hb : b < n) (z : Fin 1) (u : Fin 128) (d : Fin 64),
    View.canon (A.list8 n hn) (ix3 z ⟨128 * b + u, by omega⟩ d)
      = ∑ j : Fin 576, A.dl b (by omega) u j * A.x2 (ix3 0 ⟨first b + j, by have := first_le b; omega⟩ d)
  | 0, _, b, hb, _, _, _ => absurd hb (Nat.not_lt_zero b)
  | n + 1, hn, b, hb, z, u, d => by
    rw [list8]
    refine (canon_rows (inb_q hn) _ _ z ⟨128 * b + u, by omega⟩ d).trans ?_
    split
    · rename_i h
      obtain rfl : b = n := by have := h.1; simp only at this; omega
      rw [pay56_at]
      have hu : (⟨128 * b + u.val - 128 * b, by omega⟩ : Fin 128) = u := Fin.ext (by simp only; omega)
      simp only [hu, dLatB_at, krows_at]
    · rename_i h
      refine list8_at n _ b ?_ z u d
      simp only at h
      omega

theorem list9_at : ∀ (n : ℕ) (hn : n ≤ 16) (b : ℕ) (hb : b < n) (z : Fin 1) (u : Fin 128) (d : Fin 64),
    View.canon (A.list9 n hn) (ix3 z ⟨128 * b + u, by omega⟩ d) = ∑ l : Fin 256, A.dc b (by omega) u l * A.x4 (ix3 0 l d)
  | 0, _, b, hb, _, _, _ => absurd hb (Nat.not_lt_zero b)
  | n + 1, hn, b, hb, z, u, d => by
    rw [list9]
    refine (canon_rows (inb_q hn) _ _ z ⟨128 * b + u, by omega⟩ d).trans ?_
    split
    · rename_i h
      obtain rfl : b = n := by have := h.1; simp only at this; omega
      rw [pay58_at]
      have hu : (⟨128 * b + u.val - 128 * b, by omega⟩ : Fin 128) = u := Fin.ext (by simp only; omega)
      simp only [hu, dCtxB_at, crows_at]
    · rename_i h
      refine list9_at n _ b ?_ z u d
      simp only at h
      omega

theorem canon_zeros (inb : ∀ a, (![0, 0, 0] : Fin 3 → ℕ) a + S1x2048x64.size a ≤ S1x2048x64.size a) (w : Vec Ideal S1x2048x64 .f32)
    (hw : ∀ y, w y = 0) (y : S1x2048x64.Idx) :
    View.canon [(⟨Rect.unit (s := S1x2048x64) ![0, 0, 0] S1x2048x64.size inb, w⟩ : View.Piece (Elt Ideal) S1x2048x64 .f32)] y = (0 : EReal) := by
  rw [View.canon_cons_unit_lit inb w [] (by decide)]
  exact hw y

theorem list10_at (M : Memref sig .tc .vmem S1x2048x64 .f32) : ∀ (n : ℕ) (hn : n ≤ 16) (z : Fin 1) (r : Fin 2048) (d : Fin 64),
    View.canon (A.list10 M n hn) (ix3 z r d)
      = ∑ b : Fin n, if hr : first b ≤ r.val ∧ r.val < first b + 576 then
          ∑ u : Fin 128, A.dl b (by omega) u ⟨r - first b, by omega⟩ * A.x0 (ix3 0 ⟨128 * b + u, by omega⟩ d) else 0
  | 0, _, z, r, d => by
    rw [list10, Fin.sum_univ_zero]
    exact canon_zeros _ _ pay5_at _
  | n + 1, hn, z, r, d => by
    rw [list10, Fin.sum_univ_castSucc]
    refine (canon_rows (inb_k n) _ _ z r d).trans ?_
    have ih := list10_at M n (Nat.le_of_lt hn)
    split
    · rename_i h
      rw [pay59_at, View.readCov_eq_canon']
      have e1 : (krect n).toLoadRect.idx (ix3 0 ⟨r - first n, by omega⟩ d : S1x576x64.Idx) = (ix3 0 r d : S1x2048x64.Idx) :=
        funext fun a => Fin.ext (by
          match a with
          | ⟨0, _⟩ => show 0 + 1 * 0 = 0; omega
          | ⟨1, _⟩ => show first n + 1 * (r.val - first n) = r.val; omega
          | ⟨2, _⟩ => show 0 + 1 * d.val = d.val; omega)
      refine congrArg₂ (· + ·) ((congrArg _ e1).trans (ih 0 r d)) ?_
      simp only [Fin.val_last, dLatB_at, qrows_at]
      rw [dif_pos h]
    · rename_i h
      simp only [Fin.val_last]
      rw [dif_neg h, add_zero]
      exact ih z r d

theorem list11_at (M : Memref sig .tc .vmem S1x2048x64 .f32) : ∀ (n : ℕ) (hn : n ≤ 16) (z : Fin 1) (r : Fin 2048) (d : Fin 64),
    View.canon (A.list11 M n hn) (ix3 z r d)
      = ∑ b : Fin n, if hr : first b ≤ r.val ∧ r.val < first b + 576 then
          ∑ u : Fin 128, A.pl b (by omega) u ⟨r - first b, by omega⟩ * A.x7 (ix3 0 ⟨128 * b + u, by omega⟩ d) else 0
  | 0, _, z, r, d => by
    rw [list11, Fin.sum_univ_zero]
    exact canon_zeros _ _ pay6_at _
  | n + 1, hn, z, r, d => by
    rw [list11, Fin.sum_univ_castSucc]
    refine (canon_rows (inb_k n) _ _ z r d).trans ?_
    have ih := list11_at M n (Nat.le_of_lt hn)
    split
    · rename_i h
      rw [pay60_at, View.readCov_eq_canon']
      have e1 : (krect n).toLoadRect.idx (ix3 0 ⟨r - first n, by omega⟩ d : S1x576x64.Idx) = (ix3 0 r d : S1x2048x64.Idx) :=
        funext fun a => Fin.ext (by
          match a with
          | ⟨0, _⟩ => show 0 + 1 * 0 = 0; omega
          | ⟨1, _⟩ => show first n + 1 * (r.val - first n) = r.val; omega
          | ⟨2, _⟩ => show 0 + 1 * d.val = d.val; omega)
      refine congrArg₂ (· + ·) ((congrArg _ e1).trans (ih 0 r d)) ?_
      simp only [Fin.val_last, pLatB_at, qrows_at]
      rw [dif_pos h]
    · rename_i h
      simp only [Fin.val_last]
      rw [dif_neg h, add_zero]
      exact ih z r d

theorem acc12_at (l : Fin 256) (d : Fin 64) : ∀ (n : ℕ) (hn : n < 16),
    A.acc12 n hn (ix2 l d) = ∑ b : Fin (n + 1), ∑ u : Fin 128, A.dc b (by omega) u l * A.x1 (ix3 0 ⟨128 * b + u, by omega⟩ d)
  | 0, hn => by
    rw [acc12, pay61_at, Fin.sum_univ_one]
    simp only [dCtxB_at, qrows_at]
    rfl
  | n + 1, hn => by
    rw [acc12, Fin.sum_univ_castSucc]
    refine congrArg₂ (· + ·) (acc12_at l d n (Nat.lt_of_succ_lt hn)) ?_
    rw [pay61_at]
    simp only [dCtxB_at, qrows_at]
    rfl

theorem acc13_at (l : Fin 256) (d : Fin 64) : ∀ (n : ℕ) (hn : n < 16),
    A.acc13 n hn (ix2 l d) = ∑ b : Fin (n + 1), ∑ u : Fin 128, A.pc b (by omega) u l * A.x7 (ix3 0 ⟨128 * b + u, by omega⟩ d)
  | 0, hn => by
    rw [acc13, pay62_at, Fin.sum_univ_one]
    simp only [pCtxB_at, qrows_at]
    rfl
  | n + 1, hn => by
    rw [acc13, Fin.sum_univ_castSucc]
    refine congrArg₂ (· + ·) (acc13_at l d n (Nat.lt_of_succ_lt hn)) ?_
    rw [pay62_at]
    simp only [pCtxB_at, qrows_at]
    rfl

theorem list14_at (M : Memref sig .tc .vmem S1x5x576x128 .f32) : ∀ (n : ℕ) (hn : n ≤ 16) (z : Fin 1) (t : Fin 5) (j : Fin 576) (u : Fin 128),
    View.canon (A.list14 M n hn) (ix4 z t j u) = ∑ b : Fin n, if tile b = t.val then A.dl b (by omega) u j else 0
  | 0, _, z, t, j, u => by
    rw [list14, Fin.sum_univ_zero, View.canon_cons_unit_lit _ _ [] (by decide)]
    exact pay7_at _
  | n + 1, hn, z, t, j, u => by
    rw [list14, Fin.sum_univ_castSucc]
    refine (canon_tile (inb_t hn) _ _ z t j u).trans ?_
    have ih := list14_at M n (Nat.le_of_lt hn)
    simp only [Fin.val_last]
    split
    · rename_i h
      rw [pay55_at, View.readCov_eq_canon']
      have e1 : (trect hn).toLoadRect.idx (ix4 0 0 j u : S1x1x576x128.Idx) = (ix4 0 t j u : S1x5x576x128.Idx) :=
        funext fun a => Fin.ext (by
          match a with
          | ⟨0, _⟩ => show 0 + 1 * 0 = 0; omega
          | ⟨1, _⟩ => show tile n + 1 * 0 = t.val; omega
          | ⟨2, _⟩ => show 0 + 1 * j.val = j.val; omega
          | ⟨3, _⟩ => show 0 + 1 * u.val = u.val; omega)
      exact congrArg₂ (· + ·) ((congrArg _ e1).trans (ih 0 t j u)) (A.dLat_at hn u j)
    · rw [add_zero]
      exact ih z t j u

end In

end Cert.KernelIdeal.Attn

end
-- ==== Proof.Spec.lean ====
/- Neighbourhood attention and its gradients at their coordinates, for one head: what both programs compute, and the same
   gradients summed block by block as the kernel sums them. -/
module

public import proofs.«01_k».proof.Proof.Body

@[expose] public section

noncomputable section

namespace Cert.Attn

open Idealize.ShloMosaic

/-! ## The attention of one head -/

/-- The arguments of one head: rotated queries `Q`, plain queries `P`, keys `K`, values `V`, context keys `C`, context values
    `D`, bias tiles `T`, and the gradient `G` of the head's output. -/
structure Head where
  Q : Fin 2048 → Fin 64 → EReal
  P : Fin 2048 → Fin 64 → EReal
  K : Fin 2048 → Fin 64 → EReal
  V : Fin 2048 → Fin 64 → EReal
  C : Fin 256 → Fin 64 → EReal
  D : Fin 256 → Fin 64 → EReal
  T : Fin 5 → Fin 576 → Fin 128 → EReal
  G : Fin 2048 → Fin 64 → EReal

/-- The first row and the first column of a query's window. -/
def rowStart (q : ℕ) : ℕ := min (q / 64 - 4) 24
def colStart (q : ℕ) : ℕ := min (q % 64 - 8) 48

/-- Key `k` is in the window of query `q`. -/
def win (q k : ℕ) : Prop :=
  (rowStart q ≤ k / 64 ∧ k / 64 < rowStart q + 8) ∧ (colStart q ≤ k % 64 ∧ k % 64 < colStart q + 16)

instance (q k : ℕ) : Decidable (win q k) := by unfold win; infer_instance

/-- The row of the bias tile that key `k` reads for query `q`. -/
def slot (q k : ℕ) : Fin 576 := ⟨min (k - first (q / 128)) 575, by omega⟩

/-- The bias of a query and a key. -/
def Head.bias (H : Head) (q k : Fin 2048) : EReal :=
  H.T ⟨tile (q / 128), tile_lt (by omega)⟩ (slot q k) ⟨q % 128, by omega⟩

/-- The key of a position below 2048, and the context key of one above. -/
def latKey (k : Fin 2048) : Fin 2304 := ⟨k, by omega⟩

def Head.score (H : Head) (q : Fin 2048) (k : Fin 2304) : EReal :=
  if h : k.val < 2048 then
    if win q k then ∑ d, H.Q q d * H.K ⟨k, h⟩ d + H.bias q ⟨k, h⟩ else ⊥
  else ∑ d, H.P q d * H.C ⟨k - 2048, by omega⟩ d

/-- The gradient of a weight. -/
def Head.ct (H : Head) (q : Fin 2048) (k : Fin 2304) : EReal :=
  if h : k.val < 2048 then ∑ d, H.G q d * H.V ⟨k, h⟩ d else ∑ d, H.G q d * H.D ⟨k - 2048, by omega⟩ d

def Head.p (H : Head) (q : Fin 2048) (k : Fin 2304) : EReal := prob (H.score q) k
def Head.ds (H : Head) (q : Fin 2048) (k : Fin 2304) : EReal := dscore (H.score q) (H.ct q) k

/-- The gradients of the seven arguments. -/
def Head.dQ (H : Head) (q : Fin 2048) (d : Fin 64) : EReal := ∑ k, H.ds q (latKey k) * H.K k d
def Head.dP (H : Head) (q : Fin 2048) (d : Fin 64) : EReal := ∑ l, H.ds q (ctx l) * H.C l d
def Head.dK (H : Head) (k : Fin 2048) (d : Fin 64) : EReal := ∑ q, H.ds q (latKey k) * H.Q q d
def Head.dV (H : Head) (k : Fin 2048) (d : Fin 64) : EReal := ∑ q, H.p q (latKey k) * H.G q d
def Head.dC (H : Head) (l : Fin 256) (d : Fin 64) : EReal := ∑ q, H.ds q (ctx l) * H.P q d
def Head.dD (H : Head) (l : Fin 256) (d : Fin 64) : EReal := ∑ q, H.p q (ctx l) * H.G q d
def Head.dT (H : Head) (t : Fin 5) (j : Fin 576) (u : Fin 128) : EReal :=
  ∑ q : Fin 2048, ∑ k : Fin 2048,
    if tile (q / 128) = t ∧ slot q k = j ∧ q.val % 128 = u then H.ds q (latKey k) else 0

/-- The arguments of the scores are real numbers. -/
structure Head.Finite (H : Head) : Prop where
  Q : ∀ q d, ∃ r : ℝ, H.Q q d = r
  P : ∀ q d, ∃ r : ℝ, H.P q d = r
  K : ∀ q d, ∃ r : ℝ, H.K q d = r
  C : ∀ l d, ∃ r : ℝ, H.C l d = r
  T : ∀ t j u, ∃ r : ℝ, H.T t j u = r

theorem dot_real {n : ℕ} {x y : Fin n → EReal} (hx : ∀ d, ∃ r : ℝ, x d = r) (hy : ∀ d, ∃ r : ℝ, y d = r) :
    ∃ r : ℝ, ∑ d, x d * y d = r := by
  choose a ha using hx
  choose b hb using hy
  refine ⟨∑ d, a d * b d, ?_⟩
  rw [coe_sum]
  exact Finset.sum_congr rfl fun d _ => by rw [ha, hb, EReal.coe_mul]

variable {H : Head}

theorem Head.Finite.row (h : H.Finite) (q : Fin 2048) : Row (H.score q) := by
  have hc : ∀ l : Fin 256, ∃ r : ℝ, ∑ d, H.P q d * H.C l d = r := fun l => dot_real (h.P q) (h.C l)
  refine ⟨fun k => ?_, ctx 0, ?_⟩
  · unfold Head.score
    split
    · split
      · rename_i h1 _
        obtain ⟨r, hr⟩ := dot_real (h.Q q) (h.K ⟨k, h1⟩)
        obtain ⟨t, ht⟩ := h.T ⟨tile (q / 128), tile_lt (by omega)⟩ (slot q k) ⟨q % 128, by omega⟩
        rw [Head.bias, hr, ht, ← EReal.coe_add]
        exact EReal.coe_ne_top _
      · exact bot_ne_top
    · obtain ⟨r, hr⟩ := hc ⟨k - 2048, by omega⟩
      rw [hr]
      exact EReal.coe_ne_top _
  · unfold Head.score
    rw [dif_neg (by simp [ctx])]
    obtain ⟨r, hr⟩ := hc ⟨(ctx 0).val - 2048, by simp [ctx]⟩
    rw [hr]
    exact EReal.coe_ne_bot _

/-! ## The window of a query is inside the band of its block -/

theorem band_of_win {b : ℕ} (hb : b < 16) (u : Fin 128) {k : ℕ} (h : win (128 * b + u) k) : first b ≤ k ∧ k < first b + 576 := by
  obtain ⟨⟨h1, h2⟩, -⟩ := h
  unfold rowStart at h1 h2
  unfold first
  have := u.isLt
  constructor <;> omega

theorem score_off {b : ℕ} (hb : b < 16) (u : Fin 128) (k : Fin 2304) (hk : k.val < 2048) (ho : k.val < first b ∨ first b + 576 ≤ k.val) :
    H.score ⟨128 * b + u, by omega⟩ k = ⊥ := by
  unfold Head.score
  rw [dif_pos hk, if_neg]
  intro hw
  have := band_of_win hb u hw
  omega

theorem slot_band {b : ℕ} (u : Fin 128) (j : Fin 576) : slot (128 * b + u) (first b + j) = j := by
  have hq : (128 * b + u.val) / 128 = b := by omega
  apply Fin.ext
  show min (first b + j - first ((128 * b + u.val) / 128)) 575 = j
  rw [hq]; omega

/-! ## The two parts of a row -/

section Parts
variable {s : Fin 2304 → EReal} (hs : Row s) {a : ℕ} (ha : a ≤ 1472)
  (off : ∀ k : Fin 2304, k.val < 2048 → (k.val < a ∨ a + 576 ≤ k.val) → s k = ⊥)
include hs off

theorem top2_eq : top2 (fun j => s (lat a ha j)) (fun l => s (ctx l)) = top s := (top_band a ha s off).symm

omit hs in
theorem inv2_eq : inv2 (fun j => s (lat a ha j)) (fun l => s (ctx l)) = Ideal.div 1 (den s) := by
  unfold inv2 den
  rw [sum_band a ha (ex s) fun k h1 h2 => ex_bot (off k h1 h2), top2, ← top_band a ha s off]
  rfl

theorem wLat_eq (j : Fin 576) : wLat (fun j => s (lat a ha j)) (fun l => s (ctx l)) j = prob s (lat a ha j) := by
  rw [wLat, inv2_eq ha off, top2_eq hs ha off, hs.prob_eq]; rfl

theorem wCtx_eq (l : Fin 256) : wCtx (fun j => s (lat a ha j)) (fun l => s (ctx l)) l = prob s (ctx l) := by
  rw [wCtx, inv2_eq ha off, top2_eq hs ha off, hs.prob_eq]; rfl

theorem mean2_eq (ct : Fin 2304 → EReal) :
    mean2 (fun j => s (lat a ha j)) (fun l => s (ctx l)) (fun j => ct (lat a ha j)) (fun l => ct (ctx l)) = ∑ k, prob s k * ct k := by
  rw [sum_band a ha _ fun k h1 h2 => by rw [hs.prob_bot (off k h1 h2), zero_mul]]
  simp only [mean2, wLat_eq hs ha off, wCtx_eq hs ha off]

theorem gLat_eq (ct : Fin 2304 → EReal) (j : Fin 576) :
    gLat (fun j => s (lat a ha j)) (fun l => s (ctx l)) (fun j => ct (lat a ha j)) (fun l => ct (ctx l)) j = dscore s ct (lat a ha j) := by
  rw [gLat, wLat_eq hs ha off, mean2_eq hs ha off]; rfl

theorem gCtx_eq (ct : Fin 2304 → EReal) (l : Fin 256) :
    gCtx (fun j => s (lat a ha j)) (fun l => s (ctx l)) (fun j => ct (lat a ha j)) (fun l => ct (ctx l)) l = dscore s ct (ctx l) := by
  rw [gCtx, wCtx_eq hs ha off, mean2_eq hs ha off]; rfl

end Parts

/-! ## Sums over the queries, block by block -/

theorem sum_blocks (f : Fin 2048 → EReal) :
    ∑ q, f q = ∑ b : Fin 16, ∑ u : Fin 128, f ⟨128 * b + u, by omega⟩ := by
  rw [← Equiv.sum_comp (finProdFinEquiv (m := 16) (n := 128)) f, Fintype.sum_prod_type]
  refine Finset.sum_congr rfl fun b _ => Finset.sum_congr rfl fun u _ => congrArg f (Fin.ext ?_)
  simp only [finProdFinEquiv_apply_val]
  omega

theorem sum_inside (a : ℕ) (ha : a ≤ 1472) (f : Fin 2048 → EReal)
    (hf : ∀ k : Fin 2048, (k.val < a ∨ a + 576 ≤ k.val) → f k = 0) :
    ∑ k, f k = ∑ j : Fin 576, f ⟨a + j, by omega⟩ := by
  refine (Fintype.sum_of_injective (fun j : Fin 576 => (⟨a + j, by omega⟩ : Fin 2048)) (fun i j h => ?_) _ _ (fun k hk => ?_)
    fun j => rfl).symm
  · have := congrArg Fin.val h
    exact Fin.ext (by simp only at this; omega)
  · refine hf _ ?_
    by_contra hc
    exact hk ⟨⟨k - a, by omega⟩, Fin.ext (by simp only; omega)⟩

/-! ## The gradients, block by block -/

variable (hH : H.Finite)
include hH

theorem ds_off {b : ℕ} (hb : b < 16) (u : Fin 128) (k : Fin 2048) (ho : k.val < first b ∨ first b + 576 ≤ k.val) :
    H.ds ⟨128 * b + u, by omega⟩ (latKey k) = 0 :=
  (hH.row _).dscore_bot _ (score_off hb u (latKey k) k.isLt ho)

theorem p_off {b : ℕ} (hb : b < 16) (u : Fin 128) (k : Fin 2048) (ho : k.val < first b ∨ first b + 576 ≤ k.val) :
    H.p ⟨128 * b + u, by omega⟩ (latKey k) = 0 :=
  (hH.row _).prob_bot (score_off hb u (latKey k) k.isLt ho)

theorem dQ_block {b : ℕ} (hb : b < 16) (u : Fin 128) (d : Fin 64) :
    H.dQ ⟨128 * b + u, by omega⟩ d
      = ∑ j : Fin 576, H.ds ⟨128 * b + u, by omega⟩ (lat (first b) (first_le b) j)
          * H.K ⟨first b + j, by have := first_le b; omega⟩ d :=
  sum_inside (first b) (first_le b) _ fun k hk => by rw [ds_off hH hb u k hk, zero_mul]

theorem dK_block (k : Fin 2048) (d : Fin 64) :
    H.dK k d = ∑ b : Fin 16, if hr : first b ≤ k.val ∧ k.val < first b + 576 then
      ∑ u : Fin 128, H.ds ⟨128 * b + u, by omega⟩ (lat (first b) (first_le b) ⟨k - first b, by omega⟩)
        * H.Q ⟨128 * b + u, by omega⟩ d else 0 := by
  rw [Head.dK, sum_blocks]
  refine Finset.sum_congr rfl fun b _ => ?_
  split
  · refine Finset.sum_congr rfl fun u _ => ?_
    rw [show lat (first b) (first_le b) ⟨k - first b, by omega⟩ = latKey k from Fin.ext (by simp only [lat, latKey]; omega)]
  · exact Finset.sum_eq_zero fun u _ => by rw [ds_off hH b.isLt u k (by omega), zero_mul]

theorem dV_block (k : Fin 2048) (d : Fin 64) :
    H.dV k d = ∑ b : Fin 16, if hr : first b ≤ k.val ∧ k.val < first b + 576 then
      ∑ u : Fin 128, H.p ⟨128 * b + u, by omega⟩ (lat (first b) (first_le b) ⟨k - first b, by omega⟩)
        * H.G ⟨128 * b + u, by omega⟩ d else 0 := by
  rw [Head.dV, sum_blocks]
  refine Finset.sum_congr rfl fun b _ => ?_
  split
  · refine Finset.sum_congr rfl fun u _ => ?_
    rw [show lat (first b) (first_le b) ⟨k - first b, by omega⟩ = latKey k from Fin.ext (by simp only [lat, latKey]; omega)]
  · exact Finset.sum_eq_zero fun u _ => by rw [p_off hH b.isLt u k (by omega), zero_mul]

theorem dT_block (t : Fin 5) (j : Fin 576) (u : Fin 128) :
    H.dT t j u = ∑ b : Fin 16, if tile b = t.val then
      H.ds ⟨128 * b + u, by omega⟩ (lat (first b) (first_le b) j) else 0 := by
  rw [Head.dT, sum_blocks]
  refine Finset.sum_congr rfl fun b _ => ?_
  have hb : ∀ v : Fin 128, (128 * b.val + v.val) / 128 = b := fun v => by omega
  have hv : ∀ v : Fin 128, (128 * b.val + v.val) % 128 = v := fun v => by omega
  simp only [hb, hv]
  rw [Finset.sum_eq_single u]
  · split
    · rename_i ht
      rw [sum_inside (first b) (first_le b)]
      · rw [Finset.sum_eq_single j]
        · rw [if_pos ⟨ht, slot_band u j, rfl⟩]; rfl
        · intro i _ hi
          rw [if_neg]
          rintro ⟨-, h2, -⟩
          exact hi ((slot_band (b := b) u i).symm.trans h2)
        · exact fun h => absurd (Finset.mem_univ _) h
      · intro k hk
        rw [ds_off hH b.isLt u k hk, ite_self]
    · rename_i ht
      exact Finset.sum_eq_zero fun k _ => if_neg fun h => ht h.1
  · intro v _ hv'
    exact Finset.sum_eq_zero fun k _ => if_neg fun h => hv' (Fin.ext h.2.2)
  · exact fun h => absurd (Finset.mem_univ _) h

end Cert.Attn

end
-- ==== Proof.Grads.lean ====
/- The kernel's outputs for one head are that head's gradients. -/
module

public import proofs.«01_k».proof.Proof.Spec

@[expose] public section

set_option maxRecDepth 16384

noncomputable section

namespace Cert.KernelIdeal.Attn

open Cert.KernelIdeal Cert.KernelIdeal.Gen Idealize.ShloMosaic
open Cert.Attn

/-- The first query row and the first key row of a bias tile. -/
def qRow (t : ℕ) : ℕ := if t = 0 then 0 else if t = 1 then 2 else if t = 2 then 4 else if t = 3 then 28 else 30
def kRow (t : ℕ) : ℕ := if t < 3 then 0 else 23

/-- Key `j` of the band of tile `t` is in the window of its query `u`. -/
def inside (t j u : ℕ) : Prop :=
  ((min (qRow t + u / 64 - 4) 24 ≤ kRow t + j / 64 ∧ kRow t + j / 64 < min (qRow t + u / 64 - 4) 24 + 8)
    ∧ min (u % 64 - 8) 48 ≤ j % 64) ∧ j % 64 < min (u % 64 - 8) 48 + 16

instance (t j u : ℕ) : Decidable (inside t j u) := by unfold inside; infer_instance

theorem rows_iff {b : ℕ} (hb : b < 16) {u j : ℕ} (hu : u < 2) (hj : j < 9) :
    (min (qRow (tile b) + u - 4) 24 ≤ kRow (tile b) + j ∧ kRow (tile b) + j < min (qRow (tile b) + u - 4) 24 + 8)
      ↔ (min (2 * b + u - 4) 24 ≤ min (2 * b - 4) 23 + j ∧ min (2 * b - 4) 23 + j < min (2 * b + u - 4) 24 + 8) := by
  interval_cases b <;> simp [tile, qRow, kRow] <;> omega

/-- A tile stands for every block that reads it: the window moves with the block. -/
theorem inside_iff {b : ℕ} (hb : b < 16) (j : Fin 576) (u : Fin 128) :
    inside (tile b) j u ↔ win (128 * b + u) (first b + j) := by
  have hu := u.isLt
  have hj := j.isLt
  have e1 : (128 * b + u.val) / 64 = 2 * b + u.val / 64 := by omega
  have e2 : (128 * b + u.val) % 64 = u.val % 64 := by omega
  have e3 : (first b + j.val) / 64 = min (2 * b - 4) 23 + j.val / 64 := by unfold first; omega
  have e4 : (first b + j.val) % 64 = j.val % 64 := by unfold first; omega
  unfold inside win rowStart colStart
  rw [e1, e2, e3, e4, rows_iff hb (by omega : u.val / 64 < 2) (by omega : j.val / 64 < 9), and_assoc]

/-- The eight input windows hold the arguments of head `H`, its bias tiles masked. -/
structure In.IsHead (A : In Ideal) (H : Head) : Prop where
  Q : ∀ q d, A.x0 (ix3 0 q d) = H.Q q d
  P : ∀ q d, A.x1 (ix3 0 q d) = H.P q d
  K : ∀ q d, A.x2 (ix3 0 q d) = H.K q d
  V : ∀ q d, A.x3 (ix3 0 q d) = H.V q d
  C : ∀ l d, A.x4 (ix3 0 l d) = H.C l d
  D : ∀ l d, A.x5 (ix3 0 l d) = H.D l d
  T : ∀ t j u, A.x6 (ix4 0 t j u) = if inside t.val j.val u.val then H.T t j u else ⊥
  G : ∀ q d, A.x7 (ix3 0 q d) = H.G q d

variable {A : In Ideal} {H : Head} (hA : A.IsHead H)

namespace In.IsHead
include hA

theorem a_eq {b : ℕ} (hb : b < 16) (u : Fin 128) :
    A.a b hb u = fun j => H.score ⟨128 * b + u, by omega⟩ (lat (first b) (first_le b) j) := by
  funext j
  have hf := first_le b
  have hq : (128 * b + u.val) / 128 = b := by omega
  have hm : (128 * b + u.val) % 128 = u := by omega
  unfold In.a Head.score
  rw [dif_pos (show (lat (first b) (first_le b) j).val < 2048 by simp only [lat]; omega)]
  simp only [hA.Q, hA.K, hA.T]
  have e0 : win (128 * b + u) (lat (first b) (first_le b) j).val ↔ inside (tile b) j u := (inside_iff hb j u).symm
  simp only [e0]
  split
  · refine congrArg₂ (· + ·) (Finset.sum_congr rfl fun d _ => mul_comm _ _) ?_
    have key : ∀ (t t' : Fin 5) (i i' : Fin 576) (v v' : Fin 128), t = t' → i = i' → v = v' → H.T t i v = H.T t' i' v' := by
      rintro _ _ _ _ _ _ rfl rfl rfl; rfl
    exact key _ _ _ _ _ _ (Fin.ext (congrArg tile hq).symm) (slot_band u j).symm (Fin.ext hm.symm)
  · exact EReal.add_bot _

theorem c_eq {b : ℕ} (hb : b < 16) (u : Fin 128) :
    A.c b hb u = fun l => H.score ⟨128 * b + u, by omega⟩ (ctx l) := by
  funext l
  unfold In.c Head.score
  rw [dif_neg (show ¬ (ctx l).val < 2048 by simp only [ctx]; omega)]
  simp only [hA.P, hA.C]
  refine Finset.sum_congr rfl fun d _ => (mul_comm _ _).trans (congrArg _ ?_)
  exact congrArg (H.C · d) (Fin.ext (by simp only [ctx]; omega))

theorem g_eq {b : ℕ} (hb : b < 16) (u : Fin 128) :
    A.g b hb u = fun j => H.ct ⟨128 * b + u, by omega⟩ (lat (first b) (first_le b) j) := by
  funext j
  have hf := first_le b
  unfold In.g Head.ct
  rw [dif_pos (show (lat (first b) (first_le b) j).val < 2048 by simp only [lat]; omega)]
  simp only [hA.V, hA.G]
  exact Finset.sum_congr rfl fun d _ => mul_comm _ _

theorem e_eq {b : ℕ} (hb : b < 16) (u : Fin 128) :
    A.e b hb u = fun l => H.ct ⟨128 * b + u, by omega⟩ (ctx l) := by
  funext l
  unfold In.e Head.ct
  rw [dif_neg (show ¬ (ctx l).val < 2048 by simp only [ctx]; omega)]
  simp only [hA.D, hA.G]
  refine Finset.sum_congr rfl fun d _ => (mul_comm _ _).trans (congrArg _ ?_)
  exact congrArg (H.D · d) (Fin.ext (by simp only [ctx]; omega))

variable (hH : H.Finite)
include hH

theorem dl_eq {b : ℕ} (hb : b < 16) (u : Fin 128) (j : Fin 576) :
    A.dl b hb u j = H.ds ⟨128 * b + u, by omega⟩ (lat (first b) (first_le b) j) := by
  rw [In.dl, hA.a_eq, hA.c_eq, hA.g_eq, hA.e_eq]
  exact Cert.Attn.gLat_eq (hH.row _) (first_le b) (score_off hb u) _ j

theorem dc_eq {b : ℕ} (hb : b < 16) (u : Fin 128) (l : Fin 256) :
    A.dc b hb u l = H.ds ⟨128 * b + u, by omega⟩ (ctx l) := by
  rw [In.dc, hA.a_eq, hA.c_eq, hA.g_eq, hA.e_eq]
  exact Cert.Attn.gCtx_eq (hH.row _) (first_le b) (score_off hb u) _ l

theorem pl_eq {b : ℕ} (hb : b < 16) (u : Fin 128) (j : Fin 576) :
    A.pl b hb u j = H.p ⟨128 * b + u, by omega⟩ (lat (first b) (first_le b) j) := by
  rw [In.pl, hA.a_eq, hA.c_eq]
  exact Cert.Attn.wLat_eq (hH.row _) (first_le b) (score_off hb u) j

theorem pc_eq {b : ℕ} (hb : b < 16) (u : Fin 128) (l : Fin 256) :
    A.pc b hb u l = H.p ⟨128 * b + u, by omega⟩ (ctx l) := by
  rw [In.pc, hA.a_eq, hA.c_eq]
  exact Cert.Attn.wCtx_eq (hH.row _) (first_le b) (score_off hb u) l

/-! ## The seven outputs -/

theorem out8 (z : Fin 1) (q : Fin 2048) (d : Fin 64) : View.canon (A.list8 16 le_rfl) (ix3 z q d) = H.dQ q d := by
  have e : q = ⟨128 * (q / 128) + (⟨q % 128, by omega⟩ : Fin 128), by simp only; omega⟩ := Fin.ext (by simp only; omega)
  rw [e, A.list8_at 16 le_rfl _ (by omega), dQ_block hH (by omega)]
  simp only [hA.dl_eq hH, hA.K]

theorem out9 (z : Fin 1) (q : Fin 2048) (d : Fin 64) : View.canon (A.list9 16 le_rfl) (ix3 z q d) = H.dP q d := by
  have e : q = ⟨128 * (q / 128) + (⟨q % 128, by omega⟩ : Fin 128), by simp only; omega⟩ := Fin.ext (by simp only; omega)
  rw [e, A.list9_at 16 le_rfl _ (by omega)]
  simp only [hA.dc_eq hH, hA.C]
  rfl

theorem out10 (M : Memref sig .tc .vmem S1x2048x64 .f32) (z : Fin 1) (k : Fin 2048) (d : Fin 64) :
    View.canon (A.list10 M 16 le_rfl) (ix3 z k d) = H.dK k d := by
  rw [list10_at, dK_block hH]
  simp only [hA.dl_eq hH, hA.Q]

theorem out11 (M : Memref sig .tc .vmem S1x2048x64 .f32) (z : Fin 1) (k : Fin 2048) (d : Fin 64) :
    View.canon (A.list11 M 16 le_rfl) (ix3 z k d) = H.dV k d := by
  rw [list11_at, dV_block hH]
  simp only [hA.pl_eq hH, hA.G]

theorem out12 (l : Fin 256) (d : Fin 64) : A.acc12 15 (by decide) (ix2 l d) = H.dC l d := by
  rw [acc12_at, Head.dC, sum_blocks]
  simp only [hA.dc_eq hH, hA.P]

theorem out13 (l : Fin 256) (d : Fin 64) : A.acc13 15 (by decide) (ix2 l d) = H.dD l d := by
  rw [acc13_at, Head.dD, sum_blocks]
  simp only [hA.pc_eq hH, hA.G]

theorem out14 (M : Memref sig .tc .vmem S1x5x576x128 .f32) (z : Fin 1) (t : Fin 5) (j : Fin 576) (u : Fin 128) :
    View.canon (A.list14 M 16 le_rfl) (ix4 z t j u) = H.dT t j u := by
  rw [list14_at, dT_block hH]
  simp only [hA.dl_eq hH]

end In.IsHead

end Cert.KernelIdeal.Attn

end
-- ==== Proof.Words.lean ====
module

public import proofs.«01_k».proof.Proof.Grads
public import Idealize.ShloMosaic.Lib.WordCmp

/-!
The integer words of both host programs. Every one is an index below 4096, so each word is read as the natural number it
stands for: the flooring quotient and remainder by a positive number, the two-sided clip, and comparisons.
-/

@[expose] public section

set_option maxRecDepth 16384

noncomputable section

namespace Cert.Attn

open Idealize.ShloMosaic Idealize.ShloMosaic.WordCmp

/-- The sign of a word. -/
abbrev signW (x : BitVec 32) : BitVec 32 := if x = 0 then 0 else if x.msb then -1 else 1

/-- The flooring quotient, as the hosts compute it from the truncating one. -/
abbrev floorW (x n : BitVec 32) : BitVec 32 :=
  Scalar.select (IntOp.andi (IntOp.cmpi .ne (signW x) (signW n)) (IntOp.cmpi .ne (IntOp.remsi .host x n) 0#32))
    (IntOp.subi (IntOp.divsi .host x n) 1#32) (IntOp.divsi .host x n)

/-- The divisor of the flooring remainder. -/
abbrev safeW (n : BitVec 32) : BitVec 32 := Scalar.select (IntOp.cmpi .eq n 0#32) 1#32 n

/-- The flooring remainder, as the hosts compute it from the truncating one. -/
abbrev modW (x n : BitVec 32) : BitVec 32 :=
  Scalar.select
    (IntOp.andi
      (IntOp.cmpi .ne (IntOp.cmpi .slt (IntOp.remsi .host x (safeW n)) 0#32) (IntOp.cmpi .slt (safeW n) 0#32))
      (IntOp.cmpi .ne (IntOp.remsi .host x (safeW n)) 0#32))
    (IntOp.addi (IntOp.remsi .host x (safeW n)) (safeW n)) (IntOp.remsi .host x (safeW n))

/-- A word clipped to `lo … hi`. -/
abbrev clipW (hi lo x : BitVec 32) : BitVec 32 := IntOp.minsi hi (IntOp.maxsi lo x)

theorem floor64 {n : ℕ} (h : n < 2048) : floorW (BitVec.ofNat 32 n) 64#32 = BitVec.ofNat 32 (n / 64) :=
  (by decide +kernel : ∀ n : Fin 2048, floorW (BitVec.ofNat 32 n.val) 64#32 = BitVec.ofNat 32 (n.val / 64)) ⟨n, h⟩

theorem floor128 {n : ℕ} (h : n < 2048) : floorW (BitVec.ofNat 32 n) 128#32 = BitVec.ofNat 32 (n / 128) :=
  (by decide +kernel : ∀ n : Fin 2048, floorW (BitVec.ofNat 32 n.val) 128#32 = BitVec.ofNat 32 (n.val / 128)) ⟨n, h⟩

theorem mod64 {n : ℕ} (h : n < 2048) : modW (BitVec.ofNat 32 n) 64#32 = BitVec.ofNat 32 (n % 64) :=
  (by decide +kernel : ∀ n : Fin 2048, modW (BitVec.ofNat 32 n.val) 64#32 = BitVec.ofNat 32 (n.val % 64)) ⟨n, h⟩

theorem mod128 {n : ℕ} (h : n < 2048) : modW (BitVec.ofNat 32 n) 128#32 = BitVec.ofNat 32 (n % 128) :=
  (by decide +kernel : ∀ n : Fin 2048, modW (BitVec.ofNat 32 n.val) 128#32 = BitVec.ofNat 32 (n.val % 128)) ⟨n, h⟩

/-- The first row of the window of row `n`. -/
theorem clip_row {n : ℕ} (h : n < 64) :
    clipW 24#32 0#32 (IntOp.subi (BitVec.ofNat 32 n) 4#32) = BitVec.ofNat 32 (min (n - 4) 24) :=
  (by decide +kernel : ∀ n : Fin 64, clipW 24#32 0#32 (IntOp.subi (BitVec.ofNat 32 n.val) 4#32)
    = BitVec.ofNat 32 (min (n.val - 4) 24)) ⟨n, h⟩

/-- The first column of the window of column `n`. -/
theorem clip_col {n : ℕ} (h : n < 64) :
    clipW 48#32 0#32 (IntOp.subi (BitVec.ofNat 32 n) 8#32) = BitVec.ofNat 32 (min (n - 8) 48) :=
  (by decide +kernel : ∀ n : Fin 64, clipW 48#32 0#32 (IntOp.subi (BitVec.ofNat 32 n.val) 8#32)
    = BitVec.ofNat 32 (min (n.val - 8) 48)) ⟨n, h⟩

/-- The first key of the band of block `b`. -/
theorem first_word {b : ℕ} (h : b < 16) :
    IntOp.muli (clipW 23#32 0#32 (IntOp.subi (IntOp.muli 2#32 (BitVec.ofNat 32 b)) 4#32)) 64#32 = BitVec.ofNat 32 (first b) :=
  (by decide +kernel : ∀ b : Fin 16,
    IntOp.muli (clipW 23#32 0#32 (IntOp.subi (IntOp.muli 2#32 (BitVec.ofNat 32 b.val)) 4#32)) 64#32
      = BitVec.ofNat 32 (first b.val)) ⟨b, h⟩

/-- The bias tile of block `b`. -/
theorem tile_word {b : ℕ} (h : b < 16) :
    Scalar.select (IntOp.cmpi .slt (BitVec.ofNat 32 b) 2#32) (BitVec.ofNat 32 b)
      (Scalar.select (IntOp.cmpi .sgt (BitVec.ofNat 32 b) 13#32) (IntOp.subi (BitVec.ofNat 32 b) 11#32) 2#32)
      = BitVec.ofNat 32 (tile b) :=
  (by decide +kernel : ∀ b : Fin 16,
    Scalar.select (IntOp.cmpi .slt (BitVec.ofNat 32 b.val) 2#32) (BitVec.ofNat 32 b.val)
      (Scalar.select (IntOp.cmpi .sgt (BitVec.ofNat 32 b.val) 13#32) (IntOp.subi (BitVec.ofNat 32 b.val) 11#32) 2#32)
      = BitVec.ofNat 32 (tile b.val)) ⟨b, h⟩

/-- A signed difference of two small words, clipped below at zero and above at 575. -/
theorem clip_slot {k f : ℕ} (hk : k < 2048) (hf : f < 2048) :
    clipW 575#32 0#32 (IntOp.subi (BitVec.ofNat 32 k) (BitVec.ofNat 32 f)) = BitVec.ofNat 32 (min (k - f) 575) := by
  rcases Nat.le_total f k with h | h
  · have e : IntOp.subi (BitVec.ofNat 32 k) (BitVec.ofNat 32 f) = BitVec.ofNat 32 (k - f) := by
      apply BitVec.eq_of_toNat_eq
      simp only [IntOp.subi, BitVec.toNat_sub, BitVec.toNat_ofNat]
      omega
    rw [e]
    exact (by decide +kernel : ∀ n : Fin 2048, clipW 575#32 0#32 (BitVec.ofNat 32 n.val)
      = BitVec.ofNat 32 (min n.val 575)) ⟨k - f, by omega⟩
  · have e : IntOp.subi (BitVec.ofNat 32 k) (BitVec.ofNat 32 f) = -BitVec.ofNat 32 (f - k) := by
      apply BitVec.eq_of_toNat_eq
      simp only [IntOp.subi, BitVec.toNat_sub, BitVec.toNat_neg, BitVec.toNat_ofNat]
      omega
    rw [e, Nat.sub_eq_zero_of_le h]
    exact (by decide +kernel : ∀ n : Fin 2048, clipW 575#32 0#32 (-BitVec.ofNat 32 n.val)
      = BitVec.ofNat 32 (min 0 575)) ⟨f - k, by omega⟩

/-- A comparison of two small words. -/
theorem sge_word {a b : ℕ} (ha : a < 4096) (hb : b < 4096) :
    IntOp.cmpi .sge (BitVec.ofNat 32 a) (BitVec.ofNat 32 b) = BitVec.ofBool (decide (b ≤ a)) :=
  cmpi_sge_ofNat (by omega) (by omega)

theorem slt_word {a b : ℕ} (ha : a < 4096) (hb : b < 4096) :
    IntOp.cmpi .slt (BitVec.ofNat 32 a) (BitVec.ofNat 32 b) = BitVec.ofBool (decide (a < b)) :=
  cmpi_slt_ofNat (by omega) (by omega)

theorem add_word (a b : ℕ) : IntOp.addi (BitVec.ofNat 32 a) (BitVec.ofNat 32 b) = BitVec.ofNat 32 (a + b) :=
  addi_ofNat a b

/-- A word that is not negative is not wrapped around. -/
theorem unwrap {a : ℕ} (ha : a < 4096) (n : BitVec 32) :
    Scalar.select (IntOp.cmpi .slt (BitVec.ofNat 32 a) 0#32) (IntOp.addi (BitVec.ofNat 32 a) n) (BitVec.ofNat 32 a)
      = BitVec.ofNat 32 a := by
  rw [show (0#32) = BitVec.ofNat 32 0 from rfl, slt_word ha (by omega), select_ofBool]
  simp

end Cert.Attn

end
-- ==== Proof.Arrays.lean ====
module

public import proofs.«01_k».proof.Proof.Words
public import proofs.«01_k».proof.Proof.Gen.KernelIdeal.Value
public import Idealize.ShloMosaic.Lib.Pipeline.ValueKit.Point
public import Idealize.ShloMosaic.Lib.Claim

/-!
From the kernel's body to its arrays: at every head the input windows hold that head's arguments and its masked bias tiles,
and the seven output arrays hold the gradients of that head.
-/

@[expose] public section

set_option maxRecDepth 16384

noncomputable section

namespace Cert.KernelIdeal.Attn

open Cert.KernelIdeal Cert.KernelIdeal.Gen Cert.KernelIdeal.Value Idealize.ShloMosaic Idealize.ShloMosaic.TcCoe Idealize.SL.Sem
open Cert.Attn

section Outputs

variable (c : Dev nD) (i : grid0.Coords) (A : In Ideal)
  (arg10 : Memref sig .tc .vmem S1x2048x64 .f32) (harg10 : arg10.IsWhole) (arg11 : Memref sig .tc .vmem S1x2048x64 .f32) (harg11 : arg11.IsWhole)
  (arg12 : Memref sig .tc .vmem S1x2048x64 .f32) (harg12 : arg12.IsWhole) (arg13 : Memref sig .tc .vmem S1x2048x64 .f32) (harg13 : arg13.IsWhole)
  (arg14 : Memref sig .tc .vmem S1x256x64 .f32) (harg14 : arg14.IsWhole) (arg15 : Memref sig .tc .vmem S1x256x64 .f32) (harg15 : arg15.IsWhole)
  (arg16 : Memref sig .tc .vmem S1x5x576x128 .f32) (harg16 : arg16.IsWhole)

theorem stored8 : out0_A_8 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon (A.list8 16 (le_refl _)) :=
  (View.read_writes_junk_eq_canon VO0_8 _).trans
    (congrArg View.canon (found8 c i A arg10 harg10 arg11 harg11 arg12 harg12 arg13 harg13 arg14 harg14 arg15 harg15 arg16 harg16))

theorem stored9 : out0_A_9 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon (A.list9 16 (le_refl _)) :=
  (View.read_writes_junk_eq_canon VO0_9 _).trans
    (congrArg View.canon (found9 c i A arg10 harg10 arg11 harg11 arg12 harg12 arg13 harg13 arg14 harg14 arg15 harg15 arg16 harg16))

theorem stored10 : out0_A_10 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon (A.list10 arg12 16 (le_refl _)) :=
  (View.read_writes_junk_eq_canon VO0_10 _).trans
    (congrArg View.canon (found10 c i A arg10 harg10 arg11 harg11 arg12 harg12 arg13 harg13 arg14 harg14 arg15 harg15 arg16 harg16))

theorem stored11 : out0_A_11 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon (A.list11 arg13 16 (le_refl _)) :=
  (View.read_writes_junk_eq_canon VO0_11 _).trans
    (congrArg View.canon (found11 c i A arg10 harg10 arg11 harg11 arg12 harg12 arg13 harg13 arg14 harg14 arg15 harg15 arg16 harg16))

theorem stored12 : out0_A_12 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon [⟨Rect.unit (s := S1x256x64) ![0, 0, 0] S1x256x64.size inb_S1x256x64_S1x256x64_0_0_0,
        shapeCast S1x256x64 (A.acc12 15 (by decide)) shapeCasts_S256x64_S1x256x64⟩] :=
  (View.read_writes_junk_eq_canon VO0_12 _).trans
    (congrArg View.canon (found12 c i A arg10 harg10 arg11 harg11 arg12 harg12 arg13 harg13 arg14 harg14 arg15 harg15 arg16 harg16))

theorem stored13 : out0_A_13 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon [⟨Rect.unit (s := S1x256x64) ![0, 0, 0] S1x256x64.size inb_S1x256x64_S1x256x64_0_0_0,
        shapeCast S1x256x64 (A.acc13 15 (by decide)) shapeCasts_S256x64_S1x256x64⟩] :=
  (View.read_writes_junk_eq_canon VO0_13 _).trans
    (congrArg View.canon (found13 c i A arg10 harg10 arg11 harg11 arg12 harg12 arg13 harg13 arg14 harg14 arg15 harg15 arg16 harg16))

theorem stored14 : out0_A_14 c i A.m1 A.h1 A.m2 A.h2 A.m3 A.h3 A.m4 A.h4 A.m5 A.h5 A.m6 A.h6 A.m7 A.h7 A.m8 A.h8
      arg10 harg10 arg11 harg11 arg12 harg12 arg13 harg13 arg14 harg14 arg15 harg15 arg16 harg16 A.x0 A.x1 A.x2 A.x3 A.x4 A.x5 A.x6 A.x7
    = View.canon (A.list14 arg16 16 (le_refl _)) :=
  (View.read_writes_junk_eq_canon VO0_14 _).trans
    (congrArg View.canon (found14 c i A arg10 harg10 arg11 harg11 arg12 harg12 arg13 harg13 arg14 harg14 arg15 harg15 arg16 harg16))

end Outputs

variable (m : (ℓ : Loc nD τ sig) → Buf (Elt Ideal) ℓ) (c : Dev nD)

/-- The head of a grid point, and the grid point of a head. -/
def headAt (t : Fin cfg0.N) : Fin 8 := ⟨t.val, t.isLt⟩
def point (h : Fin 8) : Fin cfg0.N := ⟨h.val, h.isLt⟩

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![t.val, 0, 0] :=
  (by decide +kernel : ∀ t : Fin grid0.N, win0_3.index t = ![t.val, 0, 0])
theorem idx4 : ∀ t : Fin cfg0.N, win0_4.index t = ![t.val, 0, 0] :=
  (by decide +kernel : ∀ t : Fin grid0.N, win0_4.index t = ![t.val, 0, 0])
theorem idx5 : ∀ t : Fin cfg0.N, win0_5.index t = ![t.val, 0, 0] :=
  (by decide +kernel : ∀ t : Fin grid0.N, win0_5.index t = ![t.val, 0, 0])
theorem idx6 : ∀ t : Fin cfg0.N, win0_6.index t = ![t.val, 0, 0, 0] :=
  (by decide +kernel : ∀ t : Fin grid0.N, win0_6.index t = ![t.val, 0, 0, 0])
theorem idx7 : ∀ t : Fin cfg0.N, win0_7.index t = ![t.val, 0, 0] :=
  (by decide +kernel : ∀ t : Fin grid0.N, win0_7.index t = ![t.val, 0, 0])
theorem idx8 : ∀ t : Fin cfg0.N, win0_8.index t = ![t.val, 0, 0] :=
  (by decide +kernel : ∀ t : Fin grid0.N, win0_8.index t = ![t.val, 0, 0])
theorem idx9 : ∀ t : Fin cfg0.N, win0_9.index t = ![t.val, 0, 0] :=
  (by decide +kernel : ∀ t : Fin grid0.N, win0_9.index t = ![t.val, 0, 0])
theorem idx10 : ∀ t : Fin cfg0.N, win0_10.index t = ![t.val, 0, 0] :=
  (by decide +kernel : ∀ t : Fin grid0.N, win0_10.index t = ![t.val, 0, 0])
theorem idx11 : ∀ t : Fin cfg0.N, win0_11.index t = ![t.val, 0, 0] :=
  (by decide +kernel : ∀ t : Fin grid0.N, win0_11.index t = ![t.val, 0, 0])
theorem idx12 : ∀ t : Fin cfg0.N, win0_12.index t = ![t.val, 0, 0] :=
  (by decide +kernel : ∀ t : Fin grid0.N, win0_12.index t = ![t.val, 0, 0])
theorem idx13 : ∀ t : Fin cfg0.N, win0_13.index t = ![t.val, 0, 0] :=
  (by decide +kernel : ∀ t : Fin grid0.N, win0_13.index t = ![t.val, 0, 0])
theorem idx14 : ∀ t : Fin cfg0.N, win0_14.index t = ![t.val, 0, 0, 0] :=
  (by decide +kernel : ∀ t : Fin grid0.N, win0_14.index t = ![t.val, 0, 0, 0])

/-- The windows' blocks at a grid point. -/
def inAt (t : Fin cfg0.N) : In Ideal where
  m1 := ms0_0 t
  h1 := hs0_0 t
  m2 := ms0_1 t
  h2 := hs0_1 t
  m3 := ms0_2 t
  h3 := hs0_2 t
  m4 := ms0_3 t
  h4 := hs0_3 t
  m5 := ms0_4 t
  h5 := hs0_4 t
  m6 := ms0_5 t
  h6 := hs0_5 t
  m7 := ms0_6 t
  h7 := hs0_6 t
  m8 := ms0_7 t
  h8 := hs0_7 t
  x0 := iblk m c 0 t
  x1 := iblk m c 1 t
  x2 := iblk m c 2 t
  x3 := iblk m c 3 t
  x4 := iblk m c 4 t
  x5 := iblk m c 5 t
  x6 := iblk m c 6 t
  x7 := iblk m c 7 t

/-- The arguments at a head. -/
def headOf (h : Fin 8) : Head where
  Q q d := m ((c : Thread nD τ).loc main_arg0) (ix3 h q d)
  P q d := m ((c : Thread nD τ).loc main_arg1) (ix3 h q d)
  K q d := m ((c : Thread nD τ).loc main_arg2) (ix3 h q d)
  V q d := m ((c : Thread nD τ).loc main_arg3) (ix3 h q d)
  C l d := m ((c : Thread nD τ).loc main_arg4) (ix3 h l d)
  D l d := m ((c : Thread nD τ).loc main_arg5) (ix3 h l d)
  T t j u := m ((c : Thread nD τ).loc main_arg6) (ix4 h t j u)
  G q d := m ((c : Thread nD τ).loc main_arg7) (ix3 h q d)

theorem negInf' : (constant (F := Ideal) S_ .f32 0xFF800000#32) ix0 = (⊥ : EReal) := negInf

/-- The bit of a bias tile's entry: whether its key is in the window of its query. -/
theorem inside_word (t : Fin 5) (j : Fin 576) (u : Fin 128) (r k : BitVec 32) (hr : r = BitVec.ofNat 32 (qRow t.val))
    (hk : k = BitVec.ofNat 32 (kRow t.val)) :
    IntOp.andi (IntOp.andi (IntOp.andi
      (IntOp.cmpi .sge (IntOp.addi k (floorW (BitVec.ofNat 32 j.val) 64#32))
        (clipW 24#32 0#32 (IntOp.subi (IntOp.addi r (floorW (BitVec.ofNat 32 u.val) 64#32)) 4#32)))
      (IntOp.cmpi .slt (IntOp.addi k (floorW (BitVec.ofNat 32 j.val) 64#32))
        (IntOp.addi (clipW 24#32 0#32 (IntOp.subi (IntOp.addi r (floorW (BitVec.ofNat 32 u.val) 64#32)) 4#32)) 8#32)))
      (IntOp.cmpi .sge (modW (BitVec.ofNat 32 j.val) 64#32)
        (clipW 48#32 0#32 (IntOp.subi (modW (BitVec.ofNat 32 u.val) 64#32) 8#32))))
      (IntOp.cmpi .slt (modW (BitVec.ofNat 32 j.val) 64#32)
        (IntOp.addi (clipW 48#32 0#32 (IntOp.subi (modW (BitVec.ofNat 32 u.val) 64#32) 8#32)) 16#32))
      = BitVec.ofBool (decide (inside t.val j.val u.val)) := by
  have hu := u.isLt
  have hj := j.isLt
  have q1 : qRow t.val ≤ 30 := by fin_cases t <;> decide
  have q2 : kRow t.val ≤ 23 := by fin_cases t <;> decide
  rw [hr, hk, floor64 (by omega : u.val < 2048), floor64 (by omega : j.val < 2048), mod64 (by omega : u.val < 2048),
    mod64 (by omega : j.val < 2048), add_word, add_word, clip_row (by omega), clip_col (by omega), add_word, add_word,
    sge_word (by omega) (by omega), slt_word (by omega) (by omega), sge_word (by omega) (by omega),
    slt_word (by omega) (by omega), WordCmp.andi_ofBool, WordCmp.andi_ofBool, WordCmp.andi_ofBool]
  simp only [← Bool.decide_and]
  exact congrArg BitVec.ofBool (decide_eq_decide.mpr Iff.rfl)

set_option maxHeartbeats 4000000 in
/-- The host's masked bias tiles: minus infinity outside the window. -/
theorem tiles (t : Fin 5) (h : Fin 8) (j : Fin 576) (u : Fin 128) :
    (V m c main_v29 : Vec Ideal S8x5x576x128 .f32) (ix4 h t j u)
      = if inside t.val j.val u.val then (headOf m c h).T t j u else ⊥ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise
  simp only [id_eq, constantI_apply]
  refine (congrArg (fun w => Scalar.select w _ _) (inside_word t j u _ _ ?_ ?_)).trans ?_
  · fin_cases t <;> rfl
  · fin_cases t <;> rfl
  · rw [WordCmp.select_ofBool, negInf']
    simp only [decide_eq_true_eq]
    rfl

theorem canon_whole (x : Vec Ideal S256x64 .f32) (l : Fin 256) (d : Fin 64) :
    View.canon [⟨Rect.unit (s := S1x256x64) ![0, 0, 0] S1x256x64.size inb_S1x256x64_S1x256x64_0_0_0,
      shapeCast S1x256x64 x shapeCasts_S256x64_S1x256x64⟩] (ix3 0 l d) = x (ix2 l d) := by
  rw [View.canon_cons_unit_lit _ _ _ (by decide)]
  pointwise

set_option maxHeartbeats 1000000 in
theorem block0 (t : Fin cfg0.N) (q : Fin 2048) (d : Fin 64) :
    (iblk m c 0 t) (ix3 0 q d) = m ((c : Thread nD τ).loc main_arg0) (ix3 (headAt t) q d) := by
  refine Eq.trans ?_ (congrFun (V_main_arg0 m c) (ix3 (headAt t) q d))
  blk_ext [iblk, idx0 t]
  rfl

set_option maxHeartbeats 1000000 in
theorem block1 (t : Fin cfg0.N) (q : Fin 2048) (d : Fin 64) :
    (iblk m c 1 t) (ix3 0 q d) = m ((c : Thread nD τ).loc main_arg1) (ix3 (headAt t) q d) := by
  refine Eq.trans ?_ (congrFun (V_main_arg1 m c) (ix3 (headAt t) q d))
  blk_ext [iblk, idx1 t]
  rfl

set_option maxHeartbeats 1000000 in
theorem block2 (t : Fin cfg0.N) (q : Fin 2048) (d : Fin 64) :
    (iblk m c 2 t) (ix3 0 q d) = m ((c : Thread nD τ).loc main_arg2) (ix3 (headAt t) q d) := by
  refine Eq.trans ?_ (congrFun (V_main_arg2 m c) (ix3 (headAt t) q d))
  blk_ext [iblk, idx2 t]
  rfl

set_option maxHeartbeats 1000000 in
theorem block3 (t : Fin cfg0.N) (q : Fin 2048) (d : Fin 64) :
    (iblk m c 3 t) (ix3 0 q d) = m ((c : Thread nD τ).loc main_arg3) (ix3 (headAt t) q d) := by
  refine Eq.trans ?_ (congrFun (V_main_arg3 m c) (ix3 (headAt t) q d))
  blk_ext [iblk, idx3 t]
  rfl

set_option maxHeartbeats 1000000 in
theorem block4 (t : Fin cfg0.N) (l : Fin 256) (d : Fin 64) :
    (iblk m c 4 t) (ix3 0 l d) = m ((c : Thread nD τ).loc main_arg4) (ix3 (headAt t) l d) := by
  refine Eq.trans ?_ (congrFun (V_main_arg4 m c) (ix3 (headAt t) l d))
  blk_ext [iblk, idx4 t]
  rfl

set_option maxHeartbeats 1000000 in
theorem block5 (t : Fin cfg0.N) (l : Fin 256) (d : Fin 64) :
    (iblk m c 5 t) (ix3 0 l d) = m ((c : Thread nD τ).loc main_arg5) (ix3 (headAt t) l d) := by
  refine Eq.trans ?_ (congrFun (V_main_arg5 m c) (ix3 (headAt t) l d))
  blk_ext [iblk, idx5 t]
  rfl

set_option maxHeartbeats 1000000 in
theorem block7 (t : Fin cfg0.N) (q : Fin 2048) (d : Fin 64) :
    (iblk m c 7 t) (ix3 0 q d) = m ((c : Thread nD τ).loc main_arg7) (ix3 (headAt t) q d) := by
  refine Eq.trans ?_ (congrFun (V_main_arg7 m c) (ix3 (headAt t) q d))
  blk_ext [iblk, idx7 t]
  rfl

set_option maxHeartbeats 1000000 in
theorem block6 (t : Fin cfg0.N) (s : Fin 5) (j : Fin 576) (u : Fin 128) :
    (iblk m c 6 t) (ix4 0 s j u) = if inside s.val j.val u.val then (headOf m c (headAt t)).T s j u else ⊥ := by
  refine Eq.trans ?_ (tiles m c s (headAt t) j u)
  blk_ext [iblk, idx6 t]
  rfl

set_option maxHeartbeats 4000000 in
/-- The windows of a grid point hold the arguments of its head. -/
theorem isHead (t : Fin cfg0.N) : (inAt m c t).IsHead (headOf m c (headAt t)) :=
  ⟨block0 m c t, block1 m c t, block2 m c t, block3 m c t, block4 m c t, block5 m c t, block6 m c t, block7 m c t⟩

variable (h : Fin 8) (hH : (headOf m c h).Finite)
include hH

set_option maxHeartbeats 4000000 in
theorem arr8 (q : Fin 2048) (d : Fin 64) : ((dats m 0 c).arrAt 8 cfg0.N : Vec Ideal S8x2048x64 .f32) (ix3 h q d) = (headOf m c h).dQ q d := by
  refine Eq.trans ?_ ((congrFun (blocks8 m c (point h) (flush0_8 (point h))) (ix3 0 q d)).trans
    ((congrFun (flushed8_A m c (point h)) _).trans ((congrFun (stored8 c _ (inAt m c (point h)) _ _ _ _ _ _ _ _ _ _ _ _ _ _) (ix3 0 q d)).trans
      ((isHead m c (point h)).out8 hH 0 q d))))
  refine congrArg ((dats m 0 c).arrAt 8 cfg0.N) ?_
  blk_ext [idx8 (point h)]
  rfl

set_option maxHeartbeats 4000000 in
theorem arr9 (q : Fin 2048) (d : Fin 64) : ((dats m 0 c).arrAt 9 cfg0.N : Vec Ideal S8x2048x64 .f32) (ix3 h q d) = (headOf m c h).dP q d := by
  refine Eq.trans ?_ ((congrFun (blocks9 m c (point h) (flush0_9 (point h))) (ix3 0 q d)).trans
    ((congrFun (flushed9_A m c (point h)) _).trans ((congrFun (stored9 c _ (inAt m c (point h)) _ _ _ _ _ _ _ _ _ _ _ _ _ _) (ix3 0 q d)).trans
      ((isHead m c (point h)).out9 hH 0 q d))))
  refine congrArg ((dats m 0 c).arrAt 9 cfg0.N) ?_
  blk_ext [idx9 (point h)]
  rfl

set_option maxHeartbeats 4000000 in
theorem arr10 (q : Fin 2048) (d : Fin 64) : ((dats m 0 c).arrAt 10 cfg0.N : Vec Ideal S8x2048x64 .f32) (ix3 h q d) = (headOf m c h).dK q d := by
  refine Eq.trans ?_ ((congrFun (blocks10 m c (point h) (flush0_10 (point h))) (ix3 0 q d)).trans
    ((congrFun (flushed10_A m c (point h)) _).trans ((congrFun (stored10 c _ (inAt m c (point h)) _ _ _ _ _ _ _ _ _ _ _ _ _ _) (ix3 0 q d)).trans
      ((isHead m c (point h)).out10 hH _ 0 q d))))
  refine congrArg ((dats m 0 c).arrAt 10 cfg0.N) ?_
  blk_ext [idx10 (point h)]
  rfl

set_option maxHeartbeats 4000000 in
theorem arr11 (q : Fin 2048) (d : Fin 64) : ((dats m 0 c).arrAt 11 cfg0.N : Vec Ideal S8x2048x64 .f32) (ix3 h q d) = (headOf m c h).dV q d := by
  refine Eq.trans ?_ ((congrFun (blocks11 m c (point h) (flush0_11 (point h))) (ix3 0 q d)).trans
    ((congrFun (flushed11_A m c (point h)) _).trans ((congrFun (stored11 c _ (inAt m c (point h)) _ _ _ _ _ _ _ _ _ _ _ _ _ _) (ix3 0 q d)).trans
      ((isHead m c (point h)).out11 hH _ 0 q d))))
  refine congrArg ((dats m 0 c).arrAt 11 cfg0.N) ?_
  blk_ext [idx11 (point h)]
  rfl

set_option maxHeartbeats 4000000 in
theorem arr12 (l : Fin 256) (d : Fin 64) : ((dats m 0 c).arrAt 12 cfg0.N : Vec Ideal S8x256x64 .f32) (ix3 h l d) = (headOf m c h).dC l d := by
  refine Eq.trans ?_ ((congrFun (blocks12 m c (point h) (flush0_12 (point h))) (ix3 0 l d)).trans
    ((congrFun (flushed12_A m c (point h)) _).trans ((congrFun (stored12 c _ (inAt m c (point h)) _ _ _ _ _ _ _ _ _ _ _ _ _ _) (ix3 0 l d)).trans
      ((canon_whole _ l d).trans ((isHead m c (point h)).out12 hH l d)))))
  refine congrArg ((dats m 0 c).arrAt 12 cfg0.N) ?_
  blk_ext [idx12 (point h)]
  rfl

set_option maxHeartbeats 4000000 in
theorem arr13 (l : Fin 256) (d : Fin 64) : ((dats m 0 c).arrAt 13 cfg0.N : Vec Ideal S8x256x64 .f32) (ix3 h l d) = (headOf m c h).dD l d := by
  refine Eq.trans ?_ ((congrFun (blocks13 m c (point h) (flush0_13 (point h))) (ix3 0 l d)).trans
    ((congrFun (flushed13_A m c (point h)) _).trans ((congrFun (stored13 c _ (inAt m c (point h)) _ _ _ _ _ _ _ _ _ _ _ _ _ _) (ix3 0 l d)).trans
      ((canon_whole _ l d).trans ((isHead m c (point h)).out13 hH l d)))))
  refine congrArg ((dats m 0 c).arrAt 13 cfg0.N) ?_
  blk_ext [idx13 (point h)]
  rfl

set_option maxHeartbeats 4000000 in
theorem arr14 (t : Fin 5) (j : Fin 576) (u : Fin 128) : ((dats m 0 c).arrAt 14 cfg0.N : Vec Ideal S8x5x576x128 .f32) (ix4 h t j u) = (headOf m c h).dT t j u := by
  refine Eq.trans ?_ ((congrFun (blocks14 m c (point h) (flush0_14 (point h))) (ix4 0 t j u)).trans
    ((congrFun (flushed14_A m c (point h)) _).trans ((congrFun (stored14 c _ (inAt m c (point h)) _ _ _ _ _ _ _ _ _ _ _ _ _ _) (ix4 0 t j u)).trans
      ((isHead m c (point h)).out14 hH _ 0 t j u))))
  refine congrArg ((dats m 0 c).arrAt 14 cfg0.N) ?_
  blk_ext [idx14 (point h)]
  rfl

end Cert.KernelIdeal.Attn

end
-- ==== Proof.RefWords.lean ====
module

public import proofs.«01_k».proof.Proof.Words
public import proofs.«01_k».proof.Proof.Gen.ReferenceIdeal.Read

/-!
The integer arrays of the reference: the window mask of its scores, and the entry of the bias tiles that each score reads.
-/

@[expose] public section

set_option maxRecDepth 16384

noncomputable section

namespace Cert.ReferenceIdeal.Attn

open Cert.ReferenceIdeal Cert.ReferenceIdeal.Gen Cert.ReferenceIdeal.Read Idealize.ShloMosaic
open Cert.Attn

local notation "𝔼" => Idealize.ShloMosaic.Ideal

theorem row_word (q : Fin 2048) : val_main_v7 (F := 𝔼) (ix1 q) = BitVec.ofNat 32 (q.val / 64) := floor64 q.isLt
theorem col_word (q : Fin 2048) : val_main_v8 (F := 𝔼) (ix1 q) = BitVec.ofNat 32 (q.val % 64) := mod64 q.isLt
theorem block_word (q : Fin 2048) : val_main_v41 (F := 𝔼) (ix1 q) = BitVec.ofNat 32 (q.val / 128) := floor128 q.isLt
theorem place_word (q : Fin 2048) : val_main_v64 (F := 𝔼) (ix1 q) = BitVec.ofNat 32 (q.val % 128) := mod128 q.isLt

theorem rowStart_word (q : Fin 2048) : val_main_v11 (F := 𝔼) (ix1 q) = BitVec.ofNat 32 (rowStart q.val) := by
  refine (show _ = clipW 24#32 0#32 (IntOp.subi (val_main_v7 (F := 𝔼) (ix1 q)) 4#32) from rfl).trans ?_
  rw [row_word, clip_row (by omega), rowStart]

theorem colStart_word (q : Fin 2048) : val_main_v14 (F := 𝔼) (ix1 q) = BitVec.ofNat 32 (colStart q.val) := by
  refine (show _ = clipW 48#32 0#32 (IntOp.subi (val_main_v8 (F := 𝔼) (ix1 q)) 8#32) from rfl).trans ?_
  rw [col_word, clip_col (by omega), colStart]

theorem firstKey_word (q : Fin 2048) : val_main_v48 (F := 𝔼) (ix1 q) = BitVec.ofNat 32 (first (q.val / 128)) := by
  refine (show _ = IntOp.muli (clipW 23#32 0#32 (IntOp.subi (IntOp.muli 2#32 (val_main_v41 (F := 𝔼) (ix1 q))) 4#32)) 64#32
    from rfl).trans ?_
  rw [block_word, first_word (by omega)]

theorem tileOf_word (q : Fin 2048) : val_main_v56 (F := 𝔼) (ix1 q) = BitVec.ofNat 32 (tile (q.val / 128)) := by
  refine (show _ = Scalar.select (IntOp.cmpi .slt (val_main_v41 (F := 𝔼) (ix1 q)) 2#32) (val_main_v41 (F := 𝔼) (ix1 q))
      (Scalar.select (IntOp.cmpi .sgt (val_main_v41 (F := 𝔼) (ix1 q)) 13#32)
        (IntOp.subi (val_main_v41 (F := 𝔼) (ix1 q)) 11#32) 2#32) from rfl).trans ?_
  rw [block_word, tile_word (by omega)]

theorem win_word (q k : Fin 2048) : val_main_v90 (F := 𝔼) (ix2 q k) = BitVec.ofBool (decide (win q.val k.val)) := by
  refine (show _ = IntOp.andi
      (IntOp.andi (IntOp.cmpi .sge (val_main_v7 (F := 𝔼) (ix1 k)) (val_main_v11 (F := 𝔼) (ix1 q)))
        (IntOp.cmpi .slt (val_main_v7 (F := 𝔼) (ix1 k)) (IntOp.addi (val_main_v11 (F := 𝔼) (ix1 q)) 8#32)))
      (IntOp.andi (IntOp.cmpi .sge (val_main_v8 (F := 𝔼) (ix1 k)) (val_main_v14 (F := 𝔼) (ix1 q)))
        (IntOp.cmpi .slt (val_main_v8 (F := 𝔼) (ix1 k)) (IntOp.addi (val_main_v14 (F := 𝔼) (ix1 q)) 16#32))) from by
    pointwise [val_main_v90, val_main_v40, val_main_v27, val_main_v19, val_main_v26, val_main_v32, val_main_v39,
      val_main_v17, val_main_v18, val_main_v15, val_main_v16, val_main_v24, val_main_v25, val_main_v23, val_main_v20, val_main_v21, val_main_v22,
      val_main_v30, val_main_v31, val_main_v28, val_main_v29, val_main_v37, val_main_v38, val_main_v36, val_main_v33, val_main_v34, val_main_v35,
      val_main_c_7, val_main_c_8]).trans ?_
  have hr : rowStart q.val ≤ 24 := by unfold rowStart; omega
  have hc : colStart q.val ≤ 48 := by unfold colStart; omega
  have hk := k.isLt
  rw [row_word, col_word, rowStart_word, colStart_word, add_word, add_word, sge_word (by omega) (by omega),
    slt_word (by omega) (by omega), sge_word (by omega) (by omega), slt_word (by omega) (by omega),
    WordCmp.andi_ofBool, WordCmp.andi_ofBool, WordCmp.andi_ofBool]
  simp only [← Bool.decide_and]
  exact congrArg BitVec.ofBool (decide_eq_decide.mpr Iff.rfl)

theorem slot_word (q k : Fin 2048) : val_main_v62 (F := 𝔼) (ix2 q k) = BitVec.ofNat 32 (slot q k).val := by
  refine (show _ = clipW 575#32 0#32 (IntOp.subi (BitVec.ofNat 32 k.val) (val_main_v48 (F := 𝔼) (ix1 q))) from by
    pointwise [val_main_v62, val_main_call8_v4, val_main_call8_v3, val_main_c_20, val_main_call8_v2, val_main_call8_v1,
      val_main_call8_v0, val_main_c_19, val_main_v61, val_main_v59, val_main_v60, val_main_v57, val_main_v58, val_main_v6]
    rfl).trans ?_
  have hf : first (q.val / 128) ≤ 1472 := first_le _
  rw [firstKey_word, clip_slot k.isLt (by omega)]
  rfl

/-- The three coordinates of the entry of the bias tiles that the score of query `q` and key `k` reads. -/
theorem entry_word0 (q k : Fin 2048) : val_main_v83 (F := 𝔼) (ix3 q k 0) = BitVec.ofNat 32 (tile (q.val / 128)) := by
  refine (show _ = Scalar.select (IntOp.cmpi .slt (val_main_v56 (F := 𝔼) (ix1 q)) 0#32)
    (IntOp.addi (val_main_v56 (F := 𝔼) (ix1 q)) 5#32) (val_main_v56 (F := 𝔼) (ix1 q)) from by
      pointwise [val_main_v83, val_main_v81, val_main_v70, val_main_v67, val_main_v69, val_main_v63, val_main_v66, val_main_v68, val_main_c_22, val_main_c_23]).trans ?_
  have := tile_lt (b := q.val / 128) (by omega)
  rw [tileOf_word, unwrap (by omega)]

theorem entry_word1 (q k : Fin 2048) : val_main_v84 (F := 𝔼) (ix3 q k 0) = BitVec.ofNat 32 (slot q k).val := by
  refine (show _ = Scalar.select (IntOp.cmpi .slt (val_main_v62 (F := 𝔼) (ix2 q k)) 0#32)
    (IntOp.addi (val_main_v62 (F := 𝔼) (ix2 q k)) 576#32) (val_main_v62 (F := 𝔼) (ix2 q k)) from by
      pointwise [val_main_v84, val_main_v75, val_main_v72, val_main_v74, val_main_v71, val_main_v73, val_main_c_24, val_main_c_25]).trans ?_
  have := (slot q k).isLt
  rw [slot_word, unwrap (by omega)]

theorem entry_word2 (q k : Fin 2048) : val_main_v85 (F := 𝔼) (ix3 q k 0) = BitVec.ofNat 32 (q.val % 128) := by
  refine (show _ = Scalar.select (IntOp.cmpi .slt (val_main_v64 (F := 𝔼) (ix1 q)) 0#32)
    (IntOp.addi (val_main_v64 (F := 𝔼) (ix1 q)) 128#32) (val_main_v64 (F := 𝔼) (ix1 q)) from by
      pointwise [val_main_v85, val_main_v82, val_main_v80, val_main_v77, val_main_v79, val_main_v65, val_main_v76, val_main_v78, val_main_c_26, val_main_c_27]).trans ?_
  rw [place_word, unwrap (by omega)]

end Cert.ReferenceIdeal.Attn

end
-- ==== Proof.RefIndex.lean ====
/- Where the reference's table reading takes an entry from, and where its table sum puts one. -/
module

public import proofs.«01_k».proof.Proof.RefWords
public import Idealize.ShloMosaic.Lib.Routing.OpsPair
public import Idealize.ShloMosaic.Lib.Pointwise

@[expose] public section

set_option maxRecDepth 16384

noncomputable section

namespace Cert.ReferenceIdeal.Attn

open Idealize.ShloMosaic Cert.ReferenceIdeal Cert.ReferenceIdeal.Facts₀ Cert.ReferenceIdeal.Read Cert.Attn

local notation "𝔼" => Idealize.ShloMosaic.Ideal

abbrev take := gather_S8x5x576x128_S2048x2048x3_S8x2048x2048_0_123_n_n_123_2_8111
abbrev put := scatter_S8x5x576x128_S2048x2048x3_S8x2048x2048_0_123_123_2

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

theorem take_start (idx : IVec S2048x2048x3 32) (h : Fin 8) (q k : Fin 2048) (a : Fin 3) (n : ℕ) (hn : n < 2 ^ 31)
    (e : idx (ix3 q k a) = BitVec.ofNat 32 n) (b : Fin 4) (hb : b = a.succ) :
    take.start (ix3 h q k) idx b = min n (S8x5x576x128.size b - 1) := by
  subst hb
  have hm : ∀ a : Fin 3, a.succ ∈ take.startIndexMap := by decide
  unfold GatherDims.start
  rw [dif_pos (hm a)]
  have hs : take.siIdx (ix3 h q k) ⟨List.idxOf a.succ take.startIndexMap, List.idxOf_lt_length_iff.2 (hm a)⟩ = ix3 q k a := by
    funext c
    apply Fin.ext
    fin_cases c
    · rfl
    · rfl
    · fin_cases a <;> rfl
  have hz : ∀ a : Fin 3, take.sliceSizes a.succ = 1 := by decide
  rw [hs, e, toInt_ofNat hn, hz]
  rfl

theorem take_entry {α : Type} (x : S8x5x576x128.Idx → α) (idx : IVec S2048x2048x3 32) (h : Fin 8) (q k : Fin 2048)
    (t : Fin 5) (j : Fin 576) (u : Fin 128) (e0 : idx (ix3 q k 0) = BitVec.ofNat 32 t) (e1 : idx (ix3 q k 1) = BitVec.ofNat 32 j)
    (e2 : idx (ix3 q k 2) = BitVec.ofNat 32 u) : Host.gather take x idx (ix3 h q k) = x (ix4 h t j u) := by
  unfold Host.gather
  congr 1
  funext b
  apply Fin.ext
  show take.start (ix3 h q k) idx b + take.batchCoord (ix3 h q k) b + take.offCoord (ix3 h q k) b = _
  rw [GatherDims.batchCoord_eq_zero _ _ _ List.not_mem_nil, add_zero]
  have hz : ∀ a : Fin 3, a.succ ∉ take.sKept := by decide
  match b with
  | 0 =>
    have h0 : take.start (ix3 h q k) idx 0 = 0 := by
      unfold GatherDims.start; exact dif_neg (by decide)
    rw [h0, zero_add]; rfl
  | 1 =>
    rw [take_start idx h q k 0 t (by omega) e0 1 rfl, GatherDims.offCoord_eq_zero _ _ _ (show (1 : Fin 4) ∉ take.sKept from hz 0)]
    exact min_eq_left (show (t : ℕ) ≤ 5 - 1 by omega)
  | 2 =>
    rw [take_start idx h q k 1 j (by omega) e1 2 rfl, GatherDims.offCoord_eq_zero _ _ _ (show (2 : Fin 4) ∉ take.sKept from hz 1)]
    exact min_eq_left (show (j : ℕ) ≤ 576 - 1 by omega)
  | 3 =>
    rw [take_start idx h q k 2 u (by omega) e2 3 rfl, GatherDims.offCoord_eq_zero _ _ _ (show (3 : Fin 4) ∉ take.sKept from hz 2)]
    exact min_eq_left (show (u : ℕ) ≤ 128 - 1 by omega)

theorem put_start (idx : IVec S2048x2048x3 32) (h : Fin 8) (q k : Fin 2048) (a : Fin 3) (n : ℕ) (hn : n < 2 ^ 31)
    (e : idx (ix3 q k a) = BitVec.ofNat 32 n) (b : Fin 4) (hb : b = a.succ) :
    put.start (ix3 h q k) idx b + put.window (ix3 h q k) b = n := by
  subst hb
  have hm : ∀ a : Fin 3, a.succ ∈ put.scatterDimsToOperandDims := by decide
  have hz : ∀ a : Fin 3, a.succ ∉ put.sKept := by decide
  unfold ScatterDims.start ScatterDims.window
  rw [dif_pos (hm a), dif_neg (hz a)]
  have hs : put.siIdx (ix3 h q k) ⟨List.idxOf a.succ put.scatterDimsToOperandDims, List.idxOf_lt_length_iff.2 (hm a)⟩ = ix3 q k a := by
    funext c
    apply Fin.ext
    fin_cases c
    · rfl
    · rfl
    · fin_cases a <;> rfl
  rw [hs, e, toInt_ofNat hn]
  simp

theorem put_lands (idx : IVec S2048x2048x3 32) (h : Fin 8) (q k : Fin 2048)
    (t : Fin 5) (j : Fin 576) (u : Fin 128) (e0 : idx (ix3 q k 0) = BitVec.ofNat 32 t) (e1 : idx (ix3 q k 1) = BitVec.ofNat 32 j)
    (e2 : idx (ix3 q k 2) = BitVec.ofNat 32 u) (h' : Fin 8) (t' : Fin 5) (j' : Fin 576) (u' : Fin 128) :
    put.resultIdx? (ix3 h q k) idx = some (ix4 h' t' j' u') ↔ h = h' ∧ t = t' ∧ j = j' ∧ u = u' := by
  rw [Routing.resultIdx?_eq_some]
  have h0 : put.start (ix3 h q k) idx 0 + put.window (ix3 h q k) 0 = h := by
    have : put.start (ix3 h q k) idx 0 = 0 := by
      unfold ScatterDims.start; exact dif_neg (by decide)
    rw [this, zero_add]; rfl
  have h1 := put_start idx h q k 0 t (by omega) e0 1 rfl
  have h2 := put_start idx h q k 1 j (by omega) e1 2 rfl
  have h3 := put_start idx h q k 2 u (by omega) e2 3 rfl
  constructor
  · intro c
    have c0 : (h : ℤ) = h' := h0.symm.trans (c 0)
    have c1 : (t : ℤ) = t' := h1.symm.trans (c 1)
    have c2 : (j : ℤ) = j' := h2.symm.trans (c 2)
    have c3 : (u : ℤ) = u' := h3.symm.trans (c 3)
    refine ⟨Fin.ext ?_, Fin.ext ?_, Fin.ext ?_, Fin.ext ?_⟩ <;> omega
  · rintro ⟨rfl, rfl, rfl, rfl⟩ a
    match a with
    | 0 => exact h0
    | 1 => exact h1
    | 2 => exact h2
    | 3 => exact h3

/-! ## The three words of an entry -/

theorem words0 (q k : Fin 2048) : val_main_v86 (F := 𝔼) (ix3 q k 0) = val_main_v83 (F := 𝔼) (ix3 q k 0) := by
  pointwise [val_main_v86]
theorem words1 (q k : Fin 2048) : val_main_v86 (F := 𝔼) (ix3 q k 1) = val_main_v84 (F := 𝔼) (ix3 q k 0) := by
  pointwise [val_main_v86]
theorem words2 (q k : Fin 2048) : val_main_v86 (F := 𝔼) (ix3 q k 2) = val_main_v85 (F := 𝔼) (ix3 q k 0) := by
  pointwise [val_main_v86]

end Cert.ReferenceIdeal.Attn
-- ==== Proof.RefValues.lean ====
/- The reference's arrays at their coordinates. -/
module

public import proofs.«01_k».proof.Proof.RefIndex
public import proofs.«01_k».proof.Proof.Spec

@[expose] public section

set_option maxRecDepth 16384

noncomputable section

namespace Cert.ReferenceIdeal.Attn

open Idealize.ShloMosaic Cert.ReferenceIdeal Cert.ReferenceIdeal.Facts₀ Cert.ReferenceIdeal.Read Cert.Attn

local notation "𝔼" => Idealize.ShloMosaic.Ideal

abbrev Rows := (⟨S8x2048x64, .bf16⟩ : BufTy).Contents (Elt 𝔼)
abbrev Ctxs := (⟨S8x256x64, .bf16⟩ : BufTy).Contents (Elt 𝔼)
abbrev Tiles := (⟨S8x5x576x128, .f32⟩ : BufTy).Contents (Elt 𝔼)

/-- One head of the arguments. -/
def headAt (x0 x1 x2 x3 : Rows) (x4 x5 : Ctxs) (x6 : Tiles) (x7 : Rows) (h : Fin 8) : Head where
  Q q d := x0 (ix3 h q d)
  P q d := x1 (ix3 h q d)
  K q d := x2 (ix3 h q d)
  V q d := x3 (ix3 h q d)
  C q d := x4 (ix3 h q d)
  D q d := x5 (ix3 h q d)
  T t j u := x6 (ix4 h t j u)
  G q d := x7 (ix3 h q d)

theorem negInf : Ideal.ofBits .f32 0xFF800000#32 = ⊥ := by
  simp [Ideal.ofBits, Ideal.ieee]

variable (x0 x1 x2 x3 : Rows) (x4 x5 : Ctxs) (x6 : Tiles) (x7 : Rows) (h : Fin 8)

local notation "H" => headAt x0 x1 x2 x3 x4 x5 x6 x7 h

theorem v87_at (q k : Fin 2048) : val_main_v87 (F := 𝔼) x6 (ix3 h q k) = (H).bias q k :=
  take_entry x6 _ h q k ⟨tile (q / 128), tile_lt (by omega)⟩ (slot q k) ⟨q % 128, by omega⟩
    ((words0 q k).trans (entry_word0 q k)) ((words1 q k).trans (entry_word1 q k)) ((words2 q k).trans (entry_word2 q k))

theorem v91_at (q k : Fin 2048) : val_main_v91_1 (F := 𝔼) (ix3 h q k) = BitVec.ofBool (decide (win q k)) :=
  (show _ = val_main_v90 (F := 𝔼) (ix2 q k) from by pointwise [val_main_v91_1]).trans (win_word q k)

theorem v91_0_at (q k : Fin 2048) : val_main_v91_0 (F := 𝔼) x0 x2 x6 (ix3 h q k) = (H).score q (latKey k) := by
  refine (show _ = Scalar.select (val_main_v91_1 (F := 𝔼) (ix3 h q k))
    ((∑ d, x0 (ix3 h q d) * x2 (ix3 h k d)) + val_main_v87 (F := 𝔼) x6 (ix3 h q k)) (Ideal.ofBits .f32 0xFF800000#32) from by
      pointwise [val_main_v91_0, val_main_v89, val_main_v88, val_main_v0, val_main_v2, val_main_call10_v2, val_main_call10_v0,
        val_main_cst, id_eq]).trans ?_
  rw [v91_at, v87_at x0 x1 x2 x3 x4 x5 x6 x7, WordCmp.select_ofBool, negInf, Head.score, dif_pos (show (latKey k).val < 2048 from k.isLt)]
  by_cases w : win q k
  · rw [decide_eq_true w, if_pos (show win q (latKey k) from w)]; rfl
  · rw [decide_eq_false w, if_neg (show ¬ win q (latKey k) from w)]; rfl

theorem v92_at (q : Fin 2048) (l : Fin 256) : val_main_v92 (F := 𝔼) x1 x4 (ix3 h q l) = (H).score q (ctx l) := by
  refine (show _ = ∑ d, x1 (ix3 h q d) * x4 (ix3 h l d) from by pointwise [val_main_v92, val_main_v1, val_main_v4]).trans ?_
  rw [Head.score, dif_neg (by simp [ctx])]
  refine Finset.sum_congr rfl fun d _ => congrArg₂ (· * ·) rfl (congrArg (fun l => x4 (ix3 h l d)) (Fin.ext ?_))
  simp [ctx]

theorem v93_at (q : Fin 2048) (k : Fin 2304) : val_main_v93 (F := 𝔼) x0 x1 x2 x4 x6 (ix3 h q k) = (H).score q k := by
  pointwise [val_main_v93]
  split
  · exact v91_0_at x0 x1 x2 x3 x4 x5 x6 x7 h q _
  · refine (v92_at x0 x1 x2 x3 x4 x5 x6 x7 h q _).trans (congrArg _ (Fin.ext ?_))
    simp only [ctx]
    omega

theorem v94_at (q : Fin 2048) : val_main_v94 (F := 𝔼) x0 x1 x2 x4 x6 (ix2 h q) = top ((H).score q) := by
  pointwise [val_main_v94]
  refine (congrArg (fun b => Finset.fold max b _ _) negInf).trans ?_
  exact congrArg (fun f => Finset.fold max ⊥ f Finset.univ) (funext fun k => v93_at x0 x1 x2 x3 x4 x5 x6 x7 h q k)

theorem v101_at (q : Fin 2048) : val_main_v101 (F := 𝔼) x0 x1 x2 x4 x6 (ix2 h q) = top ((H).score q) := by
  refine (show _ = max (Ideal.ofBits .f32 0xFF800000#32) (val_main_v94 (F := 𝔼) x0 x1 x2 x4 x6 (ix2 h q)) from by
    rw [val_main_v101_apply, val_main_v100_apply]; rfl).trans ?_
  rw [negInf, v94_at x0 x1 x2 x3 x4 x5 x6 x7]
  exact max_eq_right bot_le

theorem v114_at (q : Fin 2048) (k : Fin 2304) : val_main_v114 (F := 𝔼) x0 x1 x2 x4 x6 (ix3 h q k) = ex ((H).score q) k := by
  rw [val_main_v114_apply, val_main_v113_apply, val_main_v112_apply, val_main_v111_apply,
    show idx_main_v111 (idx_main_v112 (ix3 h q k)) = ix2 h q from by funext a; match a with | 0 => rfl | 1 => rfl,
    v101_at x0 x1 x2 x3 x4 x5 x6 x7, v93_at x0 x1 x2 x3 x4 x5 x6 x7]
  rfl

theorem v115_at (q : Fin 2048) : val_main_v115 (F := 𝔼) x0 x1 x2 x4 x6 (ix2 h q) = den ((H).score q) := by
  pointwise [val_main_v115]
  refine (congrArg₂ (· + ·) (show _ = (0 : EReal) from Ideal.ofBits_zero .f32) (Finset.sum_congr rfl fun k _ =>
    v114_at x0 x1 x2 x3 x4 x5 x6 x7 h q k)).trans (zero_add _)

theorem v118_at (q : Fin 2048) (k : Fin 2304) : val_main_v118 (F := 𝔼) x0 x1 x2 x4 x6 (ix3 h q k) = (H).p q k := by
  pointwise [val_main_v118, val_main_v117, val_main_v116]
  rw [v114_at x0 x1 x2 x3 x4 x5 x6 x7, v115_at x0 x1 x2 x3 x4 x5 x6 x7]
  rfl

/-! ## The gradients of the weights and of the scores -/

theorem v136_at (q : Fin 2048) (k : Fin 2304) : val_main_v136 (F := 𝔼) x3 x5 x7 (ix3 h q k) = (H).ct q k := by
  have z1 : val_main_cst_38 (F := 𝔼) (Shape.Idx.first Gen.h_S_) = 0 := Ideal.ofBits_zero .f32
  have z2 : val_main_cst_39 (F := 𝔼) (Shape.Idx.first Gen.h_S_) = 0 := Ideal.ofBits_zero .f32
  pointwise [val_main_v136, val_main_v131, val_main_v135, val_main_v130, val_main_v134, val_main_v3, val_main_v5, val_main_v127]
  rw [z1, z2, Head.ct]
  have := k.isLt
  by_cases hk : k.val < 2048
  · rw [dif_neg (by omega), dif_pos hk, dif_pos hk, zero_add]; rfl
  · rw [dif_pos (by omega), dif_neg hk, dif_neg hk, add_zero]; rfl

theorem v148_at (hH : (H).Finite) (q : Fin 2048) (k : Fin 2304) :
    val_main_v148 (F := 𝔼) x0 x1 x2 x3 x4 x5 x6 x7 (ix3 h q k) = (H).ds q k := by
  have z1 : val_main_cst_40 (F := 𝔼) (Shape.Idx.first Gen.h_S_) = 0 := Ideal.ofBits_zero .f32
  have z2 : val_main_cst_41 (F := 𝔼) (Shape.Idx.first Gen.h_S_) = 0 := Ideal.ofBits_zero .f32
  have o : val_main_cst_37 (F := 𝔼) ix0 = 1 := Ideal.ofBits_one_f32
  pointwise [val_main_v148, val_main_v147, val_main_v146, val_main_v145, val_main_v144, val_main_v143, val_main_v142, val_main_v141,
    val_main_v140, val_main_v139, val_main_v138, val_main_v137, val_main_v121, val_main_v120, val_main_v119, val_main_v116]
  simp only [z1, z2, o, zero_add, v136_at x0 x1 x2 x3 x4 x5 x6 x7, v114_at x0 x1 x2 x3 x4 x5 x6 x7, v115_at x0 x1 x2 x3 x4 x5 x6 x7,
    Fin.sum_univ_one, Finset.univ_unique, Finset.sum_singleton]
  exact (hH.row q).quotient_grad _ k

theorem v149_at (hH : (H).Finite) (q k : Fin 2048) :
    val_main_v149 (F := 𝔼) x0 x1 x2 x3 x4 x5 x6 x7 (ix3 h q k) = (H).ds q (latKey k) :=
  (show _ = val_main_v148 (F := 𝔼) x0 x1 x2 x3 x4 x5 x6 x7 (ix3 h q (latKey k)) from by
    pointwise [val_main_v149]
    rfl).trans (v148_at x0 x1 x2 x3 x4 x5 x6 x7 h hH q _)

theorem v150_at (hH : (H).Finite) (q : Fin 2048) (l : Fin 256) :
    val_main_v150 (F := 𝔼) x0 x1 x2 x3 x4 x5 x6 x7 (ix3 h q l) = (H).ds q (ctx l) :=
  (show _ = val_main_v148 (F := 𝔼) x0 x1 x2 x3 x4 x5 x6 x7 (ix3 h q (ctx l)) from by
    pointwise [val_main_v150]
    rfl).trans (v148_at x0 x1 x2 x3 x4 x5 x6 x7 h hH q _)

theorem v122_at (q k : Fin 2048) :
    val_main_v122 (F := 𝔼) x0 x1 x2 x4 x6 (ix3 h q k) = (H).p q (latKey k) :=
  (show _ = val_main_v118 (F := 𝔼) x0 x1 x2 x4 x6 (ix3 h q (latKey k)) from by
    pointwise [val_main_v122]
    rfl).trans (v118_at x0 x1 x2 x3 x4 x5 x6 x7 h q _)

theorem v124_at (q : Fin 2048) (l : Fin 256) :
    val_main_v124 (F := 𝔼) x0 x1 x2 x4 x6 (ix3 h q l) = (H).p q (ctx l) :=
  (show _ = val_main_v118 (F := 𝔼) x0 x1 x2 x4 x6 (ix3 h q (ctx l)) from by
    pointwise [val_main_v124]
    rfl).trans (v118_at x0 x1 x2 x3 x4 x5 x6 x7 h q _)

theorem v153_at (hH : (H).Finite) (q k : Fin 2048) :
    val_main_v153 (F := 𝔼) x0 x1 x2 x3 x4 x5 x6 x7 (ix3 h q k) = (H).ds q (latKey k) := by
  rw [val_main_v153_apply, v91_at, v149_at x0 x1 x2 x3 x4 x5 x6 x7 h hH, WordCmp.select_ofBool]
  by_cases w : win q k
  · rw [decide_eq_true w]; rfl
  · rw [decide_eq_false w]
    refine (show _ = (0 : EReal) from (by pointwise [val_main_call11_v0]; exact Ideal.ofBits_zero .f32)).trans ?_
    refine ((hH.row q).dscore_bot _ ?_).symm
    rw [Head.score, dif_pos (show (latKey k).val < 2048 from k.isLt), if_neg (show ¬ win q (latKey k) from w)]

/-! ## The results -/

theorem dQ_at (hH : (H).Finite) (q : Fin 2048) (d : Fin 64) :
    val_main_v155 (F := 𝔼) x0 x1 x2 x3 x4 x5 x6 x7 (ix3 h q d) = (H).dQ q d := by
  pointwise [val_main_v155, val_main_v2]
  exact Finset.sum_congr rfl fun k _ => congrArg (· * _) (v153_at x0 x1 x2 x3 x4 x5 x6 x7 h hH q k)

theorem dP_at (hH : (H).Finite) (q : Fin 2048) (d : Fin 64) :
    val_main_v152 (F := 𝔼) x0 x1 x2 x3 x4 x5 x6 x7 (ix3 h q d) = (H).dP q d := by
  pointwise [val_main_v152, val_main_v4]
  exact Finset.sum_congr rfl fun k _ => congrArg (· * _) (v150_at x0 x1 x2 x3 x4 x5 x6 x7 h hH q k)

theorem dK_at (hH : (H).Finite) (k : Fin 2048) (d : Fin 64) :
    val_main_v154 (F := 𝔼) x0 x1 x2 x3 x4 x5 x6 x7 (ix3 h k d) = (H).dK k d := by
  pointwise [val_main_v154, val_main_v0]
  exact Finset.sum_congr rfl fun q _ => congrArg (· * _) (v153_at x0 x1 x2 x3 x4 x5 x6 x7 h hH q k)

theorem dV_at (k : Fin 2048) (d : Fin 64) :
    val_main_v133 (F := 𝔼) x0 x1 x2 x4 x6 x7 (ix3 h k d) = (H).dV k d := by
  pointwise [val_main_v133, val_main_v132, val_main_v127]
  exact Finset.sum_congr rfl fun q _ => (congrArg (_ * ·) (v122_at x0 x1 x2 x3 x4 x5 x6 x7 h q k)).trans (mul_comm _ _)

theorem dC_at (hH : (H).Finite) (l : Fin 256) (d : Fin 64) :
    val_main_v151 (F := 𝔼) x0 x1 x2 x3 x4 x5 x6 x7 (ix3 h l d) = (H).dC l d := by
  pointwise [val_main_v151, val_main_v1]
  exact Finset.sum_congr rfl fun q _ => congrArg (· * _) (v150_at x0 x1 x2 x3 x4 x5 x6 x7 h hH q l)

theorem dD_at (l : Fin 256) (d : Fin 64) :
    val_main_v129 (F := 𝔼) x0 x1 x2 x4 x6 x7 (ix3 h l d) = (H).dD l d := by
  pointwise [val_main_v129, val_main_v128, val_main_v127]
  exact Finset.sum_congr rfl fun q _ => (congrArg (_ * ·) (v124_at x0 x1 x2 x3 x4 x5 x6 x7 h q l)).trans (mul_comm _ _)

theorem dT_at (hH : (H).Finite) (t : Fin 5) (j : Fin 576) (u : Fin 128) :
    val_main_v157 (F := 𝔼) x0 x1 x2 x3 x4 x5 x6 x7 (ix4 h t j u) = (H).dT t j u := by
  have z : val_main_v156 (F := 𝔼) (ix4 h t j u) = 0 := by
    rw [val_main_v156_apply]; exact Ideal.ofBits_zero .f32
  have lands : ∀ (g : Fin 8) (q k : Fin 2048), put.resultIdx? (ix3 g q k) (val_main_v86 (F := 𝔼)) = some (ix4 h t j u) ↔
      g = h ∧ tile (q / 128) = t ∧ slot q k = j ∧ q.val % 128 = u := fun g q k => by
    refine (put_lands _ g q k ⟨tile (q / 128), tile_lt (by omega)⟩ (slot q k) ⟨q % 128, by omega⟩
      ((words0 q k).trans (entry_word0 q k)) ((words1 q k).trans (entry_word1 q k)) ((words2 q k).trans (entry_word2 q k)) h t j u).trans ?_
    simp only [Fin.ext_iff]
  refine (show _ = val_main_v156 (F := 𝔼) (ix4 h t j u) + ∑ i ∈ Finset.univ.filter (fun i => put.resultIdx? i (val_main_v86 (F := 𝔼)) = some (ix4 h t j u)),
    val_main_v153 (F := 𝔼) x0 x1 x2 x3 x4 x5 x6 x7 i from rfl).trans ?_
  rw [z, zero_add, Finset.sum_filter, sum_idx3]
  simp only [lands]
  rw [Finset.sum_eq_single h (fun g _ hg => Finset.sum_eq_zero fun q _ => Finset.sum_eq_zero fun k _ => if_neg fun c => hg c.1)
    (fun c => absurd (Finset.mem_univ h) c), Head.dT]
  refine Finset.sum_congr rfl fun q _ => Finset.sum_congr rfl fun k _ => ?_
  simp only [true_and]
  rw [v153_at x0 x1 x2 x3 x4 x5 x6 x7 h hH]

end Cert.ReferenceIdeal.Attn
-- ==== Proof.Finite.lean ====
/- The precondition read back: the queries, the keys, the context keys and the bias tiles are real numbers. -/
module

public import proofs.«01_k».proof.Pre_finite
public import Idealize.ShloMosaic.Lib.ReduceAll
public import Idealize.ShloMosaic.Lib.Pointwise
public import Idealize.ShloMosaic.Lib.WordCmp

@[expose] public section

namespace Cert.Pre_finite

open Idealize.ShloMosaic

theorem facts : Facts where
  bcast_S_S8x5x576x128 := by decide
  reducesTo_S8x5x576x128_S_d0_1_2_3 := by decide
  h_S_ := by decide
  bitsLt_bf16_f32 := by decide
  bcast_S_S8x2048x64 := by decide
  reducesTo_S8x2048x64_S_d0_1_2 := by decide
  bcast_S_S8x256x64 := by decide
  reducesTo_S8x256x64_S_d0_1_2 := by decide

instance : Subsingleton S_.Idx := ⟨fun a b => funext fun i => i.elim0⟩

theorem posInf : Ideal.ofBits .f32 0x7F800000#32 = ⊤ := by
  simp [Ideal.ofBits, Ideal.ieee]

/-- A number whose absolute value is below infinity is real. -/
theorem real_of_abs {x : EReal} (h : max x (-x) < ⊤) : ∃ r : ℝ, x = r := by
  induction x with
  | bot => simp at h
  | coe r => exact ⟨r, rfl⟩
  | top => simp at h

theorem real_of_word {x : EReal} (h : Ideal.cmp .olt (max x (-x)) (Ideal.ofBits .f32 0x7F800000#32) = 1#1) : ∃ r : ℝ, x = r := by
  rw [posInf] at h
  refine real_of_abs ?_
  by_contra hc
  simp [Ideal.cmp, hc] at h

section
attribute [local instance] facts
variable (a0 a1 a2 a3 : FVec Ideal S8x2048x64 .bf16) (a4 a5 : FVec Ideal S8x256x64 .bf16) (a6 : FVec Ideal S8x5x576x128 .f32)
  (a7 : FVec Ideal S8x2048x64 .bf16) (a8 : FVec Ideal S8x128 .f32)

theorem reals (h : fn (F := Ideal) a0 a1 a2 a3 a4 a5 a6 a7 a8 = fun _ => 1#1) :
    (∀ i, ∃ r : ℝ, a0 i = r) ∧ (∀ i, ∃ r : ℝ, a1 i = r) ∧ (∀ i, ∃ r : ℝ, a2 i = r) ∧ (∀ i, ∃ r : ℝ, a4 i = r)
      ∧ ∀ i, ∃ r : ℝ, a6 i = r := by
  have e := congrFun h ix0
  unfold fn fn_part1 at e
  obtain ⟨e, e4⟩ := IntOp.andi_eq_one.1 e
  obtain ⟨e, e2⟩ := IntOp.andi_eq_one.1 e
  obtain ⟨e, e1⟩ := IntOp.andi_eq_one.1 e
  obtain ⟨e6, e0⟩ := IntOp.andi_eq_one.1 e
  exact ⟨fun i => real_of_word (Host.reduce_andi_all _ _ _ _ _ e0 i), fun i => real_of_word (Host.reduce_andi_all _ _ _ _ _ e1 i),
    fun i => real_of_word (Host.reduce_andi_all _ _ _ _ _ e2 i), fun i => real_of_word (Host.reduce_andi_all _ _ _ _ _ e4 i),
    fun i => real_of_word (Host.reduce_andi_all _ _ _ _ _ e6 i)⟩
end

end Cert.Pre_finite
-- ==== Proof.Equal.lean ====
/- The kernel and the reference leave the same seven gradients. -/
module

public import proofs.«01_k».proof.Defs
public import proofs.«01_k».proof.Proof.Arrays
public import proofs.«01_k».proof.Proof.RefValues
public import proofs.«01_k».proof.Proof.Finite
public import proofs.«01_k».proof.Proof.Gen.ReferenceIdeal.Run

@[expose] public section

set_option maxRecDepth 16384

noncomputable section

namespace Cert.Attn

open Idealize.ShloMosaic Idealize.SL.Sem Idealize.ShloMosaic.TcCoe

attribute [local instance] Cert.Pre_finite.facts

/-- The precondition makes the scores of every head real. -/
theorem finite_of_pre {m : (ℓ : Loc Cert.KernelIdeal.nD Cert.KernelIdeal.τ Cert.KernelIdeal.sig) → Buf (Elt Ideal) ℓ}
    (h : Cert.Pre_KernelIdeal_finite m) (c : Dev Cert.KernelIdeal.nD) (i : Fin 8) : (Cert.KernelIdeal.Attn.headOf m c i).Finite := by
  obtain ⟨h0, h1, h2, h4, h6⟩ := Cert.Pre_finite.reals _ _ _ _ _ _ _ _ _ (h c)
  exact ⟨fun q d => h0 _, fun q d => h1 _, fun q d => h2 _, fun l d => h4 _, fun t j u => h6 _⟩

/-- Two arrays of rank three, or four, that agree at all coordinates are equal. -/
theorem ext3 {α : Type} {a b c : ℕ} {f g : (⟨3, ![a, b, c]⟩ : Shape).Idx → α} (h : ∀ i j k, f (ix3 i j k) = g (ix3 i j k)) : f = g :=
  funext fun i => by rw [eq_ix3 i]; exact h _ _ _

theorem ext4 {α : Type} {a b c d : ℕ} {f g : (⟨4, ![a, b, c, d]⟩ : Shape).Idx → α} (h : ∀ i j k l, f (ix4 i j k l) = g (ix4 i j k l)) : f = g :=
  funext fun i => by rw [eq_ix4 i]; exact h _ _ _ _

open Cert.ReferenceIdeal.Read in
/-- The results of the reference over the arguments of the kernel. -/
theorem equal : Cert.algebraic_KernelIdeal_ReferenceIdeal_pre_finite := by
  intro m g m' g' hp ha
  refine ⟨_, _, _, _, _, _, _, Cert.KernelIdeal.Value.run_blocks m g, ?_⟩
  refine (θ_run Cert.ReferenceIdeal.defs _ _).mono (fun r h c => ?_) (Cert.ReferenceIdeal.Value.run (F := Ideal) m' g')
  obtain ⟨h0, h1, h2, h3, h4, h5, h6, k⟩ := h c
  obtain ⟨a0, a1, a2, a3, a4, a5, a6, a7, -⟩ := ha c
  have hf := fun i => finite_of_pre hp c i
  have he : ∀ i, Cert.ReferenceIdeal.Attn.headAt (m' ((c.tc : Thread _ Cert.ReferenceIdeal.τ).loc Cert.ReferenceIdeal.main_arg0))
      (m' ((c.tc : Thread _ Cert.ReferenceIdeal.τ).loc Cert.ReferenceIdeal.main_arg1)) (m' ((c.tc : Thread _ Cert.ReferenceIdeal.τ).loc Cert.ReferenceIdeal.main_arg2))
      (m' ((c.tc : Thread _ Cert.ReferenceIdeal.τ).loc Cert.ReferenceIdeal.main_arg3)) (m' ((c.tc : Thread _ Cert.ReferenceIdeal.τ).loc Cert.ReferenceIdeal.main_arg4))
      (m' ((c.tc : Thread _ Cert.ReferenceIdeal.τ).loc Cert.ReferenceIdeal.main_arg5)) (m' ((c.tc : Thread _ Cert.ReferenceIdeal.τ).loc Cert.ReferenceIdeal.main_arg6))
      (m' ((c.tc : Thread _ Cert.ReferenceIdeal.τ).loc Cert.ReferenceIdeal.main_arg7)) i = Cert.KernelIdeal.Attn.headOf m c i := fun i => by
    rw [a0, a1, a2, a3, a4, a5, a6, a7]; rfl
  refine ⟨h0.trans ((val_main_v155_eq _).trans ?_), h1.trans ((val_main_v152_eq _).trans ?_), h2.trans ((val_main_v154_eq _).trans ?_),
    h3.trans ((val_main_v133_eq _).trans ?_), h4.trans ((val_main_v151_eq _).trans ?_), h5.trans ((val_main_v129_eq _).trans ?_),
    h6.trans ((val_main_v157_eq _).trans ?_), k⟩
  · exact ext3 fun i q d => (Cert.ReferenceIdeal.Attn.dQ_at _ _ _ _ _ _ _ _ i (he i ▸ hf i) q d).trans
      ((congrArg (fun H : Head => H.dQ q d) (he i)).trans (Cert.KernelIdeal.Attn.arr8 m c i (hf i) q d).symm)
  · exact ext3 fun i q d => (Cert.ReferenceIdeal.Attn.dP_at _ _ _ _ _ _ _ _ i (he i ▸ hf i) q d).trans
      ((congrArg (fun H : Head => H.dP q d) (he i)).trans (Cert.KernelIdeal.Attn.arr9 m c i (hf i) q d).symm)
  · exact ext3 fun i q d => (Cert.ReferenceIdeal.Attn.dK_at _ _ _ _ _ _ _ _ i (he i ▸ hf i) q d).trans
      ((congrArg (fun H : Head => H.dK q d) (he i)).trans (Cert.KernelIdeal.Attn.arr10 m c i (hf i) q d).symm)
  · exact ext3 fun i q d => (Cert.ReferenceIdeal.Attn.dV_at _ _ _ _ _ _ _ _ i q d).trans
      ((congrArg (fun H : Head => H.dV q d) (he i)).trans (Cert.KernelIdeal.Attn.arr11 m c i (hf i) q d).symm)
  · exact ext3 fun i q d => (Cert.ReferenceIdeal.Attn.dC_at _ _ _ _ _ _ _ _ i (he i ▸ hf i) q d).trans
      ((congrArg (fun H : Head => H.dC q d) (he i)).trans (Cert.KernelIdeal.Attn.arr12 m c i (hf i) q d).symm)
  · exact ext3 fun i q d => (Cert.ReferenceIdeal.Attn.dD_at _ _ _ _ _ _ _ _ i q d).trans
      ((congrArg (fun H : Head => H.dD q d) (he i)).trans (Cert.KernelIdeal.Attn.arr13 m c i (hf i) q d).symm)
  · exact ext4 fun i t j u => (Cert.ReferenceIdeal.Attn.dT_at _ _ _ _ _ _ _ _ i (he i ▸ hf i) t j u).trans
      ((congrArg (fun H : Head => H.dT t j u) (he i)).trans (Cert.KernelIdeal.Attn.arr14 m c i (hf i) t j u).symm)

end Cert.Attn
-- ==== Proof.NormSpec.lean ====
/- The gradient of a modulated root-mean-square norm followed by a projection, row by row: what the kernel computes, what
   differentiating the norm gives, and why the two agree on real numbers. -/
module

public import Idealize.ShloMosaic.Lib.Pointwise
public import Mathlib.Tactic.FieldSimp

@[expose] public section

set_option maxRecDepth 16384

noncomputable section

namespace Cert.NormGrad

open Idealize.ShloMosaic

/-! ## The numbers the two programs write as words -/

theorem word_width : Ideal.ofBits .f32 0x44800000#32 = ((1024 : ℝ) : EReal) := by
  simp [Ideal.ofBits, Ideal.ieee]
  rw [← EReal.coe_mul]
  norm_num

theorem word_one : Ideal.ofBits .f32 0x3F800000#32 = ((1 : ℝ) : EReal) := by
  simp [Ideal.ofBits, Ideal.ieee]
  rw [← EReal.coe_mul]
  norm_num

theorem word_half : Ideal.ofBits .f32 0xBF000000#32 = ((-(1 / 2) : ℝ) : EReal) := by
  simp [Ideal.ofBits, Ideal.ieee]
  rw [← EReal.coe_mul]
  norm_num

/-- The small number added to a row's mean square. -/
theorem word_small : ∃ e : ℝ, 0 < e ∧ Ideal.ofBits .f32 0x358637BD#32 = (e : EReal) := by
  refine ⟨8796093 / 8796093022208, by norm_num, ?_⟩
  simp [Ideal.ofBits, Ideal.ieee]
  rw [← EReal.coe_mul]
  norm_num

/-! ## One row -/

variable {ι : Type} [Fintype ι]

/-- The mean square of a row and the small number. -/
def square (x : ι → EReal) : EReal :=
  Ideal.div (∑ d, x d * x d) (Ideal.ofBits .f32 0x44800000#32) + Ideal.ofBits .f32 0x358637BD#32

/-- One over the root of the mean square. -/
def root (x : ι → EReal) : EReal := Ideal.rsqrt (square x)

/-- The gradient of the normed row, from the gradient `h` of the modulated one. -/
def inner (h g s : ι → EReal) (d : ι) : EReal := h d * (Ideal.ofBits .f32 0x3F800000#32 + s d) * g d

/-- The row's gradient as the kernel computes it, `y` the gradient that reaches the row past the norm: -/
def rowKernel (x y h g s : ι → EReal) (d : ι) : EReal :=
  y d + root x * (inner h g s d
    - x d * root x * Ideal.div (∑ k, x k * root x * inner h g s k) (Ideal.ofBits .f32 0x44800000#32))

/-- what reaches the row through its mean square, -/
def through (x h g s : ι → EReal) : EReal :=
  Ideal.div ((∑ k, x k * inner h g s k) * (Ideal.ofBits .f32 0xBF000000#32 * Ideal.div (root x) (square x))) (Ideal.ofBits .f32 0x44800000#32)

/-- and the row's gradient by the rules of differentiation. -/
def rowPlain (x y h g s : ι → EReal) (d : ι) : EReal :=
  y d + inner h g s d * root x + x d * through x h g s + through x h g s * x d

theorem coe_sum (f : ι → ℝ) : ((∑ k, f k : ℝ) : EReal) = ∑ k, (f k : EReal) :=
  map_sum (⟨⟨((↑) : ℝ → EReal), EReal.coe_zero⟩, EReal.coe_add⟩ : ℝ →+ EReal) f Finset.univ

theorem row_eq (x y h g s : ι → EReal) (hx : ∀ d, ∃ r : ℝ, x d = r) (hh : ∀ d, ∃ r : ℝ, h d = r) (hg : ∀ d, ∃ r : ℝ, g d = r)
    (hs : ∀ d, ∃ r : ℝ, s d = r) (d : ι) : rowKernel x y h g s d = rowPlain x y h g s d := by
  choose x' ex using hx
  choose h' eh using hh
  choose g' eg using hg
  choose s' es using hs
  obtain rfl : x = fun d => (x' d : EReal) := funext ex
  obtain rfl : h = fun d => (h' d : EReal) := funext eh
  obtain rfl : g = fun d => (g' d : EReal) := funext eg
  obtain rfl : s = fun d => (s' d : EReal) := funext es
  obtain ⟨e, he, ee⟩ := word_small
  have ei : ∀ k, inner (fun d => (h' d : EReal)) (fun d => (g' d : EReal)) (fun d => (s' d : EReal)) k
      = ((h' k * (1 + s' k) * g' k : ℝ) : EReal) := fun k => by
    rw [inner, word_one, ← EReal.coe_add, ← EReal.coe_mul, ← EReal.coe_mul]
  set w : ℝ := (∑ k, x' k * x' k) * (1 / 1024) + e with hw
  have wpos : 0 < w := by
    have : 0 ≤ ∑ k, x' k * x' k := Finset.sum_nonneg fun k _ => mul_self_nonneg _
    positivity
  have eq : square (fun d => (x' d : EReal)) = (w : EReal) := by
    rw [square, word_width, ee, Ideal.div_coe (by norm_num), hw, EReal.coe_add, EReal.coe_mul, coe_sum]
    simp only [EReal.coe_mul]
  have er : root (fun d => (x' d : EReal)) = (((Real.sqrt w)⁻¹ : ℝ) : EReal) := by
    rw [root, eq, Ideal.rsqrt_coe, if_neg (not_lt.2 wpos.le), if_neg wpos.ne']
  set r : ℝ := (Real.sqrt w)⁻¹ with hr
  have r2 : r * r = 1 / w := by
    rw [hr, ← mul_inv, Real.mul_self_sqrt wpos.le, one_div]
  set i : ι → ℝ := fun k => h' k * (1 + s' k) * g' k with hi
  have ei' : inner (fun d => (h' d : EReal)) (fun d => (g' d : EReal)) (fun d => (s' d : EReal)) = fun k => (i k : EReal) := funext ei
  have k1 : ∑ k, (x' k : EReal) * (r : EReal) * (i k : EReal) = ((r * ∑ k, x' k * i k : ℝ) : EReal) := by
    rw [Finset.mul_sum, coe_sum]
    refine Finset.sum_congr rfl fun k _ => ?_
    rw [← EReal.coe_mul, ← EReal.coe_mul]
    congr 1; ring
  have k2 : ∑ k, (x' k : EReal) * (i k : EReal) = ((∑ k, x' k * i k : ℝ) : EReal) := by
    rw [coe_sum]; simp only [EReal.coe_mul]
  have et : through (fun d => (x' d : EReal)) (fun d => (h' d : EReal)) (fun d => (g' d : EReal)) (fun d => (s' d : EReal))
      = (((∑ k, x' k * i k) * (-(1 / 2) * (r * (1 / w))) * (1 / 1024) : ℝ) : EReal) := by
    rw [through, ei', eq, er, k2, word_half, word_width, Ideal.div_coe (by norm_num), Ideal.div_coe wpos.ne', ← EReal.coe_mul,
      ← EReal.coe_mul, ← EReal.coe_mul, ← EReal.coe_mul]
  rw [rowKernel, rowPlain, et, ei', er, k1, word_width, Ideal.div_coe (by norm_num), add_assoc, add_assoc]
  refine congrArg (y d + ·) ?_
  simp only [← EReal.coe_mul, ← EReal.coe_sub, ← EReal.coe_add]
  congr 1
  have : r * (x' d * r * (r * (∑ k, x' k * i k) * (1 / 1024))) = x' d * (r * r) * r * ((∑ k, x' k * i k) * (1 / 1024)) := by ring
  rw [mul_sub, this, r2]
  ring

/-! ## All rows -/

/-- A sum over `a` blocks of `b` terms. -/
theorem sum_blocks (a b : ℕ) (f : Fin (a * b) → EReal) :
    ∑ k, f k = ∑ j : Fin a, ∑ k : Fin b, f ⟨j * b + k, by
      have h1 := j.isLt; have h2 := k.isLt
      calc j.val * b + k.val < j.val * b + b := by omega
        _ = (j.val + 1) * b := by ring
        _ ≤ a * b := Nat.mul_le_mul_right b h1⟩ := by
  rw [← finProdFinEquiv.sum_comp, Fintype.sum_prod_type]
  refine Finset.sum_congr rfl fun j _ => Finset.sum_congr rfl fun k _ => congrArg f (Fin.ext ?_)
  simp [finProdFinEquiv, Nat.add_comm, Nat.mul_comm]

/-- The arguments: the projection's gradient, its weight, the rows, the gradient that reaches them past the norm, the norm's
    weights and the modulation's scale. -/
structure Args where
  p : Fin 2048 → Fin 4096 → EReal
  w : Fin 1024 → Fin 4096 → EReal
  x : Fin 2048 → Fin 1024 → EReal
  y : Fin 2048 → Fin 1024 → EReal
  g : Fin 1024 → EReal
  s : Fin 1024 → EReal

namespace Args

variable (A : Args)

/-- The gradient of the modulated rows, -/
def dh (q : Fin 2048) (d : Fin 1024) : EReal := ∑ k, A.p q k * A.w d k
/-- of the modulation's shift and scale, -/
def dShift (d : Fin 1024) : EReal := ∑ q, A.dh q d
def dScale (d : Fin 1024) : EReal := ∑ q, A.dh q d * (A.x q d * root (A.x q) * A.g d)
/-- of the norm's weights, -/
def dGain (d : Fin 1024) : EReal := ∑ q, A.dh q d * (Ideal.ofBits .f32 0x3F800000#32 + A.s d) * (A.x q d * root (A.x q))
/-- and of the rows. -/
def dX (q : Fin 2048) (d : Fin 1024) : EReal := rowKernel (A.x q) (A.y q) (A.dh q) A.g A.s d

/-- All of them but the gradient past the norm are real numbers. -/
structure Finite : Prop where
  p : ∀ q k, ∃ r : ℝ, A.p q k = r
  w : ∀ d k, ∃ r : ℝ, A.w d k = r
  x : ∀ q d, ∃ r : ℝ, A.x q d = r
  g : ∀ d, ∃ r : ℝ, A.g d = r
  s : ∀ d, ∃ r : ℝ, A.s d = r

variable {A}

theorem Finite.dh (h : A.Finite) (q : Fin 2048) (d : Fin 1024) : ∃ r : ℝ, A.dh q d = r := by
  choose p' ep using h.p q
  choose w' ew using h.w d
  refine ⟨∑ k, p' k * w' k, ?_⟩
  rw [Args.dh, coe_sum]
  exact Finset.sum_congr rfl fun k _ => by rw [ep, ew, EReal.coe_mul]

theorem Finite.dX (h : A.Finite) (q : Fin 2048) (d : Fin 1024) : A.dX q d = rowPlain (A.x q) (A.y q) (A.dh q) A.g A.s d :=
  row_eq _ _ _ _ _ (h.x q) (h.dh q) h.g h.s d

end Args

end Cert.NormGrad

end
-- ==== Proof.NormBody.lean ====
/- The body of the norm's backward kernel: its arithmetic at coordinates, and what it stores at a grid point. -/
module

public import proofs.«01_k».proof.Proof.NormSpec
public import proofs.«01_k».proof.Proof.Gen.Kernel2Ideal.Value
public import Idealize.ShloMosaic.Lib.Pointwise
public import Idealize.ShloMosaic.Lib.Pipeline.ValueKit.Basic
public import Idealize.ShloMosaic.Lib.WholeRead
public import Idealize.ShloMosaic.Lib.VecWindow

@[expose] public section

set_option maxRecDepth 16384

noncomputable section

namespace Cert.Kernel2Ideal.Norm

open Cert.Kernel2Ideal Cert.Kernel2Ideal.Gen Idealize.ShloMosaic Idealize.ShloMosaic.TcCoe
open Cert.NormGrad

/-! ## The arithmetic -/

/-- One product of a block of 512 columns of the cotangent with the same columns of the weight. -/
def part (P : Vec Ideal S1x512x512 .bf16) (W : Vec Ideal S1x1024x512 .bf16) (r : Fin 512) (d : Fin 1024) : EReal :=
  ∑ k : Fin 512, P (ix3 0 r k) * W (ix3 0 d k)

theorem pay7_at (P0 P1 P2 P3 : Vec Ideal S1x512x512 .bf16) (W0 W1 W2 W3 : Vec Ideal S1x1024x512 .bf16) (r : Fin 512) (d : Fin 1024) :
    k0_pay7 (F := Ideal) P0 W0 P1 W1 P2 W2 P3 W3 (ix2 r d) = part P0 W0 r d + part P1 W1 r d + part P2 W2 r d + part P3 W3 r d := by
  unfold part
  pointwise [k0_pay7]

theorem pay8_at (v : Vec Ideal S512x1024 .f32) (P0 P1 P2 P3 : Vec Ideal S1x512x512 .bf16) (W0 W1 W2 W3 : Vec Ideal S1x1024x512 .bf16)
    (r : Fin 512) (d : Fin 1024) :
    k0_pay8 (F := Ideal) v P0 W0 P1 W1 P2 W2 P3 W3 (ix2 r d)
      = v (ix2 r d) + part P0 W0 r d + part P1 W1 r d + part P2 W2 r d + part P3 W3 r d := by
  unfold part
  pointwise [k0_pay8]

theorem pay10_at (X : Vec Ideal S512x1024 .f32) (r : Fin 512) :
    k0_pay10 (F := Ideal) X (ix2 r 0) = root fun d => X (ix2 r d) := by
  unfold root square
  pointwise [k0_pay10]

theorem pay11_at (X : Vec Ideal S512x1024 .f32) (r : Fin 512) (d : Fin 1024) :
    k0_pay11 (F := Ideal) X (ix2 r d) = X (ix2 r d) * root fun d => X (ix2 r d) := by
  rw [← pay10_at]
  pointwise [k0_pay11]

theorem pay14_at (H : Vec Ideal S512x1024 .f32) (B : Vec Ideal S1x1024 .f32) (r : Fin 512) (d : Fin 1024) :
    k0_pay14 (F := Ideal) H B (ix2 r d) = H (ix2 r d) * (Ideal.ofBits .f32 0x3F800000#32 + B (ix2 0 d)) := by
  pointwise [k0_pay14]

theorem pay12_at (H : Vec Ideal S512x1024 .f32) (d : Fin 1024) :
    k0_pay12 (F := Ideal) H (ix2 0 d) = ∑ r : Fin 512, H (ix2 r d) := by
  pointwise [k0_pay12]

theorem pay13_at (H X : Vec Ideal S512x1024 .f32) (G : Vec Ideal S1x1024 .f32) (d : Fin 1024) :
    k0_pay13 (F := Ideal) H X G (ix2 0 d) = ∑ r : Fin 512, H (ix2 r d) * (X (ix2 r d) * (root fun d => X (ix2 r d)) * G (ix2 0 d)) := by
  simp only [← pay11_at X]
  pointwise [k0_pay13]

theorem pay15_at (H X : Vec Ideal S512x1024 .f32) (B : Vec Ideal S1x1024 .f32) (d : Fin 1024) :
    k0_pay15 (F := Ideal) H B X (ix2 0 d) = ∑ r : Fin 512,
      H (ix2 r d) * (Ideal.ofBits .f32 0x3F800000#32 + B (ix2 0 d)) * (X (ix2 r d) * root fun d => X (ix2 r d)) := by
  simp only [← pay11_at X, ← pay14_at H B]
  pointwise [k0_pay15]

theorem pay16_at (H X Y : Vec Ideal S512x1024 .f32) (B G : Vec Ideal S1x1024 .f32) (r : Fin 512) (d : Fin 1024) :
    k0_pay16 (F := Ideal) H B X G Y (ix2 r d) = rowKernel (fun d => X (ix2 r d)) (fun d => Y (ix2 r d)) (fun d => H (ix2 r d))
      (fun d => G (ix2 0 d)) (fun d => B (ix2 0 d)) d := by
  unfold rowKernel NormGrad.inner
  simp only [← pay11_at X, ← pay14_at H B]
  rw [← pay10_at X]
  pointwise [k0_pay16]

/-! ## What a grid point stores -/

/-- The body's input windows and what they hold: the cotangent and the weight by blocks of columns, the rows, the gradients that reach
    them past the norm, the norm's weights, and the modulation in its two parts. -/
structure In where
  m1 : Memref sig .tc .vmem S8x512x512 .bf16
  h1 : m1.IsWhole
  m2 : Memref sig .tc .vmem S4x1024x1024 .bf16
  h2 : m2.IsWhole
  m3 : Memref sig .tc .vmem S512x1024 .f32
  h3 : m3.IsWhole
  m4 : Memref sig .tc .vmem S512x1024 .f32
  h4 : m4.IsWhole
  m5 : Memref sig .tc .vmem S1x1024 .f32
  h5 : m5.IsWhole
  m6 : Memref sig .tc .vmem S1x3072 .f32
  h6 : m6.IsWhole
  m7 : Memref sig .tc .vmem S1x3072 .f32
  h7 : m7.IsWhole
  x0 : Vec Ideal S8x512x512 .bf16
  x1 : Vec Ideal S4x1024x1024 .bf16
  x2 : Vec Ideal S512x1024 .f32
  x3 : Vec Ideal S512x1024 .f32
  x4 : Vec Ideal S1x1024 .f32
  x5 : Vec Ideal S1x3072 .f32
  x6 : Vec Ideal S1x3072 .f32

namespace In

variable (A : In)

theorem inb_cols {j : ℕ} (h : j < 8) : ∀ a, (![j, 0, 0] : Fin 3 → ℕ) a + S1x512x512.size a ≤ S8x512x512.size a :=
  Fin.forall_fin_succ.2 ⟨show j + 1 ≤ 8 by omega, Fin.forall_fin_succ.2 ⟨show 0 + 512 ≤ 512 by omega,
    Fin.forall_fin_succ.2 ⟨show 0 + 512 ≤ 512 by omega, fun a => a.elim0⟩⟩⟩

theorem inb_half {j o : ℕ} (h : j < 4) (ho : o ≤ 512) :
    ∀ a, (![j, 0, o] : Fin 3 → ℕ) a + S1x1024x512.size a ≤ S4x1024x1024.size a :=
  Fin.forall_fin_succ.2 ⟨show j + 1 ≤ 4 by omega, Fin.forall_fin_succ.2 ⟨show 0 + 1024 ≤ 1024 by omega,
    Fin.forall_fin_succ.2 ⟨show o + 512 ≤ 1024 by omega, fun a => a.elim0⟩⟩⟩

/-- Block `j` of 512 columns of the cotangent, -/
def cols (j : ℕ) (h : j < 8) : Vec Ideal S1x512x512 .bf16 :=
  View.readAt (Elt Ideal) A.m1.view (Rect.unit (s := S8x512x512) ![j, 0, 0] S1x512x512.size (inb_cols h)).toLoadRect (A.h1.unread A.x0)

/-- columns `o` to `o + 511` of block `j` of 1024 columns of the weight, -/
def half (j o : ℕ) (h : j < 4) (ho : o ≤ 512) : Vec Ideal S1x1024x512 .bf16 :=
  View.readAt (Elt Ideal) A.m2.view (Rect.unit (s := S4x1024x1024) ![j, 0, o] S1x1024x512.size (inb_half h ho)).toLoadRect (A.h2.unread A.x1)

/-- the gradient of the modulated rows, -/
def dh : Vec Ideal S512x1024 .f32 :=
  k0_pay8 (k0_pay7 (A.cols 0 (by decide)) (A.half 0 0 (by decide) (by decide)) (A.cols 1 (by decide)) (A.half 0 512 (by decide) (by decide))
      (A.cols 2 (by decide)) (A.half 1 0 (by decide) (by decide)) (A.cols 3 (by decide)) (A.half 1 512 (by decide) (by decide)))
    (A.cols 4 (by decide)) (A.half 2 0 (by decide) (by decide)) (A.cols 5 (by decide)) (A.half 2 512 (by decide) (by decide))
    (A.cols 6 (by decide)) (A.half 3 0 (by decide) (by decide)) (A.cols 7 (by decide)) (A.half 3 512 (by decide) (by decide))

/-- the modulation's scale, the rows, the gradients past the norm and the norm's weights. -/
def scale : Vec Ideal S1x1024 .f32 :=
  k0_pay9 (View.readAt (Elt Ideal) A.m6.view (Rect.unit (s := S1x3072) ![0, 1024] S1x1024.size inb_S1x3072_S1x1024_0_1024).toLoadRect (A.h6.unread A.x5))
    (View.readAt (Elt Ideal) A.m7.view (Rect.unit (s := S1x3072) ![0, 1024] S1x1024.size inb_S1x3072_S1x1024_0_1024).toLoadRect (A.h7.unread A.x6))
def rows : Vec Ideal S512x1024 .f32 :=
  View.readAt (Elt Ideal) A.m3.view (Rect.unit (s := S512x1024) ![0, 0] S512x1024.size inb_S512x1024_S512x1024_0_0).toLoadRect (A.h3.unread A.x2)
def past : Vec Ideal S512x1024 .f32 :=
  View.readAt (Elt Ideal) A.m4.view (Rect.unit (s := S512x1024) ![0, 0] S512x1024.size inb_S512x1024_S512x1024_0_0).toLoadRect (A.h4.unread A.x3)
def gain : Vec Ideal S1x1024 .f32 :=
  View.readAt (Elt Ideal) A.m5.view (Rect.unit (s := S1x1024) ![0, 0] S1x1024.size inb_S1x1024_S1x1024_0_0).toLoadRect (A.h5.unread A.x4)

end In

/-- All of a row, and all of a block of rows. -/
abbrev allRow : Rect S1x1024 := Rect.unit (s := S1x1024) ![0, 0] S1x1024.size inb_S1x1024_S1x1024_0_0
abbrev allRows : Rect S512x1024 := Rect.unit (s := S512x1024) ![0, 0] S512x1024.size inb_S512x1024_S512x1024_0_0

section Stored

variable (c : Dev nD) (i : grid0.Coords) (A : In)
  (arg9 : Memref sig .tc .vmem S512x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1x1024 .f32) (harg12 : arg12.IsWhole)

/-- A load of a row just stored whole. -/
theorem loaded (M : Memref sig .tc .vmem S1x1024 .f32) (w : Vec Ideal S1x1024 .f32) :
    M.view.readCov [(⟨allRow, w⟩ : View.Piece (Elt Ideal) S1x1024 .f32)]
      allRow.toLoadRect = w :=
  View.readAt_writes_full _ _ _ _ _ _

theorem held (M : Memref sig .tc .vmem S1x1024 .f32) (hM : M.IsWhole) (w : Vec Ideal S1x1024 .f32) :
    View.readAt (Elt Ideal) M.view allRow.toLoadRect (hM.unread w) = w := by
  funext j
  refine (hM.readAt_unread w _ _).trans (congrArg w (funext fun a => Fin.ext ?_))
  match a with
  | ⟨0, _⟩ => show 0 + 1 * (j 0).val = (j 0).val; omega
  | ⟨1, _⟩ => show 0 + 1 * (j 1).val = (j 1).val; omega

section First
variable (hc : cond0_0 i)

theorem found7_A : (kernelRun0_A (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6).1
    = [⟨allRows, k0_pay16 A.dh A.scale A.rows A.gain A.past⟩] := rfl

theorem stored7_A : out0_A_7 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6
    = k0_pay16 (F := Ideal) A.dh A.scale A.rows A.gain A.past :=
  (View.read_writes_junk_eq_canon VO0_7 _).trans ((congrArg View.canon
    (found7_A c i A arg9 harg9 arg10 harg10 arg11 harg11 arg12 harg12 hc)).trans (View.canon_cons_unit_lit _ _ _ (by decide)))

theorem found8_A : (kernelRun0_A (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6).2.1
    = [⟨allRow, k0_pay1 (F := Ideal) (k0_pay12 A.dh) (k0_pay17 (arg10.view.readCov [⟨allRow, k0_pay4 (F := Ideal)⟩] allRow.toLoadRect))⟩, ⟨allRow, k0_pay4 (F := Ideal)⟩] := rfl

theorem stored8_A : out0_A_8 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6
    = k0_pay1 (F := Ideal) (k0_pay12 A.dh) (k0_pay17 (k0_pay4 (F := Ideal))) :=
  (View.read_writes_junk_eq_canon VO0_8 _).trans ((congrArg View.canon
    (found8_A c i A arg9 harg9 arg10 harg10 arg11 harg11 arg12 harg12 hc)).trans ((View.canon_cons_unit_lit _ _ _ (by decide)).trans
      (congrArg (fun v : Vec Ideal S1x1024 .f32 => k0_pay1 (k0_pay12 (F := Ideal) A.dh) (k0_pay17 v)) (loaded arg10 _))))

theorem found9_A : (kernelRun0_A (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6).2.2.1
    = [⟨allRow, k0_pay2 (k0_pay13 A.dh A.rows A.gain) (arg11.view.readCov [⟨allRow, k0_pay5 (F := Ideal)⟩] allRow.toLoadRect)⟩, ⟨allRow, k0_pay5 (F := Ideal)⟩] := rfl

theorem stored9_A : out0_A_9 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6
    = k0_pay2 (F := Ideal) (k0_pay13 A.dh A.rows A.gain) (k0_pay5 (F := Ideal)) :=
  (View.read_writes_junk_eq_canon VO0_9 _).trans ((congrArg View.canon
    (found9_A c i A arg9 harg9 arg10 harg10 arg11 harg11 arg12 harg12 hc)).trans ((View.canon_cons_unit_lit _ _ _ (by decide)).trans
      (congrArg (fun v : Vec Ideal S1x1024 .f32 => k0_pay2 (k0_pay13 (F := Ideal) A.dh A.rows A.gain) v) (loaded arg11 _))))

theorem found10_A : (kernelRun0_A (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6).2.2.2.1
    = [⟨allRow, k0_pay3 (k0_pay15 A.dh A.scale A.rows) (arg12.view.readCov [⟨allRow, k0_pay6 (F := Ideal)⟩] allRow.toLoadRect)⟩, ⟨allRow, k0_pay6 (F := Ideal)⟩] := rfl

theorem stored10_A : out0_A_10 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6
    = k0_pay3 (F := Ideal) (k0_pay15 A.dh A.scale A.rows) (k0_pay6 (F := Ideal)) :=
  (View.read_writes_junk_eq_canon VO0_10 _).trans ((congrArg View.canon
    (found10_A c i A arg9 harg9 arg10 harg10 arg11 harg11 arg12 harg12 hc)).trans ((View.canon_cons_unit_lit _ _ _ (by decide)).trans
      (congrArg (fun v : Vec Ideal S1x1024 .f32 => k0_pay3 (k0_pay15 (F := Ideal) A.dh A.scale A.rows) v) (loaded arg12 _))))

end First

section Next
variable (hc : ¬cond0_0 i) (xo8 xo9 xo10 : Vec Ideal S1x1024 .f32)

theorem found7_B : (kernelRun0_B (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10).1
    = [⟨allRows, k0_pay16 A.dh A.scale A.rows A.gain A.past⟩] := rfl

theorem stored7_B : out0_B_7 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10
    = k0_pay16 (F := Ideal) A.dh A.scale A.rows A.gain A.past :=
  (View.read_writes_junk_eq_canon VO0_7 _).trans ((congrArg View.canon
    (found7_B c i A arg9 harg9 arg10 harg10 arg11 harg11 arg12 harg12 hc xo8 xo9 xo10)).trans (View.canon_cons_unit_lit _ _ _ (by decide)))

theorem found8_B : (kernelRun0_B (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10).2.1
    = [⟨allRow, k0_pay1 (F := Ideal) (k0_pay12 A.dh) (k0_pay17 (View.readAt (Elt Ideal) arg10.view allRow.toLoadRect (harg10.unread xo8)))⟩] := rfl

theorem stored8_B : out0_B_8 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10
    = k0_pay1 (F := Ideal) (k0_pay12 A.dh) (k0_pay17 xo8) :=
  (View.read_writes_junk_eq_canon VO0_8 _).trans ((congrArg View.canon
    (found8_B c i A arg9 harg9 arg10 harg10 arg11 harg11 arg12 harg12 hc xo8 xo9 xo10)).trans ((View.canon_cons_unit_lit _ _ _ (by decide)).trans
      (congrArg (fun v : Vec Ideal S1x1024 .f32 => k0_pay1 (k0_pay12 (F := Ideal) A.dh) (k0_pay17 v)) (held arg10 harg10 _))))

theorem found9_B : (kernelRun0_B (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10).2.2.1
    = [⟨allRow, k0_pay2 (k0_pay13 A.dh A.rows A.gain) (View.readAt (Elt Ideal) arg11.view allRow.toLoadRect (harg11.unread xo9))⟩] := rfl

theorem stored9_B : out0_B_9 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10
    = k0_pay2 (F := Ideal) (k0_pay13 A.dh A.rows A.gain) xo9 :=
  (View.read_writes_junk_eq_canon VO0_9 _).trans ((congrArg View.canon
    (found9_B c i A arg9 harg9 arg10 harg10 arg11 harg11 arg12 harg12 hc xo8 xo9 xo10)).trans ((View.canon_cons_unit_lit _ _ _ (by decide)).trans
      (congrArg (fun v : Vec Ideal S1x1024 .f32 => k0_pay2 (k0_pay13 (F := Ideal) A.dh A.rows A.gain) v) (held arg11 harg11 _))))

theorem found10_B : (kernelRun0_B (F := Ideal) c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10).2.2.2.1
    = [⟨allRow, k0_pay3 (k0_pay15 A.dh A.scale A.rows) (View.readAt (Elt Ideal) arg12.view allRow.toLoadRect (harg12.unread xo10))⟩] := rfl

theorem stored10_B : out0_B_10 c i A.m1 A.h1 A.m2 A.h2 A.m3 A.h3 A.m4 A.h4 A.m5 A.h5 A.m6 A.h6 A.m7 A.h7 arg9 harg9 arg10 harg10 arg11 harg11 arg12 harg12 hc A.x0 A.x1 A.x2 A.x3 A.x4 A.x5 A.x6 xo8 xo9 xo10
    = k0_pay3 (F := Ideal) (k0_pay15 A.dh A.scale A.rows) xo10 :=
  (View.read_writes_junk_eq_canon VO0_10 _).trans ((congrArg View.canon
    (found10_B c i A arg9 harg9 arg10 harg10 arg11 harg11 arg12 harg12 hc xo8 xo9 xo10)).trans ((View.canon_cons_unit_lit _ _ _ (by decide)).trans
      (congrArg (fun v : Vec Ideal S1x1024 .f32 => k0_pay3 (k0_pay15 (F := Ideal) A.dh A.scale A.rows) v) (held arg12 harg12 _))))

end Next

end Stored

end Cert.Kernel2Ideal.Norm

end
-- ==== Proof.NormArrays.lean ====
/- From the body of the norm's backward kernel to its arrays: every grid point works on 512 rows, and the gradients of the shift, of the
   scale and of the norm's weights grow from point to point. -/
module

public import proofs.«01_k».proof.Proof.NormBody
public import Idealize.ShloMosaic.Lib.Pipeline.ValueKit.Point
public import Idealize.ShloMosaic.Lib.Claim

@[expose] public section

set_option maxRecDepth 16384

noncomputable section

namespace Cert.Kernel2Ideal.Norm

open Cert.Kernel2Ideal Cert.Kernel2Ideal.Gen Cert.Kernel2Ideal.Value Idealize.ShloMosaic Idealize.ShloMosaic.TcCoe Idealize.SL.Sem
open Cert.NormGrad

variable (m : (ℓ : Loc nD τ sig) → Buf (Elt Ideal) ℓ) (c : Dev nD)

/-- The row and the column a block places an entry at. -/
def rowOf (t : Fin cfg0.N) (r : Fin 512) : Fin 2048 := ⟨t.val * 512 + r.val, by have h : t.val < 4 := t.isLt; omega⟩
def colOf (j : ℕ) (h : j < 8) (k : Fin 512) : Fin 4096 := ⟨j * 512 + k.val, by omega⟩

/-- The arguments. -/
def args : Args where
  p q k := m ((c : Thread nD τ).loc main_arg0) (ix2 q k)
  w d k := m ((c : Thread nD τ).loc main_arg1) (ix2 d k)
  x q d := m ((c : Thread nD τ).loc main_arg2) (ix2 q d)
  y q d := m ((c : Thread nD τ).loc main_arg3) (ix2 q d)
  g d := m ((c : Thread nD τ).loc main_arg4) (ix2 0 d)
  s d := (fun a b : EReal => a + b) (m ((c : Thread nD τ).loc main_arg5) (ix2 0 ⟨1024 + d.val, by omega⟩))
    (m ((c : Thread nD τ).loc main_arg6) (ix2 0 ⟨1024 + d.val, by omega⟩))

/-! ## The host's layouts -/

set_option maxHeartbeats 1000000 in
theorem laid_cols (j : ℕ) (h : j < 8) (q : Fin 2048) (k : Fin 512) :
    (V m c main_v1 : Vec Ideal S8x2048x512 .bf16) (ix3 ⟨j, h⟩ q k) = (args m c).p q (colOf j h k) := by
  unfold V
  simp only [hostOps0, StableHlo.TRef.unary, StableHlo.TRef.toBuf, StableHlo.TRef.ofBuf, cast_eq]
  after_results_simp
  pointwise
  rfl

set_option maxHeartbeats 1000000 in
theorem laid_weight (j : ℕ) (h : j < 4) (d : Fin 1024) (k : Fin 1024) :
    (V m c main_v4 : Vec Ideal S4x1024x1024 .bf16) (ix3 ⟨j, h⟩ d k) = (args m c).w d ⟨j * 1024 + k, by omega⟩ := by
  unfold V
  simp only [hostOps0, StableHlo.TRef.unary, StableHlo.TRef.toBuf, StableHlo.TRef.ofBuf, cast_eq]
  after_results_simp
  pointwise
  rfl

/-! ## The windows -/

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, 0, 0] :=
  (by decide +kernel : ∀ t : Fin grid0.N, win0_1.index t = ![0, 0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val, 0] :=
  (by decide +kernel : ∀ t : Fin grid0.N, win0_7.index t = ![t.val, 0])

set_option maxHeartbeats 1000000 in
theorem block0 (t : Fin cfg0.N) (j : ℕ) (h : j < 8) (r : Fin 512) (k : Fin 512) :
    (iblk m c 0 t) (ix3 ⟨j, h⟩ r k) = (args m c).p (rowOf t r) (colOf j h k) := by
  refine Eq.trans ?_ (laid_cols m c j h (rowOf t r) k)
  blk_ext [iblk, idx0 t]
  rfl

set_option maxHeartbeats 1000000 in
theorem block1 (t : Fin cfg0.N) (j : ℕ) (h : j < 4) (d k : Fin 1024) :
    (iblk m c 1 t) (ix3 ⟨j, h⟩ d k) = (args m c).w d ⟨j * 1024 + k, by omega⟩ := by
  refine Eq.trans ?_ (laid_weight m c j h d k)
  blk_ext [iblk, idx1 t]

set_option maxHeartbeats 1000000 in
theorem block2 (t : Fin cfg0.N) (r : Fin 512) (d : Fin 1024) :
    (iblk m c 2 t) (ix2 r d) = (args m c).x (rowOf t r) d := by
  refine Eq.trans ?_ (congrFun (V_main_arg2 m c) (ix2 (rowOf t r) d))
  blk_ext [iblk, idx2 t]
  rfl

set_option maxHeartbeats 1000000 in
theorem block3 (t : Fin cfg0.N) (r : Fin 512) (d : Fin 1024) :
    (iblk m c 3 t) (ix2 r d) = (args m c).y (rowOf t r) d := by
  refine Eq.trans ?_ (congrFun (V_main_arg3 m c) (ix2 (rowOf t r) d))
  blk_ext [iblk, idx3 t]
  rfl

set_option maxHeartbeats 1000000 in
theorem block4 (t : Fin cfg0.N) (d : Fin 1024) :
    (iblk m c 4 t) (ix2 0 d) = (args m c).g d := by
  refine Eq.trans ?_ (congrFun (V_main_arg4 m c) (ix2 0 d))
  blk_ext [iblk, idx4 t]

set_option maxHeartbeats 1000000 in
theorem block5 (t : Fin cfg0.N) (k : Fin 3072) :
    (iblk m c 5 t) (ix2 0 k) = m ((c : Thread nD τ).loc main_arg5) (ix2 0 k) := by
  refine Eq.trans ?_ (congrFun (V_main_arg5 m c) (ix2 0 k))
  blk_ext [iblk, idx5 t]

set_option maxHeartbeats 1000000 in
theorem block6 (t : Fin cfg0.N) (k : Fin 3072) :
    (iblk m c 6 t) (ix2 0 k) = m ((c : Thread nD τ).loc main_arg6) (ix2 0 k) := by
  refine Eq.trans ?_ (congrFun (V_main_arg6 m c) (ix2 0 k))
  blk_ext [iblk, idx6 t]

/-- The windows of a grid point. -/
def inAt (t : Fin cfg0.N) : In where
  m1 := ms0_0 t
  h1 := hs0_0 t
  m2 := ms0_1 t
  h2 := hs0_1 t
  m3 := ms0_2 t
  h3 := hs0_2 t
  m4 := ms0_3 t
  h4 := hs0_3 t
  m5 := ms0_4 t
  h5 := hs0_4 t
  m6 := ms0_5 t
  h6 := hs0_5 t
  m7 := ms0_6 t
  h7 := hs0_6 t
  x0 := iblk m c 0 t
  x1 := iblk m c 1 t
  x2 := iblk m c 2 t
  x3 := iblk m c 3 t
  x4 := iblk m c 4 t
  x5 := iblk m c 5 t
  x6 := iblk m c 6 t

/-! ## A grid point's loads -/

section Loads

variable (t : Fin cfg0.N)

theorem cols_at (j : ℕ) (h : j < 8) (r k : Fin 512) :
    (inAt m c t).cols j h (ix3 0 r k) = (args m c).p (rowOf t r) (colOf j h k) := by
  refine Eq.trans ?_ (block0 m c t j h r k)
  refine ((inAt m c t).h1.readAt_unread _ _ _).trans (congrArg (iblk m c 0 t) (funext fun a => Fin.ext ?_))
  match a with
  | ⟨0, _⟩ => show j + 1 * 0 = j; omega
  | ⟨1, _⟩ => show 0 + 1 * r.val = r.val; omega
  | ⟨2, _⟩ => show 0 + 1 * k.val = k.val; omega

theorem half_at (j o : ℕ) (h : j < 4) (ho : o ≤ 512) (d : Fin 1024) (k : Fin 512) :
    (inAt m c t).half j o h ho (ix3 0 d k) = (args m c).w d ⟨j * 1024 + (o + k), by omega⟩ := by
  refine Eq.trans ?_ (block1 m c t j h d ⟨o + k, by omega⟩)
  refine ((inAt m c t).h2.readAt_unread _ _ _).trans (congrArg (iblk m c 1 t) (funext fun a => Fin.ext ?_))
  match a with
  | ⟨0, _⟩ => show j + 1 * 0 = j; omega
  | ⟨1, _⟩ => show 0 + 1 * d.val = d.val; omega
  | ⟨2, _⟩ => show o + 1 * k.val = o + k.val; omega

theorem rows_at (r : Fin 512) (d : Fin 1024) : (inAt m c t).rows (ix2 r d) = (args m c).x (rowOf t r) d := by
  refine Eq.trans ?_ (block2 m c t r d)
  refine ((inAt m c t).h3.readAt_unread _ _ _).trans (congrArg (iblk m c 2 t) (funext fun a => Fin.ext ?_))
  match a with
  | ⟨0, _⟩ => show 0 + 1 * r.val = r.val; omega
  | ⟨1, _⟩ => show 0 + 1 * d.val = d.val; omega

theorem past_at (r : Fin 512) (d : Fin 1024) : (inAt m c t).past (ix2 r d) = (args m c).y (rowOf t r) d := by
  refine Eq.trans ?_ (block3 m c t r d)
  refine ((inAt m c t).h4.readAt_unread _ _ _).trans (congrArg (iblk m c 3 t) (funext fun a => Fin.ext ?_))
  match a with
  | ⟨0, _⟩ => show 0 + 1 * r.val = r.val; omega
  | ⟨1, _⟩ => show 0 + 1 * d.val = d.val; omega

theorem gain_at (d : Fin 1024) : (inAt m c t).gain (ix2 0 d) = (args m c).g d := by
  refine Eq.trans ?_ (block4 m c t d)
  refine ((inAt m c t).h5.readAt_unread _ _ _).trans (congrArg (iblk m c 4 t) (funext fun a => Fin.ext ?_))
  match a with
  | ⟨0, _⟩ => rfl
  | ⟨1, _⟩ => show 0 + 1 * d.val = d.val; omega

theorem scale_at (d : Fin 1024) : (inAt m c t).scale (ix2 0 d) = (args m c).s d := by
  refine Eq.trans (show (inAt m c t).scale (ix2 0 d) = (fun a b : EReal => a + b) _ _ from rfl) (congrArg₂ (fun a b : EReal => a + b) ?_ ?_)
  · refine Eq.trans ?_ (block5 m c t ⟨1024 + d.val, by omega⟩)
    refine ((inAt m c t).h6.readAt_unread _ _ _).trans (congrArg (iblk m c 5 t) (funext fun a => Fin.ext ?_))
    match a with
    | ⟨0, _⟩ => rfl
    | ⟨1, _⟩ => show 1024 + 1 * d.val = 1024 + d.val; omega
  · refine Eq.trans ?_ (block6 m c t ⟨1024 + d.val, by omega⟩)
    refine ((inAt m c t).h7.readAt_unread _ _ _).trans (congrArg (iblk m c 6 t) (funext fun a => Fin.ext ?_))
    match a with
    | ⟨0, _⟩ => rfl
    | ⟨1, _⟩ => show 1024 + 1 * d.val = 1024 + d.val; omega

theorem part_at (j o : ℕ) (h : j < 4) (ho : o ≤ 512) (i : ℕ) (hi : i < 8) (e : i * 512 = j * 1024 + o) (r : Fin 512) (d : Fin 1024) :
    part ((inAt m c t).cols i hi) ((inAt m c t).half j o h ho) r d
      = ∑ k : Fin 512, (args m c).p (rowOf t r) (colOf i hi k) * (args m c).w d (colOf i hi k) := by
  refine Finset.sum_congr rfl fun k _ => ?_
  rw [cols_at, half_at]
  refine congrArg (fun k' => (args m c).p (rowOf t r) (colOf i hi k) * (args m c).w d k') (Fin.ext ?_)
  show j * 1024 + (o + k.val) = i * 512 + k.val
  omega

/-- The gradient of the modulated rows: eight blocks of 512 columns are all 4096. -/
theorem dh_at (r : Fin 512) (d : Fin 1024) : (inAt m c t).dh (ix2 r d) = (args m c).dh (rowOf t r) d := by
  rw [In.dh, pay8_at, pay7_at, part_at m c t 0 0 _ _ 0 _ rfl, part_at m c t 0 512 _ _ 1 _ rfl, part_at m c t 1 0 _ _ 2 _ rfl,
    part_at m c t 1 512 _ _ 3 _ rfl, part_at m c t 2 0 _ _ 4 _ rfl, part_at m c t 2 512 _ _ 5 _ rfl, part_at m c t 3 0 _ _ 6 _ rfl,
    part_at m c t 3 512 _ _ 7 _ rfl]
  refine Eq.symm ((sum_blocks 8 512 fun k => (args m c).p (rowOf t r) k * (args m c).w d k).trans ?_)
  rw [Fin.sum_univ_eight]
  rfl

end Loads

/-! ## What a grid point leaves -/

section Points

variable (t : Fin cfg0.N)

/-- A grid point's share of the gradient of the shift, of the scale and of the norm's weights. -/
def addShift (d : Fin 1024) : EReal := ∑ r : Fin 512, (args m c).dh (rowOf t r) d
def addScale (d : Fin 1024) : EReal :=
  ∑ r : Fin 512, (args m c).dh (rowOf t r) d * ((args m c).x (rowOf t r) d * root ((args m c).x (rowOf t r)) * (args m c).g d)
def addGain (d : Fin 1024) : EReal :=
  ∑ r : Fin 512, (args m c).dh (rowOf t r) d * (Ideal.ofBits .f32 0x3F800000#32 + (args m c).s d)
    * ((args m c).x (rowOf t r) d * root ((args m c).x (rowOf t r)))

theorem shift_at (d : Fin 1024) : k0_pay12 (F := Ideal) (inAt m c t).dh (ix2 0 d) = addShift m c t d := by
  rw [pay12_at]; simp only [dh_at]; rfl

theorem scale_share (d : Fin 1024) : k0_pay13 (F := Ideal) (inAt m c t).dh (inAt m c t).rows (inAt m c t).gain (ix2 0 d) = addScale m c t d := by
  rw [pay13_at]; simp only [dh_at, rows_at, gain_at]; rfl

theorem gain_share (d : Fin 1024) : k0_pay15 (F := Ideal) (inAt m c t).dh (inAt m c t).scale (inAt m c t).rows (ix2 0 d) = addGain m c t d := by
  rw [pay15_at]; simp only [dh_at, rows_at, scale_at]; rfl

theorem row_share (r : Fin 512) (d : Fin 1024) :
    k0_pay16 (F := Ideal) (inAt m c t).dh (inAt m c t).scale (inAt m c t).rows (inAt m c t).gain (inAt m c t).past (ix2 r d)
      = (args m c).dX (rowOf t r) d := by
  rw [pay16_at]; simp only [dh_at, rows_at, scale_at, gain_at, past_at]; rfl

set_option maxHeartbeats 1000000 in
/-- The body's stores at a grid point. -/
theorem stores7_A (h : t.val % 4 = 0) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t)
    = k0_pay16 (F := Ideal) (inAt m c t).dh (inAt m c t).scale (inAt m c t).rows (inAt m c t).gain (inAt m c t).past :=
  stored7_A c (grid0.coords t) (inAt m c t) (ms0_7 t) (hs0_7 t) (ms0_8 t) (hs0_8 t) (ms0_9 t) (hs0_9 t) (ms0_10 t) (hs0_10 t) ((hcond0_0 t).mpr h)

theorem holds7_A (h : t.val % 4 = 0) : (outsAt0 m c t.val t.isLt).1
    = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t) := by
  rw [outsAt0_A m c t h]

theorem leaves7_A (h : t.val % 4 = 0) : (outsAt0 m c t.val t.isLt).1
    = k0_pay16 (F := Ideal) (inAt m c t).dh (inAt m c t).scale (inAt m c t).rows (inAt m c t).gain (inAt m c t).past :=
  (holds7_A m c t h).trans (stores7_A m c t h)

set_option maxHeartbeats 1000000 in
theorem stores7_B (h : ¬t.val % 4 = 0) : out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    = k0_pay16 (F := Ideal) (inAt m c t).dh (inAt m c t).scale (inAt m c t).rows (inAt m c t).gain (inAt m c t).past :=
  stored7_B c (grid0.coords t) (inAt m c t) (ms0_7 t) (hs0_7 t) (ms0_8 t) (hs0_8 t) (ms0_9 t) (hs0_9 t) (ms0_10 t) (hs0_10 t) (fun k => h ((hcond0_0 t).mp k)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem holds7_B (h : ¬t.val % 4 = 0) : (outsAt0 m c t.val t.isLt).1
    = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h]

theorem leaves7_B (h : ¬t.val % 4 = 0) : (outsAt0 m c t.val t.isLt).1
    = k0_pay16 (F := Ideal) (inAt m c t).dh (inAt m c t).scale (inAt m c t).rows (inAt m c t).gain (inAt m c t).past :=
  (holds7_B m c t h).trans (stores7_B m c t h)

set_option maxHeartbeats 1000000 in
theorem stores8_A (h : t.val % 4 = 0) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t)
    = k0_pay1 (F := Ideal) (k0_pay12 (inAt m c t).dh) (k0_pay17 (k0_pay4 (F := Ideal))) :=
  stored8_A c (grid0.coords t) (inAt m c t) (ms0_7 t) (hs0_7 t) (ms0_8 t) (hs0_8 t) (ms0_9 t) (hs0_9 t) (ms0_10 t) (hs0_10 t) ((hcond0_0 t).mpr h)

theorem holds8_A (h : t.val % 4 = 0) : (outsAt0 m c t.val t.isLt).2.1
    = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t) := by
  rw [outsAt0_A m c t h]

theorem leaves8_A (h : t.val % 4 = 0) : (outsAt0 m c t.val t.isLt).2.1
    = k0_pay1 (F := Ideal) (k0_pay12 (inAt m c t).dh) (k0_pay17 (k0_pay4 (F := Ideal))) :=
  (holds8_A m c t h).trans (stores8_A m c t h)

set_option maxHeartbeats 1000000 in
theorem stores8_B (h : ¬t.val % 4 = 0) : out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    = k0_pay1 (F := Ideal) (k0_pay12 (inAt m c t).dh) (k0_pay17 (outsAt0 m c (t.val - 1) (Nat.lt_of_le_of_lt (Nat.sub_le _ _) t.isLt)).2.1) :=
  stored8_B c (grid0.coords t) (inAt m c t) (ms0_7 t) (hs0_7 t) (ms0_8 t) (hs0_8 t) (ms0_9 t) (hs0_9 t) (ms0_10 t) (hs0_10 t) (fun k => h ((hcond0_0 t).mp k)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem holds8_B (h : ¬t.val % 4 = 0) : (outsAt0 m c t.val t.isLt).2.1
    = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h]

theorem leaves8_B (h : ¬t.val % 4 = 0) : (outsAt0 m c t.val t.isLt).2.1
    = k0_pay1 (F := Ideal) (k0_pay12 (inAt m c t).dh) (k0_pay17 (outsAt0 m c (t.val - 1) (Nat.lt_of_le_of_lt (Nat.sub_le _ _) t.isLt)).2.1) :=
  (holds8_B m c t h).trans (stores8_B m c t h)

set_option maxHeartbeats 1000000 in
theorem stores9_A (h : t.val % 4 = 0) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t)
    = k0_pay2 (F := Ideal) (k0_pay13 (inAt m c t).dh (inAt m c t).rows (inAt m c t).gain) (k0_pay5 (F := Ideal)) :=
  stored9_A c (grid0.coords t) (inAt m c t) (ms0_7 t) (hs0_7 t) (ms0_8 t) (hs0_8 t) (ms0_9 t) (hs0_9 t) (ms0_10 t) (hs0_10 t) ((hcond0_0 t).mpr h)

theorem holds9_A (h : t.val % 4 = 0) : (outsAt0 m c t.val t.isLt).2.2.1
    = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t) := by
  rw [outsAt0_A m c t h]

theorem leaves9_A (h : t.val % 4 = 0) : (outsAt0 m c t.val t.isLt).2.2.1
    = k0_pay2 (F := Ideal) (k0_pay13 (inAt m c t).dh (inAt m c t).rows (inAt m c t).gain) (k0_pay5 (F := Ideal)) :=
  (holds9_A m c t h).trans (stores9_A m c t h)

set_option maxHeartbeats 1000000 in
theorem stores9_B (h : ¬t.val % 4 = 0) : out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    = k0_pay2 (F := Ideal) (k0_pay13 (inAt m c t).dh (inAt m c t).rows (inAt m c t).gain) (outsAt0 m c (t.val - 1) (Nat.lt_of_le_of_lt (Nat.sub_le _ _) t.isLt)).2.2.1 :=
  stored9_B c (grid0.coords t) (inAt m c t) (ms0_7 t) (hs0_7 t) (ms0_8 t) (hs0_8 t) (ms0_9 t) (hs0_9 t) (ms0_10 t) (hs0_10 t) (fun k => h ((hcond0_0 t).mp k)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem holds9_B (h : ¬t.val % 4 = 0) : (outsAt0 m c t.val t.isLt).2.2.1
    = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h]

theorem leaves9_B (h : ¬t.val % 4 = 0) : (outsAt0 m c t.val t.isLt).2.2.1
    = k0_pay2 (F := Ideal) (k0_pay13 (inAt m c t).dh (inAt m c t).rows (inAt m c t).gain) (outsAt0 m c (t.val - 1) (Nat.lt_of_le_of_lt (Nat.sub_le _ _) t.isLt)).2.2.1 :=
  (holds9_B m c t h).trans (stores9_B m c t h)

set_option maxHeartbeats 1000000 in
theorem stores10_A (h : t.val % 4 = 0) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t)
    = k0_pay3 (F := Ideal) (k0_pay15 (inAt m c t).dh (inAt m c t).scale (inAt m c t).rows) (k0_pay6 (F := Ideal)) :=
  stored10_A c (grid0.coords t) (inAt m c t) (ms0_7 t) (hs0_7 t) (ms0_8 t) (hs0_8 t) (ms0_9 t) (hs0_9 t) (ms0_10 t) (hs0_10 t) ((hcond0_0 t).mpr h)

theorem holds10_A (h : t.val % 4 = 0) : (outsAt0 m c t.val t.isLt).2.2.2
    = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) (iblk m c 6 t) := by
  rw [outsAt0_A m c t h]

theorem leaves10_A (h : t.val % 4 = 0) : (outsAt0 m c t.val t.isLt).2.2.2
    = k0_pay3 (F := Ideal) (k0_pay15 (inAt m c t).dh (inAt m c t).scale (inAt m c t).rows) (k0_pay6 (F := Ideal)) :=
  (holds10_A m c t h).trans (stores10_A m c t h)

set_option maxHeartbeats 1000000 in
theorem stores10_B (h : ¬t.val % 4 = 0) : out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    = k0_pay3 (F := Ideal) (k0_pay15 (inAt m c t).dh (inAt m c t).scale (inAt m c t).rows) (outsAt0 m c (t.val - 1) (Nat.lt_of_le_of_lt (Nat.sub_le _ _) t.isLt)).2.2.2 :=
  stored10_B c (grid0.coords t) (inAt m c t) (ms0_7 t) (hs0_7 t) (ms0_8 t) (hs0_8 t) (ms0_9 t) (hs0_9 t) (ms0_10 t) (hs0_10 t) (fun k => h ((hcond0_0 t).mp k)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem holds10_B (h : ¬t.val % 4 = 0) : (outsAt0 m c t.val t.isLt).2.2.2
    = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h]

theorem leaves10_B (h : ¬t.val % 4 = 0) : (outsAt0 m c t.val t.isLt).2.2.2
    = k0_pay3 (F := Ideal) (k0_pay15 (inAt m c t).dh (inAt m c t).scale (inAt m c t).rows) (outsAt0 m c (t.val - 1) (Nat.lt_of_le_of_lt (Nat.sub_le _ _) t.isLt)).2.2.2 :=
  (holds10_B m c t h).trans (stores10_B m c t h)

theorem left7 (r : Fin 512) (d : Fin 1024) : (outsAt0 m c t.val t.isLt).1 (ix2 r d) = (args m c).dX (rowOf t r) d := by
  refine Eq.trans ?_ (row_share m c t r d)
  by_cases h : t.val % 4 = 0
  · exact congrFun (leaves7_A m c t h) _
  · exact congrFun (leaves7_B m c t h) _

theorem zero_word : Ideal.ofBits .f32 0x00000000#32 = (0 : EReal) := Ideal.ofBits_zero .f32

theorem left8_first (h : t.val % 4 = 0) (d : Fin 1024) : (outsAt0 m c t.val t.isLt).2.1 (ix2 0 d) = addShift m c t d := by
  refine (congrFun (leaves8_A m c t h) _).trans ?_
  rw [← shift_at]
  pointwise [k0_pay1, k0_pay17, k0_pay4]

theorem left8_next (h : ¬t.val % 4 = 0) (d : Fin 1024) : (outsAt0 m c t.val t.isLt).2.1 (ix2 0 d)
    = (fun a b : EReal => a + b) ((outsAt0 m c (t.val - 1) (Nat.lt_of_le_of_lt (Nat.sub_le _ _) t.isLt)).2.1 (ix2 0 d)) (addShift m c t d) := by
  refine (congrFun (leaves8_B m c t h) _).trans ?_
  rw [← shift_at]
  pointwise [k0_pay1, k0_pay17]

theorem left9_first (h : t.val % 4 = 0) (d : Fin 1024) : (outsAt0 m c t.val t.isLt).2.2.1 (ix2 0 d) = addScale m c t d := by
  refine (congrFun (leaves9_A m c t h) _).trans ?_
  rw [← scale_share]
  pointwise [k0_pay2, k0_pay5]

theorem left9_next (h : ¬t.val % 4 = 0) (d : Fin 1024) : (outsAt0 m c t.val t.isLt).2.2.1 (ix2 0 d)
    = (fun a b : EReal => a + b) ((outsAt0 m c (t.val - 1) (Nat.lt_of_le_of_lt (Nat.sub_le _ _) t.isLt)).2.2.1 (ix2 0 d)) (addScale m c t d) := by
  refine (congrFun (leaves9_B m c t h) _).trans ?_
  rw [← scale_share]
  pointwise [k0_pay2]

theorem left10_first (h : t.val % 4 = 0) (d : Fin 1024) : (outsAt0 m c t.val t.isLt).2.2.2 (ix2 0 d) = addGain m c t d := by
  refine (congrFun (leaves10_A m c t h) _).trans ?_
  rw [← gain_share]
  pointwise [k0_pay3, k0_pay6]

theorem left10_next (h : ¬t.val % 4 = 0) (d : Fin 1024) : (outsAt0 m c t.val t.isLt).2.2.2 (ix2 0 d)
    = (fun a b : EReal => a + b) ((outsAt0 m c (t.val - 1) (Nat.lt_of_le_of_lt (Nat.sub_le _ _) t.isLt)).2.2.2 (ix2 0 d)) (addGain m c t d) := by
  refine (congrFun (leaves10_B m c t h) _).trans ?_
  rw [← gain_share]
  pointwise [k0_pay3]

end Points

/-! ## The arrays -/

/-- The last grid point, after which the three sums are written back. -/
def last : Fin cfg0.N := ⟨3, by decide⟩

/-- Four blocks of 512 rows are all 2048. -/
theorem all_rows (f : Fin 2048 → EReal) :
    (∑ r, f (rowOf ⟨0, by decide⟩ r)) + (∑ r, f (rowOf ⟨1, by decide⟩ r)) + (∑ r, f (rowOf ⟨2, by decide⟩ r)) + (∑ r, f (rowOf last r))
      = ∑ q, f q := by
  refine Eq.symm ((sum_blocks 4 512 f).trans ?_)
  rw [Fin.sum_univ_four]
  rfl

theorem total8 (d : Fin 1024) : (outsAt0 m c 3 (by decide)).2.1 (ix2 0 d) = (args m c).dShift d := by
  refine (left8_next m c last (by decide) d).trans ?_
  refine Eq.trans (congrArg (fun a : EReal => a + addShift m c last d) ((left8_next m c ⟨2, by decide⟩ (by decide) d).trans
    (congrArg (fun a : EReal => a + addShift m c ⟨2, by decide⟩ d) ((left8_next m c ⟨1, by decide⟩ (by decide) d).trans
      (congrArg (fun a : EReal => a + addShift m c ⟨1, by decide⟩ d) (left8_first m c ⟨0, by decide⟩ (by decide) d)))))) ?_
  exact all_rows fun q => (args m c).dh q d

theorem total9 (d : Fin 1024) : (outsAt0 m c 3 (by decide)).2.2.1 (ix2 0 d) = (args m c).dScale d := by
  refine (left9_next m c last (by decide) d).trans ?_
  refine Eq.trans (congrArg (fun a : EReal => a + addScale m c last d) ((left9_next m c ⟨2, by decide⟩ (by decide) d).trans
    (congrArg (fun a : EReal => a + addScale m c ⟨2, by decide⟩ d) ((left9_next m c ⟨1, by decide⟩ (by decide) d).trans
      (congrArg (fun a : EReal => a + addScale m c ⟨1, by decide⟩ d) (left9_first m c ⟨0, by decide⟩ (by decide) d)))))) ?_
  exact all_rows fun q => (args m c).dh q d * ((args m c).x q d * root ((args m c).x q) * (args m c).g d)

theorem total10 (d : Fin 1024) : (outsAt0 m c 3 (by decide)).2.2.2 (ix2 0 d) = (args m c).dGain d := by
  refine (left10_next m c last (by decide) d).trans ?_
  refine Eq.trans (congrArg (fun a : EReal => a + addGain m c last d) ((left10_next m c ⟨2, by decide⟩ (by decide) d).trans
    (congrArg (fun a : EReal => a + addGain m c ⟨2, by decide⟩ d) ((left10_next m c ⟨1, by decide⟩ (by decide) d).trans
      (congrArg (fun a : EReal => a + addGain m c ⟨1, by decide⟩ d) (left10_first m c ⟨0, by decide⟩ (by decide) d)))))) ?_
  exact all_rows fun q => (args m c).dh q d * (Ideal.ofBits .f32 0x3F800000#32 + (args m c).s d) * ((args m c).x q d * root ((args m c).x q))

/-- The grid point that works on a row, and the row's place there. -/
def pointOf (q : Fin 2048) : Fin cfg0.N := ⟨q.val / 512, show q.val / 512 < 4 by omega⟩
def placeOf (q : Fin 2048) : Fin 512 := ⟨q.val % 512, by omega⟩

theorem rowOf_point (q : Fin 2048) : rowOf (pointOf q) (placeOf q) = q := Fin.ext (by
  show q.val / 512 * 512 + q.val % 512 = q.val
  omega)

theorem arr7 (q : Fin 2048) (d : Fin 1024) :
    ((dats m 0 c).arrAt 7 cfg0.N : Vec Ideal S2048x1024 .f32) (ix2 q d) = (args m c).dX q d := by
  refine Eq.trans ?_ ((congrFun (blocks7 m c (pointOf q) (flush0_7 (pointOf q))) (ix2 (placeOf q) d)).trans
    ((congrFun (flushed7 m c (pointOf q)) _).trans ((left7 m c (pointOf q) (placeOf q) d).trans (by rw [rowOf_point]))))
  refine congrArg ((dats m 0 c).arrAt 7 cfg0.N) ?_
  blk_ext [idx7 (pointOf q)]
  show q.val = q.val / 512 * 512 + q.val % 512
  omega

theorem arr8 (d : Fin 1024) : ((dats m 0 c).arrAt 8 cfg0.N : Vec Ideal S1x1024 .f32) (ix2 0 d) = (args m c).dShift d := by
  refine ((dats m 0 c).arrAt_emb_eq_after_last 8 last (by decide +kernel) (ix2 0 d)).trans ?_
  exact (congrFun (after0_8 m c last) _).trans (total8 m c d)

theorem arr9 (d : Fin 1024) : ((dats m 0 c).arrAt 9 cfg0.N : Vec Ideal S1x1024 .f32) (ix2 0 d) = (args m c).dScale d := by
  refine ((dats m 0 c).arrAt_emb_eq_after_last 9 last (by decide +kernel) (ix2 0 d)).trans ?_
  exact (congrFun (after0_9 m c last) _).trans (total9 m c d)

theorem arr10 (d : Fin 1024) : ((dats m 0 c).arrAt 10 cfg0.N : Vec Ideal S1x1024 .f32) (ix2 0 d) = (args m c).dGain d := by
  refine ((dats m 0 c).arrAt_emb_eq_after_last 10 last (by decide +kernel) (ix2 0 d)).trans ?_
  exact (congrFun (after0_10 m c last) _).trans (total10 m c d)

end Cert.Kernel2Ideal.Norm

end
-- ==== Proof.NormRef.lean ====
/- The arrays of the norm's reference at their coordinates. -/
module

public import proofs.«01_k».proof.Proof.NormSpec
public import proofs.«01_k».proof.Proof.Gen.Reference2Ideal.Read

@[expose] public section

set_option maxRecDepth 16384

noncomputable section

namespace Cert.Reference2Ideal.Norm

open Idealize.ShloMosaic Cert.Reference2Ideal Cert.Reference2Ideal.Facts₀ Cert.Reference2Ideal.Read Cert.NormGrad

local notation "𝔼" => Idealize.ShloMosaic.Ideal

abbrev Cols := (⟨S2048x4096, .bf16⟩ : BufTy).Contents (Elt 𝔼)
abbrev Weight := (⟨S1024x4096, .f32⟩ : BufTy).Contents (Elt 𝔼)
abbrev Rows := (⟨S2048x1024, .f32⟩ : BufTy).Contents (Elt 𝔼)
abbrev Line := (⟨S1x1024, .f32⟩ : BufTy).Contents (Elt 𝔼)
abbrev Mods := (⟨S1x3072, .f32⟩ : BufTy).Contents (Elt 𝔼)

/-- The arguments. -/
def argsAt (x0 : Cols) (x1 : Weight) (x2 x3 : Rows) (x4 : Line) (x5 x6 : Mods) : Args where
  p q k := x0 (ix2 q k)
  w d k := x1 (ix2 d k)
  x q d := x2 (ix2 q d)
  y q d := x3 (ix2 q d)
  g d := x4 (ix2 0 d)
  s d := (fun a b : EReal => a + b) (x5 (ix2 0 ⟨1024 + d.val, by omega⟩)) (x6 (ix2 0 ⟨1024 + d.val, by omega⟩))

variable (x0 : Cols) (x1 : Weight) (x2 x3 : Rows) (x4 : Line) (x5 x6 : Mods) (q : Fin 2048) (d : Fin 1024)

local notation "A" => argsAt x0 x1 x2 x3 x4 x5 x6

theorem zero_word : Ideal.ofBits .f32 0x00000000#32 = (0 : EReal) := Ideal.ofBits_zero .f32

theorem square_at : val_main_v10 (F := 𝔼) x2 (ix2 q 0) = square ((A).x q) := by
  have z : val_main_cst (F := 𝔼) (Shape.Idx.first Gen.h_S_) = 0 := zero_word
  pointwise [val_main_v10, val_main_v8, val_main_v6, val_main_v5, val_main_v4, val_main_v7, val_main_v9]
  rw [z, zero_add]
  rfl

theorem root_at : val_main_v11 (F := 𝔼) x2 (ix2 q 0) = root ((A).x q) :=
  congrArg Ideal.rsqrt (square_at x0 x1 x2 x3 x4 x5 x6 q)

theorem dh_at : val_main_v27 (F := 𝔼) x0 x1 (ix2 q d) = (A).dh q d := by
  pointwise [val_main_v27, val_main_v26]
  rfl

theorem scale_at : val_main_v2 (F := 𝔼) x5 x6 (ix2 0 d) = (A).s d := by
  pointwise [val_main_v2, val_main_v0]
  rfl

theorem more_at : val_main_v20 (F := 𝔼) x5 x6 (ix2 0 d) = Ideal.ofBits .f32 0x3F800000#32 + (A).s d := by
  rw [val_main_v20_apply, scale_at x0 x1 x2 x3 x4]
  rfl

theorem unit_at : val_main_v16 (F := 𝔼) x2 (ix2 q d) = (A).x q d * root ((A).x q) := by
  rw [← root_at]
  pointwise [val_main_v16, val_main_v15]
  rfl

theorem gained_at : val_main_v18 (F := 𝔼) x2 x4 (ix2 q d) = (A).x q d * root ((A).x q) * (A).g d := by
  rw [← unit_at]
  pointwise [val_main_v18, val_main_v17]
  rfl

theorem scaled_at : val_main_v34 (F := 𝔼) x0 x1 x5 x6 (ix2 q d) = (A).dh q d * (Ideal.ofBits .f32 0x3F800000#32 + (A).s d) := by
  rw [← more_at, ← dh_at]
  pointwise [val_main_v34, val_main_v33]

theorem inner_at : val_main_v39 (F := 𝔼) x0 x1 x4 x5 x6 (ix2 q d) = NormGrad.inner ((A).dh q) (A).g (A).s d := by
  rw [NormGrad.inner, ← scaled_at]
  pointwise [val_main_v39, val_main_v38]
  rfl

theorem dShift_at : val_main_v29 (F := 𝔼) x0 x1 (ix2 0 d) = (A).dShift d := by
  have z : val_main_cst_4 (F := 𝔼) (Shape.Idx.first Gen.h_S_) = 0 := zero_word
  pointwise [val_main_v29, val_main_v28]
  rw [z, zero_add]
  exact Finset.sum_congr rfl fun q _ => dh_at x0 x1 x2 x3 x4 x5 x6 q d

theorem dScale_at : val_main_v32 (F := 𝔼) x0 x1 x2 x4 (ix2 0 d) = (A).dScale d := by
  have z : val_main_cst_5 (F := 𝔼) (Shape.Idx.first Gen.h_S_) = 0 := zero_word
  pointwise [val_main_v32, val_main_v31]
  rw [z, zero_add]
  refine Finset.sum_congr rfl fun q _ => ?_
  rw [val_main_v30_apply, gained_at x0 x1 x2 x3 x4 x5 x6, dh_at x0 x1 x2 x3 x4 x5 x6]
  exact mul_comm _ _

theorem dGain_at : val_main_v37 (F := 𝔼) x0 x1 x2 x5 x6 (ix2 0 d) = (A).dGain d := by
  have z : val_main_cst_6 (F := 𝔼) (Shape.Idx.first Gen.h_S_) = 0 := zero_word
  pointwise [val_main_v37, val_main_v36]
  rw [z, zero_add]
  refine Finset.sum_congr rfl fun q _ => ?_
  rw [val_main_v35_apply, unit_at x0 x1 x2 x3 x4 x5 x6, scaled_at x0 x1 x2 x3 x4 x5 x6]
  exact mul_comm _ _

theorem dot_at : val_main_v42 (F := 𝔼) x0 x1 x2 x4 x5 x6 (ix2 q 0)
    = ∑ k, (A).x q k * NormGrad.inner ((A).dh q) (A).g (A).s k := by
  have z : val_main_cst_7 (F := 𝔼) (Shape.Idx.first Gen.h_S_) = 0 := zero_word
  pointwise [val_main_v42, val_main_v41]
  rw [z, zero_add]
  refine Finset.sum_congr rfl fun k _ => ?_
  rw [val_main_v40_apply, inner_at x0 x1 x2 x3 x4 x5 x6]
  rfl

theorem slope_at : val_main_v14 (F := 𝔼) x2 (ix2 q 0)
    = Ideal.ofBits .f32 0xBF000000#32 * Ideal.div (root ((A).x q)) (square ((A).x q)) := by
  rw [val_main_v14_apply, val_main_v12_apply, root_at x0 x1 x2 x3 x4 x5 x6, square_at x0 x1 x2 x3 x4 x5 x6]
  rfl

theorem through_at : val_main_v50 (F := 𝔼) x0 x1 x2 x4 x5 x6 (ix2 q d) = through ((A).x q) ((A).dh q) (A).g (A).s := by
  have z : val_main_cst_9 (F := 𝔼) (Shape.Idx.first Gen.h_S_) = 0 := zero_word
  pointwise [val_main_v50, val_main_v49]
  rw [z, zero_add, Fin.sum_univ_one, val_main_v48_apply, val_main_v46_apply]
  refine Eq.trans (congrArg₂ Ideal.div (congrArg₂ (fun a b : EReal => a * b) (dot_at x0 x1 x2 x3 x4 x5 x6 q) (slope_at x0 x1 x2 x3 x4 x5 x6 q)) rfl) ?_
  rfl

theorem dX_at : val_main_v54 (F := 𝔼) x0 x1 x2 x3 x4 x5 x6 (ix2 q d)
    = rowPlain ((A).x q) ((A).y q) ((A).dh q) (A).g (A).s d := by
  rw [val_main_v54_apply, val_main_v53_apply, val_main_v52_apply, val_main_v51_apply, val_main_v45_apply, val_main_v44_apply,
    through_at x0 x1 x2 x3 x4 x5 x6, inner_at x0 x1 x2 x3 x4 x5 x6, val_main_v43_apply,
    show idx_main_v43 (ix2 q d) = ix2 q 0 from by funext a; match a with | 0 => rfl | 1 => rfl]
  refine Eq.trans ?_ (congrArg (fun r : EReal => (A).y q d + NormGrad.inner ((A).dh q) (A).g (A).s d * r
    + (A).x q d * through ((A).x q) ((A).dh q) (A).g (A).s + through ((A).x q) ((A).dh q) (A).g (A).s * (A).x q d)
      (root_at x0 x1 x2 x3 x4 x5 x6 q))
  rfl

end Cert.Reference2Ideal.Norm

end
-- ==== Proof.NormFinite.lean ====
/- The precondition of the norm's gradients read back: the arguments of the norm and of the projection are real numbers. -/
module

public import proofs.«01_k».proof.Pre_finite_x
public import proofs.«01_k».proof.Proof.Finite

@[expose] public section

namespace Cert.Pre_finite_x

open Idealize.ShloMosaic Cert.Pre_finite

theorem facts : Facts where
  bitsLt_bf16_f32 := by decide
  bcast_S_S2048x4096 := by decide
  reducesTo_S2048x4096_S_d0_1 := by decide
  h_S_ := by decide
  slices_S1x3072_S1x1024_0_1024 := by decide
  bcast_S_S1024x4096 := by decide
  reducesTo_S1024x4096_S_d0_1 := by decide
  bcast_S_S2048x1024 := by decide
  reducesTo_S2048x1024_S_d0_1 := by decide
  bcast_S_S1x1024 := by decide
  reducesTo_S1x1024_S_d0_1 := by decide

instance : Subsingleton S_.Idx := ⟨fun a b => funext fun i => i.elim0⟩

section
attribute [local instance] Cert.Pre_finite_x.facts
variable (a0 : FVec Ideal S2048x4096 .bf16) (a1 : FVec Ideal S1024x4096 .f32) (a2 a3 : FVec Ideal S2048x1024 .f32)
  (a4 : FVec Ideal S1x1024 .f32) (a5 a6 : FVec Ideal S1x3072 .f32) (a7 : FVec Ideal S8x128 .f32)

/-- The modulation's scale, cut out of the sum of its two rows. -/
theorem scale_at (d : Fin 1024) : extractStridedSlice S1x1024 ![0, 1024] (addf (F := Ideal) a5 a6) Facts.slices_S1x3072_S1x1024_0_1024 (ix2 0 d)
    = (fun a b : EReal => a + b) (a5 (ix2 0 ⟨1024 + d.val, by omega⟩)) (a6 (ix2 0 ⟨1024 + d.val, by omega⟩)) := by
  pointwise

theorem reals (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a4 i = r)
      ∧ ∀ d : Fin 1024, ∃ r : ℝ, (fun a b : EReal => a + b) (a5 (ix2 0 ⟨1024 + d.val, by omega⟩)) (a6 (ix2 0 ⟨1024 + d.val, by omega⟩)) = r := by
  have e := congrFun h ix0
  unfold fn fn_part1 at e
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨fun i => real_of_word (Host.reduce_andi_all _ _ _ _ _ e0 i), fun i => real_of_word (Host.reduce_andi_all _ _ _ _ _ e1 i),
    fun i => real_of_word (Host.reduce_andi_all _ _ _ _ _ e2 i), fun i => real_of_word (Host.reduce_andi_all _ _ _ _ _ e4 i),
    fun d => (real_of_word (Host.reduce_andi_all _ _ _ _ _ e5 (ix2 0 d))).imp fun r e => (scale_at a5 a6 d).symm.trans e⟩
end

end Cert.Pre_finite_x
-- ==== Proof.NormEqual.lean ====
/- The norm's backward kernel and its reference leave the same four gradients. -/
module

public import proofs.«01_k».proof.Defs
public import proofs.«01_k».proof.Proof.NormArrays
public import proofs.«01_k».proof.Proof.NormRef
public import proofs.«01_k».proof.Proof.NormFinite
public import proofs.«01_k».proof.Proof.Gen.Reference2Ideal.Run

@[expose] public section

set_option maxRecDepth 16384

noncomputable section

namespace Cert.NormGrad

open Idealize.ShloMosaic Idealize.SL.Sem Idealize.ShloMosaic.TcCoe

attribute [local instance] Cert.Pre_finite_x.facts

/-- The precondition makes the arguments real. -/
theorem finite_of_pre {m : (ℓ : Loc Cert.Kernel2Ideal.nD Cert.Kernel2Ideal.τ Cert.Kernel2Ideal.sig) → Buf (Elt Ideal) ℓ}
    (h : Cert.Pre_Kernel2Ideal_finite_x m) (c : Dev Cert.Kernel2Ideal.nD) : (Cert.Kernel2Ideal.Norm.args m c).Finite := by
  obtain ⟨h0, h1, h2, h4, h5⟩ := Cert.Pre_finite_x.reals _ _ _ _ _ _ _ _ (h c)
  exact ⟨fun q k => h0 _, fun d k => h1 _, fun q d => h2 _, fun d => h4 _, fun d => h5 d⟩

/-- Two arrays of rank two that agree at all coordinates are equal. -/
theorem ext2 {α : Type} {a b : ℕ} {f g : (⟨2, ![a, b]⟩ : Shape).Idx → α} (h : ∀ i j, f (ix2 i j) = g (ix2 i j)) : f = g :=
  funext fun i => by rw [eq_ix2 i]; exact h _ _

/-- The same for a single row. -/
theorem ext_row {α : Type} {b : ℕ} {f g : (⟨2, ![1, b]⟩ : Shape).Idx → α} (h : ∀ j, f (ix2 0 j) = g (ix2 0 j)) : f = g :=
  ext2 fun i j => by rw [Subsingleton.elim i 0]; exact h j

open Cert.Reference2Ideal.Read in
/-- The results of the reference over the arguments of the kernel. -/
theorem equal : Cert.algebraic_Kernel2Ideal_Reference2Ideal_pre_finite_x := by
  intro m g m' g' hp ha
  refine ⟨_, _, _, _, Cert.Kernel2Ideal.Value.run_blocks m g, ?_⟩
  refine (θ_run Cert.Reference2Ideal.defs _ _).mono (fun r h c => ?_) (Cert.Reference2Ideal.Value.run (F := Ideal) m' g')
  obtain ⟨h0, h1, h2, h3, k⟩ := h c
  obtain ⟨a0, a1, a2, a3, a4, a5, a6, -⟩ := ha c
  have hf := finite_of_pre hp c
  have he : Cert.Reference2Ideal.Norm.argsAt (m' ((c.tc : Thread _ Cert.Reference2Ideal.τ).loc Cert.Reference2Ideal.main_arg0))
      (m' ((c.tc : Thread _ Cert.Reference2Ideal.τ).loc Cert.Reference2Ideal.main_arg1)) (m' ((c.tc : Thread _ Cert.Reference2Ideal.τ).loc Cert.Reference2Ideal.main_arg2))
      (m' ((c.tc : Thread _ Cert.Reference2Ideal.τ).loc Cert.Reference2Ideal.main_arg3)) (m' ((c.tc : Thread _ Cert.Reference2Ideal.τ).loc Cert.Reference2Ideal.main_arg4))
      (m' ((c.tc : Thread _ Cert.Reference2Ideal.τ).loc Cert.Reference2Ideal.main_arg5)) (m' ((c.tc : Thread _ Cert.Reference2Ideal.τ).loc Cert.Reference2Ideal.main_arg6))
      = Cert.Kernel2Ideal.Norm.args m c := by
    rw [a0, a1, a2, a3, a4, a5, a6]; rfl
  refine ⟨h0.trans ((val_main_v54_eq _ _).trans ?_), h1.trans ((val_main_v29_eq _ _).trans ?_), h2.trans ((val_main_v32_eq _ _ _ _).trans ?_),
    h3.trans ((val_main_v37_eq _ _ _ _ _).trans ?_), k⟩
  · exact ext2 fun q d => (Cert.Reference2Ideal.Norm.dX_at _ _ _ _ _ _ _ q d).trans
      ((congrArg (fun A : Args => rowPlain (A.x q) (A.y q) (A.dh q) A.g A.s d) he).trans
        ((hf.dX q d).symm.trans (Cert.Kernel2Ideal.Norm.arr7 m c q d).symm))
  · exact ext_row fun d => (Cert.Reference2Ideal.Norm.dShift_at _ _ (m' ((c.tc : Thread _ Cert.Reference2Ideal.τ).loc Cert.Reference2Ideal.main_arg2))
      (m' ((c.tc : Thread _ Cert.Reference2Ideal.τ).loc Cert.Reference2Ideal.main_arg3)) (m' ((c.tc : Thread _ Cert.Reference2Ideal.τ).loc Cert.Reference2Ideal.main_arg4))
      (m' ((c.tc : Thread _ Cert.Reference2Ideal.τ).loc Cert.Reference2Ideal.main_arg5)) (m' ((c.tc : Thread _ Cert.Reference2Ideal.τ).loc Cert.Reference2Ideal.main_arg6)) d).trans
      ((congrArg (fun A : Args => A.dShift d) he).trans (Cert.Kernel2Ideal.Norm.arr8 m c d).symm)
  · exact ext_row fun d => (Cert.Reference2Ideal.Norm.dScale_at _ _ _ (m' ((c.tc : Thread _ Cert.Reference2Ideal.τ).loc Cert.Reference2Ideal.main_arg3)) _
      (m' ((c.tc : Thread _ Cert.Reference2Ideal.τ).loc Cert.Reference2Ideal.main_arg5)) (m' ((c.tc : Thread _ Cert.Reference2Ideal.τ).loc Cert.Reference2Ideal.main_arg6)) d).trans
      ((congrArg (fun A : Args => A.dScale d) he).trans (Cert.Kernel2Ideal.Norm.arr9 m c d).symm)
  · exact ext_row fun d => (Cert.Reference2Ideal.Norm.dGain_at _ _ _ (m' ((c.tc : Thread _ Cert.Reference2Ideal.τ).loc Cert.Reference2Ideal.main_arg3))
      (m' ((c.tc : Thread _ Cert.Reference2Ideal.τ).loc Cert.Reference2Ideal.main_arg4)) _ _ d).trans
      ((congrArg (fun A : Args => A.dGain d) he).trans (Cert.Kernel2Ideal.Norm.arr10 m c d).symm)

end Cert.NormGrad

end
-- ==== Proof.OutSpec.lean ====
/- The gradient of a gated output projection with a residual and a squared error: what the kernel computes row by row, what
   differentiating the error gives, and why the two agree on real numbers. -/
module

public import proofs.«01_k».proof.Proof.NormSpec

@[expose] public section

set_option maxRecDepth 16384

noncomputable section

namespace Cert.OutGrad

open Idealize.ShloMosaic Cert.NormGrad

/-! ## The numbers the two programs write as words -/

theorem word_inverse : Ideal.ofBits .f32 0x3A800000#32 = ((1 / 1024 : ℝ) : EReal) := by
  simp [Ideal.ofBits, Ideal.ieee]
  rw [← EReal.coe_mul]
  norm_num

theorem word_two : Ideal.ofBits .f32 0x40000000#32 = ((2 : ℝ) : EReal) := by
  simp [Ideal.ofBits, Ideal.ieee]
  rw [← EReal.coe_mul]
  norm_num

theorem word_one_half : Ideal.ofBits .f32 0x3F000000#32 = ((1 / 2 : ℝ) : EReal) := by
  simp [Ideal.ofBits, Ideal.ieee]
  rw [← EReal.coe_mul]
  norm_num

/-! ## The step -/

/-- The two halves of the projection's 1024 inputs: the attention's and the convolution's. -/
def lo (e : Fin 512) : Fin 1024 := ⟨e.val, by omega⟩
def hi (e : Fin 512) : Fin 1024 := ⟨512 + e.val, by omega⟩

theorem sum_halves (f : Fin 1024 → EReal) : ∑ k, f k = ∑ e, f (lo e) + ∑ e, f (hi e) := by
  refine (sum_blocks 2 512 f).trans ((Fin.sum_univ_two _).trans (congrArg₂ (fun a b : EReal => a + b) ?_ ?_))
  · exact Finset.sum_congr rfl fun e _ => congrArg f (Fin.ext (by show 0 * 512 + e.val = e.val; omega))
  · exact Finset.sum_congr rfl fun e _ => congrArg f (Fin.ext (by show 1 * 512 + e.val = 512 + e.val; omega))

/-- The arguments over `n` rows: the heads side by side, the gate of the attention, the convolution's branch, the projection's
    weight, the rows, the targets and the gate of the residual. -/
@[ext] structure Args (n : ℕ) where
  o : Fin n → Fin 512 → EReal
  z : Fin n → Fin 512 → EReal
  c : Fin n → Fin 512 → EReal
  w : Fin 1024 → Fin 1024 → EReal
  x : Fin n → Fin 1024 → EReal
  t : Fin n → Fin 1024 → EReal
  g : Fin 1024 → EReal

namespace Args

/-- Some of the rows. -/
def rows {n k : ℕ} (A : Args n) (f : Fin k → Fin n) : Args k where
  o q := A.o (f q)
  z q := A.z (f q)
  c q := A.c (f q)
  w := A.w
  x q := A.x (f q)
  t q := A.t (f q)
  g := A.g

variable {n : ℕ} (A : Args n)

/-- The gate's weight and the gated attention, -/
def silu (q : Fin n) (e : Fin 512) : EReal := A.z q e * Ideal.logistic (A.z q e)
def att (q : Fin n) (e : Fin 512) : EReal := A.o q e * A.silu q e
/-- the projection of both branches, -/
def mo (q : Fin n) (d : Fin 1024) : EReal := ∑ e, A.att q e * A.w (lo e) d + ∑ e, A.c q e * A.w (hi e) d
/-- the error of the residual's sum, -/
def diff (q : Fin n) (d : Fin 1024) : EReal := A.x q d + A.g d * A.mo q d - A.t q d
/-- and the total of its squares. -/
def total : EReal := ∑ q, ∑ d, A.diff q d * A.diff q d
/-- The gradient of the rows, -/
def dX (q : Fin n) (d : Fin 1024) : EReal := A.diff q d * Ideal.ofBits .f32 0x3A800000#32
/-- of the projection's result, -/
def dMo (q : Fin n) (d : Fin 1024) : EReal := A.dX q d * A.g d
/-- of its inputs, -/
def dIn (q : Fin n) (k : Fin 1024) : EReal := ∑ d, A.dMo q d * A.w k d
/-- of the heads and of the gate of the attention, -/
def dO (q : Fin n) (e : Fin 512) : EReal := A.dIn q (lo e) * A.silu q e
def dZ (q : Fin n) (e : Fin 512) : EReal :=
  A.dIn q (lo e) * (Ideal.logistic (A.z q e) * (Ideal.ofBits .f32 0x3F800000#32
    + A.z q e * (Ideal.ofBits .f32 0x3F800000#32 - Ideal.logistic (A.z q e)))) * A.o q e
/-- of the residual's gate, -/
def dG (d : Fin 1024) : EReal := ∑ q, A.dX q d * A.mo q d
/-- and of the two halves of the projection's weight. -/
def dWLo (e : Fin 512) (d : Fin 1024) : EReal := ∑ q, A.att q e * A.dMo q d
def dWHi (e : Fin 512) (d : Fin 1024) : EReal := ∑ q, A.c q e * A.dMo q d

/-- The gradient of the attention's gate by the rules of differentiation. -/
def dZPlain (q : Fin n) (e : Fin 512) : EReal :=
  A.o q e * A.dIn q (lo e) * Ideal.logistic (A.z q e)
    + A.z q e * (A.o q e * A.dIn q (lo e)) * (Ideal.logistic (A.z q e) * (Ideal.ofBits .f32 0x3F800000#32 - Ideal.logistic (A.z q e)))

/-- The gradient of the rows by the rules of differentiation. -/
theorem dX_plain (q : Fin n) (d : Fin 1024) :
    Ideal.div (Ideal.ofBits .f32 0x3F000000#32 * Ideal.ofBits .f32 0x3F800000#32) (Ideal.ofBits .f32 0x44800000#32)
      * (Ideal.ofBits .f32 0x40000000#32 * A.diff q d) = A.dX q d := by
  rw [dX, word_one_half, word_one, word_width, word_two, word_inverse, Ideal.div_coe (by norm_num), ← mul_assoc, ← EReal.coe_mul,
    ← EReal.coe_mul, ← EReal.coe_mul, mul_comm]
  norm_num

/-! ## Real arguments -/

/-- All of the arguments are real numbers. -/
structure Finite : Prop where
  o : ∀ q e, ∃ r : ℝ, A.o q e = r
  z : ∀ q e, ∃ r : ℝ, A.z q e = r
  c : ∀ q e, ∃ r : ℝ, A.c q e = r
  w : ∀ k d, ∃ r : ℝ, A.w k d = r
  x : ∀ q d, ∃ r : ℝ, A.x q d = r
  t : ∀ q d, ∃ r : ℝ, A.t q d = r
  g : ∀ d, ∃ r : ℝ, A.g d = r

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem real_sub {a b : EReal} (ha : ∃ r : ℝ, a = r) (hb : ∃ r : ℝ, b = r) : ∃ r : ℝ, a - b = r := by
  obtain ⟨r, rfl⟩ := ha
  obtain ⟨s, rfl⟩ := hb
  exact ⟨r - s, (EReal.coe_sub r s).symm⟩

theorem real_sum {ι : Type} [Fintype ι] {f : ι → EReal} (h : ∀ k, ∃ r : ℝ, f k = r) : ∃ r : ℝ, ∑ k, f k = r := by
  choose f' e using h
  exact ⟨∑ k, f' k, by rw [coe_sum]; exact Finset.sum_congr rfl fun k _ => e k⟩

theorem real_logistic {a : EReal} (ha : ∃ r : ℝ, a = r) : ∃ r : ℝ, Ideal.logistic a = r := by
  obtain ⟨r, rfl⟩ := ha
  exact ⟨_, Ideal.logistic_coe r⟩

variable {A}

theorem Finite.dIn (h : A.Finite) (q : Fin n) (k : Fin 1024) : ∃ r : ℝ, A.dIn q k = r := by
  refine real_sum fun d => real_mul (real_mul (real_mul (real_sub (real_add (h.x q d) (real_mul (h.g d) (real_add ?_ ?_))) (h.t q d))
    ⟨_, word_inverse⟩) (h.g d)) (h.w k d)
  · exact real_sum fun e => real_mul (real_mul (h.o q e) (real_mul (h.z q e) (real_logistic (h.z q e)))) (h.w _ d)
  · exact real_sum fun e => real_mul (h.c q e) (h.w _ d)

/-- Both forms of the gradient of the attention's gate. -/
theorem Finite.dZ (h : A.Finite) (q : Fin n) (e : Fin 512) : A.dZ q e = A.dZPlain q e := by
  obtain ⟨r, er⟩ := h.dIn q (lo e)
  obtain ⟨u, eu⟩ := h.o q e
  obtain ⟨z, ez⟩ := h.z q e
  obtain ⟨s, es⟩ := real_logistic (h.z q e)
  rw [Args.dZ, dZPlain, es, er, eu, ez, word_one]
  simp only [← EReal.coe_mul, ← EReal.coe_sub, ← EReal.coe_add]
  congr 1
  ring

end Args

end Cert.OutGrad

end
-- ==== Proof.OutPay.lean ====
/- The arithmetic of the output projection's backward kernel at coordinates. -/
module

public import proofs.«01_k».proof.Proof.OutSpec
public import proofs.«01_k».proof.Proof.Gen.Kernel3Ideal.Skeleton
public import Idealize.ShloMosaic.Lib.Pointwise
public import Idealize.ShloMosaic.Lib.Pipeline.Value

@[expose] public section

set_option maxRecDepth 16384

noncomputable section

namespace Cert.Kernel3Ideal.Out

open Cert.Kernel3Ideal Cert.Kernel3Ideal.Gen Idealize.ShloMosaic Idealize.ShloMosaic.TcCoe
open Cert.OutGrad

/-- The gate of the residual; the gate of the attention and its weight. -/
theorem pay4_at (U V : Vec Ideal S1x1024 .f32) (d : Fin 1024) :
    k0_pay4 (F := Ideal) U V (ix2 0 d) = (fun a b : EReal => a + b) (U (ix2 0 d)) (V (ix2 0 d)) := rfl

theorem pay5_at (Z : Vec Ideal S512x512 .f32) (r e : Fin 512) :
    k0_pay5 (F := Ideal) Z (ix2 r e) = (fun z : EReal => z * Ideal.logistic z) (Z (ix2 r e)) := rfl

/-- The head and its column a merged column comes from. -/
def headOf (e : Fin 512) : Fin 8 := ⟨e.val / 64, by omega⟩
def laneOf (e : Fin 512) : Fin 64 := ⟨e.val % 64, by omega⟩

theorem pay6_at (P : Fin 8 → Vec Ideal S1x512x64 .bf16) (r e : Fin 512) :
    k0_pay6 (F := Ideal) (P 0) (P 1) (P 2) (P 3) (P 4) (P 5) (P 6) (P 7) (ix2 r e) = P (headOf e) (ix3 0 r (laneOf e)) := by
  have h : shapeCast S512x64 (P (headOf e)) shapeCasts_S1x512x64_S512x64 (ix2 r (laneOf e)) = P (headOf e) (ix3 0 r (laneOf e)) := by
    pointwise
  rw [← h]
  exact concatenate_ofFn_apply (1 : Fin S512x512.rank) (fun k => shapeCast S512x64 (P k) shapeCasts_S1x512x64_S512x64)
    concatenates_S512x64_S512x64_S512x64_S512x64_S512x64_S512x64_S512x64_S512x64_S512x512_d1 rfl 64 rfl
    (ix2 r e) (headOf e) rfl (ix2 r (laneOf e)) rfl fun b hb => by
      match b with
      | ⟨0, _⟩ => rfl
      | ⟨1, _⟩ => exact absurd rfl hb

section Blocks

variable (G : FVec Ideal S1x1024 .f32) (Sz : FVec Ideal S512x512 .f32) (Om : FVec Ideal S512x512 .bf16) (C : Vec Ideal S512x512 .bf16)
  (W0 W1 : Vec Ideal S512x1024 .bf16) (X T : Vec Ideal S512x1024 .f32) (W : Vec Ideal S1024x1024 .bf16) (r : Fin 512) (d : Fin 1024)

theorem pay7_at (e : Fin 512) : k0_pay7 (F := Ideal) Sz Om (ix2 r e) = (fun a b : EReal => a * b) (Om (ix2 r e)) (Sz (ix2 r e)) := rfl

theorem pay8_at : k0_pay8 (F := Ideal) Sz Om C W0 W1 (ix2 r d)
    = (fun a b : EReal => a + b) (∑ e : Fin 512, (fun a b : EReal => a * b) (k0_pay7 (F := Ideal) Sz Om (ix2 r e)) (W0 (ix2 e d)))
      (∑ e : Fin 512, (fun a b : EReal => a * b) (C (ix2 r e)) (W1 (ix2 e d))) := by
  pointwise [k0_pay8]

theorem pay9_at : k0_pay9 (F := Ideal) G Sz Om C W0 W1 X T (ix2 r d)
    = (fun x g m t : EReal => x + g * m - t) (X (ix2 r d)) (G (ix2 0 d)) (k0_pay8 (F := Ideal) Sz Om C W0 W1 (ix2 r d)) (T (ix2 r d)) := by
  pointwise [k0_pay9]

theorem pay10_at (v : EReal) : k0_pay10 (F := Ideal) G Sz Om C W0 W1 X T v
    = (fun a b : EReal => a + b) v (∑ r : Fin 512, ∑ d : Fin 1024, (fun a : EReal => a * a) (k0_pay9 (F := Ideal) G Sz Om C W0 W1 X T (ix2 r d))) := by
  pointwise [k0_pay10]

theorem pay11_at : k0_pay11 (F := Ideal) G Sz Om C W0 W1 X T (ix2 r d)
    = (fun a : EReal => a * Ideal.ofBits .f32 0x3A800000#32) (k0_pay9 (F := Ideal) G Sz Om C W0 W1 X T (ix2 r d)) := rfl

theorem pay12_at (V : Vec Ideal S1x1024 .f32) : k0_pay12 (F := Ideal) G Sz Om C W0 W1 X T V (ix2 0 d)
    = (fun a b : EReal => a + b) (V (ix2 0 d)) (∑ r : Fin 512, (fun a b : EReal => a * b)
      (k0_pay11 (F := Ideal) G Sz Om C W0 W1 X T (ix2 r d)) (k0_pay8 (F := Ideal) Sz Om C W0 W1 (ix2 r d))) := by
  pointwise [k0_pay12]

end Blocks

section Grads

variable (G : FVec Ideal S1x1024 .f32) (Sz : FVec Ideal S512x512 .f32) (Dy : FVec Ideal S512x1024 .f32) (W : Vec Ideal S1024x1024 .bf16)
  (r : Fin 512)

theorem pay13_at (d : Fin 1024) : k0_pay13 (F := Ideal) G Dy (ix2 r d) = (fun a b : EReal => a * b) (Dy (ix2 r d)) (G (ix2 0 d)) := by
  pointwise [k0_pay13]

theorem pay14_at (k : Fin 1024) : k0_pay14 (F := Ideal) G Dy W (ix2 r k)
    = ∑ d : Fin 1024, (fun a b : EReal => a * b) (k0_pay13 (F := Ideal) G Dy (ix2 r d)) (W (ix2 k d)) := by
  pointwise [k0_pay14]

theorem pay15_at (e : Fin 512) : k0_pay15 (F := Ideal) G Dy W (ix2 r e) = k0_pay14 (F := Ideal) G Dy W (ix2 r (lo e)) := by
  pointwise [k0_pay15]
  rfl

theorem pay16_at (e : Fin 512) : k0_pay16 (F := Ideal) G Dy W (ix2 r e) = k0_pay14 (F := Ideal) G Dy W (ix2 r (hi e)) := by
  pointwise [k0_pay16]
  rfl

theorem pay17_at (e : Fin 512) : k0_pay17 (F := Ideal) G Sz Dy W (ix2 r e)
    = (fun a b : EReal => a * b) (k0_pay15 (F := Ideal) G Dy W (ix2 r e)) (Sz (ix2 r e)) := rfl

/-- The merged column of a head's column. -/
def colOf (h : Fin 8) (l : Fin 64) : Fin 512 := ⟨64 * h.val + l.val, by omega⟩

/-- The stores of the heads' gradients. -/
def head (G : FVec Ideal S1x1024 .f32) (Sz : FVec Ideal S512x512 .f32) (Dy : FVec Ideal S512x1024 .f32) (W : Vec Ideal S1024x1024 .bf16) :
    Fin 8 → FVec Ideal S1x512x64 .bf16
  | 0 => k0_pay18 G Sz Dy W
  | 1 => k0_pay19 G Sz Dy W
  | 2 => k0_pay20 G Sz Dy W
  | 3 => k0_pay21 G Sz Dy W
  | 4 => k0_pay23 (k0_pay22 G Sz Dy W)
  | 5 => k0_pay24 (k0_pay17 G Sz Dy W)
  | 6 => k0_pay25 (k0_pay17 G Sz Dy W)
  | 7 => k0_pay26 (k0_pay17 G Sz Dy W)

theorem head_at (h : Fin 8) (l : Fin 64) : head G Sz Dy W h (ix3 0 r l) = k0_pay17 (F := Ideal) G Sz Dy W (ix2 r (colOf h l)) := by
  match h with
  | 0 =>
    rw [head, show colOf 0 l = ⟨l.val, by omega⟩ from Fin.ext (Nat.zero_add _)]
    pointwise [k0_pay18]
  | 1 => rw [head]; pointwise [k0_pay19]; rfl
  | 2 => rw [head]; pointwise [k0_pay20]; rfl
  | 3 => rw [head]; pointwise [k0_pay21]; rfl
  | 4 => rw [head]; pointwise [k0_pay22, k0_pay23]; rfl
  | 5 => rw [head]; pointwise [k0_pay24]; rfl
  | 6 => rw [head]; pointwise [k0_pay25]; rfl
  | 7 => rw [head]; pointwise [k0_pay26]; rfl

end Grads

theorem pay27_at (Z : Vec Ideal S512x512 .f32) (Om : FVec Ideal S512x512 .bf16) (D : FVec Ideal S512x512 .f32) (r e : Fin 512) :
    k0_pay27 (F := Ideal) Z Om D (ix3 0 r e) = (fun d z o : EReal => d * (Ideal.logistic z * (Ideal.ofBits .f32 0x3F800000#32
      + z * (Ideal.ofBits .f32 0x3F800000#32 - Ideal.logistic z))) * o) (D (ix2 r e)) (Z (ix2 r e)) (Om (ix2 r e)) := by
  pointwise [k0_pay27]

theorem pay28_at (Av : FVec Ideal S512x512 .bf16) (Dm : FVec Ideal S512x1024 .bf16) (V : Vec Ideal S512x1024 .f32) (e : Fin 512) (d : Fin 1024) :
    k0_pay28 (F := Ideal) Av Dm V (ix2 e d) = (fun a b : EReal => a + b) (V (ix2 e d))
      (∑ r : Fin 512, (fun a b : EReal => a * b) (Av (ix2 r e)) (Dm (ix2 r d))) := by
  pointwise [k0_pay28]

theorem pay1_at (C : Vec Ideal S512x512 .bf16) (Dm : FVec Ideal S512x1024 .bf16) (V : Vec Ideal S512x1024 .f32) (e : Fin 512) (d : Fin 1024) :
    k0_pay1 (F := Ideal) C Dm V (ix2 e d) = (fun a b : EReal => a + b) (V (ix2 e d))
      (∑ r : Fin 512, (fun a b : EReal => a * b) (C (ix2 r e)) (Dm (ix2 r d))) := by
  pointwise [k0_pay1]

end Cert.Kernel3Ideal.Out

end
-- ==== Proof.OutBody.lean ====
/- What the output projection's backward kernel stores at a grid point. -/
module

public import proofs.«01_k».proof.Proof.OutPay
public import proofs.«01_k».proof.Proof.Gen.Kernel3Ideal.Value
public import Idealize.ShloMosaic.Lib.Pipeline.ValueKit.Basic
public import Idealize.ShloMosaic.Lib.WholeRead
public import Idealize.ShloMosaic.Lib.VecWindow

@[expose] public section

set_option maxRecDepth 16384

noncomputable section

namespace Cert.Kernel3Ideal.Out

open Cert.Kernel3Ideal Cert.Kernel3Ideal.Gen Idealize.ShloMosaic Idealize.ShloMosaic.TcCoe
open Cert.OutGrad

/-- The body's input windows and what they hold: the heads of the attention, its gate, the convolution's branch, the projection, the
    residual rows, their targets, and the residual's gate in its two parts. -/
structure In where
  m1 : Memref sig .tc .vmem S8x512x64 .bf16
  h1 : m1.IsWhole
  m2 : Memref sig .tc .vmem S512x512 .f32
  h2 : m2.IsWhole
  m3 : Memref sig .tc .vmem S512x512 .bf16
  h3 : m3.IsWhole
  m4 : Memref sig .tc .vmem S1024x1024 .bf16
  h4 : m4.IsWhole
  m5 : Memref sig .tc .vmem S512x1024 .f32
  h5 : m5.IsWhole
  m6 : Memref sig .tc .vmem S512x1024 .f32
  h6 : m6.IsWhole
  m7 : Memref sig .tc .vmem S1x3072 .f32
  h7 : m7.IsWhole
  m8 : Memref sig .tc .vmem S1x3072 .f32
  h8 : m8.IsWhole
  x0 : Vec Ideal S8x512x64 .bf16
  x1 : Vec Ideal S512x512 .f32
  x2 : Vec Ideal S512x512 .bf16
  x3 : Vec Ideal S1024x1024 .bf16
  x4 : Vec Ideal S512x1024 .f32
  x5 : Vec Ideal S512x1024 .f32
  x6 : Vec Ideal S1x3072 .f32
  x7 : Vec Ideal S1x3072 .f32

/-- All of an array, or a part of it. -/
abbrev allRow : Rect S1x1024 := Rect.unit (s := S1x1024) ![0, 0] S1x1024.size inb_S1x1024_S1x1024_0_0
abbrev allRows : Rect S512x1024 := Rect.unit (s := S512x1024) ![0, 0] S512x1024.size inb_S512x1024_S512x1024_0_0
abbrev allSquare : Rect S512x512 := Rect.unit (s := S512x512) ![0, 0] S512x512.size inb_S512x512_S512x512_0_0
abbrev allLayer : Rect S1x512x512 := Rect.unit (s := S1x512x512) ![0, 0, 0] S1x512x512.size inb_S1x512x512_S1x512x512_0_0_0
abbrev allWeight : Rect S1024x1024 := Rect.unit (s := S1024x1024) ![0, 0] S1024x1024.size inb_S1024x1024_S1024x1024_0_0
abbrev topHalf : Rect S1024x1024 := Rect.unit (s := S1024x1024) ![0, 0] S512x1024.size inb_S1024x1024_S512x1024_0_0
abbrev lowHalf : Rect S1024x1024 := Rect.unit (s := S1024x1024) ![512, 0] S512x1024.size inb_S1024x1024_S512x1024_512_0
abbrev one : Rect S1x1 := Rect.unit (s := S1x1) ![0, 0] S1x1.size inb_S1x1_S1x1_0_0
abbrev gateCols : Rect S1x3072 := Rect.unit (s := S1x3072) ![0, 2048] S1x1024.size inb_S1x3072_S1x1024_0_2048

theorem inb_head (h : Fin 8) : ∀ a, (![h.val, 0, 0] : Fin 3 → ℕ) a + S1x512x64.size a ≤ S8x512x64.size a :=
  Fin.forall_fin_succ.2 ⟨show h.val + 1 ≤ 8 by omega, Fin.forall_fin_succ.2 ⟨show 0 + 512 ≤ 512 by omega,
    Fin.forall_fin_succ.2 ⟨show 0 + 64 ≤ 64 by omega, fun a => a.elim0⟩⟩⟩

abbrev layer (h : Fin 8) : Rect S8x512x64 := Rect.unit (s := S8x512x64) ![h.val, 0, 0] S1x512x64.size (inb_head h)

namespace In

variable (A : In)

/-- What the body loads: the heads one by one and merged, -/
def part (h : Fin 8) : Vec Ideal S1x512x64 .bf16 := View.readAt (Elt Ideal) A.m1.view (layer h).toLoadRect (A.h1.unread A.x0)
def merged : FVec Ideal S512x512 .bf16 :=
  k0_pay6 (A.part 0) (A.part 1) (A.part 2) (A.part 3) (A.part 4) (A.part 5) (A.part 6) (A.part 7)
/-- the attention's gate, plain and through its weight, the convolution's branch, -/
def Z : Vec Ideal S512x512 .f32 := View.readAt (Elt Ideal) A.m2.view allSquare.toLoadRect (A.h2.unread A.x1)
def Sz : FVec Ideal S512x512 .f32 := k0_pay5 A.Z
def C : Vec Ideal S512x512 .bf16 := View.readAt (Elt Ideal) A.m3.view allSquare.toLoadRect (A.h3.unread A.x2)
/-- the projection, in halves and whole, -/
def W0 : Vec Ideal S512x1024 .bf16 := View.readAt (Elt Ideal) A.m4.view topHalf.toLoadRect (A.h4.unread A.x3)
def W1 : Vec Ideal S512x1024 .bf16 := View.readAt (Elt Ideal) A.m4.view lowHalf.toLoadRect (A.h4.unread A.x3)
def W : Vec Ideal S1024x1024 .bf16 := View.readAt (Elt Ideal) A.m4.view allWeight.toLoadRect (A.h4.unread A.x3)
/-- the residual rows, the targets and the residual's gate. -/
def X : Vec Ideal S512x1024 .f32 := View.readAt (Elt Ideal) A.m5.view allRows.toLoadRect (A.h5.unread A.x4)
def T : Vec Ideal S512x1024 .f32 := View.readAt (Elt Ideal) A.m6.view allRows.toLoadRect (A.h6.unread A.x5)
def G : FVec Ideal S1x1024 .f32 :=
  k0_pay4 (View.readAt (Elt Ideal) A.m7.view gateCols.toLoadRect (A.h7.unread A.x6))
    (View.readAt (Elt Ideal) A.m8.view gateCols.toLoadRect (A.h8.unread A.x7))
/-- The rows' gradient, and what it is past the gate. -/
def Dy : FVec Ideal S512x1024 .f32 := k0_pay11 A.G A.Sz A.merged A.C A.W0 A.W1 A.X A.T
def Dm : FVec Ideal S512x1024 .bf16 := k0_pay13 A.G A.Dy

/-- The arguments of the mathematics a point's windows hold. -/
def args : Args 512 where
  o r e := A.x0 (ix3 (headOf e) r (laneOf e))
  z r e := A.x1 (ix2 r e)
  c r e := A.x2 (ix2 r e)
  w k d := A.x3 (ix2 k d)
  x r d := A.x4 (ix2 r d)
  t r d := A.x5 (ix2 r d)
  g d := (fun a b : EReal => a + b) (A.x6 (ix2 0 ⟨2048 + d.val, by omega⟩)) (A.x7 (ix2 0 ⟨2048 + d.val, by omega⟩))

theorem merged_at (r e : Fin 512) : A.merged (ix2 r e) = A.args.o r e := by
  refine (pay6_at A.part r e).trans ((A.h1.readAt_unread _ _ _).trans (congrArg A.x0 (funext fun a => Fin.ext ?_)))
  match a with
  | ⟨0, _⟩ => show (headOf e).val + 1 * 0 = (headOf e).val; omega
  | ⟨1, _⟩ => show 0 + 1 * r.val = r.val; omega
  | ⟨2, _⟩ => show 0 + 1 * (laneOf e).val = (laneOf e).val; omega

theorem Z_at (r e : Fin 512) : A.Z (ix2 r e) = A.args.z r e := by
  refine (A.h2.readAt_unread _ _ _).trans (congrArg A.x1 (funext fun a => Fin.ext ?_))
  match a with
  | ⟨0, _⟩ => show 0 + 1 * r.val = r.val; omega
  | ⟨1, _⟩ => show 0 + 1 * e.val = e.val; omega

theorem C_at (r e : Fin 512) : A.C (ix2 r e) = A.args.c r e := by
  refine (A.h3.readAt_unread _ _ _).trans (congrArg A.x2 (funext fun a => Fin.ext ?_))
  match a with
  | ⟨0, _⟩ => show 0 + 1 * r.val = r.val; omega
  | ⟨1, _⟩ => show 0 + 1 * e.val = e.val; omega

theorem W0_at (e : Fin 512) (d : Fin 1024) : A.W0 (ix2 e d) = A.args.w (lo e) d := by
  refine (A.h4.readAt_unread _ _ _).trans (congrArg A.x3 (funext fun a => Fin.ext ?_))
  match a with
  | ⟨0, _⟩ => show 0 + 1 * e.val = e.val; omega
  | ⟨1, _⟩ => show 0 + 1 * d.val = d.val; omega

theorem W1_at (e : Fin 512) (d : Fin 1024) : A.W1 (ix2 e d) = A.args.w (hi e) d := by
  refine (A.h4.readAt_unread _ _ _).trans (congrArg A.x3 (funext fun a => Fin.ext ?_))
  match a with
  | ⟨0, _⟩ => show 512 + 1 * e.val = 512 + e.val; omega
  | ⟨1, _⟩ => show 0 + 1 * d.val = d.val; omega

theorem W_at (k d : Fin 1024) : A.W (ix2 k d) = A.args.w k d := by
  refine (A.h4.readAt_unread _ _ _).trans (congrArg A.x3 (funext fun a => Fin.ext ?_))
  match a with
  | ⟨0, _⟩ => show 0 + 1 * k.val = k.val; omega
  | ⟨1, _⟩ => show 0 + 1 * d.val = d.val; omega

theorem X_at (r : Fin 512) (d : Fin 1024) : A.X (ix2 r d) = A.args.x r d := by
  refine (A.h5.readAt_unread _ _ _).trans (congrArg A.x4 (funext fun a => Fin.ext ?_))
  match a with
  | ⟨0, _⟩ => show 0 + 1 * r.val = r.val; omega
  | ⟨1, _⟩ => show 0 + 1 * d.val = d.val; omega

theorem T_at (r : Fin 512) (d : Fin 1024) : A.T (ix2 r d) = A.args.t r d := by
  refine (A.h6.readAt_unread _ _ _).trans (congrArg A.x5 (funext fun a => Fin.ext ?_))
  match a with
  | ⟨0, _⟩ => show 0 + 1 * r.val = r.val; omega
  | ⟨1, _⟩ => show 0 + 1 * d.val = d.val; omega

theorem gateCols_at (d : Fin 1024) : gateCols.toLoadRect.idx (ix2 0 d : S1x1024.Idx) = (ix2 0 ⟨2048 + d.val, by omega⟩ : S1x3072.Idx) :=
  funext fun a => Fin.ext (by
    match a with
    | ⟨0, _⟩ => show 0 + 1 * 0 = 0; omega
    | ⟨1, _⟩ => show 2048 + 1 * d.val = 2048 + d.val; omega)

theorem G_at (d : Fin 1024) : A.G (ix2 0 d) = A.args.g d :=
  (pay4_at _ _ d).trans (congrArg₂ (fun a b : EReal => a + b)
    ((A.h7.readAt_unread _ _ _).trans (congrArg A.x6 (gateCols_at d))) ((A.h8.readAt_unread _ _ _).trans (congrArg A.x7 (gateCols_at d))))

/-! ### The payloads are the mathematics -/

theorem Sz_at (r e : Fin 512) : A.Sz (ix2 r e) = A.args.silu r e :=
  (pay5_at _ r e).trans (congrArg (fun z : EReal => z * Ideal.logistic z) (A.Z_at r e))

theorem att_at (r e : Fin 512) : k0_pay7 (F := Ideal) A.Sz A.merged (ix2 r e) = A.args.att r e := by
  rw [pay7_at, merged_at, Sz_at]; rfl

theorem mo_at (r : Fin 512) (d : Fin 1024) : k0_pay8 (F := Ideal) A.Sz A.merged A.C A.W0 A.W1 (ix2 r d) = A.args.mo r d := by
  rw [pay8_at]
  simp only [att_at, C_at, W0_at, W1_at]
  rfl

theorem diff_at (r : Fin 512) (d : Fin 1024) :
    k0_pay9 (F := Ideal) A.G A.Sz A.merged A.C A.W0 A.W1 A.X A.T (ix2 r d) = A.args.diff r d := by
  rw [pay9_at, mo_at, X_at, T_at, G_at]; rfl

theorem Dy_at (r : Fin 512) (d : Fin 1024) : A.Dy (ix2 r d) = A.args.dX r d := by
  rw [Dy, pay11_at, diff_at]; rfl

theorem Dm_at (r : Fin 512) (d : Fin 1024) : A.Dm (ix2 r d) = A.args.dMo r d := by
  rw [Dm, pay13_at, Dy_at, G_at]; rfl

theorem dIn_at (r : Fin 512) (k : Fin 1024) : k0_pay14 (F := Ideal) A.G A.Dy A.W (ix2 r k) = A.args.dIn r k := by
  rw [pay14_at]
  exact Finset.sum_congr rfl fun d _ => congrArg₂ (fun a b : EReal => a * b) (A.Dm_at r d) (A.W_at k d)

theorem conv_at (r e : Fin 512) : k0_pay16 (F := Ideal) A.G A.Dy A.W (ix2 r e) = A.args.dIn r (hi e) := by
  rw [pay16_at, dIn_at]

theorem head_at (h : Fin 8) (r : Fin 512) (l : Fin 64) : head A.G A.Sz A.Dy A.W h (ix3 0 r l) = A.args.dO r (colOf h l) := by
  rw [Out.head_at, pay17_at, pay15_at, dIn_at, Sz_at]; rfl

theorem gate_at (r e : Fin 512) : k0_pay27 (F := Ideal) A.Z A.merged (k0_pay15 A.G A.Dy A.W) (ix3 0 r e) = A.args.dZ r e := by
  rw [pay27_at, pay15_at, dIn_at, Z_at, merged_at]; rfl

/-- A block's shares of the sums over all the rows. -/
theorem sumG_at (V : Vec Ideal S1x1024 .f32) (d : Fin 1024) : k0_pay12 (F := Ideal) A.G A.Sz A.merged A.C A.W0 A.W1 A.X A.T V (ix2 0 d)
    = (fun a b : EReal => a + b) (V (ix2 0 d)) (A.args.dG d) := by
  rw [pay12_at]
  exact congrArg (fun b : EReal => (fun a b : EReal => a + b) (V (ix2 0 d)) b)
    (Finset.sum_congr rfl fun r _ => congrArg₂ (fun a b : EReal => a * b) (A.Dy_at r d) (A.mo_at r d))

theorem sumL (v : EReal) : k0_pay10 (F := Ideal) A.G A.Sz A.merged A.C A.W0 A.W1 A.X A.T v = (fun a b : EReal => a + b) v A.args.total := by
  rw [pay10_at]
  simp only [diff_at]
  rfl

theorem sumLo_at (V : Vec Ideal S512x1024 .f32) (e : Fin 512) (d : Fin 1024) :
    k0_pay28 (F := Ideal) (k0_pay7 A.Sz A.merged) A.Dm V (ix2 e d) = (fun a b : EReal => a + b) (V (ix2 e d)) (A.args.dWLo e d) := by
  rw [pay28_at]
  simp only [att_at, Dm_at]
  rfl

theorem sumHi_at (V : Vec Ideal S512x1024 .f32) (e : Fin 512) (d : Fin 1024) :
    k0_pay1 (F := Ideal) A.C A.Dm V (ix2 e d) = (fun a b : EReal => a + b) (V (ix2 e d)) (A.args.dWHi e d) := by
  rw [pay1_at]
  simp only [C_at, Dm_at]
  rfl

end In

end Cert.Kernel3Ideal.Out

end
-- ==== Proof.OutStore.lean ====
/- What the output projection's backward kernel leaves in its output windows at a grid point. -/
module

public import proofs.«01_k».proof.Proof.OutBody

@[expose] public section

set_option maxRecDepth 16384

noncomputable section

namespace Cert.Kernel3Ideal.Out

open Cert.Kernel3Ideal Cert.Kernel3Ideal.Gen Idealize.ShloMosaic Idealize.ShloMosaic.TcCoe
open Cert.OutGrad

/-! ## Stores to part of a window -/

section Parts

variable {Val : EltTy → Type} [∀ e, Nonempty (Val e)] {e : EltTy}

/-- A store to one layer of the heads, read anywhere. -/
theorem canon_layer (h : Fin 8) (w : S1x512x64.Idx → Val e) (L : List (View.Piece Val S8x512x64 e)) (k : Fin 8) (r : Fin 512) (l : Fin 64) :
    View.canon ((⟨layer h, w⟩ : View.Piece Val S8x512x64 e) :: L) (ix3 k r l)
      = if h = k then w (ix3 0 r l) else View.canon L (ix3 k r l) := by
  split
  · rename_i hk
    have e1 : (ix3 k r l : S8x512x64.Idx) = (layer h).emb (ix3 0 r l : S1x512x64.Idx) := funext fun a => Fin.ext (by
      match a with
      | ⟨0, _⟩ => show k.val = h.val + 1 * 0; rw [hk]; omega
      | ⟨1, _⟩ => show r.val = 0 + 1 * r.val; omega
      | ⟨2, _⟩ => show l.val = 0 + 1 * l.val; omega)
    rw [e1]
    exact View.canon_cons_emb _ _ _ _
  · rename_i hk
    refine View.canon_cons_of_not_mem _ _ fun hm => hk ?_
    have h0 : h.val ≤ k.val ∧ k.val < h.val + 1 := (Rect.mem_set_unit (inb := inb_head h).1 hm) 0
    exact Fin.ext (by omega)

/-- A store to the lower half of the weight, read in either half, -/
theorem canon_low_hi (w : S512x1024.Idx → Val e) (L : List (View.Piece Val S1024x1024 e)) (r : Fin 512) (d : Fin 1024) :
    View.canon ((⟨lowHalf, w⟩ : View.Piece Val S1024x1024 e) :: L) (ix2 (hi r) d) = w (ix2 r d) := by
  have e1 : (ix2 (hi r) d : S1024x1024.Idx) = lowHalf.emb (ix2 r d : S512x1024.Idx) := funext fun a => Fin.ext (by
    match a with
    | ⟨0, _⟩ => show 512 + r.val = 512 + 1 * r.val; omega
    | ⟨1, _⟩ => show d.val = 0 + 1 * d.val; omega)
  rw [e1]
  exact View.canon_cons_emb _ _ _ _

theorem canon_low_lo (w : S512x1024.Idx → Val e) (L : List (View.Piece Val S1024x1024 e)) (r : Fin 512) (d : Fin 1024) :
    View.canon ((⟨lowHalf, w⟩ : View.Piece Val S1024x1024 e) :: L) (ix2 (lo r) d) = View.canon L (ix2 (lo r) d) := by
  refine View.canon_cons_of_not_mem _ _ fun hm => ?_
  have h0 : 512 ≤ r.val ∧ r.val < 512 + 512 := (Rect.mem_set_unit (inb := inb_S1024x1024_S512x1024_512_0).1 hm) 0
  omega

/-- and one to the upper half. -/
theorem canon_top_lo (w : S512x1024.Idx → Val e) (L : List (View.Piece Val S1024x1024 e)) (r : Fin 512) (d : Fin 1024) :
    View.canon ((⟨topHalf, w⟩ : View.Piece Val S1024x1024 e) :: L) (ix2 (lo r) d) = w (ix2 r d) := by
  have e1 : (ix2 (lo r) d : S1024x1024.Idx) = topHalf.emb (ix2 r d : S512x1024.Idx) := funext fun a => Fin.ext (by
    match a with
    | ⟨0, _⟩ => show r.val = 0 + 1 * r.val; omega
    | ⟨1, _⟩ => show d.val = 0 + 1 * d.val; omega)
  rw [e1]
  exact View.canon_cons_emb _ _ _ _

theorem canon_top_hi (w : S512x1024.Idx → Val e) (L : List (View.Piece Val S1024x1024 e)) (r : Fin 512) (d : Fin 1024) :
    View.canon ((⟨topHalf, w⟩ : View.Piece Val S1024x1024 e) :: L) (ix2 (hi r) d) = View.canon L (ix2 (hi r) d) := by
  refine View.canon_cons_of_not_mem _ _ fun hm => ?_
  have h0 : 0 ≤ 512 + r.val ∧ 512 + r.val < 0 + 512 := (Rect.mem_set_unit (inb := inb_S1024x1024_S512x1024_0_0).1 hm) 0
  omega

theorem top_idx (r : Fin 512) (d : Fin 1024) : topHalf.toLoadRect.idx (ix2 r d : S512x1024.Idx) = (ix2 (lo r) d : S1024x1024.Idx) :=
  funext fun a => Fin.ext (by
    match a with
    | ⟨0, _⟩ => show 0 + 1 * r.val = r.val; omega
    | ⟨1, _⟩ => show 0 + 1 * d.val = d.val; omega)

theorem low_idx (r : Fin 512) (d : Fin 1024) : lowHalf.toLoadRect.idx (ix2 r d : S512x1024.Idx) = (ix2 (hi r) d : S1024x1024.Idx) :=
  funext fun a => Fin.ext (by
    match a with
    | ⟨0, _⟩ => show 512 + 1 * r.val = 512 + r.val; omega
    | ⟨1, _⟩ => show 0 + 1 * d.val = d.val; omega)

end Parts

/-- The zeros of the first point. -/
theorem zeros_at (k d : Fin 1024) : k0_pay2 (F := Ideal) (ix2 k d) = (0 : EReal) := Ideal.ofBits_zero .f32
theorem zeroRow_at (d : Fin 1024) : k0_pay3 (F := Ideal) (ix2 0 d) = (0 : EReal) := Ideal.ofBits_zero .f32

/-- A row loaded after it was stored whole, and one a point starts with. -/
theorem loaded (M : Memref sig .tc .vmem S1x1024 .f32) (w : Vec Ideal S1x1024 .f32) :
    M.view.readCov [(⟨allRow, w⟩ : View.Piece (Elt Ideal) S1x1024 .f32)] allRow.toLoadRect = w :=
  View.readAt_writes_full _ _ _ _ _ _

theorem held (M : Memref sig .tc .vmem S1x1024 .f32) (hM : M.IsWhole) (w : Vec Ideal S1x1024 .f32) :
    View.readAt (Elt Ideal) M.view allRow.toLoadRect (hM.unread w) = w := by
  funext j
  refine (hM.readAt_unread w _ _).trans (congrArg w (funext fun a => Fin.ext ?_))
  match a with
  | ⟨0, _⟩ => show 0 + 1 * (j 0).val = (j 0).val; omega
  | ⟨1, _⟩ => show 0 + 1 * (j 1).val = (j 1).val; omega

/-- The entry of the total. -/
def atFirst : one.toLoadRect.shape.Idx := Shape.Idx.first (show 0 < S1x1.numel by decide)

namespace In

variable (A : In)

/-- The stores of the first `n` heads' gradients. -/
def heads : ∀ n : ℕ, n ≤ 8 → List (View.Piece (Elt Ideal) S8x512x64 .bf16)
  | 0, _ => []
  | n + 1, hn => ⟨layer ⟨n, hn⟩, head A.G A.Sz A.Dy A.W ⟨n, hn⟩⟩ :: heads n (Nat.le_of_lt hn)

theorem heads_at : ∀ (n : ℕ) (hn : n ≤ 8) (k : Fin 8), k.val < n → ∀ (r : Fin 512) (l : Fin 64),
    View.canon (A.heads n hn) (ix3 k r l) = A.args.dO r (colOf k l)
  | 0, _, k, hk, _, _ => absurd hk (Nat.not_lt_zero _)
  | n + 1, hn, k, hk, r, l => by
    rw [heads]
    refine (canon_layer ⟨n, hn⟩ _ _ k r l).trans ?_
    split
    · rename_i h
      subst h
      exact A.head_at _ r l
    · rename_i h
      exact heads_at n _ k (by have : n ≠ k.val := fun e => h (Fin.ext e); omega) r l

/-- The first point's stores to the projection's gradient, as far as the upper half's. -/
def first (M : Memref sig .tc .vmem S1024x1024 .f32) : List (View.Piece (Elt Ideal) S1024x1024 .f32) :=
  [⟨topHalf, k0_pay28 (k0_pay7 A.Sz A.merged) A.Dm (M.view.readCov [⟨allWeight, k0_pay2 (F := Ideal)⟩] topHalf.toLoadRect)⟩,
    ⟨allWeight, k0_pay2 (F := Ideal)⟩]

end In

section Stored

variable (c : Dev nD) (i : grid0.Coords) (A : In)
  (arg9 : Memref sig .tc .vmem S512x1024 .f32) (harg9 : arg9.IsWhole) (arg10 : Memref sig .tc .vmem S512x512 .f32) (harg10 : arg10.IsWhole)
  (arg11 : Memref sig .tc .vmem S1x512x512 .bf16) (harg11 : arg11.IsWhole) (arg12 : Memref sig .tc .vmem S8x512x64 .bf16) (harg12 : arg12.IsWhole)
  (arg13 : Memref sig .tc .vmem S1024x1024 .f32) (harg13 : arg13.IsWhole) (arg14 : Memref sig .tc .vmem S1x1024 .f32) (harg14 : arg14.IsWhole)
  (arg15 : Memref sig .tc .smem S1x1 .f32) (harg15 : arg15.IsWhole)

section First
variable (hc : cond0_0 i)

theorem found8_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).1
    = [⟨allRows, A.Dy⟩] := rfl

theorem stored8_A : out0_A_8 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7
    = A.Dy :=
  (View.read_writes_junk_eq_canon VO0_8 _).trans ((congrArg View.canon
    (found8_A c i A arg9 harg9 arg10 harg10 arg11 harg11 arg12 harg12 arg13 harg13 arg14 harg14 arg15 harg15 hc)).trans (View.canon_cons_unit_lit _ _ _ (by decide)))

theorem found9_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).2.1
    = [⟨allSquare, k0_pay16 (F := Ideal) A.G A.Dy A.W⟩] := rfl

theorem stored9_A : out0_A_9 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7
    = k0_pay16 (F := Ideal) A.G A.Dy A.W :=
  (View.read_writes_junk_eq_canon VO0_9 _).trans ((congrArg View.canon
    (found9_A c i A arg9 harg9 arg10 harg10 arg11 harg11 arg12 harg12 arg13 harg13 arg14 harg14 arg15 harg15 hc)).trans (View.canon_cons_unit_lit _ _ _ (by decide)))

theorem found10_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).2.2.1
    = [⟨allLayer, k0_pay27 (F := Ideal) A.Z A.merged (k0_pay15 A.G A.Dy A.W)⟩] := rfl

theorem stored10_A : out0_A_10 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7
    = k0_pay27 (F := Ideal) A.Z A.merged (k0_pay15 A.G A.Dy A.W) :=
  (View.read_writes_junk_eq_canon VO0_10 _).trans ((congrArg View.canon
    (found10_A c i A arg9 harg9 arg10 harg10 arg11 harg11 arg12 harg12 arg13 harg13 arg14 harg14 arg15 harg15 hc)).trans (View.canon_cons_unit_lit _ _ _ (by decide)))

theorem found11_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).2.2.2.1
    = A.heads 8 (le_refl 8) := rfl

theorem stored11_A (k : Fin 8) (r : Fin 512) (l : Fin 64) : out0_A_11 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 (ix3 k r l)
    = A.args.dO r (colOf k l) :=
  (congrFun ((View.read_writes_junk_eq_canon VO0_11 _).trans ((congrArg View.canon
    (found11_A c i A arg9 harg9 arg10 harg10 arg11 harg11 arg12 harg12 arg13 harg13 arg14 harg14 arg15 harg15 hc)).trans rfl)) _).trans (A.heads_at 8 _ k k.isLt r l)

theorem found12_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).2.2.2.2.1
    = ⟨lowHalf, k0_pay1 A.C A.Dm (arg13.view.readCov (A.first arg13) lowHalf.toLoadRect)⟩ :: A.first arg13 := rfl

theorem stored12_lo_A (e : Fin 512) (d : Fin 1024) : out0_A_12 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 (ix2 (lo e) d)
    = A.args.dWLo e d := by
  refine (congrFun ((View.read_writes_junk_eq_canon VO0_12 _).trans ((congrArg View.canon
    (found12_A c i A arg9 harg9 arg10 harg10 arg11 harg11 arg12 harg12 arg13 harg13 arg14 harg14 arg15 harg15 hc)).trans rfl)) _).trans ?_
  refine (canon_low_lo _ _ e d).trans ((canon_top_lo _ _ e d).trans ((A.sumLo_at _ e d).trans ?_))
  have z : arg13.view.readCov [(⟨allWeight, k0_pay2 (F := Ideal)⟩ : View.Piece (Elt Ideal) S1024x1024 .f32)] topHalf.toLoadRect (ix2 e d : S512x1024.Idx) = (0 : EReal) := by
    rw [View.readCov_eq_canon']
    exact (congrArg _ (top_idx e d)).trans ((congrFun (View.canon_cons_unit_lit _ _ _ (by decide)) _).trans (zeros_at _ _))
  exact (congrArg (fun a : EReal => a + A.args.dWLo e d) z).trans (zero_add _)

theorem stored12_hi_A (e : Fin 512) (d : Fin 1024) : out0_A_12 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 (ix2 (hi e) d)
    = A.args.dWHi e d := by
  refine (congrFun ((View.read_writes_junk_eq_canon VO0_12 _).trans ((congrArg View.canon
    (found12_A c i A arg9 harg9 arg10 harg10 arg11 harg11 arg12 harg12 arg13 harg13 arg14 harg14 arg15 harg15 hc)).trans rfl)) _).trans ?_
  refine (canon_low_hi _ _ e d).trans ((A.sumHi_at _ e d).trans ?_)
  have z : arg13.view.readCov (A.first arg13) lowHalf.toLoadRect (ix2 e d : S512x1024.Idx) = (0 : EReal) := by
    rw [View.readCov_eq_canon']
    exact (congrArg _ (low_idx e d)).trans ((canon_top_hi _ _ e d).trans ((congrFun (View.canon_cons_unit_lit _ _ _ (by decide)) _).trans (zeros_at _ _)))
  exact (congrArg (fun a : EReal => a + A.args.dWHi e d) z).trans (zero_add _)

theorem found13_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).2.2.2.2.2.1
    = [⟨allRow, k0_pay12 (F := Ideal) A.G A.Sz A.merged A.C A.W0 A.W1 A.X A.T (arg14.view.readCov [⟨allRow, k0_pay3 (F := Ideal)⟩] allRow.toLoadRect)⟩, ⟨allRow, k0_pay3 (F := Ideal)⟩] := rfl

theorem stored13_A (d : Fin 1024) : out0_A_13 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 (ix2 0 d)
    = A.args.dG d := by
  refine (congrFun ((View.read_writes_junk_eq_canon VO0_13 _).trans ((congrArg View.canon
    (found13_A c i A arg9 harg9 arg10 harg10 arg11 harg11 arg12 harg12 arg13 harg13 arg14 harg14 arg15 harg15 hc)).trans (View.canon_cons_unit_lit _ _ _ (by decide)))) _).trans ((A.sumG_at _ d).trans ?_)
  rw [loaded]
  exact (congrArg (fun a : EReal => a + A.args.dG d) (zeroRow_at d)).trans (zero_add _)

theorem found14_A : (kernelRun0_A (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7).2.2.2.2.2.2.1
    = [⟨one, fun _ => k0_pay10 (F := Ideal) A.G A.Sz A.merged A.C A.W0 A.W1 A.X A.T (Ideal.ofBits .f32 0x00000000#32)⟩, ⟨one, fun _ => Ideal.ofBits .f32 0x00000000#32⟩] := rfl

theorem stored14_A : out0_A_14 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 (ix2 0 0)
    = A.args.total := by
  refine (congrFun ((View.read_writes_junk_eq_canon VO0_14 _).trans ((congrArg View.canon
    (found14_A c i A arg9 harg9 arg10 harg10 arg11 harg11 arg12 harg12 arg13 harg13 arg14 harg14 arg15 harg15 hc)).trans (View.canon_cons_unit_lit _ _ _ (by decide)))) _).trans ((A.sumL _).trans ?_)
  exact (congrArg (fun a : EReal => a + A.args.total) (Ideal.ofBits_zero .f32)).trans (zero_add _)

end First

section Next
variable (hc : ¬cond0_0 i) (xo12 : Vec Ideal S1024x1024 .f32) (xo13 : Vec Ideal S1x1024 .f32) (xo14 : Vec Ideal S1x1 .f32)

theorem found8_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).1
    = [⟨allRows, A.Dy⟩] := rfl

theorem stored8_B : out0_B_8 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14
    = A.Dy :=
  (View.read_writes_junk_eq_canon VO0_8 _).trans ((congrArg View.canon
    (found8_B c i A arg9 harg9 arg10 harg10 arg11 harg11 arg12 harg12 arg13 harg13 arg14 harg14 arg15 harg15 hc xo12 xo13 xo14)).trans (View.canon_cons_unit_lit _ _ _ (by decide)))

theorem found9_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).2.1
    = [⟨allSquare, k0_pay16 (F := Ideal) A.G A.Dy A.W⟩] := rfl

theorem stored9_B : out0_B_9 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14
    = k0_pay16 (F := Ideal) A.G A.Dy A.W :=
  (View.read_writes_junk_eq_canon VO0_9 _).trans ((congrArg View.canon
    (found9_B c i A arg9 harg9 arg10 harg10 arg11 harg11 arg12 harg12 arg13 harg13 arg14 harg14 arg15 harg15 hc xo12 xo13 xo14)).trans (View.canon_cons_unit_lit _ _ _ (by decide)))

theorem found10_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).2.2.1
    = [⟨allLayer, k0_pay27 (F := Ideal) A.Z A.merged (k0_pay15 A.G A.Dy A.W)⟩] := rfl

theorem stored10_B : out0_B_10 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14
    = k0_pay27 (F := Ideal) A.Z A.merged (k0_pay15 A.G A.Dy A.W) :=
  (View.read_writes_junk_eq_canon VO0_10 _).trans ((congrArg View.canon
    (found10_B c i A arg9 harg9 arg10 harg10 arg11 harg11 arg12 harg12 arg13 harg13 arg14 harg14 arg15 harg15 hc xo12 xo13 xo14)).trans (View.canon_cons_unit_lit _ _ _ (by decide)))

theorem found11_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).2.2.2.1
    = A.heads 8 (le_refl 8) := rfl

theorem stored11_B (k : Fin 8) (r : Fin 512) (l : Fin 64) : out0_B_11 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14 (ix3 k r l)
    = A.args.dO r (colOf k l) :=
  (congrFun ((View.read_writes_junk_eq_canon VO0_11 _).trans ((congrArg View.canon
    (found11_B c i A arg9 harg9 arg10 harg10 arg11 harg11 arg12 harg12 arg13 harg13 arg14 harg14 arg15 harg15 hc xo12 xo13 xo14)).trans rfl)) _).trans (A.heads_at 8 _ k k.isLt r l)

theorem found12_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).2.2.2.2.1
    = [⟨lowHalf, k0_pay1 A.C A.Dm (View.readAt (Elt Ideal) arg13.view lowHalf.toLoadRect (harg13.unread xo12))⟩,
      ⟨topHalf, k0_pay28 (k0_pay7 A.Sz A.merged) A.Dm (View.readAt (Elt Ideal) arg13.view topHalf.toLoadRect (harg13.unread xo12))⟩] := rfl

theorem stored12_lo_B (e : Fin 512) (d : Fin 1024) : out0_B_12 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14 (ix2 (lo e) d)
    = (fun a b : EReal => a + b) (xo12 (ix2 (lo e) d)) (A.args.dWLo e d) := by
  refine (congrFun ((View.read_writes_junk_eq_canon VO0_12 _).trans ((congrArg View.canon
    (found12_B c i A arg9 harg9 arg10 harg10 arg11 harg11 arg12 harg12 arg13 harg13 arg14 harg14 arg15 harg15 hc xo12 xo13 xo14)).trans rfl)) _).trans ?_
  refine (canon_low_lo _ _ e d).trans ((canon_top_lo _ _ e d).trans ((A.sumLo_at _ e d).trans ?_))
  exact congrArg (fun a : EReal => a + A.args.dWLo e d) ((harg13.readAt_unread xo12 _ _).trans (congrArg xo12 (top_idx e d)))

theorem stored12_hi_B (e : Fin 512) (d : Fin 1024) : out0_B_12 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14 (ix2 (hi e) d)
    = (fun a b : EReal => a + b) (xo12 (ix2 (hi e) d)) (A.args.dWHi e d) := by
  refine (congrFun ((View.read_writes_junk_eq_canon VO0_12 _).trans ((congrArg View.canon
    (found12_B c i A arg9 harg9 arg10 harg10 arg11 harg11 arg12 harg12 arg13 harg13 arg14 harg14 arg15 harg15 hc xo12 xo13 xo14)).trans rfl)) _).trans ?_
  refine (canon_low_hi _ _ e d).trans ((A.sumHi_at _ e d).trans ?_)
  exact congrArg (fun a : EReal => a + A.args.dWHi e d) ((harg13.readAt_unread xo12 _ _).trans (congrArg xo12 (low_idx e d)))

theorem found13_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).2.2.2.2.2.1
    = [⟨allRow, k0_pay12 (F := Ideal) A.G A.Sz A.merged A.C A.W0 A.W1 A.X A.T (View.readAt (Elt Ideal) arg14.view allRow.toLoadRect (harg14.unread xo13))⟩] := rfl

theorem stored13_B (d : Fin 1024) : out0_B_13 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14 (ix2 0 d)
    = (fun a b : EReal => a + b) (xo13 (ix2 0 d)) (A.args.dG d) := by
  refine (congrFun ((View.read_writes_junk_eq_canon VO0_13 _).trans ((congrArg View.canon
    (found13_B c i A arg9 harg9 arg10 harg10 arg11 harg11 arg12 harg12 arg13 harg13 arg14 harg14 arg15 harg15 hc xo12 xo13 xo14)).trans (View.canon_cons_unit_lit _ _ _ (by decide)))) _).trans ((A.sumG_at _ d).trans ?_)
  rw [held]

theorem found14_B : (kernelRun0_B (F := Ideal) c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14).2.2.2.2.2.2.1
    = [⟨one, fun _ => k0_pay10 (F := Ideal) A.G A.Sz A.merged A.C A.W0 A.W1 A.X A.T (View.readAt (Elt Ideal) arg15.view one.toLoadRect (harg15.unread xo14) atFirst)⟩] := rfl

theorem stored14_B : out0_B_14 c i A.m1 A.h1 A.m2 A.h2 A.m3 A.h3 A.m4 A.h4 A.m5 A.h5 A.m6 A.h6 A.m7 A.h7 A.m8 A.h8 arg9 harg9 arg10 harg10 arg11 harg11 arg12 harg12 arg13 harg13 arg14 harg14 arg15 harg15 hc A.x0 A.x1 A.x2 A.x3 A.x4 A.x5 A.x6 A.x7 xo12 xo13 xo14 (ix2 0 0)
    = (fun a b : EReal => a + b) (xo14 (ix2 0 0)) A.args.total := by
  refine (congrFun ((View.read_writes_junk_eq_canon VO0_14 _).trans ((congrArg View.canon
    (found14_B c i A arg9 harg9 arg10 harg10 arg11 harg11 arg12 harg12 arg13 harg13 arg14 harg14 arg15 harg15 hc xo12 xo13 xo14)).trans (View.canon_cons_unit_lit _ _ _ (by decide)))) _).trans ((A.sumL _).trans ?_)
  refine congrArg (fun a : EReal => a + A.args.total) ((harg15.readAt_unread xo14 _ _).trans (congrArg xo14 (funext fun a => Fin.ext ?_)))
  match a with
  | ⟨0, _⟩ => rfl
  | ⟨1, _⟩ => rfl

end Next

end Stored

end Cert.Kernel3Ideal.Out

end
-- ==== Proof.OutArrays.lean ====
/- From the body of the output projection's backward kernel to its arrays: every grid point works on 512 rows, and the gradients of the
   weight and of the residual's gate and the total of the squares grow from point to point. -/
module

public import proofs.«01_k».proof.Proof.OutStore
public import Idealize.ShloMosaic.Lib.Pipeline.ValueKit.Point
public import Idealize.ShloMosaic.Lib.Claim

@[expose] public section

set_option maxRecDepth 16384

noncomputable section

namespace Cert.Kernel3Ideal.Out

open Cert.Kernel3Ideal Cert.Kernel3Ideal.Gen Cert.Kernel3Ideal.Value Idealize.ShloMosaic Idealize.ShloMosaic.TcCoe Idealize.SL.Sem
open Cert.NormGrad Cert.OutGrad

variable (m : (ℓ : Loc nD τ sig) → Buf (Elt Ideal) ℓ) (c : Dev nD)

/-- The row a block places an entry at, and the gate's columns of the combined projection. -/
def rowOf (t : Fin cfg0.N) (r : Fin 512) : Fin 2048 := ⟨t.val * 512 + r.val, by have h : t.val < 4 := t.isLt; omega⟩
def gateOf (e : Fin 512) : Fin 4096 := ⟨1536 + e.val, by omega⟩

/-- The arguments. -/
def args : Args 2048 where
  o q e := m ((c : Thread nD τ).loc main_arg0) (ix3 (headOf e) q (laneOf e))
  z q e := m ((c : Thread nD τ).loc main_arg1) (ix2 q (gateOf e))
  c q e := m ((c : Thread nD τ).loc main_arg2) (ix2 q e)
  w k d := m ((c : Thread nD τ).loc main_arg3) (ix2 k d)
  x q d := m ((c : Thread nD τ).loc main_arg4) (ix2 q d)
  t q d := m ((c : Thread nD τ).loc main_arg5) (ix2 q d)
  g d := (fun a b : EReal => a + b) (m ((c : Thread nD τ).loc main_arg6) (ix2 0 ⟨2048 + d.val, by omega⟩))
    (m ((c : Thread nD τ).loc main_arg7) (ix2 0 ⟨2048 + d.val, by omega⟩))

/-- The host narrows the projection's weight, which changes nothing. -/
theorem narrowed (k d : Fin 1024) : (V m c main_v0 : Vec Ideal S1024x1024 .bf16) (ix2 k d) = (args m c).w k d := by
  unfold V
  simp only [hostOps0, StableHlo.TRef.unary, StableHlo.TRef.toBuf, StableHlo.TRef.ofBuf, cast_eq]
  after_results_simp
  pointwise
  rfl

/-! ## The windows -/

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 3] :=
  (by decide +kernel : ∀ t : Fin grid0.N, win0_1.index t = ![t.val, 3])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![3, t.val, 0] :=
  (by decide +kernel : ∀ t : Fin grid0.N, win0_10.index t = ![3, t.val, 0])
theorem idx11 : ∀ t : Fin cfg0.N, win0_11.index t = ![0, t.val, 0] :=
  (by decide +kernel : ∀ t : Fin grid0.N, win0_11.index t = ![0, t.val, 0])

set_option maxHeartbeats 1000000 in
theorem block0 (t : Fin cfg0.N) (h : Fin 8) (r : Fin 512) (l : Fin 64) : (iblk m c 0 t) (ix3 h r l) = m ((c : Thread nD τ).loc main_arg0) (ix3 h (rowOf t r) l) := by
  refine Eq.trans ?_ (congrFun (V_main_arg0 m c) (ix3 h (rowOf t r) l))
  blk_ext [iblk, idx0 t]
  rfl

set_option maxHeartbeats 1000000 in
theorem block1 (t : Fin cfg0.N) (r e : Fin 512) : (iblk m c 1 t) (ix2 r e) = (args m c).z (rowOf t r) e := by
  refine Eq.trans ?_ (congrFun (V_main_arg1 m c) (ix2 (rowOf t r) (gateOf e)))
  blk_ext [iblk, idx1 t]
  · rfl
  · show 3 * 512 + e.val = 1536 + e.val
    omega

set_option maxHeartbeats 1000000 in
theorem block2 (t : Fin cfg0.N) (r e : Fin 512) : (iblk m c 2 t) (ix2 r e) = (args m c).c (rowOf t r) e := by
  refine Eq.trans ?_ (congrFun (V_main_arg2 m c) (ix2 (rowOf t r) e))
  blk_ext [iblk, idx2 t]
  rfl

set_option maxHeartbeats 1000000 in
theorem block3 (t : Fin cfg0.N) (k d : Fin 1024) : (iblk m c 3 t) (ix2 k d) = (args m c).w k d := by
  refine Eq.trans ?_ (narrowed m c k d)
  blk_ext [iblk, idx3 t]

set_option maxHeartbeats 1000000 in
theorem block4 (t : Fin cfg0.N) (r : Fin 512) (d : Fin 1024) : (iblk m c 4 t) (ix2 r d) = (args m c).x (rowOf t r) d := by
  refine Eq.trans ?_ (congrFun (V_main_arg4 m c) (ix2 (rowOf t r) d))
  blk_ext [iblk, idx4 t]
  rfl

set_option maxHeartbeats 1000000 in
theorem block5 (t : Fin cfg0.N) (r : Fin 512) (d : Fin 1024) : (iblk m c 5 t) (ix2 r d) = (args m c).t (rowOf t r) d := by
  refine Eq.trans ?_ (congrFun (V_main_arg5 m c) (ix2 (rowOf t r) d))
  blk_ext [iblk, idx5 t]
  rfl

set_option maxHeartbeats 1000000 in
theorem block6 (t : Fin cfg0.N) (k : Fin 3072) : (iblk m c 6 t) (ix2 0 k) = m ((c : Thread nD τ).loc main_arg6) (ix2 0 k) := by
  refine Eq.trans ?_ (congrFun (V_main_arg6 m c) (ix2 0 k))
  blk_ext [iblk, idx6 t]

set_option maxHeartbeats 1000000 in
theorem block7 (t : Fin cfg0.N) (k : Fin 3072) : (iblk m c 7 t) (ix2 0 k) = m ((c : Thread nD τ).loc main_arg7) (ix2 0 k) := by
  refine Eq.trans ?_ (congrFun (V_main_arg7 m c) (ix2 0 k))
  blk_ext [iblk, idx7 t]

/-- The windows of a grid point. -/
def inAt (t : Fin cfg0.N) : In where
  m1 := ms0_0 t
  h1 := hs0_0 t
  m2 := ms0_1 t
  h2 := hs0_1 t
  m3 := ms0_2 t
  h3 := hs0_2 t
  m4 := ms0_3 t
  h4 := hs0_3 t
  m5 := ms0_4 t
  h5 := hs0_4 t
  m6 := ms0_5 t
  h6 := hs0_5 t
  m7 := ms0_6 t
  h7 := hs0_6 t
  m8 := ms0_7 t
  h8 := hs0_7 t
  x0 := iblk m c 0 t
  x1 := iblk m c 1 t
  x2 := iblk m c 2 t
  x3 := iblk m c 3 t
  x4 := iblk m c 4 t
  x5 := iblk m c 5 t
  x6 := iblk m c 6 t
  x7 := iblk m c 7 t

/-- They hold the point's rows of the arguments. -/
theorem inAt_args (t : Fin cfg0.N) : (inAt m c t).args = (args m c).rows (rowOf t) := by
  have e0 : (inAt m c t).args.o = ((args m c).rows (rowOf t)).o := funext fun r => funext fun e => block0 m c t (headOf e) r (laneOf e)
  have e1 : (inAt m c t).args.z = ((args m c).rows (rowOf t)).z := funext fun r => funext fun e => block1 m c t r e
  have e2 : (inAt m c t).args.c = ((args m c).rows (rowOf t)).c := funext fun r => funext fun e => block2 m c t r e
  have e3 : (inAt m c t).args.w = ((args m c).rows (rowOf t)).w := funext fun k => funext fun d => block3 m c t k d
  have e4 : (inAt m c t).args.x = ((args m c).rows (rowOf t)).x := funext fun r => funext fun d => block4 m c t r d
  have e5 : (inAt m c t).args.t = ((args m c).rows (rowOf t)).t := funext fun r => funext fun d => block5 m c t r d
  have e6 : (inAt m c t).args.g = ((args m c).rows (rowOf t)).g := funext fun d =>
    congrArg₂ (fun a b : EReal => a + b) (block6 m c t ⟨2048 + d.val, by omega⟩) (block7 m c t ⟨2048 + d.val, by omega⟩)
  exact Args.ext e0 e1 e2 e3 e4 e5 e6

/-! ## What a grid point leaves -/

section Points

variable (t : Fin cfg0.N)

theorem holds8_A (h : t.val % 4 = 0) : (outsAt0 m c t.val t.isLt).1
    = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores8_A (h : t.val % 4 = 0) (r : Fin 512) (d : Fin 1024) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix2 r d)
    = (inAt m c t).args.dX r d :=
  (congrFun (stored8_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) _).trans ((inAt m c t).Dy_at r d)

theorem holds8_B (h : ¬t.val % 4 = 0) : (outsAt0 m c t.val t.isLt).1
    = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores8_B (h : ¬t.val % 4 = 0) (r : Fin 512) (d : Fin 1024) : out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 r d)
    = (inAt m c t).args.dX r d :=
  (congrFun (stored8_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) _).trans ((inAt m c t).Dy_at r d)

theorem left8 (r : Fin 512) (d : Fin 1024) : (outsAt0 m c t.val t.isLt).1 (ix2 r d) = (args m c).dX (rowOf t r) d := by
  have share : (inAt m c t).args.dX r d = (args m c).dX (rowOf t r) d := by rw [inAt_args]; rfl
  refine Eq.trans ?_ share
  by_cases h : t.val % 4 = 0
  · exact (congrFun (holds8_A m c t h) _).trans (stores8_A m c t h r d)
  · exact (congrFun (holds8_B m c t h) _).trans (stores8_B m c t h r d)

theorem holds9_A (h : t.val % 4 = 0) : (outsAt0 m c t.val t.isLt).2.1
    = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores9_A (h : t.val % 4 = 0) (r e : Fin 512) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix2 r e)
    = (inAt m c t).args.dIn r (hi e) :=
  (congrFun (stored9_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) _).trans ((inAt m c t).conv_at r e)

theorem holds9_B (h : ¬t.val % 4 = 0) : (outsAt0 m c t.val t.isLt).2.1
    = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores9_B (h : ¬t.val % 4 = 0) (r e : Fin 512) : out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 r e)
    = (inAt m c t).args.dIn r (hi e) :=
  (congrFun (stored9_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) _).trans ((inAt m c t).conv_at r e)

theorem left9 (r e : Fin 512) : (outsAt0 m c t.val t.isLt).2.1 (ix2 r e) = (args m c).dIn (rowOf t r) (hi e) := by
  have share : (inAt m c t).args.dIn r (hi e) = (args m c).dIn (rowOf t r) (hi e) := by rw [inAt_args]; rfl
  refine Eq.trans ?_ share
  by_cases h : t.val % 4 = 0
  · exact (congrFun (holds9_A m c t h) _).trans (stores9_A m c t h r e)
  · exact (congrFun (holds9_B m c t h) _).trans (stores9_B m c t h r e)

theorem holds10_A (h : t.val % 4 = 0) : (outsAt0 m c t.val t.isLt).2.2.1
    = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores10_A (h : t.val % 4 = 0) (r e : Fin 512) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix3 0 r e)
    = (inAt m c t).args.dZ r e :=
  (congrFun (stored10_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) _).trans ((inAt m c t).gate_at r e)

theorem holds10_B (h : ¬t.val % 4 = 0) : (outsAt0 m c t.val t.isLt).2.2.1
    = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores10_B (h : ¬t.val % 4 = 0) (r e : Fin 512) : out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix3 0 r e)
    = (inAt m c t).args.dZ r e :=
  (congrFun (stored10_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) _).trans ((inAt m c t).gate_at r e)

theorem left10 (r e : Fin 512) : (outsAt0 m c t.val t.isLt).2.2.1 (ix3 0 r e) = (args m c).dZ (rowOf t r) e := by
  have share : (inAt m c t).args.dZ r e = (args m c).dZ (rowOf t r) e := by rw [inAt_args]; rfl
  refine Eq.trans ?_ share
  by_cases h : t.val % 4 = 0
  · exact (congrFun (holds10_A m c t h) _).trans (stores10_A m c t h r e)
  · exact (congrFun (holds10_B m c t h) _).trans (stores10_B m c t h r e)

theorem holds11_A (h : t.val % 4 = 0) : (outsAt0 m c t.val t.isLt).2.2.2.1
    = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores11_A (h : t.val % 4 = 0) (k : Fin 8) (r : Fin 512) (l : Fin 64) : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix3 k r l)
    = (inAt m c t).args.dO r (colOf k l) :=
  (stored11_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) k r l

theorem holds11_B (h : ¬t.val % 4 = 0) : (outsAt0 m c t.val t.isLt).2.2.2.1
    = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores11_B (h : ¬t.val % 4 = 0) (k : Fin 8) (r : Fin 512) (l : Fin 64) : out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix3 k r l)
    = (inAt m c t).args.dO r (colOf k l) :=
  (stored11_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) k r l

theorem left11 (k : Fin 8) (r : Fin 512) (l : Fin 64) : (outsAt0 m c t.val t.isLt).2.2.2.1 (ix3 k r l) = (args m c).dO (rowOf t r) (colOf k l) := by
  have share : (inAt m c t).args.dO r (colOf k l) = (args m c).dO (rowOf t r) (colOf k l) := by rw [inAt_args]; rfl
  refine Eq.trans ?_ share
  by_cases h : t.val % 4 = 0
  · exact (congrFun (holds11_A m c t h) _).trans (stores11_A m c t h k r l)
  · exact (congrFun (holds11_B m c t h) _).trans (stores11_B m c t h k r l)

theorem holds12_A (h : t.val % 4 = 0) : (outsAt0 m c t.val t.isLt).2.2.2.2.1
    = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores12_lo_A (h : t.val % 4 = 0) (e : Fin 512) (d : Fin 1024) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix2 (lo e) d)
    = (inAt m c t).args.dWLo e d :=
  (stored12_lo_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) e d

theorem first12_lo (h : t.val % 4 = 0) (e : Fin 512) (d : Fin 1024) : (outsAt0 m c t.val t.isLt).2.2.2.2.1 (ix2 (lo e) d)
    = ((args m c).rows (rowOf t)).dWLo e d := by
  rw [← inAt_args]
  exact (congrFun (holds12_A m c t h) _).trans (stores12_lo_A m c t h e d)

theorem holds12_B (h : ¬t.val % 4 = 0) : (outsAt0 m c t.val t.isLt).2.2.2.2.1
    = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores12_lo_B (h : ¬t.val % 4 = 0) (e : Fin 512) (d : Fin 1024) : out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 (lo e) d)
    = (fun a b : EReal => a + b) ((outsAt0 m c (t.val - 1) (Nat.lt_of_le_of_lt (Nat.sub_le _ _) t.isLt)).2.2.2.2.1 (ix2 (lo e) d)) ((inAt m c t).args.dWLo e d) :=
  (stored12_lo_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) e d

theorem next12_lo (h : ¬t.val % 4 = 0) (e : Fin 512) (d : Fin 1024) : (outsAt0 m c t.val t.isLt).2.2.2.2.1 (ix2 (lo e) d)
    = (fun a b : EReal => a + b) ((outsAt0 m c (t.val - 1) (Nat.lt_of_le_of_lt (Nat.sub_le _ _) t.isLt)).2.2.2.2.1 (ix2 (lo e) d)) (((args m c).rows (rowOf t)).dWLo e d) := by
  rw [← inAt_args]
  exact (congrFun (holds12_B m c t h) _).trans (stores12_lo_B m c t h e d)

set_option maxHeartbeats 1000000 in
theorem stores12_hi_A (h : t.val % 4 = 0) (e : Fin 512) (d : Fin 1024) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix2 (hi e) d)
    = (inAt m c t).args.dWHi e d :=
  (stored12_hi_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) e d

theorem first12_hi (h : t.val % 4 = 0) (e : Fin 512) (d : Fin 1024) : (outsAt0 m c t.val t.isLt).2.2.2.2.1 (ix2 (hi e) d)
    = ((args m c).rows (rowOf t)).dWHi e d := by
  rw [← inAt_args]
  exact (congrFun (holds12_A m c t h) _).trans (stores12_hi_A m c t h e d)

set_option maxHeartbeats 1000000 in
theorem stores12_hi_B (h : ¬t.val % 4 = 0) (e : Fin 512) (d : Fin 1024) : out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 (hi e) d)
    = (fun a b : EReal => a + b) ((outsAt0 m c (t.val - 1) (Nat.lt_of_le_of_lt (Nat.sub_le _ _) t.isLt)).2.2.2.2.1 (ix2 (hi e) d)) ((inAt m c t).args.dWHi e d) :=
  (stored12_hi_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) e d

theorem next12_hi (h : ¬t.val % 4 = 0) (e : Fin 512) (d : Fin 1024) : (outsAt0 m c t.val t.isLt).2.2.2.2.1 (ix2 (hi e) d)
    = (fun a b : EReal => a + b) ((outsAt0 m c (t.val - 1) (Nat.lt_of_le_of_lt (Nat.sub_le _ _) t.isLt)).2.2.2.2.1 (ix2 (hi e) d)) (((args m c).rows (rowOf t)).dWHi e d) := by
  rw [← inAt_args]
  exact (congrFun (holds12_B m c t h) _).trans (stores12_hi_B m c t h e d)

theorem holds13_A (h : t.val % 4 = 0) : (outsAt0 m c t.val t.isLt).2.2.2.2.2.1
    = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores13_A (h : t.val % 4 = 0) (d : Fin 1024) : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix2 0 d)
    = (inAt m c t).args.dG d :=
  (stored13_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h)) d

theorem first13 (h : t.val % 4 = 0) (d : Fin 1024) : (outsAt0 m c t.val t.isLt).2.2.2.2.2.1 (ix2 0 d)
    = ((args m c).rows (rowOf t)).dG d := by
  rw [← inAt_args]
  exact (congrFun (holds13_A m c t h) _).trans (stores13_A m c t h d)

theorem holds13_B (h : ¬t.val % 4 = 0) : (outsAt0 m c t.val t.isLt).2.2.2.2.2.1
    = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores13_B (h : ¬t.val % 4 = 0) (d : Fin 1024) : out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 0 d)
    = (fun a b : EReal => a + b) ((outsAt0 m c (t.val - 1) (Nat.lt_of_le_of_lt (Nat.sub_le _ _) t.isLt)).2.2.2.2.2.1 (ix2 0 d)) ((inAt m c t).args.dG d) :=
  (stored13_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) d

theorem next13 (h : ¬t.val % 4 = 0) (d : Fin 1024) : (outsAt0 m c t.val t.isLt).2.2.2.2.2.1 (ix2 0 d)
    = (fun a b : EReal => a + b) ((outsAt0 m c (t.val - 1) (Nat.lt_of_le_of_lt (Nat.sub_le _ _) t.isLt)).2.2.2.2.2.1 (ix2 0 d)) (((args m c).rows (rowOf t)).dG d) := by
  rw [← inAt_args]
  exact (congrFun (holds13_B m c t h) _).trans (stores13_B m c t h d)

theorem holds14_A (h : t.val % 4 = 0) : (outsAt0 m c t.val t.isLt).2.2.2.2.2.2
    = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) := by
  rw [outsAt0_A m c t h]

set_option maxHeartbeats 1000000 in
theorem stores14_A (h : t.val % 4 = 0) : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h) (iblk m c 0 t) (iblk m c 1 t) (iblk m c 2 t) (iblk m c 3 t) (iblk m c 4 t) (iblk m c 5 t) (iblk m c 6 t) (iblk m c 7 t) (ix2 0 0)
    = (inAt m c t).args.total :=
  (stored14_A c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h))

theorem first14 (h : t.val % 4 = 0) : (outsAt0 m c t.val t.isLt).2.2.2.2.2.2 (ix2 0 0)
    = ((args m c).rows (rowOf t)).total := by
  rw [← inAt_args]
  exact (congrFun (holds14_A m c t h) _).trans (stores14_A m c t h )

theorem holds14_B (h : ¬t.val % 4 = 0) : (outsAt0 m c t.val t.isLt).2.2.2.2.2.2
    = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

set_option maxHeartbeats 1000000 in
theorem stores14_B (h : ¬t.val % 4 = 0) : out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 0 0)
    = (fun a b : EReal => a + b) ((outsAt0 m c (t.val - 1) (Nat.lt_of_le_of_lt (Nat.sub_le _ _) t.isLt)).2.2.2.2.2.2 (ix2 0 0)) ((inAt m c t).args.total) :=
  (stored14_B c (grid0.coords t) (inAt m c t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)

theorem next14 (h : ¬t.val % 4 = 0) : (outsAt0 m c t.val t.isLt).2.2.2.2.2.2 (ix2 0 0)
    = (fun a b : EReal => a + b) ((outsAt0 m c (t.val - 1) (Nat.lt_of_le_of_lt (Nat.sub_le _ _) t.isLt)).2.2.2.2.2.2 (ix2 0 0)) (((args m c).rows (rowOf t)).total) := by
  rw [← inAt_args]
  exact (congrFun (holds14_B m c t h) _).trans (stores14_B m c t h )

end Points

/-! ## The arrays -/

/-- The last grid point, after which the sums are written back. -/
def last : Fin cfg0.N := ⟨3, by decide⟩

/-- Four blocks of 512 rows are all 2048. -/
theorem all_rows (f : Fin 2048 → EReal) :
    (∑ r, f (rowOf ⟨0, by decide⟩ r)) + (∑ r, f (rowOf ⟨1, by decide⟩ r)) + (∑ r, f (rowOf ⟨2, by decide⟩ r)) + (∑ r, f (rowOf last r))
      = ∑ q, f q := by
  refine Eq.symm ((sum_blocks 4 512 f).trans ?_)
  rw [Fin.sum_univ_four]
  rfl

theorem total12_lo (e : Fin 512) (d : Fin 1024) : (outsAt0 m c 3 (by decide)).2.2.2.2.1 (ix2 (lo e) d) = (args m c).dWLo e d := by
  refine (next12_lo m c last (by decide) e d).trans ?_
  refine Eq.trans (congrArg (fun a : EReal => a + ((args m c).rows (rowOf last)).dWLo e d) ((next12_lo m c ⟨2, by decide⟩ (by decide) e d).trans
    (congrArg (fun a : EReal => a + ((args m c).rows (rowOf ⟨2, by decide⟩)).dWLo e d) ((next12_lo m c ⟨1, by decide⟩ (by decide) e d).trans
      (congrArg (fun a : EReal => a + ((args m c).rows (rowOf ⟨1, by decide⟩)).dWLo e d) (first12_lo m c ⟨0, by decide⟩ (by decide) e d)))))) ?_
  exact all_rows fun q => (args m c).att q e * (args m c).dMo q d

theorem total12_hi (e : Fin 512) (d : Fin 1024) : (outsAt0 m c 3 (by decide)).2.2.2.2.1 (ix2 (hi e) d) = (args m c).dWHi e d := by
  refine (next12_hi m c last (by decide) e d).trans ?_
  refine Eq.trans (congrArg (fun a : EReal => a + ((args m c).rows (rowOf last)).dWHi e d) ((next12_hi m c ⟨2, by decide⟩ (by decide) e d).trans
    (congrArg (fun a : EReal => a + ((args m c).rows (rowOf ⟨2, by decide⟩)).dWHi e d) ((next12_hi m c ⟨1, by decide⟩ (by decide) e d).trans
      (congrArg (fun a : EReal => a + ((args m c).rows (rowOf ⟨1, by decide⟩)).dWHi e d) (first12_hi m c ⟨0, by decide⟩ (by decide) e d)))))) ?_
  exact all_rows fun q => (args m c).c q e * (args m c).dMo q d

theorem total13 (d : Fin 1024) : (outsAt0 m c 3 (by decide)).2.2.2.2.2.1 (ix2 0 d) = (args m c).dG d := by
  refine (next13 m c last (by decide) d).trans ?_
  refine Eq.trans (congrArg (fun a : EReal => a + ((args m c).rows (rowOf last)).dG d) ((next13 m c ⟨2, by decide⟩ (by decide) d).trans
    (congrArg (fun a : EReal => a + ((args m c).rows (rowOf ⟨2, by decide⟩)).dG d) ((next13 m c ⟨1, by decide⟩ (by decide) d).trans
      (congrArg (fun a : EReal => a + ((args m c).rows (rowOf ⟨1, by decide⟩)).dG d) (first13 m c ⟨0, by decide⟩ (by decide) d)))))) ?_
  exact all_rows fun q => (args m c).dX q d * (args m c).mo q d

theorem total14 : (outsAt0 m c 3 (by decide)).2.2.2.2.2.2 (ix2 0 0) = (args m c).total := by
  refine (next14 m c last (by decide)).trans ?_
  refine Eq.trans (congrArg (fun a : EReal => a + ((args m c).rows (rowOf last)).total) ((next14 m c ⟨2, by decide⟩ (by decide)).trans
    (congrArg (fun a : EReal => a + ((args m c).rows (rowOf ⟨2, by decide⟩)).total) ((next14 m c ⟨1, by decide⟩ (by decide)).trans
      (congrArg (fun a : EReal => a + ((args m c).rows (rowOf ⟨1, by decide⟩)).total) (first14 m c ⟨0, by decide⟩ (by decide))))))) ?_
  exact all_rows fun q => ∑ d, (args m c).diff q d * (args m c).diff q d

/-- The grid point that works on a row, and the row's place there. -/
def pointOf (q : Fin 2048) : Fin cfg0.N := ⟨q.val / 512, show q.val / 512 < 4 by omega⟩
def placeOf (q : Fin 2048) : Fin 512 := ⟨q.val % 512, by omega⟩

theorem rowOf_point (q : Fin 2048) : rowOf (pointOf q) (placeOf q) = q := Fin.ext (by
  show q.val / 512 * 512 + q.val % 512 = q.val
  omega)

theorem arr8 (q : Fin 2048) (d : Fin 1024) : ((dats m 0 c).arrAt 8 cfg0.N : Vec Ideal S2048x1024 .f32) (ix2 q d) = (args m c).dX q d := by
  refine Eq.trans ?_ ((congrFun (blocks8 m c (pointOf q) (flush0_8 (pointOf q))) (ix2 (placeOf q) d)).trans
    ((congrFun (flushed8 m c (pointOf q)) _).trans ((left8 m c (pointOf q) (placeOf q) d).trans (by rw [rowOf_point]))))
  refine congrArg ((dats m 0 c).arrAt 8 cfg0.N) ?_
  blk_ext [idx8 (pointOf q)]
  show q.val = q.val / 512 * 512 + q.val % 512
  omega

theorem arr9 (q : Fin 2048) (e : Fin 512) : ((dats m 0 c).arrAt 9 cfg0.N : Vec Ideal S2048x512 .f32) (ix2 q e) = (args m c).dIn q (hi e) := by
  refine Eq.trans ?_ ((congrFun (blocks9 m c (pointOf q) (flush0_9 (pointOf q))) (ix2 (placeOf q) e)).trans
    ((congrFun (flushed9 m c (pointOf q)) _).trans ((left9 m c (pointOf q) (placeOf q) e).trans (by rw [rowOf_point]))))
  refine congrArg ((dats m 0 c).arrAt 9 cfg0.N) ?_
  blk_ext [idx9 (pointOf q)]
  show q.val = q.val / 512 * 512 + q.val % 512
  omega

theorem arr10 (q : Fin 2048) (e : Fin 512) : ((dats m 0 c).arrAt 10 cfg0.N : Vec Ideal S8x2048x512 .bf16) (ix3 3 q e) = (args m c).dZ q e := by
  refine Eq.trans ?_ ((congrFun (blocks10 m c (pointOf q) (flush0_10 (pointOf q))) (ix3 0 (placeOf q) e)).trans
    ((congrFun (flushed10 m c (pointOf q)) _).trans ((left10 m c (pointOf q) (placeOf q) e).trans (by rw [rowOf_point]))))
  refine congrArg ((dats m 0 c).arrAt 10 cfg0.N) ?_
  blk_ext [idx10 (pointOf q)]
  show q.val = q.val / 512 * 512 + q.val % 512
  omega

theorem arr11 (k : Fin 8) (q : Fin 2048) (l : Fin 64) : ((dats m 0 c).arrAt 11 cfg0.N : Vec Ideal S8x2048x64 .bf16) (ix3 k q l) = (args m c).dO q (colOf k l) := by
  refine Eq.trans ?_ ((congrFun (blocks11 m c (pointOf q) (flush0_11 (pointOf q))) (ix3 k (placeOf q) l)).trans
    ((congrFun (flushed11 m c (pointOf q)) _).trans ((left11 m c (pointOf q) k (placeOf q) l).trans (by rw [rowOf_point]))))
  refine congrArg ((dats m 0 c).arrAt 11 cfg0.N) ?_
  blk_ext [idx11 (pointOf q)]
  show q.val = q.val / 512 * 512 + q.val % 512
  omega

theorem arr12_lo (e : Fin 512) (d : Fin 1024) : ((dats m 0 c).arrAt 12 cfg0.N : Vec Ideal S1024x1024 .f32) (ix2 (lo e) d) = (args m c).dWLo e d := by
  refine ((dats m 0 c).arrAt_emb_eq_after_last 12 last (by decide +kernel) (ix2 (lo e) d)).trans ?_
  exact (congrFun (after0_12 m c last) _).trans (total12_lo m c e d)

theorem arr12_hi (e : Fin 512) (d : Fin 1024) : ((dats m 0 c).arrAt 12 cfg0.N : Vec Ideal S1024x1024 .f32) (ix2 (hi e) d) = (args m c).dWHi e d := by
  refine ((dats m 0 c).arrAt_emb_eq_after_last 12 last (by decide +kernel) (ix2 (hi e) d)).trans ?_
  exact (congrFun (after0_12 m c last) _).trans (total12_hi m c e d)

theorem arr13 (d : Fin 1024) : ((dats m 0 c).arrAt 13 cfg0.N : Vec Ideal S1x1024 .f32) (ix2 0 d) = (args m c).dG d := by
  refine ((dats m 0 c).arrAt_emb_eq_after_last 13 last (by decide +kernel) (ix2 0 d)).trans ?_
  exact (congrFun (after0_13 m c last) _).trans (total13 m c d)

theorem arr14 : ((dats m 0 c).arrAt 14 cfg0.N : Vec Ideal S1x1 .f32) (ix2 0 0) = (args m c).total := by
  refine ((dats m 0 c).arrAt_emb_eq_after_last 14 last (by decide +kernel) (ix2 0 0)).trans ?_
  exact (congrFun (after0_14 m c last) _).trans (total14 m c)

end Cert.Kernel3Ideal.Out

end
-- ==== Proof.OutRef.lean ====
/- The arrays of the output projection's reference at their coordinates. -/
module

public import proofs.«01_k».proof.Proof.OutSpec
public import proofs.«01_k».proof.Proof.Gen.Reference3Ideal.Read
public import Idealize.ShloMosaic.Lib.Pointwise

@[expose] public section

set_option maxRecDepth 16384

noncomputable section

namespace Cert.Reference3Ideal.Out

open Idealize.ShloMosaic Cert.Reference3Ideal Cert.Reference3Ideal.Facts₀ Cert.Reference3Ideal.Read Cert.NormGrad Cert.OutGrad

local notation "𝔼" => Idealize.ShloMosaic.Ideal

abbrev Heads := (⟨S8x2048x64, .bf16⟩ : BufTy).Contents (Elt 𝔼)
abbrev Wide := (⟨S2048x4096, .f32⟩ : BufTy).Contents (Elt 𝔼)
abbrev Half := (⟨S2048x512, .bf16⟩ : BufTy).Contents (Elt 𝔼)
abbrev Weight := (⟨S1024x1024, .f32⟩ : BufTy).Contents (Elt 𝔼)
abbrev Rows := (⟨S2048x1024, .f32⟩ : BufTy).Contents (Elt 𝔼)
abbrev Mods := (⟨S1x3072, .f32⟩ : BufTy).Contents (Elt 𝔼)

/-- The arguments. -/
def argsAt (x0 : Heads) (x1 : Wide) (x2 : Half) (x3 : Weight) (x4 x5 : Rows) (x6 x7 : Mods) : Args 2048 where
  o q e := x0 (ix3 ⟨e.val / 64, by omega⟩ q ⟨e.val % 64, by omega⟩)
  z q e := x1 (ix2 q ⟨1536 + e.val, by omega⟩)
  c q e := x2 (ix2 q e)
  w k d := x3 (ix2 k d)
  x q d := x4 (ix2 q d)
  t q d := x5 (ix2 q d)
  g d := (fun a b : EReal => a + b) (x6 (ix2 0 ⟨2048 + d.val, by omega⟩)) (x7 (ix2 0 ⟨2048 + d.val, by omega⟩))

variable (x0 : Heads) (x1 : Wide) (x2 : Half) (x3 : Weight) (x4 x5 : Rows) (x6 x7 : Mods) (q : Fin 2048) (d : Fin 1024) (e : Fin 512)

local notation "A" => argsAt x0 x1 x2 x3 x4 x5 x6 x7

theorem zero_word : Ideal.ofBits .f32 0x00000000#32 = (0 : EReal) := Ideal.ofBits_zero .f32

theorem heads_at : val_main_v8 (F := 𝔼) x0 (ix2 q e) = (A).o q e := by
  pointwise [val_main_v8, val_main_v7, val_main_v6]
  rfl

theorem z_at : val_main_v4 (F := 𝔼) x1 (ix2 q e) = (A).z q e := by
  pointwise [val_main_v4]
  rfl

theorem gate_at : val_main_v3 (F := 𝔼) x6 x7 (ix2 0 d) = (A).g d := by
  pointwise [val_main_v3, val_main_v0]
  rfl

theorem sig_at : val_main_v9_2 (F := 𝔼) x1 (ix2 q e) = Ideal.logistic ((A).z q e) := by
  rw [val_main_v9_2_apply, val_main_call0_v3_apply, val_main_call0_v1_apply, val_main_call0_v0_apply,
    z_at x0 x1 x2 x3 x4 x5 x6 x7, val_main_call0_v4_apply, val_main_call0_v2_apply, val_main_call0_cst_apply, val_main_call0_cst_0_apply]
  refine Eq.trans (show _ = Ideal.div (Ideal.ofBits .f32 0x3F800000#32) (Ideal.ofBits .f32 0x3F800000#32 + Ideal.exp (-((A).z q e))) from rfl) ?_
  rw [word_one]
  rfl

theorem silu_at : val_main_v9_0 (F := 𝔼) x1 (ix2 q e) = (A).silu q e := by
  rw [val_main_v9_0_apply, sig_at x0 x1 x2 x3 x4 x5 x6 x7, z_at x0 x1 x2 x3 x4 x5 x6 x7]
  rfl

/-- The derivative of the logistic function at the gate. -/
theorem slope_at : val_main_v9_1 (F := 𝔼) x1 (ix2 q e)
    = Ideal.logistic ((A).z q e) * (Ideal.ofBits .f32 0x3F800000#32 - Ideal.logistic ((A).z q e)) := by
  rw [val_main_v9_1_apply, val_main_call0_v7_apply, sig_at x0 x1 x2 x3 x4 x5 x6 x7, val_main_call0_v6_apply, val_main_call0_cst_1_apply]
  rfl

theorem att_at : val_main_v10 (F := 𝔼) x0 x1 (ix2 q e) = (A).att q e := by
  rw [val_main_v10_apply, heads_at x0 x1 x2 x3 x4 x5 x6 x7, silu_at x0 x1 x2 x3 x4 x5 x6 x7]
  rfl

/-- Both branches side by side. -/
theorem mix_lo : val_main_v11 (F := 𝔼) x0 x1 x2 (ix2 q (lo e)) = (A).att q e := by
  rw [← att_at]
  pointwise [val_main_v11]
  rw [dif_pos (show (lo e).val < 512 from e.isLt)]
  rfl

theorem mix_hi : val_main_v11 (F := 𝔼) x0 x1 x2 (ix2 q (hi e)) = (A).c q e := by
  pointwise [val_main_v11, val_main_v5]
  have n : ¬(hi e).val < 512 := Nat.not_lt.2 (Nat.le_add_right _ _)
  rw [dif_neg n]
  exact congrArg (fun k => x2 (ix2 q k)) (Fin.ext (Nat.add_sub_cancel_left _ _))

theorem mo_at : val_main_v12 (F := 𝔼) x0 x1 x2 x3 (ix2 q d) = (A).mo q d := by
  refine Eq.trans (b := ∑ k : Fin 1024, (fun a b : EReal => a * b) (val_main_v11 (F := 𝔼) x0 x1 x2 (ix2 q k)) (x3 (ix2 k d))) ?_ ?_
  · generalize hy : val_main_v11 (F := 𝔼) x0 x1 x2 = y
    rw [val_main_v12, hy]
    pointwise
  · rw [sum_halves]
    simp only [mix_lo x0 x1 x2 x3 x4 x5 x6 x7, mix_hi x0 x1 x2 x3 x4 x5 x6 x7]
    rfl

theorem diff_at : val_main_v16 (F := 𝔼) x0 x1 x2 x3 x4 x5 x6 x7 (ix2 q d) = (A).diff q d := by
  rw [val_main_v16_apply, val_main_v15_apply, val_main_v14_apply, mo_at x0 x1 x2 x3 x4 x5 x6 x7, val_main_v13_apply,
    show idx_main_v13 (ix2 q d) = ix2 0 d from by funext a; match a with | 0 => rfl | 1 => rfl, gate_at x0 x1 x2 x3 x4 x5 x6 x7]
  rfl

theorem total_at : val_main_v50 (F := 𝔼) x0 x1 x2 x3 x4 x5 x6 x7 (ix2 0 0) = (A).total := by
  have z : val_main_cst_4 (F := 𝔼) (Shape.Idx.first Gen.h_S_) = 0 := zero_word
  have s : val_main_v17 (F := 𝔼) x0 x1 x2 x3 x4 x5 x6 x7 = fun i => (fun a : EReal => a * a) (val_main_v16 (F := 𝔼) x0 x1 x2 x3 x4 x5 x6 x7 i) := rfl
  generalize hy : val_main_v16 (F := 𝔼) x0 x1 x2 x3 x4 x5 x6 x7 = y at s
  rw [val_main_v50, val_main_v25, s]
  pointwise
  rw [z, zero_add]
  refine Finset.sum_congr rfl fun q _ => Finset.sum_congr rfl fun d _ => ?_
  rw [← hy]
  simp only [diff_at]

theorem dX_at : val_main_v31 (F := 𝔼) x0 x1 x2 x3 x4 x5 x6 x7 (ix2 q d) = (A).dX q d := by
  rw [val_main_v31_apply, val_main_v19_apply, diff_at]
  refine Eq.trans ?_ ((A).dX_plain q d)
  have h : val_main_v30 (F := 𝔼) (ix2 q d) = Ideal.div (Ideal.ofBits .f32 0x3F000000#32 * Ideal.ofBits .f32 0x3F800000#32) (Ideal.ofBits .f32 0x44800000#32) := by
    pointwise [val_main_v30, val_main_v29, val_main_v28, val_main_v27, val_main_v26, val_main_cst_5, val_main_cst_6, val_main_cst_7]
  have k : val_main_v18 (F := 𝔼) (ix2 q d) = Ideal.ofBits .f32 0x40000000#32 := by
    pointwise [val_main_v18, val_main_cst]
  rw [h, k]
  rfl

theorem dMo_at : val_main_v33 (F := 𝔼) x0 x1 x2 x3 x4 x5 x6 x7 (ix2 q d) = (A).dMo q d := by
  rw [val_main_v33_apply, dX_at, val_main_v32_apply,
    show idx_main_v32 (ix2 q d) = ix2 0 d from by funext a; match a with | 0 => rfl | 1 => rfl, gate_at x0 x1 x2 x3 x4 x5 x6 x7]
  exact mul_comm _ _

theorem dG_at : val_main_v36 (F := 𝔼) x0 x1 x2 x3 x4 x5 x6 x7 (ix2 0 d) = (A).dG d := by
  have z : val_main_cst_8 (F := 𝔼) (Shape.Idx.first Gen.h_S_) = 0 := zero_word
  have s : ∀ q, val_main_v34 (F := 𝔼) x0 x1 x2 x3 x4 x5 x6 x7 (ix2 q d) = (A).dX q d * (A).mo q d := fun q => by
    rw [val_main_v34_apply, dX_at, mo_at x0 x1 x2 x3 x4 x5 x6 x7]; rfl
  generalize hy : val_main_v34 (F := 𝔼) x0 x1 x2 x3 x4 x5 x6 x7 = y at s
  rw [val_main_v36, val_main_v35, hy]
  pointwise
  rw [z, zero_add]
  exact Finset.sum_congr rfl fun q _ => s q

theorem dW_at (k : Fin 1024) : val_main_v38 (F := 𝔼) x0 x1 x2 x3 x4 x5 x6 x7 (ix2 k d)
    = ∑ q : Fin 2048, (A).dMo q d * (fun a : EReal => a) (val_main_v11 (F := 𝔼) x0 x1 x2 (ix2 q k)) := by
  have s : ∀ q, val_main_v33 (F := 𝔼) x0 x1 x2 x3 x4 x5 x6 x7 (ix2 q d) = (A).dMo q d := fun q => dMo_at x0 x1 x2 x3 x4 x5 x6 x7 q d
  generalize hy : val_main_v33 (F := 𝔼) x0 x1 x2 x3 x4 x5 x6 x7 = y at s
  generalize hv : val_main_v11 (F := 𝔼) x0 x1 x2 = v
  rw [val_main_v38, val_main_v37, hy, hv]
  pointwise
  exact Finset.sum_congr rfl fun q _ => congrArg (fun a : EReal => a * v (ix2 q k)) (s q)

theorem dWLo_at : val_main_v38 (F := 𝔼) x0 x1 x2 x3 x4 x5 x6 x7 (ix2 (lo e) d) = (A).dWLo e d := by
  rw [dW_at]
  simp only [mix_lo x0 x1 x2 x3 x4 x5 x6 x7]
  exact Finset.sum_congr rfl fun q _ => mul_comm _ _

theorem dWHi_at : val_main_v38 (F := 𝔼) x0 x1 x2 x3 x4 x5 x6 x7 (ix2 (hi e) d) = (A).dWHi e d := by
  rw [dW_at]
  simp only [mix_hi x0 x1 x2 x3 x4 x5 x6 x7]
  exact Finset.sum_congr rfl fun q _ => mul_comm _ _

theorem dIn_at (k : Fin 1024) : val_main_v39 (F := 𝔼) x0 x1 x2 x3 x4 x5 x6 x7 (ix2 q k) = (A).dIn q k := by
  have s : ∀ d, val_main_v33 (F := 𝔼) x0 x1 x2 x3 x4 x5 x6 x7 (ix2 q d) = (A).dMo q d := dMo_at x0 x1 x2 x3 x4 x5 x6 x7 q
  generalize hy : val_main_v33 (F := 𝔼) x0 x1 x2 x3 x4 x5 x6 x7 = y at s
  rw [val_main_v39, hy]
  pointwise
  exact Finset.sum_congr rfl fun d _ => congrArg (fun a : EReal => a * x3 (ix2 k d)) (s d)

theorem dConv_at : val_main_v41 (F := 𝔼) x0 x1 x2 x3 x4 x5 x6 x7 (ix2 q e) = (A).dIn q (hi e) := by
  rw [val_main_v41_apply, show idx_main_v41 (ix2 q e) = ix2 q (hi e) from by
    funext a; match a with | 0 => exact Fin.ext (by first | rfl | exact Nat.zero_add _) | 1 => rfl, dIn_at]

theorem dAtt_at : val_main_v40 (F := 𝔼) x0 x1 x2 x3 x4 x5 x6 x7 (ix2 q e) = (A).dIn q (lo e) := by
  rw [val_main_v40_apply, show idx_main_v40 (ix2 q e) = ix2 q (lo e) from by
    funext a; match a with | 0 => rfl | 1 => rfl, dIn_at]

theorem dO_at (h : Fin 8) (l : Fin 64) : val_main_v49 (F := 𝔼) x0 x1 x2 x3 x4 x5 x6 x7 (ix3 h q l)
    = (A).dO q ⟨64 * h.val + l.val, by omega⟩ := by
  have s : ∀ e, val_main_v43 (F := 𝔼) x0 x1 x2 x3 x4 x5 x6 x7 (ix2 q e) = (A).dO q e := fun e => by
    rw [val_main_v43_apply, dAtt_at, silu_at x0 x1 x2 x3 x4 x5 x6 x7]; rfl
  rw [← s]
  generalize hy : val_main_v43 (F := 𝔼) x0 x1 x2 x3 x4 x5 x6 x7 = y
  rw [val_main_v49, val_main_v46, val_main_v45, hy]
  pointwise
  exact congrArg (fun k => y (ix2 q k)) (Fin.ext (congrArg (· + l.val) (Nat.mul_comm _ _)))

theorem dZ_at (b : Fin 8) : val_main_v48 (F := 𝔼) x0 x1 x2 x3 x4 x5 x6 x7 (ix3 b q e) = (A).dZPlain q e := by
  have s : val_main_v44 (F := 𝔼) x0 x1 x2 x3 x4 x5 x6 x7 (ix2 q e) = (A).dZPlain q e := by
    rw [val_main_v44_apply, val_main_call1_v2_apply, val_main_call1_v1_apply, val_main_call1_v0_apply, val_main_v42_apply, dAtt_at,
      heads_at x0 x1 x2 x3 x4 x5 x6 x7, sig_at x0 x1 x2 x3 x4 x5 x6 x7, slope_at x0 x1 x2 x3 x4 x5 x6 x7, z_at x0 x1 x2 x3 x4 x5 x6 x7]
    rfl
  rw [← s]
  generalize hy : val_main_v44 (F := 𝔼) x0 x1 x2 x3 x4 x5 x6 x7 = y
  rw [val_main_v48, val_main_v47, hy]
  pointwise

end Cert.Reference3Ideal.Out

end
-- ==== Proof.OutFinite.lean ====
/- The precondition of the output projection's gradients read back: all that the loss is computed from is real. -/
module

public import proofs.«01_k».proof.Pre_finite_o
public import proofs.«01_k».proof.Proof.Finite

@[expose] public section

namespace Cert.Pre_finite_o

open Idealize.ShloMosaic Cert.Pre_finite

theorem facts : Facts where
  bitsLt_bf16_f32 := by decide
  bcast_S_S8x2048x64 := by decide
  reducesTo_S8x2048x64_S_d0_1_2 := by decide
  h_S_ := by decide
  bcast_S_S2048x512 := by decide
  reducesTo_S2048x512_S_d0_1 := by decide
  slices_S2048x4096_S2048x512_0_1536 := by decide
  slices_S1x3072_S1x1024_0_2048 := by decide
  bcast_S_S1024x1024 := by decide
  reducesTo_S1024x1024_S_d0_1 := by decide
  bcast_S_S2048x1024 := by decide
  reducesTo_S2048x1024_S_d0_1 := by decide
  bcast_S_S1x1024 := by decide
  reducesTo_S1x1024_S_d0_1 := by decide

instance : Subsingleton S_.Idx := ⟨fun a b => funext fun i => i.elim0⟩

section
attribute [local instance] Cert.Pre_finite_o.facts
variable (a0 : FVec Ideal S8x2048x64 .bf16) (a1 : FVec Ideal S2048x4096 .f32) (a2 : FVec Ideal S2048x512 .bf16)
  (a3 : FVec Ideal S1024x1024 .f32) (a4 a5 : FVec Ideal S2048x1024 .f32) (a6 a7 : FVec Ideal S1x3072 .f32)

/-- The attention's gate and the residual's gate, cut out of the wider arrays. -/
theorem inner_at (q : Fin 2048) (e : Fin 512) :
    extractStridedSlice S2048x512 ![0, 1536] a1 Facts.slices_S2048x4096_S2048x512_0_1536 (ix2 q e) = a1 (ix2 q ⟨1536 + e.val, by omega⟩) := by
  pointwise

theorem outer_at (d : Fin 1024) : extractStridedSlice S1x1024 ![0, 2048] (addf (F := Ideal) a6 a7) Facts.slices_S1x3072_S1x1024_0_2048 (ix2 0 d)
    = (fun a b : EReal => a + b) (a6 (ix2 0 ⟨2048 + d.val, by omega⟩)) (a7 (ix2 0 ⟨2048 + d.val, by omega⟩)) := by
  pointwise

theorem reals (h : fn (F := Ideal) a0 a1 a2 a3 a4 a5 a6 a7 = fun _ => 1#1) :
    (∀ i, ∃ r : ℝ, a0 i = r) ∧ (∀ (q : Fin 2048) (e : Fin 512), ∃ r : ℝ, a1 (ix2 q ⟨1536 + e.val, by omega⟩) = r) ∧ (∀ i, ∃ r : ℝ, a2 i = r)
      ∧ (∀ i, ∃ r : ℝ, a3 i = r) ∧ (∀ i, ∃ r : ℝ, a4 i = r) ∧ (∀ i, ∃ r : ℝ, a5 i = r)
      ∧ ∀ d : Fin 1024, ∃ r : ℝ, (fun a b : EReal => a + b) (a6 (ix2 0 ⟨2048 + d.val, by omega⟩)) (a7 (ix2 0 ⟨2048 + d.val, by omega⟩)) = r := by
  have e := congrFun h ix0
  unfold fn fn_part1 fn_part2 at e
  obtain ⟨e, eg⟩ := IntOp.andi_eq_one.1 e
  obtain ⟨e, et⟩ := IntOp.andi_eq_one.1 e
  obtain ⟨e, ex⟩ := IntOp.andi_eq_one.1 e
  obtain ⟨e, ew⟩ := IntOp.andi_eq_one.1 e
  obtain ⟨e, ez⟩ := IntOp.andi_eq_one.1 e
  obtain ⟨eo, ec⟩ := IntOp.andi_eq_one.1 e
  exact ⟨fun i => real_of_word (Host.reduce_andi_all _ _ _ _ _ eo i),
    fun q e => (real_of_word (Host.reduce_andi_all _ _ _ _ _ ez (ix2 q e))).imp fun r k => (inner_at a1 q e).symm.trans k,
    fun i => real_of_word (Host.reduce_andi_all _ _ _ _ _ ec i), fun i => real_of_word (Host.reduce_andi_all _ _ _ _ _ ew i),
    fun i => real_of_word (Host.reduce_andi_all _ _ _ _ _ ex i), fun i => real_of_word (Host.reduce_andi_all _ _ _ _ _ et i),
    fun d => (real_of_word (Host.reduce_andi_all _ _ _ _ _ eg (ix2 0 d))).imp fun r k => (outer_at a6 a7 d).symm.trans k⟩
end

end Cert.Pre_finite_o
-- ==== Proof.OutEqual.lean ====
/- The output projection's kernel and its reference leave the same gradients wherever the kernel writes. -/
module

public import proofs.«01_k».proof.Defs
public import proofs.«01_k».proof.Proof.OutArrays
public import proofs.«01_k».proof.Proof.OutRef
public import proofs.«01_k».proof.Proof.OutFinite
public import proofs.«01_k».proof.Proof.NormEqual
public import proofs.«01_k».proof.Proof.Gen.Reference3Ideal.Run

@[expose] public section

set_option maxRecDepth 16384

noncomputable section

/-- The shapes of the selection. -/
theorem Cert.On_written.facts : Cert.On_written.Facts where
  bcast_S_S2048x1024 := by decide
  bcast_S_S2048x512 := by decide
  bcast_S_S8x2048x512 := by decide
  bcast_S_S8x2048x64 := by decide
  bcast_S_S1024x1024 := by decide
  bcast_S_S1x1024 := by decide
  bcast_S_S1x1 := by decide

namespace Cert.OutGrad

open Idealize.ShloMosaic Idealize.SL.Sem Idealize.ShloMosaic.TcCoe Cert.NormGrad

attribute [local instance] Cert.Pre_finite_o.facts Cert.On_written.facts

/-- The precondition makes the arguments real. -/
theorem finite_of_pre {m : (ℓ : Loc Cert.Kernel3Ideal.nD Cert.Kernel3Ideal.τ Cert.Kernel3Ideal.sig) → Buf (Elt Ideal) ℓ}
    (h : Cert.Pre_Kernel3Ideal_finite_o m) (c : Dev Cert.Kernel3Ideal.nD) : (Cert.Kernel3Ideal.Out.args m c).Finite := by
  obtain ⟨h0, h1, h2, h3, h4, h5, h6⟩ := Cert.Pre_finite_o.reals _ _ _ _ _ _ _ _ (h c)
  exact ⟨fun q e => h0 _, fun q e => h1 q e, fun q e => h2 _, fun k d => h3 _, fun q d => h4 _, fun q d => h5 _, fun d => h6 d⟩

/-- The selection of the third result holds only the gate's block. -/
theorem block_of_word {b : Fin 8} (h : IntOp.cmpi .eq (BitVec.ofNat 32 b.val) 3#32 = 1#1) : b = 3 := by
  revert h
  revert b
  decide

/-- Two arrays of rank three that agree at all coordinates are equal. -/
theorem ext3 {α : Type} {a b c : ℕ} {f g : (⟨3, ![a, b, c]⟩ : Shape).Idx → α} (h : ∀ i j k, f (ix3 i j k) = g (ix3 i j k)) : f = g :=
  funext fun i => by rw [eq_ix3 i]; exact h _ _ _

/-- A row of the weight lies in one of its halves. -/
theorem halves {P : Fin 1024 → Prop} (hl : ∀ e, P (lo e)) (hh : ∀ e, P (hi e)) (k : Fin 1024) : P k := by
  by_cases n : k.val < 512
  · exact hl ⟨k.val, n⟩
  · have e : k = hi ⟨k.val - 512, by omega⟩ := Fin.ext (show k.val = 512 + (k.val - 512) by omega)
    rw [e]
    exact hh _

open Cert.Reference3Ideal.Read Cert.Reference3Ideal.Out in
/-- Over equal arguments the results agree; of the third one the gate's block. -/
theorem agree (m : (ℓ : Loc Cert.Kernel3Ideal.nD Cert.Kernel3Ideal.τ Cert.Kernel3Ideal.sig) → Buf (Elt Ideal) ℓ) (c : Dev Cert.Kernel3Ideal.nD)
    (hf : (Cert.Kernel3Ideal.Out.args m c).Finite)
    (x0 : Heads) (x1 : Wide) (x2 : Half) (x3 : Weight) (x4 x5 : Rows) (x6 x7 : Mods)
    (he : argsAt x0 x1 x2 x3 x4 x5 x6 x7 = Cert.Kernel3Ideal.Out.args m c) :
    val_main_v31 (F := Ideal) x0 x1 x2 x3 x4 x5 x6 x7 = (Cert.Kernel3Ideal.Gen.dats m 0 c).arrAt 8 Cert.Kernel3Ideal.cfg0.N
      ∧ val_main_v41 (F := Ideal) x0 x1 x2 x3 x4 x5 x6 x7 = (Cert.Kernel3Ideal.Gen.dats m 0 c).arrAt 9 Cert.Kernel3Ideal.cfg0.N
      ∧ (∀ q e, val_main_v48 (F := Ideal) x0 x1 x2 x3 x4 x5 x6 x7 (ix3 3 q e)
          = ((Cert.Kernel3Ideal.Gen.dats m 0 c).arrAt 10 Cert.Kernel3Ideal.cfg0.N : Vec Ideal Cert.Kernel3Ideal.S8x2048x512 .bf16) (ix3 3 q e))
      ∧ val_main_v49 (F := Ideal) x0 x1 x2 x3 x4 x5 x6 x7 = (Cert.Kernel3Ideal.Gen.dats m 0 c).arrAt 11 Cert.Kernel3Ideal.cfg0.N
      ∧ val_main_v38 (F := Ideal) x0 x1 x2 x3 x4 x5 x6 x7 = (Cert.Kernel3Ideal.Gen.dats m 0 c).arrAt 12 Cert.Kernel3Ideal.cfg0.N
      ∧ val_main_v36 (F := Ideal) x0 x1 x2 x3 x4 x5 x6 x7 = (Cert.Kernel3Ideal.Gen.dats m 0 c).arrAt 13 Cert.Kernel3Ideal.cfg0.N
      ∧ val_main_v50 (F := Ideal) x0 x1 x2 x3 x4 x5 x6 x7 = (Cert.Kernel3Ideal.Gen.dats m 0 c).arrAt 14 Cert.Kernel3Ideal.cfg0.N := by
  refine ⟨ext2 fun q d => ?_, ext2 fun q e => ?_, fun q e => ?_, ext3 fun k q l => ?_, ext2 fun k d => ?_, ext_row fun d => ?_, ext_row fun j => ?_⟩
  · exact (dX_at x0 x1 x2 x3 x4 x5 x6 x7 q d).trans (he ▸ (Cert.Kernel3Ideal.Out.arr8 m c q d).symm)
  · exact (dConv_at x0 x1 x2 x3 x4 x5 x6 x7 q e).trans (he ▸ (Cert.Kernel3Ideal.Out.arr9 m c q e).symm)
  · exact (dZ_at x0 x1 x2 x3 x4 x5 x6 x7 q e 3).trans (he ▸ (hf.dZ q e).symm.trans (Cert.Kernel3Ideal.Out.arr10 m c q e).symm)
  · exact (dO_at x0 x1 x2 x3 x4 x5 x6 x7 q k l).trans (he ▸ (Cert.Kernel3Ideal.Out.arr11 m c k q l).symm)
  · revert k
    exact halves (fun e => (dWLo_at x0 x1 x2 x3 x4 x5 x6 x7 d e).trans (he ▸ (Cert.Kernel3Ideal.Out.arr12_lo m c e d).symm))
      (fun e => (dWHi_at x0 x1 x2 x3 x4 x5 x6 x7 d e).trans (he ▸ (Cert.Kernel3Ideal.Out.arr12_hi m c e d).symm))
  · exact (dG_at x0 x1 x2 x3 x4 x5 x6 x7 d).trans (he ▸ (Cert.Kernel3Ideal.Out.arr13 m c d).symm)
  · rw [Subsingleton.elim j 0]
    exact (total_at x0 x1 x2 x3 x4 x5 x6 x7).trans (he ▸ (Cert.Kernel3Ideal.Out.arr14 m c).symm)

open Cert.Reference3Ideal.Read in
/-- The results of the reference over the arguments of the kernel. -/
theorem equal : Cert.algebraic_Kernel3Ideal_Reference3Ideal_on_written_pre_finite_o := by
  intro m g m' g' hp ha
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N,
    (θ_run Cert.Kernel3Ideal.defs _ _).mono (fun r h c => ?_) (Cert.Kernel3Ideal.Value.run_blocks m g), ?_⟩
  · obtain ⟨h0, h1, h2, h3, h4, h5, h6, k⟩ := h c
    exact ⟨fun i _ => congrFun h0 i, fun i _ => congrFun h1 i, fun i _ => congrFun h2 i, fun i _ => congrFun h3 i, fun i _ => congrFun h4 i,
      fun i _ => congrFun h5 i, fun i _ => congrFun h6 i, k⟩
  refine (θ_run Cert.Reference3Ideal.defs _ _).mono (fun r h c => ?_) (Cert.Reference3Ideal.Value.run (F := Ideal) m' g')
  obtain ⟨h0, h1, h2, h3, h4, h5, h6, k⟩ := h c
  obtain ⟨a0, a1, a2, a3, a4, a5, a6, a7⟩ := ha c
  obtain ⟨e0, e1, e2, e3, e4, e5, e6⟩ := agree m c (finite_of_pre hp c) (m' ((c.tc : Thread _ Cert.Reference3Ideal.τ).loc Cert.Reference3Ideal.main_arg0))
      (m' ((c.tc : Thread _ Cert.Reference3Ideal.τ).loc Cert.Reference3Ideal.main_arg1)) (m' ((c.tc : Thread _ Cert.Reference3Ideal.τ).loc Cert.Reference3Ideal.main_arg2))
      (m' ((c.tc : Thread _ Cert.Reference3Ideal.τ).loc Cert.Reference3Ideal.main_arg3)) (m' ((c.tc : Thread _ Cert.Reference3Ideal.τ).loc Cert.Reference3Ideal.main_arg4))
      (m' ((c.tc : Thread _ Cert.Reference3Ideal.τ).loc Cert.Reference3Ideal.main_arg5)) (m' ((c.tc : Thread _ Cert.Reference3Ideal.τ).loc Cert.Reference3Ideal.main_arg6))
      (m' ((c.tc : Thread _ Cert.Reference3Ideal.τ).loc Cert.Reference3Ideal.main_arg7)) (by rw [a0, a1, a2, a3, a4, a5, a6, a7]; rfl)
  refine ⟨fun i _ => congrFun (h0.trans ((val_main_v31_eq _ _ _ _ _ _ _ _).trans e0)) i, fun i _ => congrFun (h1.trans ((val_main_v41_eq _ _ _ _ _ _ _ _).trans e1)) i,
    fun i hi => ?_, fun i _ => congrFun (h3.trans ((val_main_v49_eq _ _ _ _ _ _ _ _).trans e3)) i,
    fun i _ => congrFun (h4.trans ((val_main_v38_eq _ _ _ _ _ _ _ _).trans e4)) i, fun i _ => congrFun (h5.trans ((val_main_v36_eq _ _ _ _ _ _ _ _).trans e5)) i,
    fun i _ => congrFun (h6.trans ((val_main_v50_eq _ _ _ _ _ _ _ _).trans e6)) i, k⟩
  obtain ⟨b, q, e, rfl⟩ : ∃ (b : Fin 8) (q : Fin 2048) (e : Fin 512), i = ix3 b q e := ⟨_, _, _, eq_ix3 i⟩
  have hb : b = 3 := block_of_word hi
  subst hb
  exact (congrFun (h2.trans (val_main_v48_eq m' c)) (ix3 3 q e)).trans (e2 q e)

end Cert.OutGrad

end
-- ==== Proof.WinSpec.lean ====
/- The gradient of the input projection's weight over one half of its rows: what the rows, the incoming gradients and the context's
   share come to. -/
module

public import proofs.«01_k».proof.Proof.OutSpec

@[expose] public section

noncomputable section

namespace Cert.WinGrad

open Idealize.ShloMosaic

/-- The half of the normalised rows and of the context's rows, the gradients of the eight projected parts, and those of the
    context's keys and values. -/
structure Args where
  h : Fin 2048 → Fin 512 → EReal
  p : Fin 8 → Fin 2048 → Fin 512 → EReal
  hc : Fin 256 → Fin 512 → EReal
  k : Fin 256 → Fin 512 → EReal
  v : Fin 256 → Fin 512 → EReal

namespace Args

variable (A : Args)

/-- A part's gradient from the rows, -/
def rows (b : Fin 8) (r d : Fin 512) : EReal := ∑ q, A.h q r * A.p b q d
/-- and from the context, as keys and as values. -/
def keys (r d : Fin 512) : EReal := ∑ l, A.hc l r * A.k l d
def vals (r d : Fin 512) : EReal := ∑ l, A.hc l r * A.v l d

/-- The context is projected by the second and the third part only. -/
def grad (b : Fin 8) (r d : Fin 512) : EReal :=
  if b = 1 then A.rows b r d + A.keys r d else if b = 2 then A.rows b r d + A.vals r d else A.rows b r d

end Args

/-- A block of the result holds two parts. -/
def slot (j : Fin 4) (b : Fin 2) : Fin 8 := ⟨2 * j.val + b.val, by omega⟩

/-- The column of a half. -/
def colOf (s : Fin 2) (r : Fin 512) : Fin 1024 := ⟨s.val * 512 + r.val, by omega⟩

end Cert.WinGrad

end
-- ==== Proof.WinBody.lean ====
/- What the kernel of the input projection's weight leaves in its output window at a grid point. -/
module

public import proofs.«01_k».proof.Proof.WinSpec
public import proofs.«01_k».proof.Proof.Gen.Kernel4Ideal.Frame
public import Idealize.ShloMosaic.Lib.Pointwise
public import Idealize.ShloMosaic.Lib.WholeRead

@[expose] public section

set_option maxRecDepth 16384

noncomputable section

namespace Cert.Kernel4Ideal.Win

open Cert.Kernel4Ideal Cert.Kernel4Ideal.Gen Idealize.ShloMosaic Idealize.ShloMosaic.TcCoe
open Cert.OutGrad Cert.WinGrad

/-! ## The payloads -/

section Payloads

variable (H : Vec Ideal S2048x512 .bf16) (P : Vec Ideal S1x2048x512 .bf16) (r d : Fin 512)

theorem pay1_at : k0_pay1 (F := Ideal) H P (ix3 0 r d) = ∑ q : Fin 2048, (fun a b : EReal => a * b) (H (ix2 q r)) (P (ix3 0 q d)) := by
  pointwise [k0_pay1]

theorem pay2_at : k0_pay2 (F := Ideal) H P (ix3 0 r d) = ∑ q : Fin 2048, (fun a b : EReal => a * b) (H (ix2 q r)) (P (ix3 0 q d)) := by
  pointwise [k0_pay2]

variable (V : Vec Ideal S1x512x512 .f32) (C D : Vec Ideal S256x512 .bf16)

theorem pay3_at : k0_pay3 (F := Ideal) V C D (ix3 0 r d)
    = (fun a b : EReal => a + b) (V (ix3 0 r d)) (∑ l : Fin 256, (fun a b : EReal => a * b) (C (ix2 l r)) (D (ix2 l d))) := by
  pointwise [k0_pay3]

theorem pay4_at : k0_pay4 (F := Ideal) V C D (ix3 0 r d)
    = (fun a b : EReal => a + b) (V (ix3 0 r d)) (∑ l : Fin 256, (fun a b : EReal => a * b) (C (ix2 l r)) (D (ix2 l d))) := by
  pointwise [k0_pay4]

end Payloads

/-! ## Stores to half of the window's columns -/

abbrev lowCols : Rect S1x512x1024 := Rect.unit (s := S1x512x1024) ![0, 0, 0] S1x512x512.size inb_S1x512x1024_S1x512x512_0_0_0
abbrev highCols : Rect S1x512x1024 := Rect.unit (s := S1x512x1024) ![0, 0, 512] S1x512x512.size inb_S1x512x1024_S1x512x512_0_0_512

theorem low_emb (r d : Fin 512) : (ix3 0 r (lo d) : S1x512x1024.Idx) = lowCols.emb (ix3 0 r d : S1x512x512.Idx) := funext fun a => Fin.ext (by
  match a with
  | ⟨0, _⟩ => rfl
  | ⟨1, _⟩ => show r.val = 0 + 1 * r.val; omega
  | ⟨2, _⟩ => show d.val = 0 + 1 * d.val; omega)

theorem high_emb (r d : Fin 512) : (ix3 0 r (hi d) : S1x512x1024.Idx) = highCols.emb (ix3 0 r d : S1x512x512.Idx) := funext fun a => Fin.ext (by
  match a with
  | ⟨0, _⟩ => rfl
  | ⟨1, _⟩ => show r.val = 0 + 1 * r.val; omega
  | ⟨2, _⟩ => show 512 + d.val = 512 + 1 * d.val; omega)

section Parts

variable {Val : EltTy → Type} [∀ e, Nonempty (Val e)] {e : EltTy} (w : S1x512x512.Idx → Val e) (L : List (View.Piece Val S1x512x1024 e)) (r d : Fin 512)

theorem canon_low_lo : View.canon ((⟨lowCols, w⟩ : View.Piece Val S1x512x1024 e) :: L) (ix3 0 r (lo d)) = w (ix3 0 r d) := by
  rw [low_emb]
  exact View.canon_cons_emb _ _ _ _

theorem canon_high_hi : View.canon ((⟨highCols, w⟩ : View.Piece Val S1x512x1024 e) :: L) (ix3 0 r (hi d)) = w (ix3 0 r d) := by
  rw [high_emb]
  exact View.canon_cons_emb _ _ _ _

theorem canon_low_hi : View.canon ((⟨lowCols, w⟩ : View.Piece Val S1x512x1024 e) :: L) (ix3 0 r (hi d)) = View.canon L (ix3 0 r (hi d)) := by
  refine View.canon_cons_of_not_mem _ _ fun hm => ?_
  have h0 : 0 ≤ 512 + d.val ∧ 512 + d.val < 0 + 512 := (Rect.mem_set_unit (inb := inb_S1x512x1024_S1x512x512_0_0_0).1 hm) 2
  omega

theorem canon_high_lo : View.canon ((⟨highCols, w⟩ : View.Piece Val S1x512x1024 e) :: L) (ix3 0 r (lo d)) = View.canon L (ix3 0 r (lo d)) := by
  refine View.canon_cons_of_not_mem _ _ fun hm => ?_
  have h0 : 512 ≤ d.val ∧ d.val < 512 + 512 := (Rect.mem_set_unit (inb := inb_S1x512x1024_S1x512x512_0_0_512).1 hm) 2
  omega

end Parts

/-! ## The body -/

/-- The inputs' windows and what they hold. -/
structure In where
  m1 : Memref sig .tc .vmem S2048x512 .bf16
  h1 : m1.IsWhole
  m2 : Memref sig .tc .vmem S2x2048x512 .bf16
  h2 : m2.IsWhole
  m3 : Memref sig .tc .vmem S256x512 .bf16
  h3 : m3.IsWhole
  m4 : Memref sig .tc .vmem S256x512 .bf16
  h4 : m4.IsWhole
  m5 : Memref sig .tc .vmem S256x512 .bf16
  h5 : m5.IsWhole
  x0 : Vec Ideal S2048x512 .bf16
  x1 : Vec Ideal S2x2048x512 .bf16
  x2 : Vec Ideal S256x512 .bf16
  x3 : Vec Ideal S256x512 .bf16
  x4 : Vec Ideal S256x512 .bf16

abbrev allRows : Rect S2048x512 := Rect.unit (s := S2048x512) ![0, 0] S2048x512.size inb_S2048x512_S2048x512_0_0
abbrev allWords : Rect S256x512 := Rect.unit (s := S256x512) ![0, 0] S256x512.size inb_S256x512_S256x512_0_0
abbrev part0 : Rect S2x2048x512 := Rect.unit (s := S2x2048x512) ![0, 0, 0] S1x2048x512.size inb_S2x2048x512_S1x2048x512_0_0_0
abbrev part1 : Rect S2x2048x512 := Rect.unit (s := S2x2048x512) ![1, 0, 0] S1x2048x512.size inb_S2x2048x512_S1x2048x512_1_0_0

namespace In

variable (A : In)

/-- What the body loads. -/
def H : Vec Ideal S2048x512 .bf16 := View.readAt (Elt Ideal) A.m1.view allRows.toLoadRect (A.h1.unread A.x0)
def P0 : Vec Ideal S1x2048x512 .bf16 := View.readAt (Elt Ideal) A.m2.view part0.toLoadRect (A.h2.unread A.x1)
def P1 : Vec Ideal S1x2048x512 .bf16 := View.readAt (Elt Ideal) A.m2.view part1.toLoadRect (A.h2.unread A.x1)
def C : Vec Ideal S256x512 .bf16 := View.readAt (Elt Ideal) A.m3.view allWords.toLoadRect (A.h3.unread A.x2)
def K : Vec Ideal S256x512 .bf16 := View.readAt (Elt Ideal) A.m4.view allWords.toLoadRect (A.h4.unread A.x3)
def V : Vec Ideal S256x512 .bf16 := View.readAt (Elt Ideal) A.m5.view allWords.toLoadRect (A.h5.unread A.x4)

/-- A part's gradient from the rows, and from the context. -/
def rows (b : Fin 2) (r d : Fin 512) : EReal := ∑ q : Fin 2048, (fun a b : EReal => a * b) (A.x0 (ix2 q r)) (A.x1 (ix3 b q d))
def keys (r d : Fin 512) : EReal := ∑ l : Fin 256, (fun a b : EReal => a * b) (A.x2 (ix2 l r)) (A.x3 (ix2 l d))
def vals (r d : Fin 512) : EReal := ∑ l : Fin 256, (fun a b : EReal => a * b) (A.x2 (ix2 l r)) (A.x4 (ix2 l d))

theorem H_at (q : Fin 2048) (r : Fin 512) : A.H (ix2 q r) = A.x0 (ix2 q r) := by
  refine (A.h1.readAt_unread _ _ _).trans (congrArg A.x0 (funext fun a => Fin.ext ?_))
  match a with
  | ⟨0, _⟩ => show 0 + 1 * q.val = q.val; omega
  | ⟨1, _⟩ => show 0 + 1 * r.val = r.val; omega

theorem P0_at (q : Fin 2048) (d : Fin 512) : A.P0 (ix3 0 q d) = A.x1 (ix3 0 q d) := by
  refine (A.h2.readAt_unread _ _ _).trans (congrArg A.x1 (funext fun a => Fin.ext ?_))
  match a with
  | ⟨0, _⟩ => rfl
  | ⟨1, _⟩ => show 0 + 1 * q.val = q.val; omega
  | ⟨2, _⟩ => show 0 + 1 * d.val = d.val; omega

theorem P1_at (q : Fin 2048) (d : Fin 512) : A.P1 (ix3 0 q d) = A.x1 (ix3 1 q d) := by
  refine (A.h2.readAt_unread _ _ _).trans (congrArg A.x1 (funext fun a => Fin.ext ?_))
  match a with
  | ⟨0, _⟩ => rfl
  | ⟨1, _⟩ => show 0 + 1 * q.val = q.val; omega
  | ⟨2, _⟩ => show 0 + 1 * d.val = d.val; omega

theorem whole_words (M : Memref sig .tc .vmem S256x512 .bf16) (hM : M.IsWhole) (x : Vec Ideal S256x512 .bf16) (l : Fin 256) (d : Fin 512) :
    View.readAt (Elt Ideal) M.view allWords.toLoadRect (hM.unread x) (ix2 l d) = x (ix2 l d) := by
  refine (hM.readAt_unread _ _ _).trans (congrArg x (funext fun a => Fin.ext ?_))
  match a with
  | ⟨0, _⟩ => show 0 + 1 * l.val = l.val; omega
  | ⟨1, _⟩ => show 0 + 1 * d.val = d.val; omega

theorem low_at (r d : Fin 512) : k0_pay1 (F := Ideal) A.H A.P0 (ix3 0 r d) = A.rows 0 r d :=
  (pay1_at _ _ r d).trans (Finset.sum_congr rfl fun q _ => congrArg₂ (fun a b : EReal => a * b) (A.H_at q r) (A.P0_at q d))

theorem high_at (r d : Fin 512) : k0_pay2 (F := Ideal) A.H A.P1 (ix3 0 r d) = A.rows 1 r d :=
  (pay2_at _ _ r d).trans (Finset.sum_congr rfl fun q _ => congrArg₂ (fun a b : EReal => a * b) (A.H_at q r) (A.P1_at q d))

theorem keys_at (r d : Fin 512) : ∑ l : Fin 256, (fun a b : EReal => a * b) (A.C (ix2 l r)) (A.K (ix2 l d)) = A.keys r d :=
  Finset.sum_congr rfl fun l _ => congrArg₂ (fun a b : EReal => a * b) (whole_words _ A.h3 A.x2 l r) (whole_words _ A.h4 A.x3 l d)

theorem vals_at (r d : Fin 512) : ∑ l : Fin 256, (fun a b : EReal => a * b) (A.C (ix2 l r)) (A.V (ix2 l d)) = A.vals r d :=
  Finset.sum_congr rfl fun l _ => congrArg₂ (fun a b : EReal => a * b) (whole_words _ A.h3 A.x2 l r) (whole_words _ A.h5 A.x4 l d)

/-- What every grid point stores. -/
def both : List (View.Piece (Elt Ideal) S1x512x1024 .f32) :=
  [⟨highCols, k0_pay2 (F := Ideal) A.H A.P1⟩, ⟨lowCols, k0_pay1 (F := Ideal) A.H A.P0⟩]

theorem both_lo (r d : Fin 512) : View.canon A.both (ix3 0 r (lo d)) = A.rows 0 r d :=
  (canon_high_lo _ _ r d).trans ((canon_low_lo _ _ r d).trans (A.low_at r d))

theorem both_hi (r d : Fin 512) : View.canon A.both (ix3 0 r (hi d)) = A.rows 1 r d :=
  (canon_high_hi _ _ r d).trans (A.high_at r d)

theorem again_lo (M : Memref sig .tc .vmem S1x512x1024 .f32) (r d : Fin 512) : M.view.readCov A.both lowCols.toLoadRect (ix3 0 r d : S1x512x512.Idx) = A.rows 0 r d := by
  rw [View.readCov_eq_canon']
  exact (congrArg (View.canon A.both) (low_emb r d).symm).trans (A.both_lo r d)

theorem again_hi (M : Memref sig .tc .vmem S1x512x1024 .f32) (r d : Fin 512) : M.view.readCov A.both highCols.toLoadRect (ix3 0 r d : S1x512x512.Idx) = A.rows 1 r d := by
  rw [View.readCov_eq_canon']
  exact (congrArg (View.canon A.both) (high_emb r d).symm).trans (A.both_hi r d)

end In

section Stores

variable (c : Dev nD) (i : grid0.Coords) (A : In) (arg8 : Memref sig .tc .vmem S1x512x1024 .f32) (harg8 : arg8.IsWhole) (w : TbBuf0 (F := Ideal) c tbM0_0)

section CaseA

variable (hc0 : cond0_0 i) (hc1 : ¬cond0_1 i)

theorem found_A : (kernelRun0_A (F := Ideal) c i A.m1 A.h1 A.m2 A.h2 A.m3 A.h3 A.m4 A.h4 A.m5 A.h5 arg8 harg8 hc0 hc1 A.x0 A.x1 A.x2 A.x3 A.x4 w).1
    = ⟨highCols, k0_pay3 (F := Ideal) (arg8.view.readCov A.both highCols.toLoadRect) A.C A.K⟩ :: A.both := rfl

theorem stored_A_lo (r d : Fin 512) : out0_A_5 c i A.m1 A.h1 A.m2 A.h2 A.m3 A.h3 A.m4 A.h4 A.m5 A.h5 arg8 harg8 hc0 hc1 A.x0 A.x1 A.x2 A.x3 A.x4 w (ix3 0 r (lo d)) = A.rows 0 r d :=
  (congrFun ((View.read_writes_junk_eq_canon VO0_5 _).trans (congrArg View.canon (found_A c i A arg8 harg8 w hc0 hc1))) _).trans
    ((canon_high_lo _ _ r d).trans (A.both_lo r d))

theorem stored_A_hi (r d : Fin 512) : out0_A_5 c i A.m1 A.h1 A.m2 A.h2 A.m3 A.h3 A.m4 A.h4 A.m5 A.h5 arg8 harg8 hc0 hc1 A.x0 A.x1 A.x2 A.x3 A.x4 w (ix3 0 r (hi d))
    = (fun a b : EReal => a + b) (A.rows 1 r d) (A.keys r d) :=
  (congrFun ((View.read_writes_junk_eq_canon VO0_5 _).trans (congrArg View.canon (found_A c i A arg8 harg8 w hc0 hc1))) _).trans
    ((canon_high_hi _ _ r d).trans ((pay3_at r d _ _ _).trans (congrArg₂ (fun a b : EReal => a + b) (A.again_hi arg8 r d) (A.keys_at r d))))

end CaseA

section CaseB

variable (hc0 : ¬cond0_0 i) (hc1 : cond0_1 i)

theorem found_B : (kernelRun0_B (F := Ideal) c i A.m1 A.h1 A.m2 A.h2 A.m3 A.h3 A.m4 A.h4 A.m5 A.h5 arg8 harg8 hc0 hc1 A.x0 A.x1 A.x2 A.x3 A.x4 w).1
    = ⟨lowCols, k0_pay4 (F := Ideal) (arg8.view.readCov A.both lowCols.toLoadRect) A.C A.V⟩ :: A.both := rfl

theorem stored_B_lo (r d : Fin 512) : out0_B_5 c i A.m1 A.h1 A.m2 A.h2 A.m3 A.h3 A.m4 A.h4 A.m5 A.h5 arg8 harg8 hc0 hc1 A.x0 A.x1 A.x2 A.x3 A.x4 w (ix3 0 r (lo d))
    = (fun a b : EReal => a + b) (A.rows 0 r d) (A.vals r d) :=
  (congrFun ((View.read_writes_junk_eq_canon VO0_5 _).trans (congrArg View.canon (found_B c i A arg8 harg8 w hc0 hc1))) _).trans
    ((canon_low_lo _ _ r d).trans ((pay4_at r d _ _ _).trans (congrArg₂ (fun a b : EReal => a + b) (A.again_lo arg8 r d) (A.vals_at r d))))

theorem stored_B_hi (r d : Fin 512) : out0_B_5 c i A.m1 A.h1 A.m2 A.h2 A.m3 A.h3 A.m4 A.h4 A.m5 A.h5 arg8 harg8 hc0 hc1 A.x0 A.x1 A.x2 A.x3 A.x4 w (ix3 0 r (hi d)) = A.rows 1 r d :=
  (congrFun ((View.read_writes_junk_eq_canon VO0_5 _).trans (congrArg View.canon (found_B c i A arg8 harg8 w hc0 hc1))) _).trans
    ((canon_low_hi _ _ r d).trans (A.both_hi r d))

end CaseB

section CaseC

variable (hc0 : ¬cond0_0 i) (hc1 : ¬cond0_1 i)

theorem found_C : (kernelRun0_C (F := Ideal) c i A.m1 A.h1 A.m2 A.h2 A.m3 A.h3 A.m4 A.h4 A.m5 A.h5 arg8 harg8 hc0 hc1 A.x0 A.x1 A.x2 A.x3 A.x4 w).1 = A.both := rfl

theorem stored_C_lo (r d : Fin 512) : out0_C_5 c i A.m1 A.h1 A.m2 A.h2 A.m3 A.h3 A.m4 A.h4 A.m5 A.h5 arg8 harg8 hc0 hc1 A.x0 A.x1 A.x2 A.x3 A.x4 w (ix3 0 r (lo d)) = A.rows 0 r d :=
  (congrFun ((View.read_writes_junk_eq_canon VO0_5 _).trans (congrArg View.canon (found_C c i A arg8 harg8 w hc0 hc1))) _).trans (A.both_lo r d)

theorem stored_C_hi (r d : Fin 512) : out0_C_5 c i A.m1 A.h1 A.m2 A.h2 A.m3 A.h3 A.m4 A.h4 A.m5 A.h5 arg8 harg8 hc0 hc1 A.x0 A.x1 A.x2 A.x3 A.x4 w (ix3 0 r (hi d)) = A.rows 1 r d :=
  (congrFun ((View.read_writes_junk_eq_canon VO0_5 _).trans (congrArg View.canon (found_C c i A arg8 harg8 w hc0 hc1))) _).trans (A.both_hi r d)

end CaseC

end Stores

end Cert.Kernel4Ideal.Win

end
-- ==== Proof.WinHalf.lean ====
/- The precondition of the input projection's weight gradient read back: the word names one of the two halves, and so the windows it
   places lie inside their arrays. -/
module

public import proofs.«01_k».proof.Defs
public import proofs.«01_k».proof.Pre_one_half
public import proofs.«01_k».proof.Proof.WinSpec
public import proofs.«01_k».proof.Proof.Gen.Kernel4.Frame
public import proofs.«01_k».proof.Proof.Gen.Kernel4Ideal.Frame
public import Idealize.ShloMosaic.Lib.Affine

@[expose] public section

set_option maxRecDepth 16384

noncomputable section

namespace Cert.Pre_one_half

open Idealize.ShloMosaic

theorem facts : Facts where
  shapeCasts_S1_S_ := by decide

attribute [local instance] Cert.Pre_one_half.facts

/-- The array holds one word. -/
instance : Subsingleton S1.Idx := ⟨fun a b => funext fun i => match i with | ⟨0, _⟩ => Subsingleton.elim (α := Fin 1) _ _⟩

theorem only {α : Type} (x : S1.Idx → α) (i : S_.Idx) : shapeCast S_ x Facts.shapeCasts_S1_S_ i = x (ix1 0) :=
  congrArg x (Subsingleton.elim _ _)

theorem half {F : FTy → Type} [FloatOps F] (a0 : IVec S1 32) (a1 : FVec F S2048x1024 .bf16) (a2 : FVec F S8x2048x512 .bf16)
    (a3 : FVec F S256x1024 .bf16) (a4 a5 : FVec F S256x512 .bf16) (a6 : IVec S1 32) (h : fn (F := F) a0 a1 a2 a3 a4 a5 a6 = fun _ => 1#1) :
    ∃ s : Fin 2, a0 (ix1 0) = BitVec.ofNat 32 s.val := by
  have e := congrFun h ix0
  unfold fn at e
  rcases IntOp.ori_eq_one.1 e with k | k
  · exact ⟨0, (only a0 ix0).symm.trans (IntOp.cmpi_eq.1 k)⟩
  · exact ⟨1, (only a0 ix0).symm.trans (IntOp.cmpi_eq.1 k)⟩

end Cert.Pre_one_half

namespace Cert.Kernel4.Win

open Cert.Kernel4 Cert.Kernel4.Gen Idealize.ShloMosaic Idealize.ShloMosaic.TcCoe

theorem word {F : FTy → Type} [FloatOps F] (m : (ℓ : Loc nD τ sig) → Buf (Elt F) ℓ) :
    (tbl m).at 0 (Rect.unit (s := S1) ![0] S1.size inb_S1_S1_0) numel1_S1 = m (((0 : Dev nD) : Thread nD τ).loc main_arg0) (ix1 0) :=
  congrArg (m (((0 : Dev nD) : Thread nD τ).loc main_arg0)) (Subsingleton.elim (α := Cert.Pre_one_half.S1.Idx) _ _)

/-- Whichever half the word names, the two windows it places lie inside their arrays. -/
theorem ok {F : FTy → Type} [FloatOps F] (m : (ℓ : Loc nD τ sig) → Buf (Elt F) ℓ) {s : Fin 2}
    (h : m (((0 : Dev nD) : Thread nD τ).loc main_arg0) (ix1 0) = BitVec.ofNat 32 s.val) : Ok m := by
  have w := (word m).trans h
  have hn : (BitVec.ofNat 32 s.val).toNat ≤ 1 := (by decide : ∀ s : Fin 2, (BitVec.ofNat 32 s.val).toNat ≤ 1) s
  refine ⟨fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | ⟨0, _⟩ => exact of_decide_eq_true rfl
    | ⟨1, _⟩ =>
      show (((tbl m).at 0 (Rect.unit (s := S1) ![0] S1.size inb_S1_S1_0) numel1_S1 : BitVec 32).toNat + 1) * 512 ≤ 1024
      rw [w]
      omega

end Cert.Kernel4.Win

namespace Cert.Kernel4Ideal.Win

open Cert.Kernel4Ideal Cert.Kernel4Ideal.Gen Idealize.ShloMosaic Idealize.ShloMosaic.TcCoe

theorem word {F : FTy → Type} [FloatOps F] (m : (ℓ : Loc nD τ sig) → Buf (Elt F) ℓ) :
    (tbl m).at 0 (Rect.unit (s := S1) ![0] S1.size inb_S1_S1_0) numel1_S1 = m (((0 : Dev nD) : Thread nD τ).loc main_arg0) (ix1 0) :=
  congrArg (m (((0 : Dev nD) : Thread nD τ).loc main_arg0)) (Subsingleton.elim (α := Cert.Pre_one_half.S1.Idx) _ _)

/-- Whichever half the word names, the two windows it places lie inside their arrays. -/
theorem ok {F : FTy → Type} [FloatOps F] (m : (ℓ : Loc nD τ sig) → Buf (Elt F) ℓ) {s : Fin 2}
    (h : m (((0 : Dev nD) : Thread nD τ).loc main_arg0) (ix1 0) = BitVec.ofNat 32 s.val) : Ok m := by
  have w := (word m).trans h
  have hn : (BitVec.ofNat 32 s.val).toNat ≤ 1 := (by decide : ∀ s : Fin 2, (BitVec.ofNat 32 s.val).toNat ≤ 1) s
  refine ⟨fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | ⟨0, _⟩ => exact of_decide_eq_true rfl
    | ⟨1, _⟩ =>
      show (((tbl m).at 0 (Rect.unit (s := S1) ![0] S1.size inb_S1_S1_0) numel1_S1 : BitVec 32).toNat + 1) * 512 ≤ 1024
      rw [w]
      omega

end Cert.Kernel4Ideal.Win

end
-- ==== Proof.WinArrays.lean ====
/- From the body of the input projection's weight kernel to its array: every grid point leaves one block of the result whole. -/
module

public import proofs.«01_k».proof.Proof.WinBody
public import proofs.«01_k».proof.Proof.WinHalf
public import Idealize.ShloMosaic.Lib.Pipeline.Value
public import Idealize.ShloMosaic.Lib.Pipeline.ValueKit.Point
public import Idealize.ShloMosaic.Lib.Claim

@[expose] public section

set_option maxRecDepth 16384

noncomputable section

namespace Cert.Kernel4Ideal.Win

open Cert.Kernel4Ideal Cert.Kernel4Ideal.Gen Idealize.ShloMosaic Idealize.ShloMosaic.TcCoe Idealize.SL.Sem
open Cert.OutGrad Cert.WinGrad

variable (m : (ℓ : Loc nD τ sig) → Buf (Elt Ideal) ℓ) (hO : Ok m) (c : Dev nD) {s : Fin 2}

/-- The arguments, of the half `s`. -/
def args (s : Fin 2) : Args where
  h q r := m ((c : Thread nD τ).loc main_arg1) (ix2 q (colOf s r))
  p b q d := m ((c : Thread nD τ).loc main_arg2) (ix3 b q d)
  hc l r := m ((c : Thread nD τ).loc main_arg3) (ix2 l (colOf s r))
  k l d := m ((c : Thread nD τ).loc main_arg4) (ix2 l d)
  v l d := m ((c : Thread nD τ).loc main_arg5) (ix2 l d)

/-! ## The windows -/

section Windows

variable (hs : m (((0 : Dev nD) : Thread nD τ).loc main_arg0) (ix1 0) = BitVec.ofNat 32 s.val)
include hs

theorem placed : ((tbl m).at 0 (Rect.unit (s := S1) ![0] S1.size inb_S1_S1_0) numel1_S1 : BitVec 32).toNat = s.val := by
  rw [(word m).trans hs]
  exact (by decide : ∀ s : Fin 2, (BitVec.ofNat 32 s.val).toNat = s.val) s

theorem idx0 (t : Fin (cfgM m hO).N) : ((cfgM m hO).win 0).index t = ![0, s.val] := by
  show ![0, ((tbl m).at 0 (Rect.unit (s := S1) ![0] S1.size inb_S1_S1_0) numel1_S1 : BitVec 32).toNat] = ![0, s.val]
  rw [placed m hs]

theorem idx2 (t : Fin (cfgM m hO).N) : ((cfgM m hO).win 2).index t = ![0, s.val] := by
  show ![0, ((tbl m).at 0 (Rect.unit (s := S1) ![0] S1.size inb_S1_S1_0) numel1_S1 : BitVec 32).toNat] = ![0, s.val]
  rw [placed m hs]

end Windows

theorem idx1 (t : Fin (cfgM m hO).N) : ((cfgM m hO).win 1).index t = ![t.val, 0, 0] :=
  (by decide +kernel : ∀ t : Fin grid0.N, cc0_transform_1 (grid0.coords t) = ![t.val, 0, 0]) t
theorem idx3 (t : Fin (cfgM m hO).N) : ((cfgM m hO).win 3).index t = ![0, 0] :=
  (by decide +kernel : ∀ t : Fin grid0.N, cc0_transform_3 (grid0.coords t) = ![0, 0]) t
theorem idx4 (t : Fin (cfgM m hO).N) : ((cfgM m hO).win 4).index t = ![0, 0] :=
  (by decide +kernel : ∀ t : Fin grid0.N, cc0_transform_4 (grid0.coords t) = ![0, 0]) t
theorem idx5 (t : Fin (cfgM m hO).N) : ((cfgM m hO).win 5).index t = ![t.val, 0, 0] :=
  (by decide +kernel : ∀ t : Fin grid0.N, cc0_transform_6 (grid0.coords t) = ![t.val, 0, 0]) t

/-- The block of a grid point. -/
def blockOf (t : Fin (cfgM m hO).N) : Fin 4 := ⟨t.val, t.isLt⟩

set_option maxHeartbeats 1000000 in
theorem block0 (hs : m (((0 : Dev nD) : Thread nD τ).loc main_arg0) (ix1 0) = BitVec.ofNat 32 s.val) (t : Fin (cfgM m hO).N) (q : Fin 2048) (r : Fin 512) :
    (iblk m hO c 0 t) (ix2 q r) = (args m c s).h q r := by
  refine Eq.trans ?_ (congrFun (V_main_arg1 m c) (ix2 q (colOf s r)))
  blk_ext [iblk, idx0 m hO hs t]
  rfl

set_option maxHeartbeats 1000000 in
theorem block1 (t : Fin (cfgM m hO).N) (b : Fin 2) (q : Fin 2048) (d : Fin 512) :
    (iblk m hO c 1 t) (ix3 b q d) = (args m c s).p (slot (blockOf m hO t) b) q d := by
  refine Eq.trans ?_ (congrFun (V_main_arg2 m c) (ix3 (slot (blockOf m hO t) b) q d))
  blk_ext [iblk, idx1 m hO t]
  show t.val * 2 + b.val = 2 * t.val + b.val
  omega

set_option maxHeartbeats 1000000 in
theorem block2 (hs : m (((0 : Dev nD) : Thread nD τ).loc main_arg0) (ix1 0) = BitVec.ofNat 32 s.val) (t : Fin (cfgM m hO).N) (l : Fin 256) (r : Fin 512) :
    (iblk m hO c 2 t) (ix2 l r) = (args m c s).hc l r := by
  refine Eq.trans ?_ (congrFun (V_main_arg3 m c) (ix2 l (colOf s r)))
  blk_ext [iblk, idx2 m hO hs t]
  rfl

set_option maxHeartbeats 1000000 in
theorem block3 (t : Fin (cfgM m hO).N) (l : Fin 256) (d : Fin 512) : (iblk m hO c 3 t) (ix2 l d) = (args m c s).k l d := by
  refine Eq.trans ?_ (congrFun (V_main_arg4 m c) (ix2 l d))
  blk_ext [iblk, idx3 m hO t]

set_option maxHeartbeats 1000000 in
theorem block4 (t : Fin (cfgM m hO).N) (l : Fin 256) (d : Fin 512) : (iblk m hO c 4 t) (ix2 l d) = (args m c s).v l d := by
  refine Eq.trans ?_ (congrFun (V_main_arg5 m c) (ix2 l d))
  blk_ext [iblk, idx4 m hO t]

/-- The windows of a grid point. -/
def inAt (t : Fin (cfgM m hO).N) : In where
  m1 := ms0_0 m hO t
  h1 := hs0_0 m hO t
  m2 := ms0_1 m hO t
  h2 := hs0_1 m hO t
  m3 := ms0_2 m hO t
  h3 := hs0_2 m hO t
  m4 := ms0_3 m hO t
  h4 := hs0_3 m hO t
  m5 := ms0_4 m hO t
  h5 := hs0_4 m hO t
  x0 := iblk m hO c 0 t
  x1 := iblk m hO c 1 t
  x2 := iblk m hO c 2 t
  x3 := iblk m hO c 3 t
  x4 := iblk m hO c 4 t

section Points

variable (hs : m (((0 : Dev nD) : Thread nD τ).loc main_arg0) (ix1 0) = BitVec.ofNat 32 s.val) (t : Fin (cfgM m hO).N) (r d : Fin 512)
include hs

theorem rows_at (b : Fin 2) : (inAt m hO c t).rows b r d = (args m c s).rows (slot (blockOf m hO t) b) r d :=
  Finset.sum_congr rfl fun q _ => congrArg₂ (fun a b : EReal => a * b) (block0 m hO c hs t q r) (block1 m hO c t b q d)

theorem keys_at : (inAt m hO c t).keys r d = (args m c s).keys r d :=
  Finset.sum_congr rfl fun l _ => congrArg₂ (fun a b : EReal => a * b) (block2 m hO c hs t l r) (block3 m hO c t l d)

theorem vals_at : (inAt m hO c t).vals r d = (args m c s).vals r d :=
  Finset.sum_congr rfl fun l _ => congrArg₂ (fun a b : EReal => a * b) (block2 m hO c hs t l r) (block4 m hO c t l d)

/-- What a grid point leaves: the two parts of its block. -/
theorem left_lo : outsAt0 m hO c t.val t.isLt (ix3 0 r (lo d)) = (args m c s).grad (slot (blockOf m hO t) 0) r d := by
  have hN : t.val < 4 := t.isLt
  have n1 : slot (blockOf m hO t) 0 ≠ 1 := fun e => by
    have k : 2 * t.val + 0 = 1 := congrArg Fin.val e
    omega
  by_cases h0 : t.val % 4 = 0
  · have h1 : ¬t.val % 4 = 1 := by omega
    have n2 : slot (blockOf m hO t) 0 ≠ 2 := fun e => by
      have k : 2 * t.val + 0 = 2 := congrArg Fin.val e
      omega
    refine (congrFun (outsAt0_A m hO c t h0 h1) _).trans ((stored_A_lo c (grid0.coords t) (inAt m hO c t) (ms0_5 m hO t) (hs0_5 m hO t) (tbl m 0) _ _ r d).trans
      ((rows_at m hO c hs t r d 0).trans ?_))
    exact ((if_neg n1).trans (if_neg n2)).symm
  · by_cases h1 : t.val % 4 = 1
    · have e2 : slot (blockOf m hO t) 0 = 2 := Fin.ext (show 2 * t.val + 0 = 2 by omega)
      refine (congrFun (outsAt0_B m hO c t h0 h1) _).trans ((stored_B_lo c (grid0.coords t) (inAt m hO c t) (ms0_5 m hO t) (hs0_5 m hO t) (tbl m 0) _ _ r d).trans
        ((congrArg₂ (fun a b : EReal => a + b) (rows_at m hO c hs t r d 0) (vals_at m hO c hs t r d)).trans ?_))
      exact ((if_neg n1).trans (if_pos e2)).symm
    · have n2 : slot (blockOf m hO t) 0 ≠ 2 := fun e => by
        have k : 2 * t.val + 0 = 2 := congrArg Fin.val e
        omega
      refine (congrFun (outsAt0_C m hO c t h0 h1) _).trans ((stored_C_lo c (grid0.coords t) (inAt m hO c t) (ms0_5 m hO t) (hs0_5 m hO t) (tbl m 0) _ _ r d).trans
        ((rows_at m hO c hs t r d 0).trans ?_))
      exact ((if_neg n1).trans (if_neg n2)).symm

theorem left_hi : outsAt0 m hO c t.val t.isLt (ix3 0 r (hi d)) = (args m c s).grad (slot (blockOf m hO t) 1) r d := by
  have hN : t.val < 4 := t.isLt
  have n2 : slot (blockOf m hO t) 1 ≠ 2 := fun e => by
    have k : 2 * t.val + 1 = 2 := congrArg Fin.val e
    omega
  by_cases h0 : t.val % 4 = 0
  · have h1 : ¬t.val % 4 = 1 := by omega
    have e1 : slot (blockOf m hO t) 1 = 1 := Fin.ext (show 2 * t.val + 1 = 1 by omega)
    refine (congrFun (outsAt0_A m hO c t h0 h1) _).trans ((stored_A_hi c (grid0.coords t) (inAt m hO c t) (ms0_5 m hO t) (hs0_5 m hO t) (tbl m 0) _ _ r d).trans
      ((congrArg₂ (fun a b : EReal => a + b) (rows_at m hO c hs t r d 1) (keys_at m hO c hs t r d)).trans ?_))
    exact (if_pos e1).symm
  · have n1 : slot (blockOf m hO t) 1 ≠ 1 := fun e => by
      have k : 2 * t.val + 1 = 1 := congrArg Fin.val e
      omega
    by_cases h1 : t.val % 4 = 1
    · refine (congrFun (outsAt0_B m hO c t h0 h1) _).trans ((stored_B_hi c (grid0.coords t) (inAt m hO c t) (ms0_5 m hO t) (hs0_5 m hO t) (tbl m 0) _ _ r d).trans
        ((rows_at m hO c hs t r d 1).trans ?_))
      exact ((if_neg n1).trans (if_neg n2)).symm
    · refine (congrFun (outsAt0_C m hO c t h0 h1) _).trans ((stored_C_hi c (grid0.coords t) (inAt m hO c t) (ms0_5 m hO t) (hs0_5 m hO t) (tbl m 0) _ _ r d).trans
        ((rows_at m hO c hs t r d 1).trans ?_))
      exact ((if_neg n1).trans (if_neg n2)).symm

end Points

/-! ## The array -/

theorem flushed (t : Fin (cfgM m hO).N) : (dats m hO 0 c).flushed 5 t = ((cfgM m hO).win 5).cut (grid0.coords t) (outsAt0 m hO c t.val t.isLt) := by
  show ((cfgM m hO).win 5).cut (grid0.coords t) ((dats m hO 0 c).after 5 t) = _
  rw [after0_5]

theorem disjoint : ∀ t t' : Fin (cfgM m hO).N, ((cfgM m hO).win 5).flush t = true → ((cfgM m hO).win 5).flush t' = true → t ≠ t' →
    Disjoint (((cfgM m hO).win 5).blk t).view.set (((cfgM m hO).win 5).blk t').view.set :=
  fun t t' _ _ hne => ((cfgM m hO).win 5).disjoint_blk fun h => hne (Fin.ext (congrFun ((idx5 m hO t).symm.trans (h.trans (idx5 m hO t'))) 0))

theorem blocks (t : Fin (cfgM m hO).N) :
    (((cfgM m hO).win 5).blk t).view.read (Elt Ideal) ((dats m hO 0 c).arrAt 5 (cfgM m hO).N) = (dats m hO 0 c).flushed 5 t :=
  (dats m hO 0 c).read_blk_arrAt_eq_flushed 5 (disjoint m hO) (cfgM m hO).N t t.isLt (flush0_5 (adm m hO) t)

/-- The array a block's entry is placed in. -/
def result : Vec Ideal S4x512x1024 .f32 := (dats m hO 0 c).arrAt 5 (cfgM m hO).N

set_option maxHeartbeats 1000000 in
theorem read_at (f : Vec Ideal S4x512x1024 .f32) (t : Fin (cfgM m hO).N) (r : Fin 512) (k : Fin 1024) :
    f (ix3 (blockOf m hO t) r k) = (((cfgM m hO).win 5).blk t).view.read (Elt Ideal) f (ix3 0 r k) := by
  refine congrArg f ?_
  blk_ext [idx5 m hO t]
  rfl

theorem arr (t : Fin (cfgM m hO).N) (r : Fin 512) (k : Fin 1024) : result m hO c (ix3 (blockOf m hO t) r k) = outsAt0 m hO c t.val t.isLt (ix3 0 r k) :=
  (read_at m hO (result m hO c) t r k).trans ((congrFun (blocks m hO c t) (ix3 0 r k)).trans (congrFun (flushed m hO c t) _))

theorem arr_lo (hs : m (((0 : Dev nD) : Thread nD τ).loc main_arg0) (ix1 0) = BitVec.ofNat 32 s.val) (j : Fin 4) (r d : Fin 512) :
    result m hO c (ix3 j r (lo d)) = (args m c s).grad (slot j 0) r d :=
  (arr m hO c j r (lo d)).trans (left_lo m hO c hs j r d)

theorem arr_hi (hs : m (((0 : Dev nD) : Thread nD τ).loc main_arg0) (ix1 0) = BitVec.ofNat 32 s.val) (j : Fin 4) (r d : Fin 512) :
    result m hO c (ix3 j r (hi d)) = (args m c s).grad (slot j 1) r d :=
  (arr m hO c j r (hi d)).trans (left_hi m hO c hs j r d)

end Cert.Kernel4Ideal.Win

end
-- ==== Proof.WinRef.lean ====
/- The reference of the input projection's weight gradient at its coordinates. -/
module

public import proofs.«01_k».proof.Proof.WinSpec
public import proofs.«01_k».proof.Proof.Gen.Reference4Ideal.Read
public import Idealize.ShloMosaic.Lib.Pointwise

@[expose] public section

set_option maxRecDepth 16384

noncomputable section

namespace Cert.Reference4Ideal.Win

open Cert.Reference4Ideal Cert.Reference4Ideal.Gen Cert.Reference4Ideal.Read Idealize.ShloMosaic
open Cert.OutGrad Cert.WinGrad

abbrev Word := (⟨S1, .i32⟩ : BufTy).Contents (Elt Ideal)
abbrev Rows := (⟨S2048x1024, .bf16⟩ : BufTy).Contents (Elt Ideal)
abbrev Parts := (⟨S8x2048x512, .bf16⟩ : BufTy).Contents (Elt Ideal)
abbrev Context := (⟨S256x1024, .bf16⟩ : BufTy).Contents (Elt Ideal)
abbrev Words := (⟨S256x512, .bf16⟩ : BufTy).Contents (Elt Ideal)

variable (x0 : Word) (x1 : Rows) (x2 : Parts) (x3 : Context) (x4 x5 : Words)

/-- The arguments of the half `s`. -/
def argsAt (s : Fin 2) : Args where
  h q r := x1 (ix2 q (colOf s r))
  p b q d := x2 (ix3 b q d)
  hc l r := x3 (ix2 l (colOf s r))
  k l d := x4 (ix2 l d)
  v l d := x5 (ix2 l d)

/-- The column of a part. -/
def wide (b : Fin 8) (d : Fin 512) : Fin 4096 := ⟨b.val * 512 + d.val, by omega⟩

theorem parts_at (q : Fin 2048) (b : Fin 8) (d : Fin 512) : val_main_v2 (F := Ideal) x2 (ix2 q (wide b d)) = x2 (ix3 b q d) := by
  rw [val_main_v2_apply, val_main_v1_apply]
  refine congrArg x2 (funext fun a => Fin.ext ?_)
  match a with
  | ⟨0, _⟩ => show (q.val * 4096 + (b.val * 512 + d.val)) / 512 % 8 = b.val; omega
  | ⟨1, _⟩ => show (q.val * 4096 + (b.val * 512 + d.val)) / 4096 = q.val; omega
  | ⟨2, _⟩ => show (q.val * 4096 + (b.val * 512 + d.val)) % 512 = d.val; omega

theorem rows_at (s : Fin 2) (b : Fin 8) (r d : Fin 512) :
    val_main_v8 (F := Ideal) x1 x2 (ix2 (colOf s r) (wide b d)) = (argsAt x1 x2 x3 x4 x5 s).rows b r d := by
  rw [val_main_v8_apply, val_main_v7_apply]
  refine Finset.sum_congr rfl fun q _ => (congrArg₂ (fun a b : EReal => a * b) ?_ ?_).trans (mul_comm _ _)
  · exact Eq.trans (congrArg (val_main_v2 (F := Ideal) x2) (funext fun a => match a with | ⟨0, _⟩ => rfl | ⟨1, _⟩ => rfl)) (parts_at x2 q b d)
  · exact congrArg x1 (funext fun a => match a with | ⟨0, _⟩ => rfl | ⟨1, _⟩ => rfl)

/-- The keys' gradients stand before the values'. -/
theorem both_lo (l : Fin 256) (d : Fin 512) : val_main_v9 (F := Ideal) x4 x5 (ix2 l (lo d)) = x4 (ix2 l d) := by
  unfold val_main_v9 val_main_v5 val_main_v6
  have h : (lo d).val < 512 := d.isLt
  pointwise
  rw [dif_pos h]
  rfl

theorem both_hi (l : Fin 256) (d : Fin 512) : val_main_v9 (F := Ideal) x4 x5 (ix2 l (hi d)) = x5 (ix2 l d) := by
  unfold val_main_v9 val_main_v5 val_main_v6
  have h : ¬(hi d).val < 512 := Nat.not_lt.2 (Nat.le_add_right 512 d.val)
  pointwise
  rw [dif_neg h]
  exact congrArg x5 (funext fun a => Fin.ext (match a with | ⟨0, _⟩ => rfl | ⟨1, _⟩ => Nat.add_sub_cancel_left 512 d.val))

theorem keys_at (s : Fin 2) (r d : Fin 512) :
    val_main_v11 (F := Ideal) x3 x4 x5 (ix2 (colOf s r) (lo d)) = (argsAt x1 x2 x3 x4 x5 s).keys r d := by
  rw [val_main_v11_apply, val_main_v10_apply]
  refine Finset.sum_congr rfl fun l _ => (congrArg₂ (fun a b : EReal => a * b) ?_ ?_).trans (mul_comm _ _)
  · rw [show lidx_main_v10 (idx_main_v11 (ix2 (colOf s r) (lo d))) l = ix2 l (lo d) from funext fun a => match a with | ⟨0, _⟩ => rfl | ⟨1, _⟩ => rfl]
    exact both_lo x4 x5 l d
  · exact congrArg x3 (funext fun a => match a with | ⟨0, _⟩ => rfl | ⟨1, _⟩ => rfl)

theorem vals_at (s : Fin 2) (r d : Fin 512) :
    val_main_v11 (F := Ideal) x3 x4 x5 (ix2 (colOf s r) (hi d)) = (argsAt x1 x2 x3 x4 x5 s).vals r d := by
  rw [val_main_v11_apply, val_main_v10_apply]
  refine Finset.sum_congr rfl fun l _ => (congrArg₂ (fun a b : EReal => a * b) ?_ ?_).trans (mul_comm _ _)
  · rw [show lidx_main_v10 (idx_main_v11 (ix2 (colOf s r) (hi d))) l = ix2 l (hi d) from funext fun a => match a with | ⟨0, _⟩ => rfl | ⟨1, _⟩ => rfl]
    exact both_hi x4 x5 l d
  · exact congrArg x3 (funext fun a => match a with | ⟨0, _⟩ => rfl | ⟨1, _⟩ => rfl)

/-- The context's share: nothing outside the second and the third part. -/
theorem pad_at (k : Fin 1024) (b : Fin 8) (d : Fin 512) :
    val_main_v12 (F := Ideal) x3 x4 x5 (ix2 k (wide b d)) =
      if b = 1 then val_main_v11 (F := Ideal) x3 x4 x5 (ix2 k (lo d))
      else if b = 2 then val_main_v11 (F := Ideal) x3 x4 x5 (ix2 k (hi d)) else 0 := by
  unfold val_main_v12
  generalize val_main_v11 (F := Ideal) x3 x4 x5 = y
  pointwise
  have hn : (wide b d).val = b.val * 512 + d.val := rfl
  by_cases h1 : b = 1
  · subst h1
    rw [if_pos rfl, dif_pos ⟨by rw [hn]; show 512 ≤ 1 * 512 + d.val; omega, by rw [hn]; show 1 * 512 + d.val - 512 < 1024; omega⟩]
    exact congrArg y (funext fun a => Fin.ext (match a with | ⟨0, _⟩ => rfl | ⟨1, _⟩ => (by show 1 * 512 + d.val - 512 = d.val; omega)))
  · by_cases h2 : b = 2
    · subst h2
      rw [if_neg h1, if_pos rfl, dif_pos ⟨by rw [hn]; show 512 ≤ 2 * 512 + d.val; omega, by rw [hn]; show 2 * 512 + d.val - 512 < 1024; omega⟩]
      exact congrArg y (funext fun a => Fin.ext (match a with | ⟨0, _⟩ => rfl | ⟨1, _⟩ => (by show 2 * 512 + d.val - 512 = 512 + d.val; omega)))
    · have e1 : b.val ≠ 1 := fun h => h1 (Fin.ext h)
      have e2 : b.val ≠ 2 := fun h => h2 (Fin.ext h)
      rw [if_neg h1, if_neg h2, dif_neg (by rw [hn]; omega)]
      unfold val_main_cst
      pointwise

theorem sum_at (s : Fin 2) (b : Fin 8) (r d : Fin 512) :
    val_main_v13 (F := Ideal) x1 x2 x3 x4 x5 (ix2 (colOf s r) (wide b d)) = (argsAt x1 x2 x3 x4 x5 s).grad b r d := by
  have e : val_main_v13 (F := Ideal) x1 x2 x3 x4 x5 (ix2 (colOf s r) (wide b d)) =
      val_main_v8 (F := Ideal) x1 x2 (ix2 (colOf s r) (wide b d)) + val_main_v12 (F := Ideal) x3 x4 x5 (ix2 (colOf s r) (wide b d)) := rfl
  rw [e, rows_at x1 x2 x3 x4 x5, pad_at, keys_at x1 x2 x3 x4 x5, vals_at x1 x2 x3 x4 x5]
  unfold Args.grad
  by_cases h1 : b = 1
  · rw [if_pos h1, if_pos h1]
  · by_cases h2 : b = 2
    · rw [if_neg h1, if_pos h2, if_neg h1, if_pos h2]
    · rw [if_neg h1, if_neg h2, if_neg h1, if_neg h2, add_zero]

/-- The half that the word names. -/
theorem half_at (s : Fin 2) (h : x0 (ix1 0) = BitVec.ofNat 32 s.val) (b : Fin 8) (r d : Fin 512) :
    val_main_v18 (F := Ideal) x0 x1 x2 x3 x4 x5 (ix2 r (wide b d)) = (argsAt x1 x2 x3 x4 x5 s).grad b r d := by
  rw [← sum_at x1 x2 x3 x4 x5 s b r d]
  unfold val_main_v18 val_main_v16 val_main_v17 val_main_v15 val_main_v14 val_main_c
  generalize val_main_v13 (F := Ideal) x1 x2 x3 x4 x5 = y
  pointwise
  match s, h with
  | ⟨0, _⟩, h =>
    rw [h, show IntOp.cmpi .eq (BitVec.ofNat 32 0) 0#32 = 1#1 from by decide]
    exact congrArg y (funext fun a => Fin.ext (match a with | ⟨0, _⟩ => (by show r.val = 0 * 512 + r.val; omega) | ⟨1, _⟩ => rfl))
  | ⟨1, _⟩, h =>
    rw [h, show IntOp.cmpi .eq (BitVec.ofNat 32 1) 0#32 = 0#1 from by decide]
    exact congrArg y (funext fun a => Fin.ext (match a with | ⟨0, _⟩ => (by show 512 + r.val = 1 * 512 + r.val; omega) | ⟨1, _⟩ => rfl))

/-- A block of the result is two parts beside each other. -/
theorem beside (j : Fin 4) (r : Fin 512) (k : Fin 1024) (b : Fin 8) (d : Fin 512) (e : j.val * 1024 + k.val = b.val * 512 + d.val) :
    val_main_v20 (F := Ideal) x0 x1 x2 x3 x4 x5 (ix3 j r k) = val_main_v18 (F := Ideal) x0 x1 x2 x3 x4 x5 (ix2 r (wide b d)) := by
  rw [val_main_v20_apply, val_main_v19_apply]
  refine congrArg (val_main_v18 (F := Ideal) x0 x1 x2 x3 x4 x5) (funext fun a => Fin.ext ?_)
  match a with
  | ⟨0, _⟩ => show ((r.val * 4 + j.val) * 1024 + k.val) / 4096 = r.val; omega
  | ⟨1, _⟩ => show ((r.val * 4 + j.val) * 1024 + k.val) % 4096 = b.val * 512 + d.val; omega

theorem grad_lo (s : Fin 2) (h : x0 (ix1 0) = BitVec.ofNat 32 s.val) (j : Fin 4) (r d : Fin 512) :
    val_main_v20 (F := Ideal) x0 x1 x2 x3 x4 x5 (ix3 j r (lo d)) = (argsAt x1 x2 x3 x4 x5 s).grad (slot j 0) r d :=
  (beside x0 x1 x2 x3 x4 x5 j r (lo d) (slot j 0) d (by show j.val * 1024 + d.val = (2 * j.val + 0) * 512 + d.val; omega)).trans
    (half_at x0 x1 x2 x3 x4 x5 s h _ r d)

theorem grad_hi (s : Fin 2) (h : x0 (ix1 0) = BitVec.ofNat 32 s.val) (j : Fin 4) (r d : Fin 512) :
    val_main_v20 (F := Ideal) x0 x1 x2 x3 x4 x5 (ix3 j r (hi d)) = (argsAt x1 x2 x3 x4 x5 s).grad (slot j 1) r d :=
  (beside x0 x1 x2 x3 x4 x5 j r (hi d) (slot j 1) d (by show j.val * 1024 + (512 + d.val) = (2 * j.val + 1) * 512 + d.val; omega)).trans
    (half_at x0 x1 x2 x3 x4 x5 s h _ r d)

end Cert.Reference4Ideal.Win

end
-- ==== Proof.WinEqual.lean ====
/- The input projection's weight kernel and its reference leave the same gradient. -/
module

public import proofs.«01_k».proof.Defs
public import proofs.«01_k».proof.Proof.WinArrays
public import proofs.«01_k».proof.Proof.WinRef
public import proofs.«01_k».proof.Proof.OutEqual
public import proofs.«01_k».proof.Proof.Gen.Reference4Ideal.Run

@[expose] public section

set_option maxRecDepth 16384

noncomputable section

namespace Cert.WinGrad

open Idealize.ShloMosaic Idealize.SL.Sem Idealize.ShloMosaic.TcCoe Cert.OutGrad
open Cert.Reference4Ideal.Read Cert.Reference4Ideal.Win

attribute [local instance] Cert.Pre_one_half.facts

/-- The half that the precondition gives. -/
theorem half_of_pre {m : (ℓ : Loc Cert.Kernel4Ideal.nD Cert.Kernel4Ideal.τ Cert.Kernel4Ideal.sig) → Buf (Elt Ideal) ℓ}
    (h : Cert.Pre_Kernel4Ideal m) (c : Dev Cert.Kernel4Ideal.nD) :
    ∃ s : Fin 2, m ((c.tc : Thread Cert.Kernel4Ideal.nD Cert.Kernel4Ideal.τ).loc Cert.Kernel4Ideal.main_arg0) (ix1 0) = BitVec.ofNat 32 s.val :=
  Cert.Pre_one_half.half _ _ _ _ _ _ _ (h c)

/-- Over equal arguments the results agree. -/
theorem agree (m : (ℓ : Loc Cert.Kernel4Ideal.nD Cert.Kernel4Ideal.τ Cert.Kernel4Ideal.sig) → Buf (Elt Ideal) ℓ)
    (hO : Cert.Kernel4Ideal.Gen.Ok m) (c : Dev Cert.Kernel4Ideal.nD) {s : Fin 2}
    (hs : m (((0 : Dev Cert.Kernel4Ideal.nD) : Thread Cert.Kernel4Ideal.nD Cert.Kernel4Ideal.τ).loc Cert.Kernel4Ideal.main_arg0) (ix1 0) = BitVec.ofNat 32 s.val)
    (x0 : Word) (x1 : Rows) (x2 : Parts) (x3 : Context) (x4 x5 : Words)
    (h0 : x0 (ix1 0) = BitVec.ofNat 32 s.val) (he : argsAt x1 x2 x3 x4 x5 s = Cert.Kernel4Ideal.Win.args m c s) :
    val_main_v20 (F := Ideal) x0 x1 x2 x3 x4 x5 = Cert.Kernel4Ideal.Win.result m hO c :=
  ext3 fun j r k => halves
    (P := fun k => val_main_v20 (F := Ideal) x0 x1 x2 x3 x4 x5 (ix3 j r k) = Cert.Kernel4Ideal.Win.result m hO c (ix3 j r k))
    (fun d => (grad_lo x0 x1 x2 x3 x4 x5 s h0 j r d).trans (he ▸ (Cert.Kernel4Ideal.Win.arr_lo m hO c hs j r d).symm))
    (fun d => (grad_hi x0 x1 x2 x3 x4 x5 s h0 j r d).trans (he ▸ (Cert.Kernel4Ideal.Win.arr_hi m hO c hs j r d).symm)) k

/-- The results of the reference over the arguments of the kernel. -/
theorem equal : Cert.algebraic_Kernel4Ideal_Reference4Ideal := by
  intro m g m' g' hp ha
  obtain ⟨s, hs⟩ := half_of_pre hp 0
  have hO : Cert.Kernel4Ideal.Gen.Ok m := Cert.Kernel4Ideal.Win.ok m hs
  refine ⟨fun c => Cert.Kernel4Ideal.Win.result m hO c,
    (θ_run Cert.Kernel4Ideal.defs _ _).mono (fun r h c => ?_)
      (θ_run_and (Cert.Kernel4Ideal.Gen.run_main m g hO) (Cert.Kernel4Ideal.Gen.unchanged m g hO)), ?_⟩
  · exact ⟨(h.1 c).1 5, h.2 c⟩
  refine (θ_run Cert.Reference4Ideal.defs _ _).mono (fun r h c => ?_) (Cert.Reference4Ideal.Value.run (F := Ideal) m' g')
  obtain ⟨h0, k⟩ := h c
  obtain ⟨a0, a1, a2, a3, a4, a5, -⟩ := ha c
  obtain rfl : c = 0 := Subsingleton.elim _ _
  have e := agree m hO 0 hs (m' (((0 : Dev Cert.Reference4Ideal.nD).tc : Thread _ Cert.Reference4Ideal.τ).loc Cert.Reference4Ideal.main_arg0))
      (m' (((0 : Dev Cert.Reference4Ideal.nD).tc : Thread _ Cert.Reference4Ideal.τ).loc Cert.Reference4Ideal.main_arg1))
      (m' (((0 : Dev Cert.Reference4Ideal.nD).tc : Thread _ Cert.Reference4Ideal.τ).loc Cert.Reference4Ideal.main_arg2))
      (m' (((0 : Dev Cert.Reference4Ideal.nD).tc : Thread _ Cert.Reference4Ideal.τ).loc Cert.Reference4Ideal.main_arg3))
      (m' (((0 : Dev Cert.Reference4Ideal.nD).tc : Thread _ Cert.Reference4Ideal.τ).loc Cert.Reference4Ideal.main_arg4))
      (m' (((0 : Dev Cert.Reference4Ideal.nD).tc : Thread _ Cert.Reference4Ideal.τ).loc Cert.Reference4Ideal.main_arg5))
      (by rw [a0]; exact hs) (by rw [a1, a2, a3, a4, a5]; rfl)
  exact ⟨h0.trans ((val_main_v20_eq _ _ _ _ _ _).trans e), k⟩

end Cert.WinGrad

end
-- ==== Proof.ProjSpec.lean ====
/- One block of the input projection: the rows against the weight's columns. -/
module

public import Idealize.ShloMosaic.Lib.Pointwise

@[expose] public section

noncomputable section

namespace Cert.InProj

open Idealize.ShloMosaic

/-- A row of the normalised input against a column of the weight. -/
def dotOf (h : Fin 2048 → Fin 1024 → EReal) (w : Fin 1024 → Fin 4096 → EReal) (q : Fin 2048) (k : Fin 4096) : EReal := ∑ e, h q e * w e k

/-- Column `k` of block `b`. -/
def col (b : Fin 4) (k : Fin 1024) : Fin 4096 := ⟨b.val * 1024 + k.val, by omega⟩

/-- Row `r` of a grid point's share. -/
def row (t : Fin 4) (r : Fin 512) : Fin 2048 := ⟨t.val * 512 + r.val, by omega⟩

theorem col_cases {P : Fin 4096 → Prop} (h : ∀ b k, P (col b k)) (k : Fin 4096) : P k := by
  have e : k = col ⟨k.val / 1024, by omega⟩ ⟨k.val % 1024, Nat.mod_lt _ (by omega)⟩ :=
    Fin.ext (by show k.val = k.val / 1024 * 1024 + k.val % 1024; omega)
  rw [e]
  exact h _ _

theorem row_cases {P : Fin 2048 → Prop} (h : ∀ t r, P (row t r)) (q : Fin 2048) : P q := by
  have e : q = row ⟨q.val / 512, by omega⟩ ⟨q.val % 512, Nat.mod_lt _ (by omega)⟩ :=
    Fin.ext (by show q.val = q.val / 512 * 512 + q.val % 512; omega)
  rw [e]
  exact h _ _

end Cert.InProj

end
-- ==== Proof.ProjWord.lean ====
/- The precondition of the input projection's block read back: the word names one of the four blocks of columns, and so the windows it
   places lie inside their arrays. -/
module

public import proofs.«01_k».proof.Defs
public import proofs.«01_k».proof.Pre_one_block
public import proofs.«01_k».proof.Proof.Gen.Kernel5.Frame
public import proofs.«01_k».proof.Proof.Gen.Kernel5Ideal.Frame
public import Idealize.ShloMosaic.Lib.Affine
public import Idealize.ShloMosaic.Lib.Pointwise

@[expose] public section

set_option maxRecDepth 16384

noncomputable section

namespace Cert.Pre_one_block

open Idealize.ShloMosaic

theorem facts : Facts where
  shapeCasts_S1_S_ := by decide

attribute [local instance] Cert.Pre_one_block.facts

instance : Subsingleton S1.Idx := ⟨fun a b => funext fun i => match i with | ⟨0, _⟩ => Subsingleton.elim (α := Fin 1) _ _⟩

theorem only {α : Type} (x : S1.Idx → α) (i : S_.Idx) : shapeCast S_ x Facts.shapeCasts_S1_S_ i = x (ix1 0) :=
  congrArg x (Subsingleton.elim _ _)

/-- A word from 0 up to 4, as a signed number, is one of four. -/
theorem four (x : BitVec 32) (h0 : IntOp.cmpi .sge x 0#32 = 1#1) (h4 : IntOp.cmpi .slt x 4#32 = 1#1) : ∃ s : Fin 4, x = BitVec.ofNat 32 s.val := by
  have k0 : (0#32 : BitVec 32).toInt ≤ x.toInt := IntOp.cmpi_sge.1 h0
  have k4 : x.toInt < (4#32 : BitVec 32).toInt := IntOp.cmpi_slt.1 h4
  have e0 : (0#32 : BitVec 32).toInt = 0 := by decide
  have e4 : (4#32 : BitVec 32).toInt = 4 := by decide
  have hb : x.toNat < 2 ^ 32 := x.isLt
  have hx : x.toNat < 4 := by
    rw [e0] at k0
    rw [e4] at k4
    have c := BitVec.toInt_eq_toNat_cond x
    split at c <;> omega
  exact ⟨⟨x.toNat, hx⟩, BitVec.eq_of_toNat_eq (by show x.toNat = (BitVec.ofNat 32 x.toNat).toNat; rw [BitVec.toNat_ofNat]; omega)⟩

theorem block {F : FTy → Type} [FloatOps F] (a0 : IVec S1 32) (a1 : FVec F S2048x1024 .bf16) (a2 : FVec F S1024x4096 .f32)
    (a3 : FVec F S2048x4096 .f32) (a4 : IVec S1 32) (h : fn (F := F) a0 a1 a2 a3 a4 = fun _ => 1#1) :
    ∃ s : Fin 4, a0 (ix1 0) = BitVec.ofNat 32 s.val := by
  have e := congrFun h ix0
  unfold fn at e
  obtain ⟨k0, k4⟩ := IntOp.andi_eq_one.1 e
  exact four _ ((congrArg (fun x => IntOp.cmpi .sge x 0#32) (only a0 ix0)).symm.trans k0) ((congrArg (fun x => IntOp.cmpi .slt x 4#32) (only a0 ix0)).symm.trans k4)

end Cert.Pre_one_block

namespace Cert.Kernel5.Proj

open Cert.Kernel5 Cert.Kernel5.Gen Idealize.ShloMosaic Idealize.ShloMosaic.TcCoe

theorem word {F : FTy → Type} [FloatOps F] (m : (ℓ : Loc nD τ sig) → Buf (Elt F) ℓ) :
    (tbl m).at 0 (Rect.unit (s := S1) ![0] S1.size inb_S1_S1_0) numel1_S1 = m (((0 : Dev nD) : Thread nD τ).loc main_arg0) (ix1 0) :=
  (congrFun (V_main_arg0 m 0) _).trans (congrArg (m (((0 : Dev nD) : Thread nD τ).loc main_arg0)) (Subsingleton.elim (α := Cert.Pre_one_block.S1.Idx) _ _))

/-- Whichever block the word names, the weight's and the result's windows lie inside their arrays. -/
theorem ok {F : FTy → Type} [FloatOps F] (m : (ℓ : Loc nD τ sig) → Buf (Elt F) ℓ) {s : Fin 4}
    (h : m (((0 : Dev nD) : Thread nD τ).loc main_arg0) (ix1 0) = BitVec.ofNat 32 s.val) : Ok m := by
  have w := (word m).trans h
  have hn : (BitVec.ofNat 32 s.val).toNat ≤ 3 := (by decide : ∀ s : Fin 4, (BitVec.ofNat 32 s.val).toNat ≤ 3) s
  refine ⟨fun i => ⟨fun a => ?_, .inr (Affine.block_words_dvd (of_decide_eq_true rfl) (by decide))⟩, fun i => ⟨fun a => ?_, .inl rfl⟩⟩
  · match a with
    | ⟨0, _⟩ =>
      show (((tbl m).at 0 (Rect.unit (s := S1) ![0] S1.size inb_S1_S1_0) numel1_S1 : BitVec 32).toNat + 1) * 1 ≤ 4
      rw [w]
      omega
    | ⟨1, _⟩ => exact of_decide_eq_true rfl
    | ⟨2, _⟩ => exact of_decide_eq_true rfl
  · match a with
    | ⟨0, _⟩ => exact (by decide : ∀ i : grid0.Coords, (cc0_transform_0 i 0 + 1) * 512 ≤ 2048) i
    | ⟨1, _⟩ =>
      show (((tbl m).at 0 (Rect.unit (s := S1) ![0] S1.size inb_S1_S1_0) numel1_S1 : BitVec 32).toNat + 1) * 1024 ≤ 4096
      rw [w]
      omega

end Cert.Kernel5.Proj

namespace Cert.Kernel5Ideal.Proj

open Cert.Kernel5Ideal Cert.Kernel5Ideal.Gen Idealize.ShloMosaic Idealize.ShloMosaic.TcCoe

theorem word {F : FTy → Type} [FloatOps F] (m : (ℓ : Loc nD τ sig) → Buf (Elt F) ℓ) :
    (tbl m).at 0 (Rect.unit (s := S1) ![0] S1.size inb_S1_S1_0) numel1_S1 = m (((0 : Dev nD) : Thread nD τ).loc main_arg0) (ix1 0) :=
  (congrFun (V_main_arg0 m 0) _).trans (congrArg (m (((0 : Dev nD) : Thread nD τ).loc main_arg0)) (Subsingleton.elim (α := Cert.Pre_one_block.S1.Idx) _ _))

/-- Whichever block the word names, the weight's and the result's windows lie inside their arrays. -/
theorem ok {F : FTy → Type} [FloatOps F] (m : (ℓ : Loc nD τ sig) → Buf (Elt F) ℓ) {s : Fin 4}
    (h : m (((0 : Dev nD) : Thread nD τ).loc main_arg0) (ix1 0) = BitVec.ofNat 32 s.val) : Ok m := by
  have w := (word m).trans h
  have hn : (BitVec.ofNat 32 s.val).toNat ≤ 3 := (by decide : ∀ s : Fin 4, (BitVec.ofNat 32 s.val).toNat ≤ 3) s
  refine ⟨fun i => ⟨fun a => ?_, .inr (Affine.block_words_dvd (of_decide_eq_true rfl) (by decide))⟩, fun i => ⟨fun a => ?_, .inl rfl⟩⟩
  · match a with
    | ⟨0, _⟩ =>
      show (((tbl m).at 0 (Rect.unit (s := S1) ![0] S1.size inb_S1_S1_0) numel1_S1 : BitVec 32).toNat + 1) * 1 ≤ 4
      rw [w]
      omega
    | ⟨1, _⟩ => exact of_decide_eq_true rfl
    | ⟨2, _⟩ => exact of_decide_eq_true rfl
  · match a with
    | ⟨0, _⟩ => exact (by decide : ∀ i : grid0.Coords, (cc0_transform_0 i 0 + 1) * 512 ≤ 2048) i
    | ⟨1, _⟩ =>
      show (((tbl m).at 0 (Rect.unit (s := S1) ![0] S1.size inb_S1_S1_0) numel1_S1 : BitVec 32).toNat + 1) * 1024 ≤ 4096
      rw [w]
      omega

end Cert.Kernel5Ideal.Proj

end
-- ==== Proof.ProjArrays.lean ====
/- The input projection's block from its body to its array: the grid leaves one block of columns whole and the others as they were. -/
module

public import proofs.«01_k».proof.Proof.ProjSpec
public import proofs.«01_k».proof.Proof.ProjWord
public import Idealize.ShloMosaic.Lib.WholeRead
public import Idealize.ShloMosaic.Lib.Pipeline.Value
public import Idealize.ShloMosaic.Lib.Pipeline.ValueKit.Point
public import Idealize.ShloMosaic.Lib.Claim

@[expose] public section

set_option maxRecDepth 16384

noncomputable section

namespace Cert.Kernel5Ideal.Proj

open Cert.Kernel5Ideal Cert.Kernel5Ideal.Gen Idealize.ShloMosaic Idealize.ShloMosaic.TcCoe Idealize.SL.Sem
open Cert.InProj

/-! ## The body -/

theorem pay_at (H : Vec Ideal S512x1024 .bf16) (W : Vec Ideal S1x1024x1024 .bf16) (r : Fin 512) (k : Fin 1024) :
    k0_pay1 (F := Ideal) H W (ix2 r k) = ∑ e : Fin 1024, (fun a b : EReal => a * b) (H (ix2 r e)) (W (ix3 0 e k)) := by
  pointwise [k0_pay1]

abbrev allRows : Rect S512x1024 := Rect.unit (s := S512x1024) ![0, 0] S512x1024.size inb_S512x1024_S512x1024_0_0
abbrev allWeight : Rect S1x1024x1024 := Rect.unit (s := S1x1024x1024) ![0, 0, 0] S1x1024x1024.size inb_S1x1024x1024_S1x1024x1024_0_0_0

section Body

variable (c : Dev nD) (i : grid0.Coords) (m2 : Memref sig .tc .vmem S512x1024 .bf16) (h2 : m2.IsWhole) (m3 : Memref sig .tc .vmem S1x1024x1024 .bf16)
  (h3 : m3.IsWhole) (m6 : Memref sig .tc .vmem S512x1024 .f32) (h6 : m6.IsWhole) (x0 : Vec Ideal S512x1024 .bf16) (x1 : Vec Ideal S1x1024x1024 .bf16)
  (w : TbBuf0 (F := Ideal) c tbM0_0) (r : Fin 512) (e k : Fin 1024)

theorem rows_read : View.readAt (Elt Ideal) m2.view allRows.toLoadRect (h2.unread x0) (ix2 r e) = x0 (ix2 r e) := by
  refine (h2.readAt_unread _ _ _).trans (congrArg x0 (funext fun a => Fin.ext ?_))
  match a with
  | ⟨0, _⟩ => show 0 + 1 * r.val = r.val; omega
  | ⟨1, _⟩ => show 0 + 1 * e.val = e.val; omega

theorem weight_read : View.readAt (Elt Ideal) m3.view allWeight.toLoadRect (h3.unread x1) (ix3 0 e k) = x1 (ix3 0 e k) := by
  refine (h3.readAt_unread _ _ _).trans (congrArg x1 (funext fun a => Fin.ext ?_))
  match a with
  | ⟨0, _⟩ => rfl
  | ⟨1, _⟩ => show 0 + 1 * e.val = e.val; omega
  | ⟨2, _⟩ => show 0 + 1 * k.val = k.val; omega

theorem found : (kernelRun0_A (F := Ideal) c i m2 h2 m3 h3 m6 h6 x0 x1 w).1
    = [⟨allRows, k0_pay1 (F := Ideal) (View.readAt (Elt Ideal) m2.view allRows.toLoadRect (h2.unread x0))
        (View.readAt (Elt Ideal) m3.view allWeight.toLoadRect (h3.unread x1))⟩] := rfl

theorem stored : out0_A_2 c i m2 h2 m3 h3 m6 h6 x0 x1 w (ix2 r k) = ∑ e : Fin 1024, (fun a b : EReal => a * b) (x0 (ix2 r e)) (x1 (ix3 0 e k)) := by
  refine (congrFun ((View.read_writes_junk_eq_canon VO0_2 _).trans ((congrArg View.canon (found c i m2 h2 m3 h3 m6 h6 x0 x1 w)).trans
    (View.canon_cons_unit_lit _ _ _ (by decide)))) _).trans ((pay_at _ _ r k).trans ?_)
  exact Finset.sum_congr rfl fun e _ => congrArg₂ (fun a b : EReal => a * b) (rows_read m2 h2 x0 r e) (weight_read m3 h3 x1 e k)

end Body

/-! ## The windows -/

variable (m : (ℓ : Loc nD τ sig) → Buf (Elt Ideal) ℓ) (hO : Ok m) (c : Dev nD) {s : Fin 4}

/-- The rows and the weight. -/
def rows (q : Fin 2048) (e : Fin 1024) : EReal := m ((c : Thread nD τ).loc main_arg1) (ix2 q e)
def weight (e : Fin 1024) (k : Fin 4096) : EReal := m ((c : Thread nD τ).loc main_arg2) (ix2 e k)

theorem placed (hs : m (((0 : Dev nD) : Thread nD τ).loc main_arg0) (ix1 0) = BitVec.ofNat 32 s.val) :
    ((tbl m).at 0 (Rect.unit (s := S1) ![0] S1.size inb_S1_S1_0) numel1_S1 : BitVec 32).toNat = s.val := by
  rw [(word m).trans hs]
  exact (by decide : ∀ s : Fin 4, (BitVec.ofNat 32 s.val).toNat = s.val) s

theorem idx0 (t : Fin (cfgM m hO).N) : ((cfgM m hO).win 0).index t = ![t.val, 0] :=
  (by decide +kernel : ∀ t : Fin grid0.N, cc0_transform_0 (grid0.coords t) = ![t.val, 0]) t

theorem idx1 (hs : m (((0 : Dev nD) : Thread nD τ).loc main_arg0) (ix1 0) = BitVec.ofNat 32 s.val) (t : Fin (cfgM m hO).N) :
    ((cfgM m hO).win 1).index t = ![s.val, 0, 0] := by
  show ![((tbl m).at 0 (Rect.unit (s := S1) ![0] S1.size inb_S1_S1_0) numel1_S1 : BitVec 32).toNat, 0, 0] = ![s.val, 0, 0]
  rw [placed m hs]

theorem idx2 (hs : m (((0 : Dev nD) : Thread nD τ).loc main_arg0) (ix1 0) = BitVec.ofNat 32 s.val) (t : Fin (cfgM m hO).N) :
    ((cfgM m hO).win 2).index t = ![t.val, s.val] := by
  have e : cc0_transform_0 (grid0.coords t) 0 = t.val := (by decide +kernel : ∀ t : Fin grid0.N, cc0_transform_0 (grid0.coords t) 0 = t.val) t
  show ![cc0_transform_0 (grid0.coords t) 0, ((tbl m).at 0 (Rect.unit (s := S1) ![0] S1.size inb_S1_S1_0) numel1_S1 : BitVec 32).toNat] = ![t.val, s.val]
  rw [placed m hs, e]

set_option maxHeartbeats 1000000 in
/-- The weight in its four blocks of columns, as the grid finds it. -/
theorem laid (b : Fin 4) (e k : Fin 1024) : (V m c main_v2 : Vec Ideal S4x1024x1024 .bf16) (ix3 b e k) = weight m c e (col b k) := by
  unfold V
  simp only [hostOps0, StableHlo.TRef.unary, StableHlo.TRef.toBuf, StableHlo.TRef.ofBuf, cast_eq]
  after_results_simp
  pointwise
  rfl

set_option maxHeartbeats 1000000 in
/-- The result starts as the fourth argument. -/
theorem before : (V m c main_v3 : Vec Ideal S2048x4096 .f32) = m ((c : Thread nD τ).loc main_arg3) := by
  unfold V
  simp only [hostOps0, StableHlo.TRef.unary, StableHlo.TRef.toBuf, StableHlo.TRef.ofBuf, cast_eq]
  after_results_simp
  rfl

set_option maxHeartbeats 1000000 in
theorem block0 (t : Fin (cfgM m hO).N) (r : Fin 512) (e : Fin 1024) : (iblk m hO c 0 t) (ix2 r e) = rows m c (row t r) e := by
  refine Eq.trans ?_ (congrFun (V_main_arg1 m c) (ix2 (row t r) e))
  blk_ext [iblk, idx0 m hO t]
  rfl

set_option maxHeartbeats 1000000 in
theorem block1 (hs : m (((0 : Dev nD) : Thread nD τ).loc main_arg0) (ix1 0) = BitVec.ofNat 32 s.val) (t : Fin (cfgM m hO).N) (e k : Fin 1024) :
    (iblk m hO c 1 t) (ix3 0 e k) = weight m c e (col s k) := by
  refine Eq.trans ?_ (laid m c s e k)
  blk_ext [iblk, idx1 m hO hs t]

theorem left (hs : m (((0 : Dev nD) : Thread nD τ).loc main_arg0) (ix1 0) = BitVec.ofNat 32 s.val) (t : Fin (cfgM m hO).N) (r : Fin 512) (k : Fin 1024) :
    outsAt0 m hO c t (ix2 r k) = dotOf (rows m c) (weight m c) (row t r) (col s k) :=
  (stored c (grid0.coords t) (ms0_0 m hO t) (hs0_0 m hO t) (ms0_1 m hO t) (hs0_1 m hO t) (ms0_2 m hO t) (hs0_2 m hO t) _ _ (tbl m 0) r k).trans
    (Finset.sum_congr rfl fun e _ => congrArg₂ (fun a b : EReal => a * b) (block0 m hO c t r e) (block1 m hO c hs t e k))

/-! ## The array -/

theorem flushed (t : Fin (cfgM m hO).N) : (dats m hO 0 c).flushed 2 t = ((cfgM m hO).win 2).cut (grid0.coords t) (outsAt0 m hO c t) := by
  show ((cfgM m hO).win 2).cut (grid0.coords t) ((dats m hO 0 c).after 2 t) = _
  rw [after0_2]

/-- The array the grid leaves. -/
def result : Vec Ideal S2048x4096 .f32 := (dats m hO 0 c).arrAt 2 (cfgM m hO).N

section Placed

variable (hs : m (((0 : Dev nD) : Thread nD τ).loc main_arg0) (ix1 0) = BitVec.ofNat 32 s.val)
include hs

/-- Every grid point writes its rows back: the next one has others. -/
theorem flush (t : Fin (cfgM m hO).N) : ((cfgM m hO).win 2).flush t = true := by
  have hN : (cfgM m hO).N = 4 := rfl
  show (true && (decide (t.val + 1 = (cfgM m hO).N) || decide (∃ h : t.val + 1 < (cfgM m hO).N, ((cfgM m hO).win 2).index ⟨t.val + 1, h⟩ ≠ ((cfgM m hO).win 2).index t))) = true
  rw [Bool.true_and, Bool.or_eq_true]
  by_cases h : t.val + 1 = (cfgM m hO).N
  · exact .inl (decide_eq_true h)
  · refine .inr (decide_eq_true ⟨by have := t.isLt; omega, fun e => ?_⟩)
    rw [idx2 m hO hs, idx2 m hO hs] at e
    have k : t.val + 1 = t.val := congrFun e 0
    omega

theorem disjoint : ∀ t t' : Fin (cfgM m hO).N, ((cfgM m hO).win 2).flush t = true → ((cfgM m hO).win 2).flush t' = true → t ≠ t' →
    Disjoint (((cfgM m hO).win 2).blk t).view.set (((cfgM m hO).win 2).blk t').view.set :=
  fun t t' _ _ hne => ((cfgM m hO).win 2).disjoint_blk fun h => hne (Fin.ext (congrFun ((idx2 m hO hs t).symm.trans (h.trans (idx2 m hO hs t'))) 0))

theorem blocks (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (disjoint m hO hs) (cfgM m hO).N t t.isLt (flush m hO hs t)

set_option maxHeartbeats 1000000 in
theorem read_at (f : Vec Ideal S2048x4096 .f32) (t : Fin (cfgM m hO).N) (r : Fin 512) (k : Fin 1024) :
    f (ix2 (row t r) (col s k)) = (((cfgM m hO).win 2).blk t).view.read (Elt Ideal) f (ix2 r k) := by
  refine congrArg f ?_
  blk_ext [idx2 m hO hs t]
  · rfl
  · rfl

/-- The block the word names is the product, -/
theorem on_block (t : Fin 4) (r : Fin 512) (k : Fin 1024) :
    result m hO c (ix2 (row t r) (col s k)) = dotOf (rows m c) (weight m c) (row t r) (col s k) :=
  (read_at m hO hs (result m hO c) t r k).trans ((congrFun (blocks m hO c hs t) (ix2 r k)).trans
    ((congrFun (flushed m hO c t) _).trans (left m hO c hs t r k)))

/-- and every other block stays as it was. -/
theorem off_block (q : Fin 2048) {b : Fin 4} (hb : b ≠ s) (k : Fin 1024) :
    result m hO c (ix2 q (col b k)) = m ((c : Thread nD τ).loc main_arg3) (ix2 q (col b k)) := by
  refine ((dats m hO 0 c).arrAt_apply_of_forall_not_mem 2 (cfgM m hO).N (ix2 q (col b k)) fun t _ _ hm => ?_).trans
    ((congrFun (A_eq m hO c 2) _).trans (congrFun (before m c) _))
  have h := (((cfgM m hO).win 2).emb_mem_blk_iff t (ix2 q (col b k))).1 hm (1 : Fin 2)
  have x := ((cfgM m hO).win 2).xsize_le (grid0.coords t) (1 : Fin 2)
  rw [idx2 m hO hs t] at h
  have h1 : s.val * 1024 ≤ b.val * 1024 + k.val ∧ b.val * 1024 + k.val < s.val * 1024 + ((cfgM m hO).win 2).xsize (grid0.coords t) (1 : Fin 2) := h
  have x1 : ((cfgM m hO).win 2).xsize (grid0.coords t) (1 : Fin 2) ≤ 1024 := x
  exact hb (Fin.ext (by omega))

end Placed

end Cert.Kernel5Ideal.Proj

end
-- ==== Proof.ProjRef.lean ====
/- The reference of the input projection's block at its coordinates. -/
module

public import proofs.«01_k».proof.Proof.ProjSpec
public import proofs.«01_k».proof.Proof.Gen.Reference5Ideal.Read
public import Idealize.ShloMosaic.Lib.Affine

@[expose] public section

set_option maxRecDepth 16384

noncomputable section

namespace Cert.Reference5Ideal.Proj

open Cert.Reference5Ideal Cert.Reference5Ideal.Gen Cert.Reference5Ideal.Read Idealize.ShloMosaic
open Cert.InProj

abbrev Word := (⟨S1, .i32⟩ : BufTy).Contents (Elt Ideal)
abbrev Rows := (⟨S2048x1024, .bf16⟩ : BufTy).Contents (Elt Ideal)
abbrev Weight := (⟨S1024x4096, .f32⟩ : BufTy).Contents (Elt Ideal)
abbrev Blocks := (⟨S2048x4096, .f32⟩ : BufTy).Contents (Elt Ideal)

variable (x0 : Word) (x1 : Rows) (x2 : Weight) (x3 : Blocks)

theorem product_at (q : Fin 2048) (k : Fin 4096) :
    val_main_v8 (F := Ideal) x1 x2 (ix2 q k) = dotOf (fun q e => x1 (ix2 q e)) (fun e k => x2 (ix2 e k)) q k := by
  rw [val_main_v8_apply]
  refine Finset.sum_congr rfl fun e _ => congrArg₂ (fun a b : EReal => a * b) ?_ ?_
  · exact congrArg x1 (funext fun a => match a with | ⟨0, _⟩ => rfl | ⟨1, _⟩ => rfl)
  · exact congrArg x2 (funext fun a => match a with | ⟨0, _⟩ => rfl | ⟨1, _⟩ => rfl)

/-- A column's block, as a word. -/
theorem block_at (b : Fin 4) (k : Fin 1024) : val_main_v3 (F := Ideal) (ix2 0 (col b k)) = BitVec.ofNat 32 b.val := by
  rw [val_main_v3_apply, val_main_v2_apply, val_main_v1_apply, val_main_v0_apply]
  refine congrArg (BitVec.ofNat 32) ?_
  show (b.val * 1024 + k.val) / 1024 = b.val
  omega

instance : Subsingleton S1.Idx := ⟨fun a b => funext fun i => match i with | ⟨0, _⟩ => Subsingleton.elim (α := Fin 1) _ _⟩

theorem word_at (i : S1x4096.Idx) : val_main_v5 (F := Ideal) x0 i = x0 (ix1 0) := by
  rw [val_main_v5_apply]
  exact congrArg x0 (Subsingleton.elim (α := S1.Idx) _ _)

theorem mask_at (q : Fin 2048) (b : Fin 4) (k : Fin 1024) :
    val_main_call0_v0 (F := Ideal) x0 (ix2 q (col b k)) = IntOp.cmpi .eq (BitVec.ofNat 32 b.val) (x0 (ix1 0)) := by
  rw [val_main_call0_v0_apply, val_main_v6_apply]
  rw [show idx_main_call0_v0 (ix2 q (col b k)) = ix2 0 (col b k) from funext fun a => match a with | ⟨0, _⟩ => rfl | ⟨1, _⟩ => rfl]
  rw [block_at, word_at]

/-- The block the word names is the product, -/
theorem on_block (s : Fin 4) (h : x0 (ix1 0) = BitVec.ofNat 32 s.val) (q : Fin 2048) (k : Fin 1024) :
    val_main_v9 (F := Ideal) x0 x1 x2 x3 (ix2 q (col s k)) = dotOf (fun q e => x1 (ix2 q e)) (fun e k => x2 (ix2 e k)) q (col s k) := by
  rw [val_main_v9_apply, mask_at, h, product_at, IntOp.cmpi_eq.2 rfl]
  rfl

/-- and every other block stays as it was. -/
theorem off_block (s : Fin 4) (h : x0 (ix1 0) = BitVec.ofNat 32 s.val) (q : Fin 2048) {b : Fin 4} (hb : b ≠ s) (k : Fin 1024) :
    val_main_v9 (F := Ideal) x0 x1 x2 x3 (ix2 q (col b k)) = x3 (ix2 q (col b k)) := by
  have n : IntOp.cmpi .eq (BitVec.ofNat 32 b.val) (BitVec.ofNat 32 s.val) = 0#1 :=
    (by decide : ∀ b s : Fin 4, b ≠ s → IntOp.cmpi .eq (BitVec.ofNat 32 b.val) (BitVec.ofNat 32 s.val) = 0#1) b s hb
  rw [val_main_v9_apply, mask_at, h, n]
  rfl

end Cert.Reference5Ideal.Proj

end
-- ==== Proof.ProjEqual.lean ====
/- The input projection's block and its reference leave the same array. -/
module

public import proofs.«01_k».proof.Defs
public import proofs.«01_k».proof.Proof.ProjArrays
public import proofs.«01_k».proof.Proof.ProjRef
public import proofs.«01_k».proof.Proof.Gen.Reference5Ideal.Run

@[expose] public section

set_option maxRecDepth 16384

noncomputable section

namespace Cert.InProj

open Idealize.ShloMosaic Idealize.SL.Sem Idealize.ShloMosaic.TcCoe
open Cert.Reference5Ideal.Read Cert.Reference5Ideal.Proj

attribute [local instance] Cert.Pre_one_block.facts

/-- The block that the precondition gives. -/
theorem block_of_pre {m : (ℓ : Loc Cert.Kernel5Ideal.nD Cert.Kernel5Ideal.τ Cert.Kernel5Ideal.sig) → Buf (Elt Ideal) ℓ}
    (h : Cert.Pre_Kernel5Ideal m) (c : Dev Cert.Kernel5Ideal.nD) :
    ∃ s : Fin 4, m ((c.tc : Thread Cert.Kernel5Ideal.nD Cert.Kernel5Ideal.τ).loc Cert.Kernel5Ideal.main_arg0) (ix1 0) = BitVec.ofNat 32 s.val :=
  Cert.Pre_one_block.block _ _ _ _ _ (h c)

/-- Over equal arguments the results agree. -/
theorem agree (m : (ℓ : Loc Cert.Kernel5Ideal.nD Cert.Kernel5Ideal.τ Cert.Kernel5Ideal.sig) → Buf (Elt Ideal) ℓ)
    (hO : Cert.Kernel5Ideal.Gen.Ok m) (c : Dev Cert.Kernel5Ideal.nD) {s : Fin 4}
    (hs : m (((0 : Dev Cert.Kernel5Ideal.nD) : Thread Cert.Kernel5Ideal.nD Cert.Kernel5Ideal.τ).loc Cert.Kernel5Ideal.main_arg0) (ix1 0) = BitVec.ofNat 32 s.val)
    (x0 : Word) (x1 : Rows) (x2 : Weight) (x3 : Blocks) (h0 : x0 (ix1 0) = BitVec.ofNat 32 s.val)
    (h1 : (fun q e => x1 (ix2 q e)) = Cert.Kernel5Ideal.Proj.rows m c) (h2 : (fun e k => x2 (ix2 e k)) = Cert.Kernel5Ideal.Proj.weight m c)
    (h3 : x3 = m ((c : Thread Cert.Kernel5Ideal.nD Cert.Kernel5Ideal.τ).loc Cert.Kernel5Ideal.main_arg3)) :
    val_main_v9 (F := Ideal) x0 x1 x2 x3 = Cert.Kernel5Ideal.Proj.result m hO c := by
  have at_cols : ∀ (q : Fin 2048) (k : Fin 4096), val_main_v9 (F := Ideal) x0 x1 x2 x3 (ix2 q k) = Cert.Kernel5Ideal.Proj.result m hO c (ix2 q k) := by
    intro q k
    refine col_cases (P := fun k => val_main_v9 (F := Ideal) x0 x1 x2 x3 (ix2 q k) = Cert.Kernel5Ideal.Proj.result m hO c (ix2 q k)) (fun b k => ?_) k
    by_cases hb : b = s
    · subst hb
      refine (on_block x0 x1 x2 x3 b h0 q k).trans ?_
      rw [h1, h2]
      exact row_cases (P := fun q => dotOf (Cert.Kernel5Ideal.Proj.rows m c) (Cert.Kernel5Ideal.Proj.weight m c) q (col b k) =
        Cert.Kernel5Ideal.Proj.result m hO c (ix2 q (col b k))) (fun t r => (Cert.Kernel5Ideal.Proj.on_block m hO c hs t r k).symm) q
    · refine (off_block x0 x1 x2 x3 s h0 q hb k).trans ?_
      rw [h3]
      exact (Cert.Kernel5Ideal.Proj.off_block m hO c hs q hb k).symm
  refine funext fun i => ?_
  rw [show i = ix2 (i 0) (i 1) from funext fun a => match a with | ⟨0, _⟩ => rfl | ⟨1, _⟩ => rfl]
  exact at_cols _ _

/-- The results of the reference over the arguments of the kernel. -/
theorem equal : Cert.algebraic_Kernel5Ideal_Reference5Ideal := by
  intro m g m' g' hp ha
  obtain ⟨s, hs⟩ := block_of_pre hp 0
  have hO : Cert.Kernel5Ideal.Gen.Ok m := Cert.Kernel5Ideal.Proj.ok m hs
  refine ⟨fun c => Cert.Kernel5Ideal.Proj.result m hO c,
    (θ_run Cert.Kernel5Ideal.defs _ _).mono (fun r h c => ?_)
      (θ_run_and (Cert.Kernel5Ideal.Gen.run_main m g hO) (Cert.Kernel5Ideal.Gen.unchanged m g hO)), ?_⟩
  · exact ⟨(h.1 c).1 2, h.2 c⟩
  refine (θ_run Cert.Reference5Ideal.defs _ _).mono (fun r h c => ?_) (Cert.Reference5Ideal.Value.run (F := Ideal) m' g')
  obtain ⟨h0, k⟩ := h c
  obtain ⟨a0, a1, a2, a3, -⟩ := ha c
  obtain rfl : c = 0 := Subsingleton.elim _ _
  have e := agree m hO 0 hs (m' (((0 : Dev Cert.Reference5Ideal.nD).tc : Thread _ Cert.Reference5Ideal.τ).loc Cert.Reference5Ideal.main_arg0))
      (m' (((0 : Dev Cert.Reference5Ideal.nD).tc : Thread _ Cert.Reference5Ideal.τ).loc Cert.Reference5Ideal.main_arg1))
      (m' (((0 : Dev Cert.Reference5Ideal.nD).tc : Thread _ Cert.Reference5Ideal.τ).loc Cert.Reference5Ideal.main_arg2))
      (m' (((0 : Dev Cert.Reference5Ideal.nD).tc : Thread _ Cert.Reference5Ideal.τ).loc Cert.Reference5Ideal.main_arg3))
      (by rw [a0]; exact hs) (by rw [a1]; rfl) (by rw [a2]; rfl) a3
  exact ⟨h0.trans ((val_main_v9_eq _ _ _ _).trans e), k⟩

end Cert.InProj

end
-- ==== Proof.OwnWord.lean ====
/- The precondition of the input projection's own block read back: the word names one of the four blocks of columns, and so the window it
   places lies inside its array. -/
module

public import proofs.«01_k».proof.Defs
public import proofs.«01_k».proof.Pre_one_place
public import proofs.«01_k».proof.Proof.ProjWord
public import proofs.«01_k».proof.Proof.Gen.Kernel6.Frame
public import proofs.«01_k».proof.Proof.Gen.Kernel6Ideal.Frame
public import Idealize.ShloMosaic.Lib.Affine
public import Idealize.ShloMosaic.Lib.Pointwise

@[expose] public section

set_option maxRecDepth 16384

noncomputable section

namespace Cert.Pre_one_place

open Idealize.ShloMosaic

theorem facts : Facts where
  shapeCasts_S1_S_ := by decide

attribute [local instance] Cert.Pre_one_place.facts

instance : Subsingleton S1.Idx := ⟨fun a b => funext fun i => match i with | ⟨0, _⟩ => Subsingleton.elim (α := Fin 1) _ _⟩

theorem only {α : Type} (x : S1.Idx → α) (i : S_.Idx) : shapeCast S_ x Facts.shapeCasts_S1_S_ i = x (ix1 0) :=
  congrArg x (Subsingleton.elim _ _)

theorem block {F : FTy → Type} [FloatOps F] (a0 : IVec S1 32) (a1 : FVec F S2048x1024 .bf16) (a2 : FVec F S1024x1024 .f32)
    (h : fn (F := F) a0 a1 a2 = fun _ => 1#1) :
    ∃ s : Fin 4, a0 (ix1 0) = BitVec.ofNat 32 s.val := by
  have e := congrFun h ix0
  unfold fn at e
  obtain ⟨k0, k4⟩ := IntOp.andi_eq_one.1 e
  exact Cert.Pre_one_block.four _ ((congrArg (fun x => IntOp.cmpi .sge x 0#32) (only a0 ix0)).symm.trans k0) ((congrArg (fun x => IntOp.cmpi .slt x 4#32) (only a0 ix0)).symm.trans k4)

end Cert.Pre_one_place

namespace Cert.Kernel6.Own

open Cert.Kernel6 Cert.Kernel6.Gen Idealize.ShloMosaic Idealize.ShloMosaic.TcCoe

theorem word {F : FTy → Type} [FloatOps F] (m : (ℓ : Loc nD τ sig) → Buf (Elt F) ℓ) :
    (tbl m).at 0 (Rect.unit (s := S1) ![0] S1.size inb_S1_S1_0) numel1_S1 = m (((0 : Dev nD) : Thread nD τ).loc main_arg0) (ix1 0) :=
  (congrFun (V_main_arg0 m 0) _).trans (congrArg (m (((0 : Dev nD) : Thread nD τ).loc main_arg0)) (Subsingleton.elim (α := Cert.Pre_one_place.S1.Idx) _ _))

/-- Whichever block the word names, the result's window lies inside its array. -/
theorem ok {F : FTy → Type} [FloatOps F] (m : (ℓ : Loc nD τ sig) → Buf (Elt F) ℓ) {s : Fin 4}
    (h : m (((0 : Dev nD) : Thread nD τ).loc main_arg0) (ix1 0) = BitVec.ofNat 32 s.val) : Ok m := by
  have w := (word m).trans h
  have hn : (BitVec.ofNat 32 s.val).toNat ≤ 3 := (by decide : ∀ s : Fin 4, (BitVec.ofNat 32 s.val).toNat ≤ 3) s
  refine fun i => ⟨fun a => ?_, .inl rfl⟩
  match a with
  | ⟨0, _⟩ => exact (by decide : ∀ i : grid0.Coords, (cc0_transform_0 i 0 + 1) * 512 ≤ 2048) i
  | ⟨1, _⟩ =>
    show (((tbl m).at 0 (Rect.unit (s := S1) ![0] S1.size inb_S1_S1_0) numel1_S1 : BitVec 32).toNat + 1) * 1024 ≤ 4096
    rw [w]
    omega

end Cert.Kernel6.Own

namespace Cert.Kernel6Ideal.Own

open Cert.Kernel6Ideal Cert.Kernel6Ideal.Gen Idealize.ShloMosaic Idealize.ShloMosaic.TcCoe

theorem word {F : FTy → Type} [FloatOps F] (m : (ℓ : Loc nD τ sig) → Buf (Elt F) ℓ) :
    (tbl m).at 0 (Rect.unit (s := S1) ![0] S1.size inb_S1_S1_0) numel1_S1 = m (((0 : Dev nD) : Thread nD τ).loc main_arg0) (ix1 0) :=
  (congrFun (V_main_arg0 m 0) _).trans (congrArg (m (((0 : Dev nD) : Thread nD τ).loc main_arg0)) (Subsingleton.elim (α := Cert.Pre_one_place.S1.Idx) _ _))

/-- Whichever block the word names, the result's window lies inside its array. -/
theorem ok {F : FTy → Type} [FloatOps F] (m : (ℓ : Loc nD τ sig) → Buf (Elt F) ℓ) {s : Fin 4}
    (h : m (((0 : Dev nD) : Thread nD τ).loc main_arg0) (ix1 0) = BitVec.ofNat 32 s.val) : Ok m := by
  have w := (word m).trans h
  have hn : (BitVec.ofNat 32 s.val).toNat ≤ 3 := (by decide : ∀ s : Fin 4, (BitVec.ofNat 32 s.val).toNat ≤ 3) s
  refine fun i => ⟨fun a => ?_, .inl rfl⟩
  match a with
  | ⟨0, _⟩ => exact (by decide : ∀ i : grid0.Coords, (cc0_transform_0 i 0 + 1) * 512 ≤ 2048) i
  | ⟨1, _⟩ =>
    show (((tbl m).at 0 (Rect.unit (s := S1) ![0] S1.size inb_S1_S1_0) numel1_S1 : BitVec 32).toNat + 1) * 1024 ≤ 4096
    rw [w]
    omega

end Cert.Kernel6Ideal.Own

end
-- ==== Proof.OwnArrays.lean ====
/- The input projection's own block from its body to its array: every grid point leaves its rows of the columns that the word names. -/
module

public import proofs.«01_k».proof.Proof.ProjSpec
public import proofs.«01_k».proof.Proof.OwnWord
public import Idealize.ShloMosaic.Lib.WholeRead
public import Idealize.ShloMosaic.Lib.Pipeline.Value
public import Idealize.ShloMosaic.Lib.Pipeline.ValueKit.Point
public import Idealize.ShloMosaic.Lib.Claim

@[expose] public section

set_option maxRecDepth 16384

noncomputable section

namespace Cert.Kernel6Ideal.Own

open Cert.Kernel6Ideal Cert.Kernel6Ideal.Gen Idealize.ShloMosaic Idealize.ShloMosaic.TcCoe Idealize.SL.Sem
open Cert.InProj

/-! ## The body -/

/-- A row of the normalised input against a column of the device's own weight. -/
def own (h : Fin 2048 → Fin 1024 → EReal) (w : Fin 1024 → Fin 1024 → EReal) (q : Fin 2048) (k : Fin 1024) : EReal := ∑ e, h q e * w e k

theorem pay_at (H : Vec Ideal S512x1024 .bf16) (W : Vec Ideal S1024x1024 .f32) (r : Fin 512) (k : Fin 1024) :
    k0_pay1 (F := Ideal) H W (ix2 r k) = ∑ e : Fin 1024, (fun a b : EReal => a * b) (H (ix2 r e)) (W (ix2 e k)) := by
  pointwise [k0_pay1]

abbrev allRows : Rect S512x1024 := Rect.unit (s := S512x1024) ![0, 0] S512x1024.size inb_S512x1024_S512x1024_0_0
abbrev allWeight : Rect S1024x1024 := Rect.unit (s := S1024x1024) ![0, 0] S1024x1024.size inb_S1024x1024_S1024x1024_0_0

section Body

variable (c : Dev nD) (i : grid0.Coords) (m2 : Memref sig .tc .vmem S512x1024 .bf16) (h2 : m2.IsWhole) (m3 : Memref sig .tc .vmem S1024x1024 .f32)
  (h3 : m3.IsWhole) (m4 : Memref sig .tc .vmem S512x1024 .f32) (h4 : m4.IsWhole) (x0 : Vec Ideal S512x1024 .bf16) (x1 : Vec Ideal S1024x1024 .f32)
  (w : TbBuf0 (F := Ideal) c tbM0_0) (r : Fin 512) (e k : Fin 1024)

theorem rows_read : View.readAt (Elt Ideal) m2.view allRows.toLoadRect (h2.unread x0) (ix2 r e) = x0 (ix2 r e) := by
  refine (h2.readAt_unread _ _ _).trans (congrArg x0 (funext fun a => Fin.ext ?_))
  match a with
  | ⟨0, _⟩ => show 0 + 1 * r.val = r.val; omega
  | ⟨1, _⟩ => show 0 + 1 * e.val = e.val; omega

theorem weight_read : View.readAt (Elt Ideal) m3.view allWeight.toLoadRect (h3.unread x1) (ix2 e k) = x1 (ix2 e k) := by
  refine (h3.readAt_unread _ _ _).trans (congrArg x1 (funext fun a => Fin.ext ?_))
  match a with
  | ⟨0, _⟩ => show 0 + 1 * e.val = e.val; omega
  | ⟨1, _⟩ => show 0 + 1 * k.val = k.val; omega

theorem found : (kernelRun0_A (F := Ideal) c i m2 h2 m3 h3 m4 h4 x0 x1 w).1
    = [⟨allRows, k0_pay1 (F := Ideal) (View.readAt (Elt Ideal) m2.view allRows.toLoadRect (h2.unread x0))
        (View.readAt (Elt Ideal) m3.view allWeight.toLoadRect (h3.unread x1))⟩] := rfl

theorem stored : out0_A_2 c i m2 h2 m3 h3 m4 h4 x0 x1 w (ix2 r k) = ∑ e : Fin 1024, (fun a b : EReal => a * b) (x0 (ix2 r e)) (x1 (ix2 e k)) := by
  refine (congrFun ((View.read_writes_junk_eq_canon VO0_2 _).trans ((congrArg View.canon (found c i m2 h2 m3 h3 m4 h4 x0 x1 w)).trans
    (View.canon_cons_unit_lit _ _ _ (by decide)))) _).trans ((pay_at _ _ r k).trans ?_)
  exact Finset.sum_congr rfl fun e _ => congrArg₂ (fun a b : EReal => a * b) (rows_read m2 h2 x0 r e) (weight_read m3 h3 x1 e k)

end Body

/-! ## The windows -/

variable (m : (ℓ : Loc nD τ sig) → Buf (Elt Ideal) ℓ) (hO : Ok m) (c : Dev nD) {s : Fin 4}

/-- The rows and the device's own weight. -/
def rows (q : Fin 2048) (e : Fin 1024) : EReal := m ((c : Thread nD τ).loc main_arg1) (ix2 q e)
def weight (e k : Fin 1024) : EReal := m ((c : Thread nD τ).loc main_arg2) (ix2 e k)

theorem placed (hs : m (((0 : Dev nD) : Thread nD τ).loc main_arg0) (ix1 0) = BitVec.ofNat 32 s.val) :
    ((tbl m).at 0 (Rect.unit (s := S1) ![0] S1.size inb_S1_S1_0) numel1_S1 : BitVec 32).toNat = s.val := by
  rw [(word m).trans hs]
  exact (by decide : ∀ s : Fin 4, (BitVec.ofNat 32 s.val).toNat = s.val) s

theorem idx0 (t : Fin (cfgM m hO).N) : ((cfgM m hO).win 0).index t = ![t.val, 0] :=
  (by decide +kernel : ∀ t : Fin grid0.N, cc0_transform_0 (grid0.coords t) = ![t.val, 0]) t

theorem idx1 (t : Fin (cfgM m hO).N) : ((cfgM m hO).win 1).index t = ![0, 0] := rfl

theorem idx2 (hs : m (((0 : Dev nD) : Thread nD τ).loc main_arg0) (ix1 0) = BitVec.ofNat 32 s.val) (t : Fin (cfgM m hO).N) :
    ((cfgM m hO).win 2).index t = ![t.val, s.val] := by
  have e : cc0_transform_0 (grid0.coords t) 0 = t.val := (by decide +kernel : ∀ t : Fin grid0.N, cc0_transform_0 (grid0.coords t) 0 = t.val) t
  show ![cc0_transform_0 (grid0.coords t) 0, ((tbl m).at 0 (Rect.unit (s := S1) ![0] S1.size inb_S1_S1_0) numel1_S1 : BitVec 32).toNat] = ![t.val, s.val]
  rw [placed m hs, e]

set_option maxHeartbeats 1000000 in
theorem block0 (t : Fin (cfgM m hO).N) (r : Fin 512) (e : Fin 1024) : (iblk m hO c 0 t) (ix2 r e) = rows m c (row t r) e := by
  refine Eq.trans ?_ (congrFun (V_main_arg1 m c) (ix2 (row t r) e))
  blk_ext [iblk, idx0 m hO t]
  rfl

set_option maxHeartbeats 1000000 in
theorem block1 (t : Fin (cfgM m hO).N) (e k : Fin 1024) : (iblk m hO c 1 t) (ix2 e k) = weight m c e k := by
  refine Eq.trans ?_ (congrFun (V_main_arg2 m c) (ix2 e k))
  blk_ext [iblk, idx1 m hO t]

theorem left (t : Fin (cfgM m hO).N) (r : Fin 512) (k : Fin 1024) : outsAt0 m hO c t (ix2 r k) = own (rows m c) (weight m c) (row t r) k :=
  (stored c (grid0.coords t) (ms0_0 m hO t) (hs0_0 m hO t) (ms0_1 m hO t) (hs0_1 m hO t) (ms0_2 m hO t) (hs0_2 m hO t) _ _ (tbl m 0) r k).trans
    (Finset.sum_congr rfl fun e _ => congrArg₂ (fun a b : EReal => a * b) (block0 m hO c t r e) (block1 m hO c t e k))

/-! ## The array -/

theorem flushed (t : Fin (cfgM m hO).N) : (dats m hO 0 c).flushed 2 t = ((cfgM m hO).win 2).cut (grid0.coords t) (outsAt0 m hO c t) := by
  show ((cfgM m hO).win 2).cut (grid0.coords t) ((dats m hO 0 c).after 2 t) = _
  rw [after0_2]

/-- The array the grid leaves. -/
def result : Vec Ideal S2048x4096 .f32 := (dats m hO 0 c).arrAt 2 (cfgM m hO).N

section Placed

variable (hs : m (((0 : Dev nD) : Thread nD τ).loc main_arg0) (ix1 0) = BitVec.ofNat 32 s.val)
include hs

/-- Every grid point writes its rows back: the next one has others. -/
theorem flush (t : Fin (cfgM m hO).N) : ((cfgM m hO).win 2).flush t = true := by
  have hN : (cfgM m hO).N = 4 := rfl
  show (true && (decide (t.val + 1 = (cfgM m hO).N) || decide (∃ h : t.val + 1 < (cfgM m hO).N, ((cfgM m hO).win 2).index ⟨t.val + 1, h⟩ ≠ ((cfgM m hO).win 2).index t))) = true
  rw [Bool.true_and, Bool.or_eq_true]
  by_cases h : t.val + 1 = (cfgM m hO).N
  · exact .inl (decide_eq_true h)
  · refine .inr (decide_eq_true ⟨by have := t.isLt; omega, fun e => ?_⟩)
    rw [idx2 m hO hs, idx2 m hO hs] at e
    have k : t.val + 1 = t.val := congrFun e 0
    omega

theorem disjoint : ∀ t t' : Fin (cfgM m hO).N, ((cfgM m hO).win 2).flush t = true → ((cfgM m hO).win 2).flush t' = true → t ≠ t' →
    Disjoint (((cfgM m hO).win 2).blk t).view.set (((cfgM m hO).win 2).blk t').view.set :=
  fun t t' _ _ hne => ((cfgM m hO).win 2).disjoint_blk fun h => hne (Fin.ext (congrFun ((idx2 m hO hs t).symm.trans (h.trans (idx2 m hO hs t'))) 0))

theorem blocks (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (disjoint m hO hs) (cfgM m hO).N t t.isLt (flush m hO hs t)

set_option maxHeartbeats 1000000 in
theorem read_at (f : Vec Ideal S2048x4096 .f32) (t : Fin (cfgM m hO).N) (r : Fin 512) (k : Fin 1024) :
    f (ix2 (row t r) (col s k)) = (((cfgM m hO).win 2).blk t).view.read (Elt Ideal) f (ix2 r k) := by
  refine congrArg f ?_
  blk_ext [idx2 m hO hs t]
  · rfl
  · rfl

/-- The block the word names is the product. -/
theorem on_block (t : Fin 4) (r : Fin 512) (k : Fin 1024) :
    result m hO c (ix2 (row t r) (col s k)) = own (rows m c) (weight m c) (row t r) k :=
  (read_at m hO hs (result m hO c) t r k).trans ((congrFun (blocks m hO c hs t) (ix2 r k)).trans
    ((congrFun (flushed m hO c t) _).trans (left m hO c t r k)))

end Placed

end Cert.Kernel6Ideal.Own

end
-- ==== Proof.OwnEqual.lean ====
/- The own block of the input projection and its reference agree where the word says the block lies. -/
module

public import proofs.«01_k».proof.Defs
public import proofs.«01_k».proof.On_own_block
public import proofs.«01_k».proof.Proof.OwnArrays
public import proofs.«01_k».proof.Proof.Gen.Reference6Ideal.Run
public import proofs.«01_k».proof.Proof.Gen.Reference6Ideal.Read

@[expose] public section

set_option maxRecDepth 16384

noncomputable section

namespace Cert.On_own_block

open Idealize.ShloMosaic Cert.InProj

theorem facts : Facts where
  bcast_S4_S4x1024_0 := by decide
  shapeCasts_S4x1024_S4096 := by decide
  bcast_S4096_S1x4096_1 := by decide
  shapeCasts_S1_S_ := by decide
  bcast_S_S1x4096 := by decide
  bcast_S1x4096_S2048x4096_0_1 := by decide

attribute [local instance] Cert.On_own_block.facts

/-- Column `col b k` is asked about when the word is `b`. -/
theorem fn_at {F : FTy → Type} [FloatOps F] (a0 : IVec S1 32) (a1 : FVec F S2048x1024 .bf16) (a2 : FVec F S1024x1024 .f32)
    (q : Fin 2048) (b : Fin 4) (k : Fin 1024) :
    fn (F := F) a0 a1 a2 (ix2 q (col b k)) = IntOp.cmpi .eq (BitVec.ofNat 32 b.val) (a0 (ix1 0)) := by
  have hw : shapeCast S_ a0 Facts.shapeCasts_S1_S_ = fun _ => a0 (ix1 0) :=
    funext fun i => congrArg a0 (funext fun a => match a with | ⟨0, _⟩ => Subsingleton.elim (α := Fin 1) _ _)
  unfold fn
  rw [hw]
  generalize a0 (ix1 0) = w
  pointwise
  rw [show (col b k).val / 1024 = b.val by simp only [col]; omega]

end Cert.On_own_block

namespace Cert.InOwn

open Idealize.ShloMosaic Idealize.SL.Sem Idealize.ShloMosaic.TcCoe
open Cert.Reference6Ideal.Read Cert.InProj

attribute [local instance] Cert.Pre_one_place.facts Cert.On_own_block.facts

theorem words : ∀ s b : Fin 4, IntOp.cmpi .eq (BitVec.ofNat 32 b.val) (BitVec.ofNat 32 s.val) = 1#1 → b = s := by decide

/-- The reference lays the product out four times. -/
theorem reference_at (x1 : (⟨Cert.Reference6Ideal.S2048x1024, .bf16⟩ : BufTy).Contents (Elt Ideal))
    (x2 : (⟨Cert.Reference6Ideal.S1024x1024, .f32⟩ : BufTy).Contents (Elt Ideal)) (q : Fin 2048) (b : Fin 4) (k : Fin 1024) :
    val_main_v4 (F := Ideal) x1 x2 (ix2 q (col b k)) = Cert.Kernel6Ideal.Own.own (fun q e => x1 (ix2 q e)) (fun e k => x2 (ix2 e k)) q k := by
  rw [val_main_v4_apply, val_main_v3_apply, val_main_v2_apply]
  have e : idx_main_v2 (idx_main_v3 (idx_main_v4 (ix2 q (col b k)))) = ix2 q k := by
    refine funext fun a => Fin.ext ?_
    have := b.isLt
    have := k.isLt
    have := q.isLt
    match a with
    | ⟨0, _⟩ => simp only [idx_main_v2, idx_main_v3, idx_main_v4, col, ix2]; omega
    | ⟨1, _⟩ => simp only [idx_main_v2, idx_main_v3, idx_main_v4, col, ix2]; omega
  rw [e, val_main_v1_apply]
  refine Finset.sum_congr rfl fun d _ => congrArg₂ (fun a b : EReal => a * b) ?_ ?_
  · rw [val_main_v0_apply]
    exact congrArg x1 (funext fun a => match a with | ⟨0, _⟩ => rfl | ⟨1, _⟩ => rfl)
  · exact congrArg x2 (funext fun a => match a with | ⟨0, _⟩ => rfl | ⟨1, _⟩ => rfl)

/-- The results of the reference over the arguments of the kernel, at the block that the word names. -/
theorem equal : Cert.algebraic_Kernel6Ideal_Reference6Ideal_on_own_block := by
  intro m g m' g' hp ha
  obtain ⟨s, hs⟩ := Cert.Pre_one_place.block _ _ _ (hp 0)
  have hO : Cert.Kernel6Ideal.Gen.Ok m := Cert.Kernel6Ideal.Own.ok m hs
  refine ⟨fun c => Cert.Kernel6Ideal.Own.result m hO c,
    (θ_run Cert.Kernel6Ideal.defs _ _).mono (fun r h c => ?_)
      (θ_run_and (Cert.Kernel6Ideal.Gen.run_main m g hO) (Cert.Kernel6Ideal.Gen.unchanged m g hO)), ?_⟩
  · exact ⟨fun i _ => congrFun ((h.1 c).1 2) i, h.2 c⟩
  refine (θ_run Cert.Reference6Ideal.defs _ _).mono (fun r h c => ?_) (Cert.Reference6Ideal.Value.run (F := Ideal) m' g')
  obtain ⟨h0, k⟩ := h c
  obtain ⟨a0, a1, a2⟩ := ha c
  obtain rfl : c = 0 := Subsingleton.elim _ _
  refine ⟨fun i hi => ?_, k⟩
  obtain ⟨q, j, rfl⟩ : ∃ (q : Fin 2048) (j : Fin 4096), i = ix2 q j :=
    ⟨i 0, i 1, funext fun a => match a with | ⟨0, _⟩ => rfl | ⟨1, _⟩ => rfl⟩
  obtain ⟨b, k, rfl⟩ : ∃ (b : Fin 4) (k : Fin 1024), j = col b k := col_cases (P := fun j => ∃ (b : Fin 4) (k : Fin 1024), j = col b k) (fun b k => ⟨b, k, rfl⟩) j
  rw [Cert.On_own_block.fn_at] at hi
  obtain rfl : b = s := words s b ((congrArg (IntOp.cmpi .eq _) hs).symm.trans hi)
  refine (congrFun (h0.trans (val_main_v4_eq _ _)) _).trans ((reference_at _ _ q b k).trans ?_)
  rw [a1, a2]
  exact row_cases (P := fun q => Cert.Kernel6Ideal.Own.own _ _ q k = Cert.Kernel6Ideal.Own.result m hO 0 (ix2 q (col b k)))
    (fun t r => (Cert.Kernel6Ideal.Own.on_block m hO 0 hs t r k).symm) q

end Cert.InOwn

end
-- ==== Proof.FwdSpec.lean ====
/- The output of neighbourhood attention for one head, and the same output from a block's band of keys. -/
module

public import proofs.«01_k».proof.Proof.Spec

@[expose] public section

noncomputable section

namespace Cert.Attn

open Idealize.ShloMosaic

/-- The values under the weights of a query. -/
def Head.out (H : Head) (q : Fin 2048) (d : Fin 64) : EReal := ∑ k, H.p q (latKey k) * H.V k d + ∑ l, H.p q (ctx l) * H.D l d

variable {H : Head} (hH : H.Finite)
include hH

/-- The keys outside the band of a query's block weigh nothing. -/
theorem out_block {b : ℕ} (hb : b < 16) (u : Fin 128) (d : Fin 64) :
    H.out ⟨128 * b + u, by omega⟩ d
      = ∑ j : Fin 576, H.p ⟨128 * b + u, by omega⟩ (lat (first b) (first_le b) j) * H.V ⟨first b + j, by have := first_le b; omega⟩ d
        + ∑ l : Fin 256, H.p ⟨128 * b + u, by omega⟩ (ctx l) * H.D l d :=
  congrArg₂ (fun a b : EReal => a + b)
    (sum_inside (first b) (first_le b) _ fun k hk => by rw [p_off hH hb u k hk, zero_mul]) rfl

end Cert.Attn

end
-- ==== Proof.FwdBody.lean ====
/- The forward attention's body: block of queries by block of queries it stores the values under the weights of the block, and so
   one head's output. -/
module

public import proofs.«01_k».proof.Proof.FwdSpec
public import proofs.«01_k».proof.Proof.Grads
public import proofs.«01_k».proof.Proof.Gen.Kernel7Ideal.Value

@[expose] public section

set_option maxRecDepth 16384

noncomputable section

namespace Cert.Kernel7Ideal.Attn

open Cert.Kernel7Ideal Cert.Kernel7Ideal.Gen Idealize.ShloMosaic Idealize.ShloMosaic.TcCoe
open Cert.Attn (Head top2 inv2 wLat wCtx wLat_eq wCtx_eq win lat ctx first tile first_le tile_lt slot_band score_off out_block)
open Cert.KernelIdeal.Attn (qrect krect trect inb_q inside inside_iff canon_rows negInf)

/-! ## The stores -/

section Stores

variable {F : FTy → Type} [FloatOps F]

/-- What the body's seven input windows hold: the rotated and the plain queries, the keys, the values, the context's keys and values
    and the masked bias tiles. -/
structure In (F : FTy → Type) where
  x0 : Vec F S1x2048x64 .bf16
  x1 : Vec F S1x2048x64 .bf16
  x2 : Vec F S1x2048x64 .bf16
  x3 : Vec F S1x2048x64 .bf16
  x4 : Vec F S1x256x64 .bf16
  x5 : Vec F S1x256x64 .bf16
  x6 : Vec F S1x5x576x128 .f32

/-- A whole context window. -/
abbrev crect : Rect S1x256x64 := Rect.unit (s := S1x256x64) ![0, 0, 0] S1x256x64.size inb_S1x256x64_S1x256x64_0_0_0

/-- The rows of a window that block `b` reads. -/
def qrows (x : Vec F S1x2048x64 .bf16) {b : ℕ} (h : b < 16) : Vec F S1x128x64 .bf16 := View.ld x (qrect h)
def krows (x : Vec F S1x2048x64 .bf16) (b : ℕ) : Vec F S1x576x64 .bf16 := View.ld x (krect b)
def crows (x : Vec F S1x256x64 .bf16) : Vec F S1x256x64 .bf16 := View.ld x crect
def trows (x : Vec F S1x5x576x128 .f32) {b : ℕ} (h : b < 16) : Vec F S1x1x576x128 .f32 := View.ld x (trect h)

variable (A : In F)

/-- The scores of block `b` against its band of keys and against the context's keys. -/
def In.sLat {b : ℕ} (h : b < 16) : FVec F S576x128 .f32 := k0_pay5 (krows A.x2 b) (qrows A.x0 h) (trows A.x6 h)
def In.sCtx {b : ℕ} (h : b < 16) : FVec F S256x128 .f32 := k0_pay6 (crows A.x4) (qrows A.x1 h)

/-- The stores, up to block `n`. -/
def In.list : (n : ℕ) → n ≤ 16 → List (View.Piece (Elt F) S1x2048x64 .f32)
  | 0, _ => []
  | n + 1, h => ⟨qrect h, k0_pay2 (k0_pay4 (crows A.x5)) (k0_pay13 (A.sLat h) (A.sCtx h)) (k0_pay14 (A.sLat h) (A.sCtx h)) (krows A.x3 n)⟩
      :: In.list n (Nat.le_of_lt h)

theorem stored : out0_7 A.x0 A.x1 A.x2 A.x3 A.x4 A.x5 A.x6 = View.canon (A.list 16 (le_refl _)) := rfl

end Stores

/-! ## Its arithmetic at its coordinates -/

theorem sLat_pay (K : Vec Ideal S1x576x64 .bf16) (Q : Vec Ideal S1x128x64 .bf16) (T : Vec Ideal S1x1x576x128 .f32) (j : Fin 576) (u : Fin 128) :
    k0_pay5 K Q T (ix2 j u) = ∑ d : Fin 64, K (ix3 0 j d) * Q (ix3 0 u d) + T (ix4 0 0 j u) := by
  pointwise [k0_pay5]

theorem sCtx_pay (C : Vec Ideal S1x256x64 .bf16) (Q : Vec Ideal S1x128x64 .bf16) (l : Fin 256) (u : Fin 128) :
    k0_pay6 C Q (ix2 l u) = ∑ d : Fin 64, C (ix3 0 l d) * Q (ix3 0 u d) := by
  pointwise [k0_pay6, k0_pay3]

section Pays

variable (s : FVec Ideal S576x128 .f32) (c : FVec Ideal S256x128 .f32) (u : Fin 128)

theorem top_pay : k0_pay9 s c (ix2 0 u) = top2 (fun j => s (ix2 j u)) (fun l => c (ix2 l u)) := by
  pointwise [k0_pay9]
  simp only [negInf]
  rfl

theorem expLat_pay (j : Fin 576) : k0_pay10 s c (ix2 j u) = Ideal.exp (s (ix2 j u) - top2 (fun j => s (ix2 j u)) (fun l => c (ix2 l u))) := by
  rw [← top_pay]
  pointwise [k0_pay10]

theorem expCtx_pay (l : Fin 256) : k0_pay11 s c (ix2 l u) = Ideal.exp (c (ix2 l u) - top2 (fun j => s (ix2 j u)) (fun l => c (ix2 l u))) := by
  rw [← top_pay]
  pointwise [k0_pay11]

theorem inv_pay : k0_pay12 s c (ix2 0 u) = inv2 (fun j => s (ix2 j u)) (fun l => c (ix2 l u)) := by
  simp only [inv2, ← expLat_pay, ← expCtx_pay]
  pointwise [k0_pay12]

theorem wLat_pay (j : Fin 576) : k0_pay13 s c (ix2 j u) = wLat (fun j => s (ix2 j u)) (fun l => c (ix2 l u)) j := by
  simp only [wLat, ← expLat_pay, ← inv_pay]
  pointwise [k0_pay13]

theorem wCtx_pay (l : Fin 256) : k0_pay14 s c (ix2 l u) = wCtx (fun j => s (ix2 j u)) (fun l => c (ix2 l u)) l := by
  simp only [wCtx, ← expCtx_pay, ← inv_pay]
  pointwise [k0_pay14]

end Pays

theorem out_pay (D : Vec Ideal S1x256x64 .bf16) (p : FVec Ideal S576x128 .bf16) (q : FVec Ideal S256x128 .bf16) (W : Vec Ideal S1x576x64 .bf16)
    (z : Fin 1) (u : Fin 128) (d : Fin 64) :
    k0_pay2 (k0_pay4 D) p q W (ix3 z u d) = ∑ j : Fin 576, p (ix2 j u) * W (ix3 0 j d) + ∑ l : Fin 256, q (ix2 l u) * D (ix3 0 l d) := by
  pointwise [k0_pay2, k0_pay4]

/-! ## The loads at their coordinates -/

section Loads

variable {F : FTy → Type} [FloatOps F]

theorem qrows_at (x : Vec F S1x2048x64 .bf16) {b : ℕ} (h : b < 16) (z : Fin 1) (u : Fin 128) (d : Fin 64) :
    qrows x h (ix3 z u d) = x (ix3 0 ⟨128 * b + u, by omega⟩ d) := by
  refine congrArg x (funext fun a => Fin.ext ?_)
  match a with
  | ⟨0, _⟩ => show 0 + 1 * z.val = 0; omega
  | ⟨1, _⟩ => show 128 * b + 1 * u.val = 128 * b + u.val; omega
  | ⟨2, _⟩ => show 0 + 1 * d.val = d.val; omega

theorem krows_at (x : Vec F S1x2048x64 .bf16) (b : ℕ) (z : Fin 1) (j : Fin 576) (d : Fin 64) :
    krows x b (ix3 z j d) = x (ix3 0 ⟨first b + j, by have := first_le b; omega⟩ d) := by
  refine congrArg x (funext fun a => Fin.ext ?_)
  match a with
  | ⟨0, _⟩ => show 0 + 1 * z.val = 0; omega
  | ⟨1, _⟩ => show first b + 1 * j.val = first b + j.val; omega
  | ⟨2, _⟩ => show 0 + 1 * d.val = d.val; omega

theorem crows_at (x : Vec F S1x256x64 .bf16) (z : Fin 1) (l : Fin 256) (d : Fin 64) : crows x (ix3 z l d) = x (ix3 0 l d) := by
  refine congrArg x (funext fun a => Fin.ext ?_)
  match a with
  | ⟨0, _⟩ => show 0 + 1 * z.val = 0; omega
  | ⟨1, _⟩ => show 0 + 1 * l.val = l.val; omega
  | ⟨2, _⟩ => show 0 + 1 * d.val = d.val; omega

theorem trows_at (x : Vec F S1x5x576x128 .f32) {b : ℕ} (h : b < 16) (y z : Fin 1) (j : Fin 576) (u : Fin 128) :
    trows x h (ix4 y z j u) = x (ix4 0 ⟨tile b, tile_lt h⟩ j u) := by
  refine congrArg x (funext fun a => Fin.ext ?_)
  match a with
  | ⟨0, _⟩ => show 0 + 1 * y.val = 0; omega
  | ⟨1, _⟩ => show tile b + 1 * z.val = tile b; omega
  | ⟨2, _⟩ => show 0 + 1 * j.val = j.val; omega
  | ⟨3, _⟩ => show 0 + 1 * u.val = u.val; omega

end Loads

/-! ## One head -/

/-- The seven input windows hold the arguments of head `H`, its bias tiles masked. -/
structure In.IsHead (A : In Ideal) (H : Head) : Prop where
  Q : ∀ q d, A.x0 (ix3 0 q d) = H.Q q d
  P : ∀ q d, A.x1 (ix3 0 q d) = H.P q d
  K : ∀ q d, A.x2 (ix3 0 q d) = H.K q d
  V : ∀ q d, A.x3 (ix3 0 q d) = H.V q d
  C : ∀ l d, A.x4 (ix3 0 l d) = H.C l d
  D : ∀ l d, A.x5 (ix3 0 l d) = H.D l d
  T : ∀ t j u, A.x6 (ix4 0 t j u) = if inside t.val j.val u.val then H.T t j u else ⊥

namespace In.IsHead

variable {A : In Ideal} {H : Head} (hA : A.IsHead H)
include hA

theorem lat_at {b : ℕ} (hb : b < 16) (u : Fin 128) (j : Fin 576) :
    A.sLat hb (ix2 j u) = H.score ⟨128 * b + u, by omega⟩ (lat (first b) (first_le b) j) := by
  have hf := first_le b
  have hq : (128 * b + u.val) / 128 = b := by omega
  have hm : (128 * b + u.val) % 128 = u := by omega
  rw [In.sLat, sLat_pay]
  simp only [krows_at, qrows_at, trows_at]
  unfold Head.score
  rw [dif_pos (show (lat (first b) (first_le b) j).val < 2048 by simp only [lat]; omega)]
  simp only [hA.Q, hA.K, hA.T]
  have e0 : win (128 * b + u) (lat (first b) (first_le b) j).val ↔ inside (tile b) j u := (inside_iff hb j u).symm
  simp only [e0]
  split
  · refine congrArg₂ (· + ·) (Finset.sum_congr rfl fun d _ => mul_comm _ _) ?_
    have key : ∀ (t t' : Fin 5) (i i' : Fin 576) (v v' : Fin 128), t = t' → i = i' → v = v' → H.T t i v = H.T t' i' v' := by
      rintro _ _ _ _ _ _ rfl rfl rfl; rfl
    exact key _ _ _ _ _ _ (Fin.ext (congrArg tile hq).symm) (slot_band u j).symm (Fin.ext hm.symm)
  · exact EReal.add_bot _

theorem ctx_at {b : ℕ} (hb : b < 16) (u : Fin 128) (l : Fin 256) : A.sCtx hb (ix2 l u) = H.score ⟨128 * b + u, by omega⟩ (ctx l) := by
  rw [In.sCtx, sCtx_pay]
  simp only [crows_at, qrows_at]
  unfold Head.score
  rw [dif_neg (show ¬ (ctx l).val < 2048 by simp only [ctx]; omega)]
  simp only [hA.P, hA.C]
  refine Finset.sum_congr rfl fun d _ => (mul_comm _ _).trans (congrArg _ ?_)
  exact congrArg (H.C · d) (Fin.ext (by simp only [ctx]; omega))

variable (hH : H.Finite)
include hH

theorem wLat_at {b : ℕ} (hb : b < 16) (u : Fin 128) (j : Fin 576) :
    k0_pay13 (A.sLat hb) (A.sCtx hb) (ix2 j u) = H.p ⟨128 * b + u, by omega⟩ (lat (first b) (first_le b) j) := by
  rw [wLat_pay, funext (hA.lat_at hb u), funext (hA.ctx_at hb u)]
  exact wLat_eq (hH.row _) (first_le b) (score_off hb u) j

theorem wCtx_at {b : ℕ} (hb : b < 16) (u : Fin 128) (l : Fin 256) :
    k0_pay14 (A.sLat hb) (A.sCtx hb) (ix2 l u) = H.p ⟨128 * b + u, by omega⟩ (ctx l) := by
  rw [wCtx_pay, funext (hA.lat_at hb u), funext (hA.ctx_at hb u)]
  exact wCtx_eq (hH.row _) (first_le b) (score_off hb u) l

theorem list_at : ∀ (n : ℕ) (hn : n ≤ 16) (b : ℕ) (hb : b < n) (z : Fin 1) (u : Fin 128) (d : Fin 64),
    View.canon (A.list n hn) (ix3 z ⟨128 * b + u, by omega⟩ d) = H.out ⟨128 * b + u, by omega⟩ d
  | 0, _, b, hb, _, _, _ => absurd hb (Nat.not_lt_zero b)
  | n + 1, hn, b, hb, z, u, d => by
    rw [In.list]
    refine (canon_rows (inb_q hn) _ _ z ⟨128 * b + u, by omega⟩ d).trans ?_
    split
    · rename_i h
      obtain rfl : b = n := by have := h.1; simp only at this; omega
      have hu : (⟨128 * b + u.val - 128 * b, by omega⟩ : Fin 128) = u := Fin.ext (by simp only; omega)
      rw [out_pay, out_block hH hn]
      simp only [hu, hA.wLat_at hH, hA.wCtx_at hH, krows_at, crows_at, hA.V, hA.D]
    · rename_i h
      refine list_at n _ b ?_ z u d
      simp only at h
      omega

theorem out (z : Fin 1) (q : Fin 2048) (d : Fin 64) : out0_7 A.x0 A.x1 A.x2 A.x3 A.x4 A.x5 A.x6 (ix3 z q d) = H.out q d := by
  have e : q = ⟨128 * (q / 128) + (⟨q % 128, by omega⟩ : Fin 128), by simp only; omega⟩ := Fin.ext (by simp only; omega)
  rw [stored, e]
  exact hA.list_at hH 16 le_rfl _ (by omega) z _ d

end In.IsHead

end Cert.Kernel7Ideal.Attn

end
-- ==== Proof.FwdArrays.lean ====
/- The forward attention from its body to its array: at every head the input windows hold that head's arguments and its masked bias
   tiles, and the array holds that head's output. -/
module

public import proofs.«01_k».proof.Proof.FwdBody
public import proofs.«01_k».proof.Proof.Arrays
public import Idealize.ShloMosaic.Lib.Pipeline.ValueKit.Point
public import Idealize.ShloMosaic.Lib.Claim

@[expose] public section

set_option maxRecDepth 16384

noncomputable section

namespace Cert.Kernel7Ideal.Attn

open Cert.Kernel7Ideal Cert.Kernel7Ideal.Gen Cert.Kernel7Ideal.Value Idealize.ShloMosaic Idealize.ShloMosaic.TcCoe Idealize.SL.Sem
open Cert.Attn (Head)
open Cert.KernelIdeal.Attn (inside inside_word negInf')

variable (m : (ℓ : Loc nD τ sig) → Buf (Elt Ideal) ℓ) (c : Dev nD)

/-- The head of a grid point, and the grid point of a head. -/
def headAt (t : Fin cfg0.N) : Fin 8 := ⟨t.val, t.isLt⟩
def point (h : Fin 8) : Fin cfg0.N := ⟨h.val, h.isLt⟩

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![t.val, 0, 0] :=
  (by decide +kernel : ∀ t : Fin grid0.N, win0_3.index t = ![t.val, 0, 0])
theorem idx4 : ∀ t : Fin cfg0.N, win0_4.index t = ![t.val, 0, 0] :=
  (by decide +kernel : ∀ t : Fin grid0.N, win0_4.index t = ![t.val, 0, 0])
theorem idx5 : ∀ t : Fin cfg0.N, win0_5.index t = ![t.val, 0, 0] :=
  (by decide +kernel : ∀ t : Fin grid0.N, win0_5.index t = ![t.val, 0, 0])
theorem idx6 : ∀ t : Fin cfg0.N, win0_6.index t = ![t.val, 0, 0, 0] :=
  (by decide +kernel : ∀ t : Fin grid0.N, win0_6.index t = ![t.val, 0, 0, 0])
theorem idx7 : ∀ t : Fin cfg0.N, win0_7.index t = ![t.val, 0, 0] :=
  (by decide +kernel : ∀ t : Fin grid0.N, win0_7.index t = ![t.val, 0, 0])

/-- The windows' blocks at a grid point. -/
def inAt (t : Fin cfg0.N) : In Ideal where
  x0 := iblk m c 0 t
  x1 := iblk m c 1 t
  x2 := iblk m c 2 t
  x3 := iblk m c 3 t
  x4 := iblk m c 4 t
  x5 := iblk m c 5 t
  x6 := iblk m c 6 t

/-- The arguments at a head. A head's incoming gradient plays no part here; the queries stand in its place. -/
def headOf (h : Fin 8) : Head where
  Q q d := m ((c : Thread nD τ).loc main_arg0) (ix3 h q d)
  P q d := m ((c : Thread nD τ).loc main_arg1) (ix3 h q d)
  K q d := m ((c : Thread nD τ).loc main_arg2) (ix3 h q d)
  V q d := m ((c : Thread nD τ).loc main_arg3) (ix3 h q d)
  C l d := m ((c : Thread nD τ).loc main_arg4) (ix3 h l d)
  D l d := m ((c : Thread nD τ).loc main_arg5) (ix3 h l d)
  T t j u := m ((c : Thread nD τ).loc main_arg6) (ix4 h t j u)
  G q d := m ((c : Thread nD τ).loc main_arg0) (ix3 h q d)

set_option maxHeartbeats 4000000 in
/-- The host's masked bias tiles: minus infinity outside the window. -/
theorem tiles (t : Fin 5) (h : Fin 8) (j : Fin 576) (u : Fin 128) :
    (V m c main_v29 : Vec Ideal S8x5x576x128 .f32) (ix4 h t j u)
      = if inside t.val j.val u.val then (headOf m c h).T t j u else ⊥ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise
  simp only [id_eq, constantI_apply]
  refine (congrArg (fun w => Scalar.select w _ _) (inside_word t j u _ _ ?_ ?_)).trans ?_
  · fin_cases t <;> rfl
  · fin_cases t <;> rfl
  · rw [WordCmp.select_ofBool, negInf']
    simp only [decide_eq_true_eq]
    rfl

set_option maxHeartbeats 1000000 in
theorem block0 (t : Fin cfg0.N) (q : Fin 2048) (d : Fin 64) :
    (iblk m c 0 t) (ix3 0 q d) = m ((c : Thread nD τ).loc main_arg0) (ix3 (headAt t) q d) := by
  refine Eq.trans ?_ (congrFun (V_main_arg0 m c) (ix3 (headAt t) q d))
  blk_ext [iblk, idx0 t]
  rfl

set_option maxHeartbeats 1000000 in
theorem block1 (t : Fin cfg0.N) (q : Fin 2048) (d : Fin 64) :
    (iblk m c 1 t) (ix3 0 q d) = m ((c : Thread nD τ).loc main_arg1) (ix3 (headAt t) q d) := by
  refine Eq.trans ?_ (congrFun (V_main_arg1 m c) (ix3 (headAt t) q d))
  blk_ext [iblk, idx1 t]
  rfl

set_option maxHeartbeats 1000000 in
theorem block2 (t : Fin cfg0.N) (q : Fin 2048) (d : Fin 64) :
    (iblk m c 2 t) (ix3 0 q d) = m ((c : Thread nD τ).loc main_arg2) (ix3 (headAt t) q d) := by
  refine Eq.trans ?_ (congrFun (V_main_arg2 m c) (ix3 (headAt t) q d))
  blk_ext [iblk, idx2 t]
  rfl

set_option maxHeartbeats 1000000 in
theorem block3 (t : Fin cfg0.N) (q : Fin 2048) (d : Fin 64) :
    (iblk m c 3 t) (ix3 0 q d) = m ((c : Thread nD τ).loc main_arg3) (ix3 (headAt t) q d) := by
  refine Eq.trans ?_ (congrFun (V_main_arg3 m c) (ix3 (headAt t) q d))
  blk_ext [iblk, idx3 t]
  rfl

set_option maxHeartbeats 1000000 in
theorem block4 (t : Fin cfg0.N) (l : Fin 256) (d : Fin 64) :
    (iblk m c 4 t) (ix3 0 l d) = m ((c : Thread nD τ).loc main_arg4) (ix3 (headAt t) l d) := by
  refine Eq.trans ?_ (congrFun (V_main_arg4 m c) (ix3 (headAt t) l d))
  blk_ext [iblk, idx4 t]
  rfl

set_option maxHeartbeats 1000000 in
theorem block5 (t : Fin cfg0.N) (l : Fin 256) (d : Fin 64) :
    (iblk m c 5 t) (ix3 0 l d) = m ((c : Thread nD τ).loc main_arg5) (ix3 (headAt t) l d) := by
  refine Eq.trans ?_ (congrFun (V_main_arg5 m c) (ix3 (headAt t) l d))
  blk_ext [iblk, idx5 t]
  rfl

set_option maxHeartbeats 1000000 in
theorem block6 (t : Fin cfg0.N) (s : Fin 5) (j : Fin 576) (u : Fin 128) :
    (iblk m c 6 t) (ix4 0 s j u) = if inside s.val j.val u.val then (headOf m c (headAt t)).T s j u else ⊥ := by
  refine Eq.trans ?_ (tiles m c s (headAt t) j u)
  blk_ext [iblk, idx6 t]
  rfl

set_option maxHeartbeats 4000000 in
/-- The windows of a grid point hold the arguments of its head. -/
theorem isHead (t : Fin cfg0.N) : (inAt m c t).IsHead (headOf m c (headAt t)) :=
  ⟨block0 m c t, block1 m c t, block2 m c t, block3 m c t, block4 m c t, block5 m c t, block6 m c t⟩

set_option maxHeartbeats 4000000 in
theorem arr (h : Fin 8) (hH : (headOf m c h).Finite) (q : Fin 2048) (d : Fin 64) :
    ((dats m 0 c).arrAt 7 cfg0.N : Vec Ideal S8x2048x64 .f32) (ix3 h q d) = (headOf m c h).out q d := by
  refine Eq.trans ?_ ((congrFun (blocks7 m c (point h) (flush0_7 (point h))) (ix3 0 q d)).trans
    ((congrFun (flushed7 m c (point h)) _).trans ((isHead m c (point h)).out hH 0 q d)))
  refine congrArg ((dats m 0 c).arrAt 7 cfg0.N) ?_
  blk_ext [idx7 (point h)]
  rfl

end Cert.Kernel7Ideal.Attn

end
-- ==== Proof.FwdRef.lean ====
/- The forward attention's reference at its coordinates. Its weights are the ones of the gradients' reference. -/
module

public import proofs.«01_k».proof.Proof.FwdSpec
public import proofs.«01_k».proof.Proof.RefValues
public import proofs.«01_k».proof.Proof.Gen.Reference7Ideal.Read

@[expose] public section

set_option maxRecDepth 16384

noncomputable section

namespace Cert.Reference7Ideal.Attn

open Idealize.ShloMosaic Cert.Reference7Ideal Cert.Reference7Ideal.Read Cert.Attn
open Cert.ReferenceIdeal.Attn (Rows Ctxs Tiles headAt v118_at)

variable (x0 x1 x2 x3 : Rows) (x4 x5 : Ctxs) (x6 : Tiles) (x7 : Rows) (h : Fin 8)

theorem weights_same : val_main_v104 (F := Ideal) x0 x1 x2 x4 x6 = Cert.ReferenceIdeal.Read.val_main_v118 (F := Ideal) x0 x1 x2 x4 x6 := rfl

theorem out_at (q : Fin 2048) (d : Fin 64) :
    val_main_v109 (F := Ideal) x0 x1 x2 x3 x4 x5 x6 (ix3 h q d) = (headAt x0 x1 x2 x3 x4 x5 x6 x7 h).out q d := by
  have w : ∀ k, val_main_v104 (F := Ideal) x0 x1 x2 x4 x6 (ix3 h q k) = (headAt x0 x1 x2 x3 x4 x5 x6 x7 h).p q k := fun k =>
    (congrFun (weights_same x0 x1 x2 x4 x6) _).trans (v118_at x0 x1 x2 x3 x4 x5 x6 x7 h q k)
  pointwise [val_main_v109, val_main_v108, val_main_v107, val_main_v106, val_main_v105, val_main_v3, val_main_v5]
  exact congrArg₂ (fun a b : EReal => a + b) (Finset.sum_congr rfl fun k _ => congrArg (· * _) (w (latKey k)))
    (Finset.sum_congr rfl fun l _ => congrArg (· * _) (w (ctx l)))

end Cert.Reference7Ideal.Attn

end
-- ==== Proof.FwdFinite.lean ====
/- The precondition of the forward attention read back: it says of seven arguments what the gradients' says of the same seven. -/
module

public import proofs.«01_k».proof.Pre_finite_f
public import proofs.«01_k».proof.Proof.Finite

@[expose] public section

namespace Cert.Pre_finite_f

open Idealize.ShloMosaic

theorem facts : Facts where
  bcast_S_S8x5x576x128 := by decide
  reducesTo_S8x5x576x128_S_d0_1_2_3 := by decide
  h_S_ := by decide
  bitsLt_bf16_f32 := by decide
  bcast_S_S8x2048x64 := by decide
  reducesTo_S8x2048x64_S_d0_1_2 := by decide
  bcast_S_S8x256x64 := by decide
  reducesTo_S8x256x64_S_d0_1_2 := by decide

attribute [local instance] facts Cert.Pre_finite.facts

variable (a0 a1 a2 a3 : FVec Ideal S8x2048x64 .bf16) (a4 a5 : FVec Ideal S8x256x64 .bf16) (a6 : FVec Ideal S8x5x576x128 .f32)

theorem same : fn (F := Ideal) a0 a1 a2 a3 a4 a5 a6 = Cert.Pre_finite.fn (F := Ideal) a0 a1 a2 a3 a4 a5 a6 a0 (fun _ => 0) := rfl

theorem reals (h : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a4 i = r)
      ∧ ∀ i, ∃ r : ℝ, a6 i = r :=
  Cert.Pre_finite.reals a0 a1 a2 a3 a4 a5 a6 a0 (fun _ => 0) ((same a0 a1 a2 a3 a4 a5 a6).symm.trans h)

end Cert.Pre_finite_f
-- ==== Proof.FwdEqual.lean ====
/- The forward attention and its reference leave the same output. -/
module

public import proofs.«01_k».proof.Defs
public import proofs.«01_k».proof.Proof.FwdArrays
public import proofs.«01_k».proof.Proof.FwdRef
public import proofs.«01_k».proof.Proof.FwdFinite
public import proofs.«01_k».proof.Proof.Equal
public import proofs.«01_k».proof.Proof.Gen.Reference7Ideal.Run

@[expose] public section

set_option maxRecDepth 16384

noncomputable section

namespace Cert.Attn.Fwd

open Idealize.ShloMosaic Idealize.SL.Sem Idealize.ShloMosaic.TcCoe
open Cert.Attn (Head ext3)

attribute [local instance] Cert.Pre_finite_f.facts

/-- The precondition makes the scores of every head real. -/
theorem finite_of_pre {m : (ℓ : Loc Cert.Kernel7Ideal.nD Cert.Kernel7Ideal.τ Cert.Kernel7Ideal.sig) → Buf (Elt Ideal) ℓ}
    (h : Cert.Pre_Kernel7Ideal_finite_f m) (c : Dev Cert.Kernel7Ideal.nD) (i : Fin 8) : (Cert.Kernel7Ideal.Attn.headOf m c i).Finite := by
  obtain ⟨h0, h1, h2, h4, h6⟩ := Cert.Pre_finite_f.reals _ _ _ _ _ _ _ (h c)
  exact ⟨fun q d => h0 _, fun q d => h1 _, fun q d => h2 _, fun l d => h4 _, fun t j u => h6 _⟩

open Cert.Reference7Ideal.Read in
/-- The result of the reference over the arguments of the kernel. -/
theorem equal : Cert.algebraic_Kernel7Ideal_Reference7Ideal_pre_finite_f := by
  intro m g m' g' hp ha
  refine ⟨_, Cert.Kernel7Ideal.Value.run_blocks m g, ?_⟩
  refine (θ_run Cert.Reference7Ideal.defs _ _).mono (fun r h c => ?_) (Cert.Reference7Ideal.Value.run (F := Ideal) m' g')
  obtain ⟨h0, k⟩ := h c
  obtain ⟨a0, a1, a2, a3, a4, a5, a6⟩ := ha c
  have hf := fun i => finite_of_pre hp c i
  have he : ∀ i, Cert.ReferenceIdeal.Attn.headAt (m' ((c.tc : Thread _ Cert.Reference7Ideal.τ).loc Cert.Reference7Ideal.main_arg0))
      (m' ((c.tc : Thread _ Cert.Reference7Ideal.τ).loc Cert.Reference7Ideal.main_arg1)) (m' ((c.tc : Thread _ Cert.Reference7Ideal.τ).loc Cert.Reference7Ideal.main_arg2))
      (m' ((c.tc : Thread _ Cert.Reference7Ideal.τ).loc Cert.Reference7Ideal.main_arg3)) (m' ((c.tc : Thread _ Cert.Reference7Ideal.τ).loc Cert.Reference7Ideal.main_arg4))
      (m' ((c.tc : Thread _ Cert.Reference7Ideal.τ).loc Cert.Reference7Ideal.main_arg5)) (m' ((c.tc : Thread _ Cert.Reference7Ideal.τ).loc Cert.Reference7Ideal.main_arg6))
      (m' ((c.tc : Thread _ Cert.Reference7Ideal.τ).loc Cert.Reference7Ideal.main_arg0)) i = Cert.Kernel7Ideal.Attn.headOf m c i := fun i => by
    rw [a0, a1, a2, a3, a4, a5, a6]; rfl
  refine ⟨h0.trans ((val_main_v109_eq _).trans ?_), k⟩
  exact ext3 fun i q d => (Cert.Reference7Ideal.Attn.out_at _ _ _ _ _ _ _ _ i q d).trans
    ((congrArg (fun H : Head => H.out q d) (he i)).trans (Cert.Kernel7Ideal.Attn.arr m c i (hf i) q d).symm)

end Cert.Attn.Fwd

end
-- ==== Proof.ConvSpec.lean ====
/- The gradients of a gated convolution over three neighbouring rows, one column at a time: what the kernel computes, what
   differentiating the convolution gives, and why the two agree on real numbers. -/
module

public import proofs.«01_k».proof.Proof.OutSpec

@[expose] public section

set_option maxRecDepth 16384

noncomputable section

namespace Cert.ConvGrad

open Idealize.ShloMosaic Cert.NormGrad Cert.OutGrad Cert.OutGrad.Args

/-- A column one row later and one row earlier, 0 past the ends. -/
def prev (f : Fin 2048 → EReal) (q : Fin 2048) : EReal := if q.val = 0 then 0 else f ⟨q.val - 1, by omega⟩
def next (f : Fin 2048 → EReal) (q : Fin 2048) : EReal := if h : q.val = 2047 then 0 else f ⟨q.val + 1, by omega⟩

theorem prev_mul (f : Fin 2048 → EReal) (w : EReal) (q : Fin 2048) : prev (fun r => f r * w) q = prev f q * w := by
  unfold prev; split
  · exact (zero_mul w).symm
  · rfl

theorem next_mul (f : Fin 2048 → EReal) (w : EReal) (q : Fin 2048) : next (fun r => f r * w) q = next f q * w := by
  unfold next; split
  · exact (zero_mul w).symm
  · rfl

/-- One column of the arguments: the gradient that arrives, the convolution's input, its two gates, the gate of the result, the
    three taps and the bias. -/
@[ext] structure Column where
  d : Fin 2048 → EReal
  u : Fin 2048 → EReal
  bg : Fin 2048 → EReal
  cg : Fin 2048 → EReal
  z : Fin 2048 → EReal
  w : Fin 3 → EReal
  b : EReal

namespace Column

variable (A : Column) (q : Fin 2048)

/-- What is convolved, and the convolution. -/
def cu : EReal := A.cg q * A.u q
def conv : EReal := A.b + prev A.cu q * A.w 0 + A.cu q * A.w 1 + next A.cu q * A.w 2

/-- The gradient past the gate of the result, of the convolution and of what is convolved. -/
def dGate : EReal := A.d q * (A.z q * Ideal.logistic (A.z q))
def dConv : EReal := A.dGate q * A.bg q
def dCu : EReal := next A.dConv q * A.w 0 + A.dConv q * A.w 1 + prev A.dConv q * A.w 2

/-- The gradients of the input, the two gates, the gate of the result, the taps and the bias. -/
def dU : EReal := A.dCu q * A.cg q
def dBg : EReal := A.dGate q * A.conv q
def dCg : EReal := A.dCu q * A.u q
def dZ : EReal := A.d q * (A.bg q * A.conv q)
  * (Ideal.logistic (A.z q) * (Ideal.ofBits .f32 0x3F800000#32 + A.z q * (Ideal.ofBits .f32 0x3F800000#32 - Ideal.logistic (A.z q))))
def dW (k : Fin 3) : EReal := ∑ q, A.dConv q * (match k with | 0 => prev A.cu q | 1 => A.cu q | 2 => next A.cu q)
def dB : EReal := ∑ q, A.dConv q

/-- The four gradients that have a value at every row. -/
def part (k : Fin 4) : EReal := match k with | 0 => A.dU q | 1 => A.dBg q | 2 => A.dCg q | 3 => A.dZ q

/-- The gradient of the result's gate as differentiating `z · σ(z)` writes it. -/
def dZPlain : EReal := A.bg q * A.conv q * A.d q * Ideal.logistic (A.z q)
  + A.z q * (A.bg q * A.conv q * A.d q)
    * (Ideal.logistic (A.z q) * (Ideal.ofBits .f32 0x3F800000#32 - Ideal.logistic (A.z q)))

/-- All the arguments but the gate of the result are real. -/
structure Finite : Prop where
  d : ∀ q, ∃ r : ℝ, A.d q = r
  u : ∀ q, ∃ r : ℝ, A.u q = r
  bg : ∀ q, ∃ r : ℝ, A.bg q = r
  cg : ∀ q, ∃ r : ℝ, A.cg q = r
  w : ∀ k, ∃ r : ℝ, A.w k = r
  b : ∃ r : ℝ, A.b = r

variable {A}

theorem Finite.cu (h : A.Finite) : ∃ r : ℝ, A.cu q = r := real_mul (h.cg q) (h.u q)

theorem Finite.conv (h : A.Finite) : ∃ r : ℝ, A.conv q = r := by
  refine real_add (real_add (real_add h.b (real_mul ?_ (h.w 0))) (real_mul (h.cu q) (h.w 1))) (real_mul ?_ (h.w 2))
  · unfold prev; split
    · exact ⟨0, EReal.coe_zero.symm⟩
    · exact h.cu _
  · unfold next; split
    · exact ⟨0, EReal.coe_zero.symm⟩
    · exact h.cu _

/-- Both forms of the gradient of the result's gate. -/
theorem Finite.dZ (h : A.Finite) : A.dZ q = A.dZPlain q := by
  obtain ⟨r, er⟩ := h.d q
  obtain ⟨v, ev⟩ := h.bg q
  obtain ⟨c, ec⟩ := h.conv q
  rw [Column.dZ, dZPlain, er, ev, ec, word_one]
  generalize A.z q = z
  induction z with
  | bot => rw [Ideal.logistic_bot]; simp
  | top =>
    rw [Ideal.logistic_top, show ((1 : ℝ) : EReal) - 1 = 0 from by norm_cast]
    simp only [mul_zero, add_zero, mul_one, EReal.coe_one]
    simp only [← EReal.coe_mul]
    congr 1
    ring
  | coe z =>
    obtain ⟨s, es⟩ := real_logistic ⟨z, rfl⟩
    rw [es]
    simp only [← EReal.coe_mul, ← EReal.coe_sub, ← EReal.coe_add]
    congr 1
    ring

end Column

end Cert.ConvGrad

end
-- ==== Proof.ConvPay.lean ====
/- The arithmetic of the convolution's backward kernel at coordinates. -/
module

public import proofs.«01_k».proof.Proof.ConvSpec
public import proofs.«01_k».proof.Proof.Gen.Kernel8Ideal.Skeleton
public import Idealize.ShloMosaic.Lib.Pointwise
public import Idealize.ShloMosaic.Lib.KernelVsHost
public import Idealize.ShloMosaic.Lib.WordCmp
public import Idealize.ShloMosaic.Lib.Pipeline.Value

@[expose] public section

set_option maxRecDepth 16384

noncomputable section

namespace Cert.Kernel8Ideal.Conv

open Cert.Kernel8Ideal Cert.Kernel8Ideal.Gen Idealize.ShloMosaic Idealize.ShloMosaic.TcCoe
open Cert.ConvGrad

/-! ## The rows turned by one, the row that comes around put to 0 -/

theorem zero_word : Ideal.ofBits .f32 0x00000000#32 = (0 : EReal) := Ideal.ofBits_zero .f32

theorem flag_at (n : ℕ) (hn : n < 2048) (q : Fin 2048) (e : Fin 128) :
    cmpi .eq (iota .tc S2048x128 32 [0] iota_S2048x128_d0_w32) (broadcast S2048x128 (BitVec.ofNat 32 n)) (ix2 q e)
      = BitVec.ofBool (decide (q.val = n)) := by
  refine Eq.trans (b := IntOp.cmpi .eq (BitVec.ofNat 32 q.val) (BitVec.ofNat 32 n)) ?_
    (WordCmp.cmpi_eq_ofNat (Nat.lt_trans q.isLt (by decide)) (Nat.lt_trans hn (by decide)))
  pointwise

theorem prev_at (X : FVec Ideal S2048x128 .f32) (q : Fin 2048) (e : Fin 128) :
    select (cmpi .eq (iota .tc S2048x128 32 [0] iota_S2048x128_d0_w32) (broadcast S2048x128 0#32))
      (broadcast S2048x128 (Scalar.ofBits .f32 0x00000000#32 : Ideal .f32)) (dynamicRotate 0 1#32 none X rotates_S2048x128_d0) (ix2 q e)
    = prev (fun r => X (ix2 r e)) q := by
  rw [ValueIdx.select_apply, flag_at 0 (by decide), WordCmp.select_ofBool, prev]
  by_cases h : q.val = 0
  · rw [if_pos (decide_eq_true h), if_pos h]
    exact zero_word
  · rw [if_neg (fun k => h (of_decide_eq_true k)), if_neg h]
    refine dynamicRotate_apply 0 1#32 X rotates_S2048x128_d0 (ix2 q e) (ix2 ⟨q.val - 1, by omega⟩ e) fun b => ?_
    match b with
    | 0 => show q.val - 1 = (q.val + 2048 - 1 % 2048) % 2048
           omega
    | 1 => rfl

theorem next_at (X : FVec Ideal S2048x128 .f32) (q : Fin 2048) (e : Fin 128) :
    select (cmpi .eq (iota .tc S2048x128 32 [0] iota_S2048x128_d0_w32) (broadcast S2048x128 2047#32))
      (broadcast S2048x128 (Scalar.ofBits .f32 0x00000000#32 : Ideal .f32)) (dynamicRotate 0 2047#32 none X rotates_S2048x128_d0) (ix2 q e)
    = next (fun r => X (ix2 r e)) q := by
  rw [ValueIdx.select_apply, flag_at 2047 (by decide), WordCmp.select_ofBool, next]
  by_cases h : q.val = 2047
  · rw [if_pos (decide_eq_true h), dif_pos h]
    exact zero_word
  · rw [if_neg (fun k => h (of_decide_eq_true k)), dif_neg h]
    refine dynamicRotate_apply 0 2047#32 X rotates_S2048x128_d0 (ix2 q e) (ix2 ⟨q.val + 1, by omega⟩ e) fun b => ?_
    match b with
    | 0 => show q.val + 1 = (q.val + 2048 - 2047 % 2048) % 2048
           omega
    | 1 => rfl

/-! ## A step's arithmetic -/

/-- A column of the loaded blocks. -/
def column (D U Bg Cg Z : Vec Ideal S2048x128 .f32) (W0 W1 W2 B : Vec Ideal S1x128 .f32) (e : Fin 128) : Column where
  d q := D (ix2 q e)
  u q := U (ix2 q e)
  bg q := Bg (ix2 q e)
  cg q := Cg (ix2 q e)
  z q := Z (ix2 q e)
  w k := match k with | 0 => W0 (ix2 0 e) | 1 => W1 (ix2 0 e) | 2 => W2 (ix2 0 e)
  b := B (ix2 0 e)

section Blocks

variable (D U Bg Cg Z : Vec Ideal S2048x128 .f32) (W0 W1 W2 B : Vec Ideal S1x128 .f32) (q : Fin 2048) (e : Fin 128)

local notation "A" => column D U Bg Cg Z W0 W1 W2 B e

theorem row_at (W : Vec Ideal S1x128 .f32) : broadcastTo S2048x128 W broadcasts_S1x128_S2048x128 (ix2 q e) = W (ix2 0 e) := by
  pointwise

theorem pay6_at : k0_pay6 (F := Ideal) U Cg (ix2 q e) = prev (A).cu q := prev_at (k0_pay5 (F := Ideal) U Cg) q e

theorem pay7_at : k0_pay7 (F := Ideal) U Cg (ix2 q e) = next (A).cu q := next_at (k0_pay5 (F := Ideal) U Cg) q e

theorem pay8_at : k0_pay8 (F := Ideal) U Cg W0 W1 W2 B (ix2 q e) = (A).conv q := by
  refine Eq.trans (show _ = (fun b p w0 c w1 n w2 : EReal => b + p * w0 + c * w1 + n * w2)
    (broadcastTo S2048x128 B broadcasts_S1x128_S2048x128 (ix2 q e)) (k0_pay6 (F := Ideal) U Cg (ix2 q e))
    (broadcastTo S2048x128 W0 broadcasts_S1x128_S2048x128 (ix2 q e)) ((A).cu q)
    (broadcastTo S2048x128 W1 broadcasts_S1x128_S2048x128 (ix2 q e)) (k0_pay7 (F := Ideal) U Cg (ix2 q e))
    (broadcastTo S2048x128 W2 broadcasts_S1x128_S2048x128 (ix2 q e)) from rfl) ?_
  rw [row_at, row_at, row_at, row_at, pay6_at D U Bg Cg Z W0 W1 W2 B, pay7_at D U Bg Cg Z W0 W1 W2 B]
  rfl

theorem pay13_at : k0_pay13 (F := Ideal) D Bg (k0_pay9 (F := Ideal) Z) (ix2 q e) = (A).dConv q := rfl

theorem pay2_at : k0_pay2 (F := Ideal) W0 W1 W2 (k0_pay13 (F := Ideal) D Bg (k0_pay9 (F := Ideal) Z)) (ix2 q e) = (A).dCu q := by
  generalize hx : k0_pay13 (F := Ideal) D Bg (k0_pay9 (F := Ideal) Z) = X
  have hX : (fun r => X (ix2 r e)) = (A).dConv := by rw [← hx]; rfl
  refine Eq.trans (show _ = (fun n w0 c w1 p w2 : EReal => n * w0 + c * w1 + p * w2)
    (select (cmpi .eq (iota .tc S2048x128 32 [0] iota_S2048x128_d0_w32) (broadcast S2048x128 2047#32))
      (broadcast S2048x128 (Scalar.ofBits .f32 0x00000000#32 : Ideal .f32)) (dynamicRotate 0 2047#32 none X rotates_S2048x128_d0) (ix2 q e))
    (broadcastTo S2048x128 W0 broadcasts_S1x128_S2048x128 (ix2 q e)) (X (ix2 q e))
    (broadcastTo S2048x128 W1 broadcasts_S1x128_S2048x128 (ix2 q e))
    (select (cmpi .eq (iota .tc S2048x128 32 [0] iota_S2048x128_d0_w32) (broadcast S2048x128 0#32))
      (broadcast S2048x128 (Scalar.ofBits .f32 0x00000000#32 : Ideal .f32)) (dynamicRotate 0 1#32 none X rotates_S2048x128_d0) (ix2 q e))
    (broadcastTo S2048x128 W2 broadcasts_S1x128_S2048x128 (ix2 q e)) from rfl) ?_
  rw [row_at, row_at, row_at, prev_at, next_at, hX, show X (ix2 q e) = (A).dConv q from congrFun hX q]
  rfl

/-- The four parts, as one layer each. -/
theorem layer_at (X : FVec Ideal S2048x128 .f32) :
    shapeCast S1x2048x128 (truncf (F := Ideal) .bf16 X bitsLt_bf16_f32) shapeCasts_S2048x128_S1x2048x128 (ix3 0 q e) = X (ix2 q e) := by
  pointwise

theorem pay4_at : k0_pay4 (F := Ideal) Cg W0 W1 W2 (k0_pay13 (F := Ideal) D Bg (k0_pay9 (F := Ideal) Z)) (ix3 0 q e) = (A).dU q :=
  (layer_at q e _).trans (congrArg (fun a : EReal => a * Cg (ix2 q e)) (pay2_at D U Bg Cg Z W0 W1 W2 B q e))

theorem pay11_at : k0_pay11 (F := Ideal) (k0_pay8 (F := Ideal) U Cg W0 W1 W2 B) (k0_pay10 (F := Ideal) D Z) (ix3 0 q e) = (A).dBg q :=
  (layer_at q e _).trans (congrArg (fun a : EReal => (A).dGate q * a) (pay8_at D U Bg Cg Z W0 W1 W2 B q e))

theorem pay3_at : k0_pay3 (F := Ideal) U W0 W1 W2 (k0_pay13 (F := Ideal) D Bg (k0_pay9 (F := Ideal) Z)) (ix3 0 q e) = (A).dCg q :=
  (layer_at q e _).trans (congrArg (fun a : EReal => a * U (ix2 q e)) (pay2_at D U Bg Cg Z W0 W1 W2 B q e))

theorem pay12_at : k0_pay12 (F := Ideal) D Bg Z (k0_pay8 (F := Ideal) U Cg W0 W1 W2 B) (ix3 0 q e) = (A).dZ q :=
  (layer_at q e _).trans (congrArg (fun a : EReal => D (ix2 q e) * (Bg (ix2 q e) * a) * (Ideal.logistic (Z (ix2 q e))
    * (Ideal.ofBits .f32 0x3F800000#32 + Z (ix2 q e) * (Ideal.ofBits .f32 0x3F800000#32 - Ideal.logistic (Z (ix2 q e))))))
    (pay8_at D U Bg Cg Z W0 W1 W2 B q e))

/-- The sum of a column. -/
theorem sum_at (X : FVec Ideal S2048x128 .f32) :
    shapeCast S1x128 (multiReduction (F := Ideal) .add [0] S128 X 0x00000000#32 reduces_S2048x128_S128 (.inl rfl) rfl) shapeCasts_S128_S1x128 (ix2 0 e)
      = ∑ q : Fin 2048, (fun a : EReal => a) (X (ix2 q e)) := by
  pointwise

theorem pay14_at : k0_pay14 (F := Ideal) D Bg (k0_pay9 (F := Ideal) Z) (ix2 0 e) = (A).dB := sum_at e _

theorem pay15_at : k0_pay15 (F := Ideal) D Bg (k0_pay6 (F := Ideal) U Cg) (k0_pay9 (F := Ideal) Z) (ix2 0 e) = (A).dW 0 :=
  (sum_at e _).trans (Finset.sum_congr rfl fun q _ => congrArg (fun a : EReal => (A).dConv q * a) (pay6_at D U Bg Cg Z W0 W1 W2 B q e))

theorem pay16_at : k0_pay16 (F := Ideal) D Bg (k0_pay5 (F := Ideal) U Cg) (k0_pay9 (F := Ideal) Z) (ix2 0 e) = (A).dW 1 := sum_at e _

theorem pay17_at : k0_pay17 (F := Ideal) D Bg (k0_pay7 (F := Ideal) U Cg) (k0_pay9 (F := Ideal) Z) (ix2 0 e) = (A).dW 2 :=
  (sum_at e _).trans (Finset.sum_congr rfl fun q _ => congrArg (fun a : EReal => (A).dConv q * a) (pay7_at D U Bg Cg Z W0 W1 W2 B q e))

theorem pay1_at (k : Fin 5) : k0_pay1 (F := Ideal) (ix2 k e) = (0 : EReal) := zero_word

end Blocks

end Cert.Kernel8Ideal.Conv

end
-- ==== Proof.ConvBody.lean ====
/- What the convolution's backward kernel leaves in its output windows at a grid point. -/
module

public import proofs.«01_k».proof.Proof.ConvPay
public import proofs.«01_k».proof.Proof.Gen.Kernel8Ideal.Value
public import Idealize.ShloMosaic.Lib.Pipeline.ValueKit.Basic
public import Idealize.ShloMosaic.Lib.WholeRead
public import Idealize.ShloMosaic.Lib.VecWindow

@[expose] public section

set_option maxRecDepth 16384

noncomputable section

namespace Cert.Kernel8Ideal.Conv

open Cert.Kernel8Ideal Cert.Kernel8Ideal.Gen Idealize.ShloMosaic Idealize.ShloMosaic.TcCoe
open Cert.ConvGrad

/-- The body's input windows and what they hold: the gradient that arrives, the convolution's input, its two gates, the gate of the
    result, the taps and the bias. -/
structure In where
  m1 : Memref sig .tc .vmem S2048x128 .f32
  h1 : m1.IsWhole
  m2 : Memref sig .tc .vmem S2048x128 .f32
  h2 : m2.IsWhole
  m3 : Memref sig .tc .vmem S2048x128 .f32
  h3 : m3.IsWhole
  m4 : Memref sig .tc .vmem S2048x128 .f32
  h4 : m4.IsWhole
  m5 : Memref sig .tc .vmem S2048x128 .f32
  h5 : m5.IsWhole
  m6 : Memref sig .tc .vmem S3x128 .f32
  h6 : m6.IsWhole
  m7 : Memref sig .tc .vmem S1x128 .f32
  h7 : m7.IsWhole
  x0 : Vec Ideal S2048x128 .f32
  x1 : Vec Ideal S2048x128 .f32
  x2 : Vec Ideal S2048x128 .f32
  x3 : Vec Ideal S2048x128 .f32
  x4 : Vec Ideal S2048x128 .f32
  x5 : Vec Ideal S3x128 .f32
  x6 : Vec Ideal S1x128 .f32

abbrev allRows : Rect S2048x128 := Rect.unit (s := S2048x128) ![0, 0] S2048x128.size inb_S2048x128_S2048x128_0_0
abbrev allRow : Rect S1x128 := Rect.unit (s := S1x128) ![0, 0] S1x128.size inb_S1x128_S1x128_0_0

theorem inb_layer (k : Fin 4) : ∀ a, (![k.val, 0, 0] : Fin 3 → ℕ) a + S1x2048x128.size a ≤ S4x2048x128.size a :=
  Fin.forall_fin_succ.2 ⟨show k.val + 1 ≤ 4 by omega, Fin.forall_fin_succ.2 ⟨show 0 + 2048 ≤ 2048 by omega,
    Fin.forall_fin_succ.2 ⟨show 0 + 128 ≤ 128 by omega, fun a => a.elim0⟩⟩⟩

theorem inb_tap (k : Fin 3) : ∀ a, (![k.val, 0] : Fin 2 → ℕ) a + S1x128.size a ≤ S3x128.size a :=
  Fin.forall_fin_succ.2 ⟨show k.val + 1 ≤ 3 by omega, Fin.forall_fin_succ.2 ⟨show 0 + 128 ≤ 128 by omega, fun a => a.elim0⟩⟩

theorem inb_row (k : Fin 8) : ∀ a, (![k.val, 0] : Fin 2 → ℕ) a + S1x128.size a ≤ S8x128.size a :=
  Fin.forall_fin_succ.2 ⟨show k.val + 1 ≤ 8 by omega, Fin.forall_fin_succ.2 ⟨show 0 + 128 ≤ 128 by omega, fun a => a.elim0⟩⟩

abbrev layer (k : Fin 4) : Rect S4x2048x128 := Rect.unit (s := S4x2048x128) ![k.val, 0, 0] S1x2048x128.size (inb_layer k)
abbrev tap (k : Fin 3) : Rect S3x128 := Rect.unit (s := S3x128) ![k.val, 0] S1x128.size (inb_tap k)
abbrev row (k : Fin 8) : Rect S8x128 := Rect.unit (s := S8x128) ![k.val, 0] S1x128.size (inb_row k)
abbrev rest : Rect S8x128 := Rect.unit (s := S8x128) ![3, 0] S5x128.size inb_S8x128_S5x128_3_0

/-- All of a block, read as it is. -/
theorem read_rows (M : Memref sig .tc .vmem S2048x128 .f32) (hM : M.IsWhole) (w : Vec Ideal S2048x128 .f32) :
    View.readAt (Elt Ideal) M.view allRows.toLoadRect (hM.unread w) = w := by
  funext j
  refine (hM.readAt_unread w _ _).trans (congrArg w (funext fun a => Fin.ext ?_))
  match a with
  | ⟨0, _⟩ => show 0 + 1 * (j 0).val = (j 0).val; omega
  | ⟨1, _⟩ => show 0 + 1 * (j 1).val = (j 1).val; omega

/-! ## Stores to part of a window -/

section Parts

variable {Val : EltTy → Type} [∀ e, Nonempty (Val e)] {e : EltTy}

theorem canon_layer (k : Fin 4) (w : S1x2048x128.Idx → Val e) (L : List (View.Piece Val S4x2048x128 e)) (r : Fin 2048) (l : Fin 128) :
    View.canon ((⟨layer k, w⟩ : View.Piece Val S4x2048x128 e) :: L) (ix3 k r l) = w (ix3 0 r l) := by
  have e1 : (ix3 k r l : S4x2048x128.Idx) = (layer k).emb (ix3 0 r l : S1x2048x128.Idx) := funext fun a => Fin.ext (by
    match a with
    | ⟨0, _⟩ => show k.val = k.val + 1 * 0; omega
    | ⟨1, _⟩ => show r.val = 0 + 1 * r.val; omega
    | ⟨2, _⟩ => show l.val = 0 + 1 * l.val; omega)
  rw [e1]
  exact View.canon_cons_emb _ _ _ _

theorem canon_other_layer {h k : Fin 4} (hk : h ≠ k) (w : S1x2048x128.Idx → Val e) (L : List (View.Piece Val S4x2048x128 e)) (r : Fin 2048) (l : Fin 128) :
    View.canon ((⟨layer h, w⟩ : View.Piece Val S4x2048x128 e) :: L) (ix3 k r l) = View.canon L (ix3 k r l) := by
  refine View.canon_cons_of_not_mem _ _ fun hm => hk ?_
  have h0 : h.val ≤ k.val ∧ k.val < h.val + 1 := (Rect.mem_set_unit (inb := inb_layer h).1 hm) 0
  exact Fin.ext (by omega)

theorem canon_row (k : Fin 8) (w : S1x128.Idx → Val e) (L : List (View.Piece Val S8x128 e)) (l : Fin 128) :
    View.canon ((⟨row k, w⟩ : View.Piece Val S8x128 e) :: L) (ix2 k l) = w (ix2 0 l) := by
  have e1 : (ix2 k l : S8x128.Idx) = (row k).emb (ix2 0 l : S1x128.Idx) := funext fun a => Fin.ext (by
    match a with
    | ⟨0, _⟩ => show k.val = k.val + 1 * 0; omega
    | ⟨1, _⟩ => show l.val = 0 + 1 * l.val; omega)
  rw [e1]
  exact View.canon_cons_emb _ _ _ _

theorem canon_other_row {h k : Fin 8} (hk : h ≠ k) (w : S1x128.Idx → Val e) (L : List (View.Piece Val S8x128 e)) (l : Fin 128) :
    View.canon ((⟨row h, w⟩ : View.Piece Val S8x128 e) :: L) (ix2 k l) = View.canon L (ix2 k l) := by
  refine View.canon_cons_of_not_mem _ _ fun hm => hk ?_
  have h0 : h.val ≤ k.val ∧ k.val < h.val + 1 := (Rect.mem_set_unit (inb := inb_row h).1 hm) 0
  exact Fin.ext (by omega)

theorem canon_rest (w : S5x128.Idx → Val e) (L : List (View.Piece Val S8x128 e)) (k : Fin 8) (l : Fin 128) :
    View.canon ((⟨rest, w⟩ : View.Piece Val S8x128 e) :: L) (ix2 k l)
      = if h : k.val < 3 then View.canon L (ix2 k l) else w (ix2 ⟨k.val - 3, by omega⟩ l) := by
  split
  · refine View.canon_cons_of_not_mem _ _ fun hm => ?_
    have h0 : 3 ≤ k.val ∧ k.val < 3 + 5 := (Rect.mem_set_unit (inb := inb_S8x128_S5x128_3_0).1 hm) 0
    omega
  · have e1 : (ix2 k l : S8x128.Idx) = rest.emb (ix2 ⟨k.val - 3, by omega⟩ l : S5x128.Idx) := funext fun a => Fin.ext (by
      match a with
      | ⟨0, _⟩ => show k.val = 3 + 1 * (k.val - 3); omega
      | ⟨1, _⟩ => show l.val = 0 + 1 * l.val; omega)
    rw [e1]
    exact View.canon_cons_emb _ _ _ _

end Parts

namespace In

variable (A : In)

/-- What the body loads, -/
def D : Vec Ideal S2048x128 .f32 := View.readAt (Elt Ideal) A.m1.view allRows.toLoadRect (A.h1.unread A.x0)
def U : Vec Ideal S2048x128 .f32 := View.readAt (Elt Ideal) A.m2.view allRows.toLoadRect (A.h2.unread A.x1)
def Bg : Vec Ideal S2048x128 .f32 := View.readAt (Elt Ideal) A.m3.view allRows.toLoadRect (A.h3.unread A.x2)
def Cg : Vec Ideal S2048x128 .f32 := View.readAt (Elt Ideal) A.m4.view allRows.toLoadRect (A.h4.unread A.x3)
def Z : Vec Ideal S2048x128 .f32 := View.readAt (Elt Ideal) A.m5.view allRows.toLoadRect (A.h5.unread A.x4)
def W (k : Fin 3) : Vec Ideal S1x128 .f32 := View.readAt (Elt Ideal) A.m6.view (tap k).toLoadRect (A.h6.unread A.x5)
def B : Vec Ideal S1x128 .f32 := View.readAt (Elt Ideal) A.m7.view allRow.toLoadRect (A.h7.unread A.x6)

/-- and the column of the mathematics that is. -/
def col (e : Fin 128) : Column where
  d q := A.x0 (ix2 q e)
  u q := A.x1 (ix2 q e)
  bg q := A.x2 (ix2 q e)
  cg q := A.x3 (ix2 q e)
  z q := A.x4 (ix2 q e)
  w k := A.x5 (ix2 k e)
  b := A.x6 (ix2 0 e)

theorem W_at (k : Fin 3) (e : Fin 128) : A.W k (ix2 0 e) = A.x5 (ix2 k e) := by
  refine (A.h6.readAt_unread _ _ _).trans (congrArg A.x5 (funext fun a => Fin.ext ?_))
  match a with
  | ⟨0, _⟩ => show k.val + 1 * 0 = k.val; omega
  | ⟨1, _⟩ => show 0 + 1 * e.val = e.val; omega

theorem B_at (e : Fin 128) : A.B (ix2 0 e) = A.x6 (ix2 0 e) := by
  refine (A.h7.readAt_unread _ _ _).trans (congrArg A.x6 (funext fun a => Fin.ext ?_))
  match a with
  | ⟨0, _⟩ => rfl
  | ⟨1, _⟩ => show 0 + 1 * e.val = e.val; omega

theorem column_eq (e : Fin 128) : column A.D A.U A.Bg A.Cg A.Z (A.W 0) (A.W 1) (A.W 2) A.B e = A.col e := by
  refine Column.ext (funext fun q => congrFun (read_rows A.m1 A.h1 A.x0) _) (funext fun q => congrFun (read_rows A.m2 A.h2 A.x1) _)
    (funext fun q => congrFun (read_rows A.m3 A.h3 A.x2) _) (funext fun q => congrFun (read_rows A.m4 A.h4 A.x3) _)
    (funext fun q => congrFun (read_rows A.m5 A.h5 A.x4) _) (funext fun k => ?_) (A.B_at e)
  match k with
  | 0 => exact A.W_at 0 e
  | 1 => exact A.W_at 1 e
  | 2 => exact A.W_at 2 e

section Stored

variable (c : Dev nD) (i : grid0.Coords) (m10 : Memref sig .tc .vmem S4x2048x128 .bf16) (h10 : m10.IsWhole)
  (m11 : Memref sig .tc .vmem S8x128 .f32) (h11 : m11.IsWhole) (m12 : Memref sig .tc .vmem S1x128 .f32) (h12 : m12.IsWhole)

/-- The gradient of the convolution and the convolution, as the body computes them. -/
abbrev Dv : FVec Ideal S2048x128 .f32 := k0_pay13 (F := Ideal) A.D A.Bg (k0_pay9 A.Z)
abbrev Cv : FVec Ideal S2048x128 .f32 := k0_pay8 (F := Ideal) A.U A.Cg (A.W 0) (A.W 1) (A.W 2) A.B

theorem found7 : (kernelRun0_A (F := Ideal) c i A.m1 A.h1 A.m2 A.h2 A.m3 A.h3 A.m4 A.h4 A.m5 A.h5 A.m6 A.h6 A.m7 A.h7 m10 h10 m11 h11 m12 h12
      A.x0 A.x1 A.x2 A.x3 A.x4 A.x5 A.x6).1
    = [⟨layer 0, k0_pay4 (F := Ideal) A.Cg (A.W 0) (A.W 1) (A.W 2) A.Dv⟩, ⟨layer 2, k0_pay3 (F := Ideal) A.U (A.W 0) (A.W 1) (A.W 2) A.Dv⟩,
      ⟨layer 3, k0_pay12 (F := Ideal) A.D A.Bg A.Z A.Cv⟩, ⟨layer 1, k0_pay11 (F := Ideal) A.Cv (k0_pay10 A.D A.Z)⟩] := rfl

theorem found8 : (kernelRun0_A (F := Ideal) c i A.m1 A.h1 A.m2 A.h2 A.m3 A.h3 A.m4 A.h4 A.m5 A.h5 A.m6 A.h6 A.m7 A.h7 m10 h10 m11 h11 m12 h12
      A.x0 A.x1 A.x2 A.x3 A.x4 A.x5 A.x6).2.1
    = [⟨rest, k0_pay1 (F := Ideal)⟩, ⟨row 2, k0_pay17 (F := Ideal) A.D A.Bg (k0_pay7 A.U A.Cg) (k0_pay9 A.Z)⟩,
      ⟨row 1, k0_pay16 (F := Ideal) A.D A.Bg (k0_pay5 A.U A.Cg) (k0_pay9 A.Z)⟩,
      ⟨row 0, k0_pay15 (F := Ideal) A.D A.Bg (k0_pay6 A.U A.Cg) (k0_pay9 A.Z)⟩] := rfl

theorem found9 : (kernelRun0_A (F := Ideal) c i A.m1 A.h1 A.m2 A.h2 A.m3 A.h3 A.m4 A.h4 A.m5 A.h5 A.m6 A.h6 A.m7 A.h7 m10 h10 m11 h11 m12 h12
      A.x0 A.x1 A.x2 A.x3 A.x4 A.x5 A.x6).2.2.1
    = [⟨allRow, k0_pay14 (F := Ideal) A.D A.Bg (k0_pay9 A.Z)⟩] := rfl

theorem stored7 (k : Fin 4) (q : Fin 2048) (e : Fin 128) :
    out0_A_7 c i A.m1 A.h1 A.m2 A.h2 A.m3 A.h3 A.m4 A.h4 A.m5 A.h5 A.m6 A.h6 A.m7 A.h7 m10 h10 m11 h11 m12 h12
      A.x0 A.x1 A.x2 A.x3 A.x4 A.x5 A.x6 (ix3 k q e) = (A.col e).part q k := by
  refine (congrFun ((View.read_writes_junk_eq_canon VO0_7 _).trans (congrArg View.canon (A.found7 c i m10 h10 m11 h11 m12 h12))) _).trans ?_
  rw [← column_eq]
  match k with
  | 0 => exact (canon_layer 0 _ _ q e).trans (pay4_at A.D A.U A.Bg A.Cg A.Z (A.W 0) (A.W 1) (A.W 2) A.B q e)
  | 1 => exact (canon_other_layer (h := 0) (k := 1) (by decide) _ _ q e).trans ((canon_other_layer (h := 2) (k := 1) (by decide) _ _ q e).trans ((canon_other_layer (h := 3) (k := 1) (by decide) _ _ q e).trans ((canon_layer 1 _ _ q e).trans
      (pay11_at A.D A.U A.Bg A.Cg A.Z (A.W 0) (A.W 1) (A.W 2) A.B q e))))
  | 2 => exact (canon_other_layer (h := 0) (k := 2) (by decide) _ _ q e).trans ((canon_layer 2 _ _ q e).trans (pay3_at A.D A.U A.Bg A.Cg A.Z (A.W 0) (A.W 1) (A.W 2) A.B q e))
  | 3 => exact (canon_other_layer (h := 0) (k := 3) (by decide) _ _ q e).trans ((canon_other_layer (h := 2) (k := 3) (by decide) _ _ q e).trans ((canon_layer 3 _ _ q e).trans
      (pay12_at A.D A.U A.Bg A.Cg A.Z (A.W 0) (A.W 1) (A.W 2) A.B q e)))

theorem stored8 (k : Fin 8) (e : Fin 128) :
    out0_A_8 c i A.m1 A.h1 A.m2 A.h2 A.m3 A.h3 A.m4 A.h4 A.m5 A.h5 A.m6 A.h6 A.m7 A.h7 m10 h10 m11 h11 m12 h12
      A.x0 A.x1 A.x2 A.x3 A.x4 A.x5 A.x6 (ix2 k e) = if h : k.val < 3 then (A.col e).dW ⟨k.val, h⟩ else 0 := by
  refine (congrFun ((View.read_writes_junk_eq_canon VO0_8 _).trans (congrArg View.canon (A.found8 c i m10 h10 m11 h11 m12 h12))) _).trans ?_
  rw [← column_eq]
  refine (canon_rest _ _ k e).trans ?_
  split
  · rename_i h
    match k, h with
    | 0, _ => exact (canon_other_row (h := 2) (k := 0) (by decide) _ _ e).trans ((canon_other_row (h := 1) (k := 0) (by decide) _ _ e).trans ((canon_row 0 _ _ e).trans
        (pay15_at A.D A.U A.Bg A.Cg A.Z (A.W 0) (A.W 1) (A.W 2) A.B e)))
    | 1, _ => exact (canon_other_row (h := 2) (k := 1) (by decide) _ _ e).trans ((canon_row 1 _ _ e).trans (pay16_at A.D A.U A.Bg A.Cg A.Z (A.W 0) (A.W 1) (A.W 2) A.B e))
    | 2, _ => exact (canon_row 2 _ _ e).trans (pay17_at A.D A.U A.Bg A.Cg A.Z (A.W 0) (A.W 1) (A.W 2) A.B e)
  · exact pay1_at e _

theorem stored9 (e : Fin 128) :
    out0_A_9 c i A.m1 A.h1 A.m2 A.h2 A.m3 A.h3 A.m4 A.h4 A.m5 A.h5 A.m6 A.h6 A.m7 A.h7 m10 h10 m11 h11 m12 h12
      A.x0 A.x1 A.x2 A.x3 A.x4 A.x5 A.x6 (ix2 0 e) = (A.col e).dB := by
  refine (congrFun ((View.read_writes_junk_eq_canon VO0_9 _).trans ((congrArg View.canon (A.found9 c i m10 h10 m11 h11 m12 h12)).trans
    (View.canon_cons_unit_lit _ _ _ (by decide)))) _).trans ?_
  rw [← column_eq]
  exact pay14_at A.D A.U A.Bg A.Cg A.Z (A.W 0) (A.W 1) (A.W 2) A.B e

end Stored

/-- The parts of the combined projection's gradient over windows and contents named one by one. -/
theorem parts_left (c : Dev nD) (i : grid0.Coords)
    (m1 : Memref sig .tc .vmem S2048x128 .f32) (h1 : m1.IsWhole)
    (m2 : Memref sig .tc .vmem S2048x128 .f32) (h2 : m2.IsWhole)
    (m3 : Memref sig .tc .vmem S2048x128 .f32) (h3 : m3.IsWhole)
    (m4 : Memref sig .tc .vmem S2048x128 .f32) (h4 : m4.IsWhole)
    (m5 : Memref sig .tc .vmem S2048x128 .f32) (h5 : m5.IsWhole)
    (m6 : Memref sig .tc .vmem S3x128 .f32) (h6 : m6.IsWhole)
    (m7 : Memref sig .tc .vmem S1x128 .f32) (h7 : m7.IsWhole)
    (m10 : Memref sig .tc .vmem S4x2048x128 .bf16) (h10 : m10.IsWhole) (m11 : Memref sig .tc .vmem S8x128 .f32) (h11 : m11.IsWhole)
    (m12 : Memref sig .tc .vmem S1x128 .f32) (h12 : m12.IsWhole)
    (x0 : Vec Ideal S2048x128 .f32) (x1 : Vec Ideal S2048x128 .f32) (x2 : Vec Ideal S2048x128 .f32) (x3 : Vec Ideal S2048x128 .f32) (x4 : Vec Ideal S2048x128 .f32) (x5 : Vec Ideal S3x128 .f32) (x6 : Vec Ideal S1x128 .f32) (k : Fin 4) (q : Fin 2048) (e : Fin 128) :
    out0_A_7 c i m1 h1 m2 h2 m3 h3 m4 h4 m5 h5 m6 h6 m7 h7 m10 h10 m11 h11 m12 h12 x0 x1 x2 x3 x4 x5 x6 (ix3 k q e)
      = ((⟨m1, h1, m2, h2, m3, h3, m4, h4, m5, h5, m6, h6, m7, h7, x0, x1, x2, x3, x4, x5, x6⟩ : In).col e).part q k :=
  stored7 (⟨m1, h1, m2, h2, m3, h3, m4, h4, m5, h5, m6, h6, m7, h7, x0, x1, x2, x3, x4, x5, x6⟩ : In) c i m10 h10 m11 h11 m12 h12 k q e

end In

end Cert.Kernel8Ideal.Conv

end
-- ==== Proof.ConvArrays.lean ====
/- From the body of the convolution's backward kernel to its arrays: every grid point works on 128 columns, and the layers of the combined
   projection's gradient that other kernels wrote stay as they were. -/
module

public import proofs.«01_k».proof.Proof.ConvBody
public import Idealize.ShloMosaic.Lib.Pipeline.ValueKit.Point
public import Idealize.ShloMosaic.Lib.Claim

@[expose] public section

set_option maxRecDepth 16384

noncomputable section

namespace Cert.Kernel8Ideal.Conv

open Cert.Kernel8Ideal Cert.Kernel8Ideal.Gen Cert.Kernel8Ideal.Value Idealize.ShloMosaic Idealize.ShloMosaic.TcCoe Idealize.SL.Sem
open Cert.ConvGrad

variable (m : (ℓ : Loc nD τ sig) → Buf (Elt Ideal) ℓ) (c : Dev nD)

/-- The column a block places an entry at; the grid point and the place of a column. -/
def colOf (t : Fin cfg0.N) (e : Fin 128) : Fin 512 := ⟨t.val * 128 + e.val, by have h : t.val < 4 := t.isLt; omega⟩
def pointOf (e : Fin 512) : Fin cfg0.N := ⟨e.val / 128, show e.val / 128 < 4 by omega⟩
def placeOf (e : Fin 512) : Fin 128 := ⟨e.val % 128, by omega⟩

theorem colOf_point (e : Fin 512) : colOf (pointOf e) (placeOf e) = e :=
  Fin.ext (show e.val / 128 * 128 + e.val % 128 = e.val by omega)

/-- A column of the arguments. -/
def columnOf (e : Fin 512) : Column where
  d q := m ((c : Thread nD τ).loc main_arg0) (ix2 q e)
  u q := m ((c : Thread nD τ).loc main_arg1) (ix2 q ⟨2048 + e.val, by omega⟩)
  bg q := m ((c : Thread nD τ).loc main_arg1) (ix2 q ⟨2560 + e.val, by omega⟩)
  cg q := m ((c : Thread nD τ).loc main_arg1) (ix2 q ⟨3072 + e.val, by omega⟩)
  z q := m ((c : Thread nD τ).loc main_arg1) (ix2 q ⟨3584 + e.val, by omega⟩)
  w k := m ((c : Thread nD τ).loc main_arg2) (ix2 k e)
  b := m ((c : Thread nD τ).loc main_arg3) (ix2 0 e)

/-- The array of the gradient holds its argument when the kernel starts. -/
theorem before : (V m c main_v0_0 : Vec Ideal S8x2048x512 .bf16) = m ((c : Thread nD τ).loc main_arg4) := by
  unfold V
  simp only [hostOps0]
  after_results_simp
  rfl

theorem idx0 : ∀ t : Fin cfg0.N, win0_0.index t = ![0, t.val] :=
  (by decide +kernel : ∀ t : Fin grid0.N, win0_0.index t = ![0, t.val])
theorem idx1 : ∀ t : Fin cfg0.N, win0_1.index t = ![0, 16 + t.val] :=
  (by decide +kernel : ∀ t : Fin grid0.N, win0_1.index t = ![0, 16 + t.val])
theorem idx2 : ∀ t : Fin cfg0.N, win0_2.index t = ![0, 20 + t.val] :=
  (by decide +kernel : ∀ t : Fin grid0.N, win0_2.index t = ![0, 20 + t.val])
theorem idx3 : ∀ t : Fin cfg0.N, win0_3.index t = ![0, 24 + t.val] :=
  (by decide +kernel : ∀ t : Fin grid0.N, win0_3.index t = ![0, 24 + t.val])
theorem idx4 : ∀ t : Fin cfg0.N, win0_4.index t = ![0, 28 + t.val] :=
  (by decide +kernel : ∀ t : Fin grid0.N, win0_4.index t = ![0, 28 + t.val])
theorem idx5 : ∀ t : Fin cfg0.N, win0_5.index t = ![0, t.val] :=
  (by decide +kernel : ∀ t : Fin grid0.N, win0_5.index t = ![0, t.val])
theorem idx6 : ∀ t : Fin cfg0.N, win0_6.index t = ![0, t.val] :=
  (by decide +kernel : ∀ t : Fin grid0.N, win0_6.index t = ![0, t.val])
theorem idx7 : ∀ t : Fin cfg0.N, win0_7.index t = ![1, 0, t.val] :=
  (by decide +kernel : ∀ t : Fin grid0.N, win0_7.index t = ![1, 0, t.val])
theorem idx8 : ∀ t : Fin cfg0.N, win0_8.index t = ![0, t.val] :=
  (by decide +kernel : ∀ t : Fin grid0.N, win0_8.index t = ![0, t.val])
theorem idx9 : ∀ t : Fin cfg0.N, win0_9.index t = ![0, t.val] :=
  (by decide +kernel : ∀ t : Fin grid0.N, win0_9.index t = ![0, t.val])

set_option maxHeartbeats 1000000 in
theorem block0 (t : Fin cfg0.N) (q : Fin 2048) (e : Fin 128) : (iblk m c 0 t) (ix2 q e) = (columnOf m c (colOf t e)).d q := by
  refine Eq.trans ?_ (congrFun (V_main_arg0 m c) (ix2 q (colOf t e)))
  blk_ext [iblk, idx0 t]
  rfl

set_option maxHeartbeats 1000000 in
theorem block1 (t : Fin cfg0.N) (q : Fin 2048) (e : Fin 128) : (iblk m c 1 t) (ix2 q e) = (columnOf m c (colOf t e)).u q := by
  refine Eq.trans ?_ (congrFun (V_main_arg1 m c) (ix2 q ⟨2048 + (colOf t e).val, by omega⟩))
  blk_ext [iblk, idx1 t]
  show (16 + t.val) * 128 + e.val = 2048 + (t.val * 128 + e.val)
  omega

set_option maxHeartbeats 1000000 in
theorem block2 (t : Fin cfg0.N) (q : Fin 2048) (e : Fin 128) : (iblk m c 2 t) (ix2 q e) = (columnOf m c (colOf t e)).bg q := by
  refine Eq.trans ?_ (congrFun (V_main_arg1 m c) (ix2 q ⟨2560 + (colOf t e).val, by omega⟩))
  blk_ext [iblk, idx2 t]
  show (20 + t.val) * 128 + e.val = 2560 + (t.val * 128 + e.val)
  omega

set_option maxHeartbeats 1000000 in
theorem block3 (t : Fin cfg0.N) (q : Fin 2048) (e : Fin 128) : (iblk m c 3 t) (ix2 q e) = (columnOf m c (colOf t e)).cg q := by
  refine Eq.trans ?_ (congrFun (V_main_arg1 m c) (ix2 q ⟨3072 + (colOf t e).val, by omega⟩))
  blk_ext [iblk, idx3 t]
  show (24 + t.val) * 128 + e.val = 3072 + (t.val * 128 + e.val)
  omega

set_option maxHeartbeats 1000000 in
theorem block4 (t : Fin cfg0.N) (q : Fin 2048) (e : Fin 128) : (iblk m c 4 t) (ix2 q e) = (columnOf m c (colOf t e)).z q := by
  refine Eq.trans ?_ (congrFun (V_main_arg1 m c) (ix2 q ⟨3584 + (colOf t e).val, by omega⟩))
  blk_ext [iblk, idx4 t]
  show (28 + t.val) * 128 + e.val = 3584 + (t.val * 128 + e.val)
  omega

set_option maxHeartbeats 1000000 in
theorem block5 (t : Fin cfg0.N) (k : Fin 3) (e : Fin 128) : (iblk m c 5 t) (ix2 k e) = (columnOf m c (colOf t e)).w k := by
  refine Eq.trans ?_ (congrFun (V_main_arg2 m c) (ix2 k (colOf t e)))
  blk_ext [iblk, idx5 t]
  rfl

set_option maxHeartbeats 1000000 in
theorem block6 (t : Fin cfg0.N) (e : Fin 128) : (iblk m c 6 t) (ix2 0 e) = (columnOf m c (colOf t e)).b := by
  refine Eq.trans ?_ (congrFun (V_main_arg3 m c) (ix2 0 (colOf t e)))
  blk_ext [iblk, idx6 t]
  rfl

/-- The windows of a grid point. -/
def inAt (t : Fin cfg0.N) : In where
  m1 := ms0_0 t
  h1 := hs0_0 t
  m2 := ms0_1 t
  h2 := hs0_1 t
  m3 := ms0_2 t
  h3 := hs0_2 t
  m4 := ms0_3 t
  h4 := hs0_3 t
  m5 := ms0_4 t
  h5 := hs0_4 t
  m6 := ms0_5 t
  h6 := hs0_5 t
  m7 := ms0_6 t
  h7 := hs0_6 t
  x0 := iblk m c 0 t
  x1 := iblk m c 1 t
  x2 := iblk m c 2 t
  x3 := iblk m c 3 t
  x4 := iblk m c 4 t
  x5 := iblk m c 5 t
  x6 := iblk m c 6 t

theorem inAt_col (t : Fin cfg0.N) (e : Fin 128) : (inAt m c t).col e = columnOf m c (colOf t e) :=
  Column.ext (funext fun q => block0 m c t q e) (funext fun q => block1 m c t q e) (funext fun q => block2 m c t q e)
    (funext fun q => block3 m c t q e) (funext fun q => block4 m c t q e) (funext fun k => block5 m c t k e) (block6 m c t e)

theorem holds7 (t : Fin cfg0.N) : (outsAt0 m c t).1
    = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) := by
  simp only [outsAt0]

theorem left7 (t : Fin cfg0.N) (k : Fin 4) (q : Fin 2048) (e : Fin 128) :
    (outsAt0 m c t).1 (ix3 k q e) = (columnOf m c (colOf t e)).part q k := by
  have h := In.parts_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) k q e
  rw [holds7, h]
  exact congrArg (fun C : Column => C.part q k) (inAt_col m c t e)

theorem left8 (t : Fin cfg0.N) (k : Fin 8) (e : Fin 128) :
    (outsAt0 m c t).2.1 (ix2 k e) = if h : k.val < 3 then (columnOf m c (colOf t e)).dW ⟨k.val, h⟩ else 0 := by
  rw [← inAt_col]
  exact (inAt m c t).stored8 c (grid0.coords t) (ms0_7 t) (hs0_7 t) (ms0_8 t) (hs0_8 t) (ms0_9 t) (hs0_9 t) k e

theorem left9 (t : Fin cfg0.N) (e : Fin 128) : (outsAt0 m c t).2.2 (ix2 0 e) = (columnOf m c (colOf t e)).dB := by
  refine Eq.trans ?_ (congrArg Column.dB (inAt_col m c t e))
  exact (inAt m c t).stored9 c (grid0.coords t) (ms0_7 t) (hs0_7 t) (ms0_8 t) (hs0_8 t) (ms0_9 t) (hs0_9 t) e

/-! ## The arrays after the run -/

set_option maxHeartbeats 1000000 in
theorem arr7 (k : Fin 4) (q : Fin 2048) (e : Fin 512) :
    ((dats m 0 c).arrAt 7 cfg0.N : Vec Ideal S8x2048x512 .bf16) (ix3 ⟨4 + k.val, by omega⟩ q e) = (columnOf m c e).part q k := by
  refine Eq.trans ?_ ((congrFun (blocks7 m c (pointOf e) (flush0_7 (pointOf e))) (ix3 k q (placeOf e))).trans
    ((congrFun (flushed7 m c (pointOf e)) _).trans ((left7 m c (pointOf e) k q (placeOf e)).trans (by rw [colOf_point]))))
  refine congrArg ((dats m 0 c).arrAt 7 cfg0.N) ?_
  blk_ext [idx7 (pointOf e)]
  show e.val = e.val / 128 * 128 + e.val % 128
  omega

set_option maxHeartbeats 1000000 in
theorem arr8 (k : Fin 8) (e : Fin 512) :
    ((dats m 0 c).arrAt 8 cfg0.N : Vec Ideal S8x512 .f32) (ix2 k e) = if h : k.val < 3 then (columnOf m c e).dW ⟨k.val, h⟩ else 0 := by
  refine Eq.trans ?_ ((congrFun (blocks8 m c (pointOf e) (flush0_8 (pointOf e))) (ix2 k (placeOf e))).trans
    ((congrFun (flushed8 m c (pointOf e)) _).trans ((left8 m c (pointOf e) k (placeOf e)).trans (by rw [colOf_point]))))
  refine congrArg ((dats m 0 c).arrAt 8 cfg0.N) ?_
  blk_ext [idx8 (pointOf e)]
  show e.val = e.val / 128 * 128 + e.val % 128
  omega

set_option maxHeartbeats 1000000 in
theorem arr9 (e : Fin 512) : ((dats m 0 c).arrAt 9 cfg0.N : Vec Ideal S1x512 .f32) (ix2 0 e) = (columnOf m c e).dB := by
  refine Eq.trans ?_ ((congrFun (blocks9 m c (pointOf e) (flush0_9 (pointOf e))) (ix2 0 (placeOf e))).trans
    ((congrFun (flushed9 m c (pointOf e)) _).trans ((left9 m c (pointOf e) (placeOf e)).trans (by rw [colOf_point]))))
  refine congrArg ((dats m 0 c).arrAt 9 cfg0.N) ?_
  blk_ext [idx9 (pointOf e)]
  show e.val = e.val / 128 * 128 + e.val % 128
  omega

/-- The layers that are not the convolution's stay. -/
theorem kept7 (b : Fin 8) (hb : b.val < 4) (q : Fin 2048) (e : Fin 512) :
    ((dats m 0 c).arrAt 7 cfg0.N : Vec Ideal S8x2048x512 .bf16) (ix3 b q e) = m ((c : Thread nD τ).loc main_arg4) (ix3 b q e) := by
  refine (entry7 m c (ix3 b q e) fun t _ hm => ?_).trans (congrFun (before m c) _)
  have h := ((cfg0.win 7).emb_mem_blk_iff t (ix3 b q e)).1 hm (0 : Fin 3)
  have e7 : (cfg0.win 7).index t = ![1, 0, t.val] := idx7 t
  rw [e7] at h
  have h1 : 1 * 4 ≤ b.val := h.1
  omega

end Cert.Kernel8Ideal.Conv

end
-- ==== Proof.ConvRef.lean ====
/- The arrays of the convolution's reference at their coordinates. -/
module

public import proofs.«01_k».proof.Proof.ConvSpec
public import proofs.«01_k».proof.Proof.Gen.Reference8Ideal.Read
public import Idealize.ShloMosaic.Lib.Pointwise
public import Idealize.ShloMosaic.Lib.KernelVsHost

@[expose] public section

set_option maxRecDepth 16384

noncomputable section

namespace Cert.Reference8Ideal.Conv

open Idealize.ShloMosaic Cert.Reference8Ideal Cert.Reference8Ideal.Gen Cert.Reference8Ideal.Read
open Cert.NormGrad Cert.ConvGrad

local notation "𝔼" => Idealize.ShloMosaic.Ideal

abbrev Rows := (⟨S2048x512, .f32⟩ : BufTy).Contents (Elt 𝔼)
abbrev Wide := (⟨S2048x4096, .f32⟩ : BufTy).Contents (Elt 𝔼)
abbrev Taps := (⟨S3x512, .f32⟩ : BufTy).Contents (Elt 𝔼)
abbrev Bias := (⟨S1x512, .f32⟩ : BufTy).Contents (Elt 𝔼)
abbrev Parts := (⟨S8x2048x512, .bf16⟩ : BufTy).Contents (Elt 𝔼)

/-- One column of the arguments. -/
def columnAt (x0 : Rows) (x1 : Wide) (x2 : Taps) (x3 : Bias) (e : Fin 512) : Column where
  d q := x0 (ix2 q e)
  u q := x1 (ix2 q ⟨2048 + e.val, by omega⟩)
  bg q := x1 (ix2 q ⟨2560 + e.val, by omega⟩)
  cg q := x1 (ix2 q ⟨3072 + e.val, by omega⟩)
  z q := x1 (ix2 q ⟨3584 + e.val, by omega⟩)
  w k := x2 (ix2 k e)
  b := x3 (ix2 0 e)

variable (x0 : Rows) (x1 : Wide) (x2 : Taps) (x3 : Bias) (x4 : Parts) (q : Fin 2048) (e : Fin 512)

local notation "A" => columnAt x0 x1 x2 x3 e

theorem zero_word : Ideal.ofBits .f32 0x00000000#32 = (0 : EReal) := Ideal.ofBits_zero .f32

/-! ## The convolution -/

theorem u_at : val_main_v1 (F := 𝔼) x1 (ix2 q e) = (A).u q := by
  pointwise [val_main_v1, val_main_v0]
  rfl

theorem bg_at : val_main_v2 (F := 𝔼) x1 (ix2 q e) = (A).bg q := by
  pointwise [val_main_v2, val_main_v0]
  exact congrArg (fun k => x1 (ix2 q k)) (Fin.ext (by show 2048 + (512 + e.val) = 2560 + e.val; omega))

theorem cg_at : val_main_v3 (F := 𝔼) x1 (ix2 q e) = (A).cg q := by
  pointwise [val_main_v3, val_main_v0]
  exact congrArg (fun k => x1 (ix2 q k)) (Fin.ext (by show 2048 + (1024 + e.val) = 3072 + e.val; omega))

theorem z_at : val_main_v4 (F := 𝔼) x1 (ix2 q e) = (A).z q := by
  pointwise [val_main_v4, val_main_v0]
  exact congrArg (fun k => x1 (ix2 q k)) (Fin.ext (by show 2048 + (1536 + e.val) = 3584 + e.val; omega))

theorem cu_at : val_main_v5 (F := 𝔼) x1 (ix2 q e) = (A).cu q := by
  rw [val_main_v5_apply, cg_at x0 x1 x2 x3, u_at x0 x1 x2 x3]
  rfl

theorem edge_at (i : S1x512.Idx) : val_main_v6 (F := 𝔼) i = (0 : EReal) := zero_word

/-- The column between its two rows of zeros. -/
theorem inner_at (r : Fin 2050) (h : r.val = q.val + 1) : val_main_v7 (F := 𝔼) x1 (ix2 r e) = (A).cu q := by
  rw [← cu_at]
  exact concatenate_apply_piece (t := S2050x512) 0
    [⟨S1x512, val_main_v6 (F := 𝔼)⟩, ⟨S2048x512, val_main_v5 (F := 𝔼) x1⟩, ⟨S1x512, val_main_v6 (F := 𝔼)⟩]
    concatenates_S1x512_S2048x512_S1x512_S2050x512_d0 (ix2 r e) 1 (show 1 < 3 by decide) S2048x512
    (val_main_v5 (F := 𝔼) x1) rfl rfl 1 rfl (ix2 q e) (fun b hb => by
      match b with
      | ⟨0, _⟩ => exact absurd rfl hb
      | ⟨1, _⟩ => rfl) (by show 1 + q.val = r.val; omega)

theorem first_at (r : Fin 2050) (h : r.val = 0) : val_main_v7 (F := 𝔼) x1 (ix2 r e) = (0 : EReal) := by
  rw [← edge_at (ix2 0 e)]
  exact concatenate_apply_piece (t := S2050x512) 0
    [⟨S1x512, val_main_v6 (F := 𝔼)⟩, ⟨S2048x512, val_main_v5 (F := 𝔼) x1⟩, ⟨S1x512, val_main_v6 (F := 𝔼)⟩]
    concatenates_S1x512_S2048x512_S1x512_S2050x512_d0 (ix2 r e) 0 (show 0 < 3 by decide) S1x512
    (val_main_v6 (F := 𝔼)) rfl rfl 0 rfl (ix2 0 e) (fun b hb => by
      match b with
      | ⟨0, _⟩ => exact absurd rfl hb
      | ⟨1, _⟩ => rfl) (by show 0 + 0 = r.val; omega)

theorem last_at (r : Fin 2050) (h : r.val = 2049) : val_main_v7 (F := 𝔼) x1 (ix2 r e) = (0 : EReal) := by
  rw [← edge_at (ix2 0 e)]
  exact concatenate_apply_piece (t := S2050x512) 0
    [⟨S1x512, val_main_v6 (F := 𝔼)⟩, ⟨S2048x512, val_main_v5 (F := 𝔼) x1⟩, ⟨S1x512, val_main_v6 (F := 𝔼)⟩]
    concatenates_S1x512_S2048x512_S1x512_S2050x512_d0 (ix2 r e) 2 (show 2 < 3 by decide) S1x512
    (val_main_v6 (F := 𝔼)) rfl rfl 2049 rfl (ix2 0 e) (fun b hb => by
      match b with
      | ⟨0, _⟩ => exact absurd rfl hb
      | ⟨1, _⟩ => rfl) (by show 2049 + 0 = r.val; omega)

theorem prev_at : val_main_v10 (F := 𝔼) x1 (ix2 q e) = prev (A).cu q := by
  rw [val_main_v10_apply, show idx_main_v10 (ix2 q e) = ix2 ⟨q.val, by omega⟩ e from by funext a; match a with | 0 => rfl | 1 => rfl, prev]
  split
  · exact first_at x1 e _ ‹_›
  · exact inner_at x0 x1 x2 x3 ⟨q.val - 1, by omega⟩ e _ (by show q.val = q.val - 1 + 1; omega)

theorem same_at : val_main_v18 (F := 𝔼) x1 (ix2 q e) = (A).cu q := by
  rw [val_main_v18_apply, show idx_main_v18 (ix2 q e) = ix2 ⟨1 + q.val, by omega⟩ e from by funext a; match a with | 0 => rfl | 1 => rfl]
  exact inner_at x0 x1 x2 x3 q e _ (Nat.add_comm _ _)

theorem next_at : val_main_v25 (F := 𝔼) x1 (ix2 q e) = next (A).cu q := by
  rw [val_main_v25_apply, show idx_main_v25 (ix2 q e) = ix2 ⟨2 + q.val, by omega⟩ e from by funext a; match a with | 0 => rfl | 1 => rfl, next]
  split
  · exact last_at x1 e _ (by show 2 + q.val = 2049; omega)
  · exact inner_at x0 x1 x2 x3 ⟨q.val + 1, by omega⟩ e _ (by show 2 + q.val = q.val + 1 + 1; omega)

theorem tap0_at : val_main_v14 (F := 𝔼) x2 (ix2 q e) = (A).w 0 := by
  pointwise [val_main_v14, val_main_v13, val_main_v12, val_main_v11]
  rfl

theorem tap1_at : val_main_v22 (F := 𝔼) x2 (ix2 q e) = (A).w 1 := by
  pointwise [val_main_v22, val_main_v21, val_main_v20, val_main_v19]
  rfl

theorem tap2_at : val_main_v29 (F := 𝔼) x2 (ix2 q e) = (A).w 2 := by
  pointwise [val_main_v29, val_main_v28, val_main_v27, val_main_v26]
  rfl

theorem bias_at : val_main_v16 (F := 𝔼) x3 (ix2 q e) = (A).b := by
  pointwise [val_main_v16]
  rfl

theorem conv_at : val_main_v31 (F := 𝔼) x1 x2 x3 (ix2 q e) = (A).conv q := by
  rw [val_main_v31_apply, val_main_v24_apply, val_main_v17_apply, val_main_v15_apply, val_main_v23_apply, val_main_v30_apply,
    prev_at x0 x1 x2 x3, same_at x0 x1 x2 x3, next_at x0 x1 x2 x3, tap0_at x0 x1 x2 x3, tap1_at x0 x1 x2 x3, tap2_at x0 x1 x2 x3,
    bias_at x0 x1 x2 x3]
  rfl

/-! ## The gate of the result and its derivative -/

theorem sig_at : val_main_v33_2 (F := 𝔼) x1 (ix2 q e) = Ideal.logistic ((A).z q) := by
  rw [val_main_v33_2_apply, val_main_call0_v3_apply, val_main_call0_v1_apply, val_main_call0_v0_apply,
    z_at x0 x1 x2 x3, val_main_call0_v4_apply, val_main_call0_v2_apply, val_main_call0_cst_apply, val_main_call0_cst_0_apply]
  refine Eq.trans (show _ = Ideal.div (Ideal.ofBits .f32 0x3F800000#32) (Ideal.ofBits .f32 0x3F800000#32 + Ideal.exp (-((A).z q))) from rfl) ?_
  rw [word_one]
  rfl

theorem slope_at : val_main_v33_1 (F := 𝔼) x1 (ix2 q e)
    = Ideal.logistic ((A).z q) * (Ideal.ofBits .f32 0x3F800000#32 - Ideal.logistic ((A).z q)) := by
  rw [val_main_v33_1_apply, val_main_call0_v7_apply, sig_at x0 x1 x2 x3, val_main_call0_v6_apply, val_main_call0_cst_1_apply]
  rfl

theorem dGate_at : val_main_v36 (F := 𝔼) x0 x1 (ix2 q e) = (A).dGate q := by
  rw [val_main_v36_apply, val_main_v33_0_apply, sig_at x0 x1 x2 x3, z_at x0 x1 x2 x3]
  rfl

theorem dConv_at : val_main_v38 (F := 𝔼) x0 x1 (ix2 q e) = (A).dConv q := by
  rw [val_main_v38_apply, dGate_at x0 x1 x2 x3, bg_at x0 x1 x2 x3]
  exact mul_comm _ _

theorem dZ_at : val_main_v37 (F := 𝔼) x0 x1 x2 x3 (ix2 q e) = (A).dZPlain q := by
  rw [val_main_v37_apply, val_main_call1_v2_apply, val_main_call1_v1_apply, val_main_call1_v0_apply, val_main_v35_apply,
    val_main_v32_apply, conv_at x0 x1 x2 x3, bg_at x0 x1 x2 x3, sig_at x0 x1 x2 x3, slope_at x0 x1 x2 x3, z_at x0 x1 x2 x3]
  rfl

theorem dBg_at : val_main_v39 (F := 𝔼) x0 x1 x2 x3 (ix2 q e) = (A).dBg q := by
  rw [val_main_v39_apply, dGate_at x0 x1 x2 x3, conv_at x0 x1 x2 x3]
  rfl

/-! ## Back through the three taps -/

theorem back2_at : val_main_v44 (F := 𝔼) x0 x1 x2 (ix2 q e) = (A).dConv q * (A).w 2 := by
  rw [val_main_v44_apply, dConv_at x0 x1 x2 x3,
    show val_main_v43 (F := 𝔼) x2 (ix2 q e) = (A).w 2 from (rfl : val_main_v43 (F := 𝔼) x2 = val_main_v29 (F := 𝔼) x2) ▸ tap2_at x0 x1 x2 x3 q e]
  rfl

theorem back1_at : val_main_v53 (F := 𝔼) x0 x1 x2 (ix2 q e) = (A).dConv q * (A).w 1 := by
  rw [val_main_v53_apply, dConv_at x0 x1 x2 x3,
    show val_main_v52 (F := 𝔼) x2 (ix2 q e) = (A).w 1 from (rfl : val_main_v52 (F := 𝔼) x2 = val_main_v22 (F := 𝔼) x2) ▸ tap1_at x0 x1 x2 x3 q e]
  rfl

theorem back0_at : val_main_v66 (F := 𝔼) x0 x1 x2 (ix2 q e) = (A).dConv q * (A).w 0 := by
  rw [val_main_v66_apply, dConv_at x0 x1 x2 x3,
    show val_main_v65 (F := 𝔼) x2 (ix2 q e) = (A).w 0 from (rfl : val_main_v65 (F := 𝔼) x2 = val_main_v14 (F := 𝔼) x2) ▸ tap0_at x0 x1 x2 x3 q e]
  rfl

section Pads

variable (y : Rows) (v : (⟨S_, .f32⟩ : BufTy).Contents (Elt 𝔼)) (hv : ∀ i, v i = (0 : EReal))
include hv

theorem pad2_at : pad S2050x512 ![2, 0] ![0, 0] ![0, 0] y v pads_S2048x512_S2050x512_200_000 h_S_ (ix2 ⟨1 + q.val, by omega⟩ e)
    = prev (fun r => y (ix2 r e)) q := by
  rw [prev]
  split
  · refine (pad_apply_of_not_inside ![2, 0] ![0, 0] ![0, 0] y v _ _ _ 0 fun h => ?_).trans (hv _)
    have k : 2 ≤ 1 + q.val := h.1
    omega
  · refine pad_apply_of_inside ![2, 0] ![0, 0] ![0, 0] y v _ _ _ (ix2 ⟨q.val - 1, by omega⟩ e) fun a => ?_
    match a with
    | 0 => show 1 + q.val = 2 + (q.val - 1) * (0 + 1)
           omega
    | 1 => show e.val = 0 + e.val * (0 + 1)
           omega

omit hv in
theorem pad1_at : pad S2050x512 ![1, 0] ![1, 0] ![0, 0] y v pads_S2048x512_S2050x512_110_000 h_S_ (ix2 ⟨1 + q.val, by omega⟩ e) = y (ix2 q e) := by
  refine pad_apply_of_inside ![1, 0] ![1, 0] ![0, 0] y v _ _ _ (ix2 q e) fun a => ?_
  match a with
  | 0 => show 1 + q.val = 1 + q.val * (0 + 1)
         omega
  | 1 => show e.val = 0 + e.val * (0 + 1)
         omega

theorem pad0_at : pad S2050x512 ![0, 0] ![2, 0] ![0, 0] y v pads_S2048x512_S2050x512_020_000 h_S_ (ix2 ⟨1 + q.val, by omega⟩ e)
    = next (fun r => y (ix2 r e)) q := by
  rw [next]
  split
  · refine (pad_apply_of_not_inside ![0, 0] ![2, 0] ![0, 0] y v _ _ _ 0 fun h => ?_).trans (hv _)
    have k : (1 + q.val - 0) / (0 + 1) < 2048 := h.2.2
    omega
  · refine pad_apply_of_inside ![0, 0] ![2, 0] ![0, 0] y v _ _ _ (ix2 ⟨q.val + 1, by omega⟩ e) fun a => ?_
    match a with
    | 0 => show 1 + q.val = 0 + (q.val + 1) * (0 + 1)
           omega
    | 1 => show e.val = 0 + e.val * (0 + 1)
           omega

end Pads

theorem dCu_at : val_main_v74 (F := 𝔼) x0 x1 x2 (ix2 q e) = (A).dCu q := by
  rw [val_main_v74_apply, show idx_main_v74 (ix2 q e) = ix2 ⟨1 + q.val, by omega⟩ e from by funext a; match a with | 0 => rfl | 1 => rfl,
    val_main_v72_apply, val_main_v59_apply, val_main_v48, val_main_v58, val_main_v71, pad2_at q e _ (val_main_cst_5 (F := 𝔼)) (fun _ => zero_word), pad1_at,
    pad0_at q e _ (val_main_cst_14 (F := 𝔼)) (fun _ => zero_word)]
  simp only [back0_at x0 x1 x2 x3, back1_at x0 x1 x2 x3, back2_at x0 x1 x2 x3]
  rw [prev_mul, next_mul]
  exact (add_comm _ _).trans (((congrArg (fun a : EReal => _ + a) (add_comm _ _)).trans (add_assoc _ _ _).symm))

theorem dU_at : val_main_v76 (F := 𝔼) x0 x1 x2 (ix2 q e) = (A).dU q := by
  rw [val_main_v76_apply, dCu_at x0 x1 x2 x3, cg_at x0 x1 x2 x3]
  exact mul_comm _ _

theorem dCg_at : val_main_v77 (F := 𝔼) x0 x1 x2 (ix2 q e) = (A).dCg q := by
  rw [val_main_v77_apply, dCu_at x0 x1 x2 x3, u_at x0 x1 x2 x3]
  rfl

/-! ## The taps and the bias -/

theorem dB_at : val_main_v61 (F := 𝔼) x0 x1 (ix2 0 e) = (A).dB := by
  have z : val_main_cst_10 (F := 𝔼) (Shape.Idx.first h_S_) = 0 := zero_word
  have s : ∀ q, val_main_v38 (F := 𝔼) x0 x1 (ix2 q e) = (A).dConv q := fun q => dConv_at x0 x1 x2 x3 q e
  generalize hy : val_main_v38 (F := 𝔼) x0 x1 = y at s
  rw [val_main_v61, val_main_v60, hy]
  pointwise
  rw [z, zero_add]
  exact Finset.sum_congr rfl fun q _ => s q

theorem dW2_at : val_main_v46 (F := 𝔼) x0 x1 (ix2 0 e) = (A).dW 2 := by
  have z : val_main_cst_2 (F := 𝔼) (Shape.Idx.first h_S_) = 0 := zero_word
  have z' : val_main_cst_3 (F := 𝔼) (Shape.Idx.first h_S_) = 0 := zero_word
  have s : ∀ q, val_main_v40 (F := 𝔼) x0 x1 (ix2 q e) = (A).dConv q * next (A).cu q := fun q => by
    rw [val_main_v40_apply, dConv_at x0 x1 x2 x3, next_at x0 x1 x2 x3]
    exact mul_comm _ _
  generalize hy : val_main_v40 (F := 𝔼) x0 x1 = y at s
  rw [val_main_v46, val_main_v45, val_main_v42, val_main_v41, hy]
  pointwise
  rw [z', zero_add, Fin.sum_univ_one, z, zero_add]
  exact Finset.sum_congr rfl fun q _ => s q

theorem dW1_at : val_main_v55 (F := 𝔼) x0 x1 (ix2 0 e) = (A).dW 1 := by
  have z : val_main_cst_6 (F := 𝔼) (Shape.Idx.first h_S_) = 0 := zero_word
  have z' : val_main_cst_7 (F := 𝔼) (Shape.Idx.first h_S_) = 0 := zero_word
  have s : ∀ q, val_main_v49 (F := 𝔼) x0 x1 (ix2 q e) = (A).dConv q * (A).cu q := fun q => by
    rw [val_main_v49_apply, dConv_at x0 x1 x2 x3, same_at x0 x1 x2 x3]
    exact mul_comm _ _
  generalize hy : val_main_v49 (F := 𝔼) x0 x1 = y at s
  rw [val_main_v55, val_main_v54, val_main_v51, val_main_v50, hy]
  pointwise
  rw [z', zero_add, Fin.sum_univ_one, z, zero_add]
  exact Finset.sum_congr rfl fun q _ => s q

theorem dW0_at : val_main_v68 (F := 𝔼) x0 x1 (ix2 0 e) = (A).dW 0 := by
  have z : val_main_cst_11 (F := 𝔼) (Shape.Idx.first h_S_) = 0 := zero_word
  have z' : val_main_cst_12 (F := 𝔼) (Shape.Idx.first h_S_) = 0 := zero_word
  have s : ∀ q, val_main_v62 (F := 𝔼) x0 x1 (ix2 q e) = (A).dConv q * prev (A).cu q := fun q => by
    rw [val_main_v62_apply, dConv_at x0 x1 x2 x3, prev_at x0 x1 x2 x3]
    exact mul_comm _ _
  generalize hy : val_main_v62 (F := 𝔼) x0 x1 = y at s
  rw [val_main_v68, val_main_v67, val_main_v64, val_main_v63, hy]
  pointwise
  rw [z', zero_add, Fin.sum_univ_one, z, zero_add]
  exact Finset.sum_congr rfl fun q _ => s q

/-- One row among three. -/
theorem row_at (l m : ℕ) (h : S1x512.Pads ![l, 0] ![m, 0] ![0, 0] S3x512) (y : Bias) (v : (⟨S_, .f32⟩ : BufTy).Contents (Elt 𝔼))
    (hv : ∀ i, v i = (0 : EReal)) (k : Fin 3) :
    pad S3x512 ![l, 0] ![m, 0] ![0, 0] y v h h_S_ (ix2 k e) = if k.val = l then (fun a : EReal => a) (y (ix2 0 e)) else 0 := by
  split
  · refine pad_apply_of_inside ![l, 0] ![m, 0] ![0, 0] y v _ _ _ (ix2 0 e) fun a => ?_
    match a with
    | 0 => show k.val = l + 0 * (0 + 1)
           omega
    | 1 => show e.val = 0 + e.val * (0 + 1)
           omega
  · refine (pad_apply_of_not_inside ![l, 0] ![m, 0] ![0, 0] y v _ _ _ 0 fun h => ?_).trans (hv _)
    have a : l ≤ k.val := h.1
    have b : (k.val - l) / (0 + 1) < 1 := h.2.2
    omega

theorem dW_at (k : Fin 3) : val_main_v70 (F := 𝔼) x0 x1 (ix2 k e) = (A).dW k := by
  rw [val_main_v70_apply, val_main_v57_apply, val_main_v47, val_main_v56, val_main_v69,
    row_at e 2 0 _ _ (val_main_cst_4 (F := 𝔼)) (fun _ => zero_word), row_at e 1 1 _ _ (val_main_cst_8 (F := 𝔼)) (fun _ => zero_word),
    row_at e 0 2 _ _ (val_main_cst_13 (F := 𝔼)) (fun _ => zero_word), dW0_at x0 x1 x2 x3, dW1_at x0 x1 x2 x3, dW2_at x0 x1 x2 x3]
  match k with
  | 0 => exact (congrArg (fun a : EReal => a + (A).dW 0) (add_zero (0 : EReal))).trans (zero_add _)
  | 1 => exact (add_zero _).trans (zero_add _)
  | 2 => exact (add_zero _).trans (add_zero _)

theorem word_zero : val_main_call2_v0 (F := 𝔼) = fun _ => (0 : EReal) := by
  funext i
  exact sitofp_zero (φ := .f32)

theorem taps_at (k : Fin 8) : val_main_v86 (F := 𝔼) x0 x1 (ix2 k e) = if h : k.val < 3 then (A).dW ⟨k.val, h⟩ else 0 := by
  rw [val_main_v86]
  split
  · rw [← dW_at]
    refine pad_apply_of_inside ![0, 0] ![5, 0] ![0, 0] _ _ _ _ _ (ix2 ⟨k.val, ‹_›⟩ e) fun a => ?_
    match a with
    | 0 => show k.val = 0 + k.val * (0 + 1)
           omega
    | 1 => show e.val = 0 + e.val * (0 + 1)
           omega
  · refine (pad_apply_of_not_inside (s := S3x512) ![0, 0] ![5, 0] ![0, 0] _ _ _ _ _ 0 fun h => ?_).trans (congrFun word_zero _)
    have b : (k.val - 0) / (0 + 1) < 3 := h.2.2
    omega

/-! ## The parts -/

theorem part0_at : val_main_v79 (F := 𝔼) x0 x1 x2 (ix3 0 q e) = (A).dU q := by
  rw [← dU_at]; generalize hy : val_main_v76 (F := 𝔼) x0 x1 x2 = y; rw [val_main_v79, hy]; pointwise

theorem part1_at : val_main_v80 (F := 𝔼) x0 x1 x2 x3 (ix3 0 q e) = (A).dBg q := by
  rw [← dBg_at]; generalize hy : val_main_v39 (F := 𝔼) x0 x1 x2 x3 = y; rw [val_main_v80, hy]; pointwise

theorem part2_at : val_main_v81 (F := 𝔼) x0 x1 x2 (ix3 0 q e) = (A).dCg q := by
  rw [← dCg_at]; generalize hy : val_main_v77 (F := 𝔼) x0 x1 x2 = y; rw [val_main_v81, hy]; pointwise

theorem part3_at : val_main_v82 (F := 𝔼) x0 x1 x2 x3 (ix3 0 q e) = (A).dZPlain q := by
  rw [← dZ_at]; generalize hy : val_main_v37 (F := 𝔼) x0 x1 x2 x3 = y; rw [val_main_v82, hy]; pointwise

/-- Four layers, one of each. -/
theorem stack_at (p : Fin 4 → (⟨S1x2048x512, .f32⟩ : BufTy).Contents (Elt 𝔼)) (k : Fin 4) :
    concatenate S4x2048x512 0 [⟨S1x2048x512, p 0⟩, ⟨S1x2048x512, p 1⟩, ⟨S1x2048x512, p 2⟩, ⟨S1x2048x512, p 3⟩]
      concatenates_S1x2048x512_S1x2048x512_S1x2048x512_S1x2048x512_S4x2048x512_d0 (ix3 k q e) = p k (ix3 0 q e) :=
  concatenate_ofFn_unit_apply (t := S4x2048x512) 0 p
    concatenates_S1x2048x512_S1x2048x512_S1x2048x512_S1x2048x512_S4x2048x512_d0 rfl rfl (ix3 k q e) k rfl (ix3 0 q e) fun b hb => by
      match b with
      | ⟨0, _⟩ => exact absurd rfl hb
      | ⟨1, _⟩ => rfl
      | ⟨2, _⟩ => rfl

def partPlain (C : Column) (q : Fin 2048) (k : Fin 4) : EReal :=
  match k with | 0 => C.dU q | 1 => C.dBg q | 2 => C.dCg q | 3 => C.dZPlain q

theorem stacked_at (k : Fin 4) : val_main_v83 (F := 𝔼) x0 x1 x2 x3 (ix3 k q e) = partPlain (A) q k := by
  refine (stack_at q e (fun k => match k with
    | 0 => val_main_v79 (F := 𝔼) x0 x1 x2 | 1 => val_main_v80 (F := 𝔼) x0 x1 x2 x3
    | 2 => val_main_v81 (F := 𝔼) x0 x1 x2 | 3 => val_main_v82 (F := 𝔼) x0 x1 x2 x3) k).trans ?_
  match k with
  | 0 => exact part0_at x0 x1 x2 x3 q e
  | 1 => exact part1_at x0 x1 x2 x3 q e
  | 2 => exact part2_at x0 x1 x2 x3 q e
  | 3 => exact part3_at x0 x1 x2 x3 q e

theorem kept_at (b : Fin 8) (h : b.val < 4) : val_main_v85 (F := 𝔼) x0 x1 x2 x3 x4 (ix3 b q e) = x4 (ix3 b q e) := by
  generalize hy : val_main_v84 (F := 𝔼) x0 x1 x2 x3 = y
  rw [val_main_v85, hy]
  pointwise [val_main_v78]
  rw [dif_pos h]

theorem part_at (k : Fin 4) : val_main_v85 (F := 𝔼) x0 x1 x2 x3 x4 (ix3 ⟨4 + k.val, by omega⟩ q e) = partPlain (A) q k := by
  rw [← stacked_at]
  generalize hy : val_main_v83 (F := 𝔼) x0 x1 x2 x3 = y
  rw [val_main_v85, val_main_v84, hy]
  pointwise

end Cert.Reference8Ideal.Conv

end
-- ==== Proof.ConvFinite.lean ====
/- The precondition of the convolution's gradients read back: all that enters them but the gate of the result is real. -/
module

public import proofs.«01_k».proof.Pre_finite_c
public import proofs.«01_k».proof.Proof.Finite

@[expose] public section

namespace Cert.Pre_finite_c

open Idealize.ShloMosaic Cert.Pre_finite

theorem facts : Facts where
  slices_S2048x4096_S2048x1536_0_2048 := by decide
  bcast_S_S2048x1536 := by decide
  reducesTo_S2048x1536_S_d0_1 := by decide
  h_S_ := by decide
  bcast_S_S2048x512 := by decide
  reducesTo_S2048x512_S_d0_1 := by decide
  bcast_S_S3x512 := by decide
  reducesTo_S3x512_S_d0_1 := by decide
  bcast_S_S1x512 := by decide
  reducesTo_S1x512_S_d0_1 := by decide

instance : Subsingleton S_.Idx := ⟨fun a b => funext fun i => i.elim0⟩

section
attribute [local instance] Cert.Pre_finite_c.facts
variable (a0 : FVec Ideal S2048x512 .f32) (a1 : FVec Ideal S2048x4096 .f32) (a2 : FVec Ideal S3x512 .f32) (a3 : FVec Ideal S1x512 .f32)
  (a4 : FVec Ideal S8x2048x512 .bf16) (a5 : FVec Ideal S8x128 .f32)

/-- The convolution's input and its two gates in the combined projection. -/
theorem half_at (q : Fin 2048) (k : Fin 1536) :
    extractStridedSlice S2048x1536 ![0, 2048] a1 Facts.slices_S2048x4096_S2048x1536_0_2048 (ix2 q k) = a1 (ix2 q ⟨2048 + k.val, by omega⟩) := by
  pointwise

theorem reals (h : fn (F := Ideal) a0 a1 a2 a3 a4 a5 = fun _ => 1#1) :
    (∀ i, ∃ r : ℝ, a0 i = r) ∧ (∀ (q : Fin 2048) (k : Fin 1536), ∃ r : ℝ, a1 (ix2 q ⟨2048 + k.val, by omega⟩) = r) ∧ (∀ i, ∃ r : ℝ, a2 i = r)
      ∧ ∀ i, ∃ r : ℝ, a3 i = r := by
  have e := congrFun h ix0
  unfold fn fn_part1 at e
  obtain ⟨e, eb⟩ := IntOp.andi_eq_one.1 e
  obtain ⟨e, ew⟩ := IntOp.andi_eq_one.1 e
  obtain ⟨ep, ed⟩ := IntOp.andi_eq_one.1 e
  exact ⟨fun i => real_of_word (Host.reduce_andi_all _ _ _ _ _ ed i),
    fun q k => (real_of_word (Host.reduce_andi_all _ _ _ _ _ ep (ix2 q k))).imp fun r k' => (half_at a1 q k).symm.trans k',
    fun i => real_of_word (Host.reduce_andi_all _ _ _ _ _ ew i), fun i => real_of_word (Host.reduce_andi_all _ _ _ _ _ eb i)⟩
end

end Cert.Pre_finite_c
-- ==== Proof.ConvEqual.lean ====
/- The convolution's backward kernel and its reference leave the same gradients. -/
module

public import proofs.«01_k».proof.Defs
public import proofs.«01_k».proof.Proof.ConvArrays
public import proofs.«01_k».proof.Proof.ConvRef
public import proofs.«01_k».proof.Proof.ConvFinite
public import proofs.«01_k».proof.Proof.OutEqual
public import proofs.«01_k».proof.Proof.Gen.Reference8Ideal.Run

@[expose] public section

set_option maxRecDepth 16384

noncomputable section

namespace Cert.ConvGrad

open Idealize.ShloMosaic Idealize.SL.Sem Idealize.ShloMosaic.TcCoe Cert.NormGrad Cert.OutGrad

attribute [local instance] Cert.Pre_finite_c.facts

/-- The precondition makes every column real but for the gate of the result. -/
theorem finite_of_pre {m : (ℓ : Loc Cert.Kernel8Ideal.nD Cert.Kernel8Ideal.τ Cert.Kernel8Ideal.sig) → Buf (Elt Ideal) ℓ}
    (h : Cert.Pre_Kernel8Ideal_finite_c m) (c : Dev Cert.Kernel8Ideal.nD) (e : Fin 512) : (Cert.Kernel8Ideal.Conv.columnOf m c e).Finite := by
  obtain ⟨hd, hp, hw, hb⟩ := Cert.Pre_finite_c.reals _ _ _ _ _ _ (h c)
  have at_ (q : Fin 2048) (n : ℕ) (hn : n + e.val < 1536) : ∃ r : ℝ,
      m ((c : Thread Cert.Kernel8Ideal.nD Cert.Kernel8Ideal.τ).loc Cert.Kernel8Ideal.main_arg1) (ix2 q ⟨2048 + (n + e.val), by omega⟩) = (r : EReal) :=
    hp q ⟨n + e.val, hn⟩
  have same (n : ℕ) (q : Fin 2048) (k : Fin 4096) (hn : n + e.val < 1536) (hk : 2048 + (n + e.val) = k.val) : ∃ r : ℝ,
      m ((c : Thread Cert.Kernel8Ideal.nD Cert.Kernel8Ideal.τ).loc Cert.Kernel8Ideal.main_arg1) (ix2 q k) = (r : EReal) := by
    have e1 : (⟨2048 + (n + e.val), by omega⟩ : Fin 4096) = k := Fin.ext hk
    exact e1 ▸ at_ q n hn
  exact ⟨fun q => hd _, fun q => same 0 q _ (by omega) (show 2048 + (0 + e.val) = 2048 + e.val by omega),
    fun q => same 512 q _ (by omega) (show 2048 + (512 + e.val) = 2560 + e.val by omega),
    fun q => same 1024 q _ (by omega) (show 2048 + (1024 + e.val) = 3072 + e.val by omega),
    fun k => hw _, hb _⟩

/-- Under it the kernel's form of every part is the plain one. -/
theorem parts_agree {C : Column} (h : C.Finite) (q : Fin 2048) (k : Fin 4) : Cert.Reference8Ideal.Conv.partPlain C q k = C.part q k := by
  match k with
  | 0 => rfl
  | 1 => rfl
  | 2 => rfl
  | 3 => exact (h.dZ q).symm

open Cert.Reference8Ideal.Read Cert.Reference8Ideal.Conv in
/-- Over equal arguments the results agree. -/
theorem agree (m : (ℓ : Loc Cert.Kernel8Ideal.nD Cert.Kernel8Ideal.τ Cert.Kernel8Ideal.sig) → Buf (Elt Ideal) ℓ) (c : Dev Cert.Kernel8Ideal.nD)
    (hf : ∀ e, (Cert.Kernel8Ideal.Conv.columnOf m c e).Finite)
    (x0 : Rows) (x1 : Wide) (x2 : Taps) (x3 : Bias) (x4 : Parts)
    (he : ∀ e, columnAt x0 x1 x2 x3 e = Cert.Kernel8Ideal.Conv.columnOf m c e)
    (h4 : x4 = m ((c : Thread Cert.Kernel8Ideal.nD Cert.Kernel8Ideal.τ).loc Cert.Kernel8Ideal.main_arg4)) :
    val_main_v85 (F := Ideal) x0 x1 x2 x3 x4 = (Cert.Kernel8Ideal.Gen.dats m 0 c).arrAt 7 Cert.Kernel8Ideal.cfg0.N
      ∧ val_main_v86 (F := Ideal) x0 x1 = (Cert.Kernel8Ideal.Gen.dats m 0 c).arrAt 8 Cert.Kernel8Ideal.cfg0.N
      ∧ val_main_v61 (F := Ideal) x0 x1 = (Cert.Kernel8Ideal.Gen.dats m 0 c).arrAt 9 Cert.Kernel8Ideal.cfg0.N := by
  refine ⟨ext3 fun b q e => ?_, ext2 fun k e => ?_, ext_row fun e => ?_⟩
  · by_cases hb : b.val < 4
    · exact (kept_at x0 x1 x2 x3 x4 q e b hb).trans ((congrFun h4 _).trans (Cert.Kernel8Ideal.Conv.kept7 m c b hb q e).symm)
    · have eb : b = ⟨4 + (⟨b.val - 4, by omega⟩ : Fin 4).val, by omega⟩ := Fin.ext (show b.val = 4 + (b.val - 4) by omega)
      rw [eb]
      refine (part_at x0 x1 x2 x3 x4 q e _).trans (Eq.trans ?_ (Cert.Kernel8Ideal.Conv.arr7 m c _ q e).symm)
      rw [he]
      exact parts_agree (hf e) q _
  · refine (taps_at x0 x1 x2 x3 e k).trans (Eq.trans ?_ (Cert.Kernel8Ideal.Conv.arr8 m c k e).symm)
    rw [he]
  · refine (dB_at x0 x1 x2 x3 e).trans (Eq.trans ?_ (Cert.Kernel8Ideal.Conv.arr9 m c e).symm)
    rw [he]

open Cert.Reference8Ideal.Read in
/-- The results of the reference over the arguments of the kernel. -/
theorem equal : Cert.algebraic_Kernel8Ideal_Reference8Ideal_pre_finite_c := by
  intro m g m' g' hp ha
  refine ⟨fun c => (Cert.Kernel8Ideal.Gen.dats m 0 c).arrAt 7 Cert.Kernel8Ideal.cfg0.N, fun c => (Cert.Kernel8Ideal.Gen.dats m 0 c).arrAt 8 Cert.Kernel8Ideal.cfg0.N,
    fun c => (Cert.Kernel8Ideal.Gen.dats m 0 c).arrAt 9 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨h0, h1, h2, k⟩ := h c
  obtain ⟨a0, a1, a2, a3, a4, a5⟩ := ha c
  obtain ⟨e0, e1, e2⟩ := agree m c (finite_of_pre hp c) (m' ((c.tc : Thread _ Cert.Reference8Ideal.τ).loc Cert.Reference8Ideal.main_arg0))
      (m' ((c.tc : Thread _ Cert.Reference8Ideal.τ).loc Cert.Reference8Ideal.main_arg1)) (m' ((c.tc : Thread _ Cert.Reference8Ideal.τ).loc Cert.Reference8Ideal.main_arg2))
      (m' ((c.tc : Thread _ Cert.Reference8Ideal.τ).loc Cert.Reference8Ideal.main_arg3)) (m' ((c.tc : Thread _ Cert.Reference8Ideal.τ).loc Cert.Reference8Ideal.main_arg4))
      (fun e => by rw [a0, a1, a2, a3]; rfl) a4
  exact ⟨h0.trans ((val_main_v85_eq m' c).trans e0), h1.trans ((val_main_v86_eq m' c).trans e1), h2.trans ((val_main_v61_eq _ _).trans e2), k⟩

end Cert.ConvGrad

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Equal
public import proofs.«01_k».proof.Proof.NormEqual
public import proofs.«01_k».proof.Proof.OutEqual
public import proofs.«01_k».proof.Proof.WinEqual
public import proofs.«01_k».proof.Proof.ProjEqual
public import proofs.«01_k».proof.Proof.OwnEqual
public import proofs.«01_k».proof.Proof.FwdEqual
public import proofs.«01_k».proof.Proof.ConvEqual
public import Idealize.ShloMosaic.Adequacy
public import Idealize.ShloMosaic.Init

@[expose] public section

noncomputable section

namespace Cert.Proof

open Idealize.ShloMosaic Idealize.SL.Sem Cert.Kernel

/-- The references keep their arguments and declare no semaphore. -/
theorem reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

theorem reference2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem reference3 : Cert.quiescent_Reference3Ideal := fun m ρ _ =>
  (θ_run Cert.Reference3Ideal.defs _ _).mono
    (fun r h => ⟨fun c => (h c).2.2.2.2.2.2.2, sem_eq_zero_of_no_sems (by decide) r.2⟩)
    (Cert.Reference3Ideal.Value.run (F := Ideal) m ρ)

theorem reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

attribute [local instance] Cert.Pre_one_half.facts

/-- The word the precondition speaks of places the windows inside their arrays. -/
theorem kernel4 : Cert.quiescent_Kernel4 := fun m ρ h =>
  let ⟨_, hs⟩ := Cert.Pre_one_half.half _ _ _ _ _ _ _ (h 0)
  Cert.Kernel4.Gen.frame m ρ (Cert.Kernel4.Win.ok m hs)

theorem kernel4Ideal : Cert.quiescent_Kernel4Ideal := fun m ρ h =>
  let ⟨_, hs⟩ := Cert.Pre_one_half.half _ _ _ _ _ _ _ (h 0)
  Cert.Kernel4Ideal.Gen.frame m ρ (Cert.Kernel4Ideal.Win.ok m hs)

theorem reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

attribute [local instance] Cert.Pre_one_block.facts

theorem kernel5 : Cert.quiescent_Kernel5 := fun m ρ h =>
  let ⟨_, hs⟩ := Cert.Pre_one_block.block _ _ _ _ _ (h 0)
  Cert.Kernel5.Gen.frame m ρ (Cert.Kernel5.Proj.ok m hs)

theorem kernel5Ideal : Cert.quiescent_Kernel5Ideal := fun m ρ h =>
  let ⟨_, hs⟩ := Cert.Pre_one_block.block _ _ _ _ _ (h 0)
  Cert.Kernel5Ideal.Gen.frame m ρ (Cert.Kernel5Ideal.Proj.ok m hs)

theorem reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem reference8 : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

attribute [local instance] Cert.Pre_one_place.facts

theorem kernel6 : Cert.quiescent_Kernel6 := fun m ρ h =>
  let ⟨_, hs⟩ := Cert.Pre_one_place.block _ _ _ (h 0)
  Cert.Kernel6.Gen.frame m ρ (Cert.Kernel6.Own.ok m hs)

theorem kernel6Ideal : Cert.quiescent_Kernel6Ideal := fun m ρ h =>
  let ⟨_, hs⟩ := Cert.Pre_one_place.block _ _ _ (h 0)
  Cert.Kernel6Ideal.Gen.frame m ρ (Cert.Kernel6Ideal.Own.ok m hs)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.facts, Cert.Pre_finite_x.facts, Cert.Pre_finite_o.facts, Cert.Pre_one_half.facts, Cert.Pre_one_block.facts,
    Cert.Pre_one_place.facts, Cert.Pre_finite_f.facts, Cert.Pre_finite_c.facts, Cert.On_written.facts, Cert.On_own_block.facts,
    fun m ρ _ => Cert.Kernel.Gen.frame m ρ, fun m ρ _ => Cert.KernelIdeal.Gen.frame m ρ, fun m ρ _ => Cert.KernelIdeal.Gen.frame m ρ,
    reference, fun m ρ _ => reference m ρ trivial,
    fun m ρ _ => Cert.Kernel2.Gen.frame m ρ, fun m ρ _ => Cert.Kernel2Ideal.Gen.frame m ρ, fun m ρ _ => Cert.Kernel2Ideal.Gen.frame m ρ,
    reference2, fun m ρ _ => reference2 m ρ trivial,
    fun m ρ _ => Cert.Kernel3.Gen.frame m ρ, fun m ρ _ => Cert.Kernel3Ideal.Gen.frame m ρ, fun m ρ _ => Cert.Kernel3Ideal.Gen.frame m ρ,
    reference3, fun m ρ _ => reference3 m ρ trivial,
    kernel4, kernel4Ideal, reference4, fun m ρ _ => reference4 m ρ trivial,
    kernel5, kernel5Ideal, reference5, fun m ρ _ => reference5 m ρ trivial,
    kernel6, kernel6Ideal, reference6, fun m ρ _ => reference6 m ρ trivial,
    fun m ρ _ => Cert.Kernel7.Gen.frame m ρ, fun m ρ _ => Cert.Kernel7Ideal.Gen.frame m ρ, fun m ρ _ => Cert.Kernel7Ideal.Gen.frame m ρ,
    reference7, fun m ρ _ => reference7 m ρ trivial,
    fun m ρ _ => Cert.Kernel8.Gen.frame m ρ, fun m ρ _ => Cert.Kernel8Ideal.Gen.frame m ρ, fun m ρ _ => Cert.Kernel8Ideal.Gen.frame m ρ,
    reference8, fun m ρ _ => reference8 m ρ trivial,
    trivial, Cert.Attn.equal, trivial, Cert.NormGrad.equal, trivial, Cert.OutGrad.equal, trivial, Cert.WinGrad.equal,
    trivial, Cert.InProj.equal, trivial, Cert.InOwn.equal, trivial, Cert.Attn.Fwd.equal, trivial, Cert.ConvGrad.equal⟩

end Cert.Proof

end
